-- ==== Defs.lean ====
def Pre_Kernel [hPre_lengths_fit : Cert.Pre_lengths_fit.Facts] (m : (ℓ : Loc Cert.Kernel.nD Cert.Kernel.τ Cert.Kernel.sig) → Buf (Elt Bits) ℓ) : Prop :=
  ∀ c : Dev Cert.Kernel.nD,
    (Cert.Pre_lengths_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_lengths_fit : Cert.Pre_lengths_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_some_history [hPre_some_history : Cert.Pre_some_history.Facts] (m : (ℓ : Loc Cert.KernelIdeal.nD Cert.KernelIdeal.τ Cert.KernelIdeal.sig) → Buf (Elt Ideal) ℓ) : Prop :=
  ∀ c : Dev Cert.KernelIdeal.nD,
    (Cert.Pre_some_history.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_history [hPre_some_history : Cert.Pre_some_history.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_history.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_lengths_fit : Cert.Pre_lengths_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_some_history [hKernelIdeal : Cert.KernelIdeal.Facts] [hPre_some_history : Cert.Pre_some_history.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_history m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_some_history [hReferenceIdeal : Cert.ReferenceIdeal.Facts] [hPre_some_history : Cert.Pre_some_history.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_history m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_some_history [hKernelIdeal : Cert.KernelIdeal.Facts] [hReferenceIdeal : Cert.ReferenceIdeal.Facts] [hPre_some_history : Cert.Pre_some_history.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_history m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_lengths_fit : Cert.Pre_lengths_fit.Facts) (hPre_some_history : Cert.Pre_some_history.Facts),
    quiescent_Kernel (hKernel := hKernel) (hPre_lengths_fit := hPre_lengths_fit)
    ∧ quiescent_KernelIdeal (hKernelIdeal := hKernelIdeal) (hPre_lengths_fit := hPre_lengths_fit)
    ∧ quiescent_KernelIdeal_pre_some_history (hKernelIdeal := hKernelIdeal) (hPre_some_history := hPre_some_history)
    ∧ quiescent_ReferenceIdeal (hReferenceIdeal := hReferenceIdeal)
    ∧ quiescent_ReferenceIdeal_pre_some_history (hReferenceIdeal := hReferenceIdeal) (hPre_some_history := hPre_some_history)
    ∧ preserves_Kernel_KernelIdeal
    ∧ algebraic_KernelIdeal_ReferenceIdeal_pre_some_history (hKernelIdeal := hKernelIdeal) (hReferenceIdeal := hReferenceIdeal) (hPre_some_history := hPre_some_history)
-- ==== Pre_lengths_fit.lean ====
abbrev S576 : Shape := ⟨1, ![576]⟩
abbrev S18944x512 : Shape := ⟨2, ![18944, 512]⟩
abbrev S37888 : Shape := ⟨1, ![37888]⟩
abbrev S2048x256 : Shape := ⟨2, ![2048, 256]⟩
abbrev S256 : Shape := ⟨1, ![256]⟩
abbrev S256x96 : Shape := ⟨2, ![256, 96]⟩
abbrev S96 : Shape := ⟨1, ![96]⟩
abbrev S1 : Shape := ⟨1, ![1]⟩
abbrev S_ : Shape := ⟨0, ![]⟩

class Facts : Prop where
  bcast_S_S576 : S_.BroadcastsInDim S576 (![] : Fin 0 → Fin S576.rank)

variable [Facts]

def fn {F : FTy → Type} [FloatOps F] (main_arg0 : IVec S576 32) (main_arg1 : IVec S18944x512 32) (main_arg2 : IVec S37888 32) (main_arg3 : FVec F S2048x256 .bf16) (main_arg4 : FVec F S256 .f32) (main_arg5 : FVec F S256 .f32) (main_arg6 : FVec F S256x96 .bf16) (main_arg7 : FVec F S96 .f32) (main_arg8 : FVec F S96 .f32) (main_arg9 : FVec F S96 .bf16) (main_arg10 : FVec F S1 .f32) : IVec S576 1 :=
  let main_c : IVec S_ 32 := constantI S_ 32 0#32
  let main_v0 : IVec S576 32 := broadcastInDim S576 ![] bcast_S_S576 main_c
  let main_v1 : IVec S576 1 := cmpi .sge main_arg0 main_v0
  let main_c_0 : IVec S_ 32 := constantI S_ 32 128#32
  let main_v2 : IVec S576 32 := broadcastInDim S576 ![] bcast_S_S576 main_c_0
  let main_v3 : IVec S576 1 := cmpi .sle main_arg0 main_v2
  let main_v4 : IVec S576 1 := andi main_v1 main_v3
  main_v4
-- ==== Pre_some_history.lean ====
abbrev S576 : Shape := ⟨1, ![576]⟩
abbrev S18944x512 : Shape := ⟨2, ![18944, 512]⟩
abbrev S37888 : Shape := ⟨1, ![37888]⟩
abbrev S2048x256 : Shape := ⟨2, ![2048, 256]⟩
abbrev S256 : Shape := ⟨1, ![256]⟩
abbrev S256x96 : Shape := ⟨2, ![256, 96]⟩
abbrev S96 : Shape := ⟨1, ![96]⟩
abbrev S1 : Shape := ⟨1, ![1]⟩
abbrev S_ : Shape := ⟨0, ![]⟩

class Facts : Prop where
  bcast_S_S576 : S_.BroadcastsInDim S576 (![] : Fin 0 → Fin S576.rank)
  reducesTo_S576_S_d0 : S576.ReducesTo [0] S_
  h_S_ : 0 < S_.numel

variable [Facts]

def fn {F : FTy → Type} [FloatOps F] (main_arg0 : IVec S576 32) (main_arg1 : IVec S18944x512 32) (main_arg2 : IVec S37888 32) (main_arg3 : FVec F S2048x256 .bf16) (main_arg4 : FVec F S256 .f32) (main_arg5 : FVec F S256 .f32) (main_arg6 : FVec F S256x96 .bf16) (main_arg7 : FVec F S96 .f32) (main_arg8 : FVec F S96 .f32) (main_arg9 : FVec F S96 .bf16) (main_arg10 : FVec F S1 .f32) : IVec S576 1 :=
  let main_c : IVec S_ 32 := constantI S_ 32 0#32
  let main_v0 : IVec S576 32 := broadcastInDim S576 ![] bcast_S_S576 main_c
  let main_v1 : IVec S576 1 := cmpi .sge main_arg0 main_v0
  let main_c_0 : IVec S_ 32 := constantI S_ 32 128#32
  let main_v2 : IVec S576 32 := broadcastInDim S576 ![] bcast_S_S576 main_c_0
  let main_v3 : IVec S576 1 := cmpi .sle main_arg0 main_v2
  let main_v4 : IVec S576 1 := andi main_v1 main_v3
  let main_c_1 : IVec S_ 32 := constantI S_ 32 0#32
  let main_v5 : IVec S576 32 := broadcastInDim S576 ![] bcast_S_S576 main_c_1
  let main_v6 : IVec S576 1 := cmpi .sgt main_arg0 main_v5
  let main_c_2 : IVec S_ 1 := constantI S_ 1 0#1
  let main_v7 : IVec S_ 1 := (fun x v => Host.reduce IntOp.ori x v reducesTo_S576_S_d0 h_S_) main_v6 main_c_2
  let main_v8 : IVec S576 1 := broadcastInDim S576 ![] bcast_S_S576 main_v7
  let main_v9 : IVec S576 1 := andi main_v4 main_v8
  main_v9
-- ==== Kernel.lean ====
abbrev S576 : Shape := ⟨1, ![576]⟩
abbrev S18944x512 : Shape := ⟨2, ![18944, 512]⟩
abbrev S37888 : Shape := ⟨1, ![37888]⟩
abbrev S2048x256 : Shape := ⟨2, ![2048, 256]⟩
abbrev S256 : Shape := ⟨1, ![256]⟩
abbrev S256x96 : Shape := ⟨2, ![256, 96]⟩
abbrev S96 : Shape := ⟨1, ![96]⟩
abbrev S1 : Shape := ⟨1, ![1]⟩
abbrev S1x256 : Shape := ⟨2, ![1, 256]⟩
abbrev S_ : Shape := ⟨0, ![]⟩
abbrev S256x128 : Shape := ⟨2, ![256, 128]⟩
abbrev S128 : Shape := ⟨1, ![128]⟩
abbrev S1x128 : Shape := ⟨2, ![1, 128]⟩
abbrev S576x1 : Shape := ⟨2, ![576, 1]⟩
abbrev S1x576 : Shape := ⟨2, ![1, 576]⟩
abbrev S576x576 : Shape := ⟨2, ![576, 576]⟩
abbrev S4608 : Shape := ⟨1, ![4608]⟩
abbrev S4608x1 : Shape := ⟨2, ![4608, 1]⟩
abbrev S4608x576 : Shape := ⟨2, ![4608, 576]⟩
abbrev S296x128 : Shape := ⟨2, ![296, 128]⟩
abbrev S576x512 : Shape := ⟨2, ![576, 512]⟩
abbrev S576x128 : Shape := ⟨2, ![576, 128]⟩
abbrev S144x512 : Shape := ⟨2, ![144, 512]⟩
abbrev S8x128 : Shape := ⟨2, ![8, 128]⟩
abbrev S512x512 : Shape := ⟨2, ![512, 512]⟩
abbrev S9232x512 : Shape := ⟨2, ![9232, 512]⟩
abbrev S4616x256 : Shape := ⟨2, ![4616, 256]⟩
abbrev S512x1536 : Shape := ⟨2, ![512, 1536]⟩
abbrev S512x256 : Shape := ⟨2, ![512, 256]⟩
abbrev S4616x512 : Shape := ⟨2, ![4616, 512]⟩
abbrev S4616x128 : Shape := ⟨2, ![4616, 128]⟩
abbrev S8x512 : Shape := ⟨2, ![8, 512]⟩
abbrev S32x512 : Shape := ⟨2, ![32, 512]⟩
abbrev S8x128x1 : Shape := ⟨3, ![8, 128, 1]⟩
abbrev S16x128 : Shape := ⟨2, ![16, 128]⟩
abbrev S16x512 : Shape := ⟨2, ![16, 512]⟩
abbrev S16x256 : Shape := ⟨2, ![16, 256]⟩
abbrev S8x256 : Shape := ⟨2, ![8, 256]⟩
abbrev S1x512 : Shape := ⟨2, ![1, 512]⟩
abbrev S512x128 : Shape := ⟨2, ![512, 128]⟩
abbrev S512 : Shape := ⟨1, ![512]⟩
abbrev S512x1 : Shape := ⟨2, ![512, 1]⟩
abbrev S8x1 : Shape := ⟨2, ![8, 1]⟩
abbrev S128x512 : Shape := ⟨2, ![128, 512]⟩
abbrev S16x8x512 : Shape := ⟨3, ![16, 8, 512]⟩
abbrev S128x128 : Shape := ⟨2, ![128, 128]⟩
abbrev S16x8x128 : Shape := ⟨3, ![16, 8, 128]⟩

abbrev nBuf : Space → Nat
  | .hbm => 147
  | .vmem => 22
  | .smem => 3
  | _ => 0

abbrev hbmTy0_0 (i : Nat) : BufTy := match i % 128 with
  | 0 => ⟨S576, .i32⟩
  | 1 => ⟨S18944x512, .i32⟩
  | 2 => ⟨S37888, .i32⟩
  | 3 => ⟨S2048x256, .bf16⟩
  | 4 => ⟨S256, .f32⟩
  | 5 => ⟨S256, .f32⟩
  | 6 => ⟨S256x96, .bf16⟩
  | 7 => ⟨S96, .f32⟩
  | 8 => ⟨S96, .f32⟩
  | 9 => ⟨S96, .bf16⟩
  | 10 => ⟨S1, .f32⟩
  | 11 => ⟨S1x256, .f32⟩
  | 12 => ⟨S1x256, .f32⟩
  | 13 => ⟨S_, .i32⟩
  | 14 => ⟨S_, .bf16⟩
  | 15 => ⟨S256x128, .bf16⟩
  | 16 => ⟨S_, .i32⟩
  | 17 => ⟨S_, .f32⟩
  | 18 => ⟨S128, .f32⟩
  | 19 => ⟨S1x128, .f32⟩
  | 20 => ⟨S_, .i32⟩
  | 21 => ⟨S_, .f32⟩
  | 22 => ⟨S128, .f32⟩
  | 23 => ⟨S1x128, .f32⟩
  | 24 => ⟨S96, .f32⟩
  | 25 => ⟨S_, .i32⟩
  | 26 => ⟨S_, .f32⟩
  | 27 => ⟨S128, .f32⟩
  | 28 => ⟨S1x128, .f32⟩
  | 29 => ⟨S_, .i32⟩
  | 30 => ⟨S576, .i32⟩
  | 31 => ⟨S576, .i32⟩
  | 32 => ⟨S_, .i32⟩
  | 33 => ⟨S_, .i32⟩
  | 34 => ⟨S576, .i32⟩
  | 35 => ⟨S576, .i32⟩
  | 36 => ⟨S576, .i32⟩
  | 37 => ⟨S_, .i32⟩
  | 38 => ⟨S576, .i32⟩
  | 39 => ⟨S576, .i1⟩
  | 40 => ⟨S576, .i32⟩
  | 41 => ⟨S576, .i32⟩
  | 42 => ⟨S_, .i32⟩
  | 43 => ⟨S576, .i32⟩
  | 44 => ⟨S576, .i1⟩
  | 45 => ⟨S576, .i1⟩
  | 46 => ⟨S_, .i32⟩
  | 47 => ⟨S576, .i32⟩
  | 48 => ⟨S576, .i32⟩
  | 49 => ⟨S576, .i32⟩
  | 50 => ⟨S576, .i32⟩
  | 51 => ⟨S576x1, .i32⟩
  | 52 => ⟨S576, .i32⟩
  | 53 => ⟨S1x576, .i32⟩
  | 54 => ⟨S576x576, .i32⟩
  | 55 => ⟨S576x576, .i32⟩
  | 56 => ⟨S576x576, .i1⟩
  | 57 => ⟨S1x576, .i32⟩
  | 58 => ⟨S_, .i32⟩
  | 59 => ⟨S_, .i32⟩
  | 60 => ⟨S576x576, .i32⟩
  | 61 => ⟨S576x576, .i32⟩
  | 62 => ⟨S576x576, .i32⟩
  | 63 => ⟨S_, .i32⟩
  | 64 => ⟨S576, .i32⟩
  | 65 => ⟨S576, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i1⟩
  | 83 => ⟨S_, .i1⟩
  | 84 => ⟨S_, .i32⟩
  | 85 => ⟨S_, .i32⟩
  | 86 => ⟨S4608, .i32⟩
  | 87 => ⟨S1x576, .i32⟩
  | 88 => ⟨S4608x1, .i32⟩
  | 89 => ⟨S4608x576, .i32⟩
  | 90 => ⟨S4608x576, .i32⟩
  | 91 => ⟨S4608x576, .i1⟩
  | 92 => ⟨S4608x576, .i32⟩
  | 93 => ⟨S_, .i32⟩
  | 94 => ⟨S4608, .i32⟩
  | 95 => ⟨S4608x1, .i32⟩
  | 96 => ⟨S576, .i32⟩
  | 97 => ⟨S1x576, .i32⟩
  | 98 => ⟨S4608x576, .i32⟩
  | 99 => ⟨S4608x576, .i32⟩
  | 100 => ⟨S4608x576, .i1⟩
  | 101 => ⟨S1x576, .i32⟩
  | 102 => ⟨S_, .i32⟩
  | 103 => ⟨S_, .i32⟩
  | 104 => ⟨S4608x576, .i32⟩
  | 105 => ⟨S4608x576, .i32⟩
  | 106 => ⟨S4608x576, .i32⟩
  | 107 => ⟨S_, .i32⟩
  | 108 => ⟨S4608, .i32⟩
  | 109 => ⟨S1x576, .i32⟩
  | 110 => ⟨S_, .i32⟩
  | 111 => ⟨S_, .i32⟩
  | 112 => ⟨S4608x576, .i32⟩
  | 113 => ⟨S4608x576, .i32⟩
  | 114 => ⟨S4608x576, .i32⟩
  | 115 => ⟨S_, .i32⟩
  | 116 => ⟨S4608, .i32⟩
  | 117 => ⟨S_, .i32⟩
  | 118 => ⟨S4608, .i32⟩
  | 119 => ⟨S4608, .i1⟩
  | 120 => ⟨S4608, .i32⟩
  | 121 => ⟨S_, .i32⟩
  | 122 => ⟨S4608, .i32⟩
  | 123 => ⟨S4608, .i32⟩
  | 124 => ⟨S_, .i32⟩
  | 125 => ⟨S_, .i32⟩
  | 126 => ⟨S4608, .i32⟩
  | 127 => ⟨S4608, .i32⟩
  | _ => ⟨S576, .i32⟩

abbrev hbmTy0_1 (i : Nat) : BufTy := match i % 128 with
  | 0 => ⟨S4608, .i32⟩
  | 1 => ⟨S_, .i32⟩
  | 2 => ⟨S_, .i32⟩
  | 3 => ⟨S_, .i32⟩
  | 4 => ⟨S4608, .i32⟩
  | 5 => ⟨S4608, .i32⟩
  | 6 => ⟨S_, .i32⟩
  | 7 => ⟨S4608, .i32⟩
  | 8 => ⟨S4608, .i32⟩
  | 9 => ⟨S_, .i32⟩
  | 10 => ⟨S4608, .i32⟩
  | 11 => ⟨S4608, .i32⟩
  | 12 => ⟨S4608, .i32⟩
  | 13 => ⟨S_, .i32⟩
  | 14 => ⟨S4608, .i32⟩
  | 15 => ⟨S4608, .i32⟩
  | 16 => ⟨S296x128, .i32⟩
  | 17 => ⟨S576x512, .bf16⟩
  | 18 => ⟨S576x128, .f32⟩
  | _ => ⟨S576, .i32⟩

abbrev hbmTy (i : Nat) : BufTy := match i / 128 with
  | 0 => hbmTy0_0 i
  | 1 => hbmTy0_1 i
  | _ => ⟨S576, .i32⟩

abbrev bufTy : (tb : Table) → Fin (tcTables nBuf tb) → BufTy
  | .hbm, ⟨i, _⟩ => hbmTy i
  | .local _ .vmem, ⟨0, _⟩ => ⟨S144x512, .i32⟩
  | .local _ .vmem, ⟨1, _⟩ => ⟨S8x128, .i32⟩
  | .local _ .vmem, ⟨2, _⟩ => ⟨S512x512, .i32⟩
  | .local _ .vmem, ⟨3, _⟩ => ⟨S512x512, .i32⟩
  | .local _ .vmem, ⟨4, _⟩ => ⟨S8x128, .i32⟩
  | .local _ .vmem, ⟨5, _⟩ => ⟨S8x128, .i32⟩
  | .local _ .vmem, ⟨6, _⟩ => ⟨S2048x256, .bf16⟩
  | .local _ .vmem, ⟨7, _⟩ => ⟨S1x256, .f32⟩
  | .local _ .vmem, ⟨8, _⟩ => ⟨S1x256, .f32⟩
  | .local _ .vmem, ⟨9, _⟩ => ⟨S256x128, .bf16⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S576x512, .bf16⟩
  | .local _ .vmem, ⟨14, _⟩ => ⟨S576x128, .f32⟩
  | .local _ .vmem, ⟨15, _⟩ => ⟨S576x512, .bf16⟩
  | .local _ .vmem, ⟨16, _⟩ => ⟨S9232x512, .bf16⟩
  | .local _ .vmem, ⟨17, _⟩ => ⟨S4616x256, .f32⟩
  | .local _ .vmem, ⟨18, _⟩ => ⟨S512x1536, .bf16⟩
  | .local _ .vmem, ⟨19, _⟩ => ⟨S512x256, .bf16⟩
  | .local _ .vmem, ⟨20, _⟩ => ⟨S4616x512, .f32⟩
  | .local _ .vmem, ⟨21, _⟩ => ⟨S4616x128, .f32⟩
  | .local _ .smem, ⟨0, _⟩ => ⟨S_, .i32⟩
  | .local _ .smem, ⟨1, _⟩ => ⟨S4608, .i32⟩
  | .local _ .smem, ⟨2, _⟩ => ⟨S1, .f32⟩
  | _, _ => ⟨S576, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨2, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_call2_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_2 : Ref sig .tc := ⟨.hbm, 25, rfl⟩
abbrev main_call3_v0 : Ref sig .tc := ⟨.hbm, 26, rfl⟩
abbrev main_v8 : Ref sig .tc := ⟨.hbm, 27, rfl⟩
abbrev main_v9 : Ref sig .tc := ⟨.hbm, 28, rfl⟩
abbrev main_c_3 : Ref sig .tc := ⟨.hbm, 29, rfl⟩
abbrev main_v10 : Ref sig .tc := ⟨.hbm, 30, rfl⟩
abbrev main_v11 : Ref sig .tc := ⟨.hbm, 31, rfl⟩
abbrev main_c_4 : Ref sig .tc := ⟨.hbm, 32, rfl⟩
abbrev main_call4_v0 : Ref sig .tc := ⟨.hbm, 33, rfl⟩
abbrev main_call4_v1 : Ref sig .tc := ⟨.hbm, 34, rfl⟩
abbrev main_call4_v2 : Ref sig .tc := ⟨.hbm, 35, rfl⟩
abbrev main_call4_v3 : Ref sig .tc := ⟨.hbm, 36, rfl⟩
abbrev main_call4_v4 : Ref sig .tc := ⟨.hbm, 37, rfl⟩
abbrev main_call4_v5 : Ref sig .tc := ⟨.hbm, 38, rfl⟩
abbrev main_call4_v6 : Ref sig .tc := ⟨.hbm, 39, rfl⟩
abbrev main_call4_v7 : Ref sig .tc := ⟨.hbm, 40, rfl⟩
abbrev main_call4_v8 : Ref sig .tc := ⟨.hbm, 41, rfl⟩
abbrev main_call4_c : Ref sig .tc := ⟨.hbm, 42, rfl⟩
abbrev main_call4_v9 : Ref sig .tc := ⟨.hbm, 43, rfl⟩
abbrev main_call4_v10 : Ref sig .tc := ⟨.hbm, 44, rfl⟩
abbrev main_call4_v11 : Ref sig .tc := ⟨.hbm, 45, rfl⟩
abbrev main_call4_c_0 : Ref sig .tc := ⟨.hbm, 46, rfl⟩
abbrev main_call4_v12 : Ref sig .tc := ⟨.hbm, 47, rfl⟩
abbrev main_call4_v13 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_c_5 : Ref sig .tc := ⟨.hbm, 58, rfl⟩
abbrev main_call5_v0 : Ref sig .tc := ⟨.hbm, 59, rfl⟩
abbrev main_call5_v1 : Ref sig .tc := ⟨.hbm, 60, rfl⟩
abbrev main_call5_v2 : Ref sig .tc := ⟨.hbm, 61, rfl⟩
abbrev main_v21 : Ref sig .tc := ⟨.hbm, 62, rfl⟩
abbrev main_c_6 : Ref sig .tc := ⟨.hbm, 63, rfl⟩
abbrev main_v22 : Ref sig .tc := ⟨.hbm, 64, rfl⟩
abbrev main_v23 : Ref sig .tc := ⟨.hbm, 65, rfl⟩
abbrev main_c_7 : Ref sig .tc := ⟨.hbm, 66, rfl⟩
abbrev main_v24 : Ref sig .tc := ⟨.hbm, 67, rfl⟩
abbrev main_c_8 : Ref sig .tc := ⟨.hbm, 68, rfl⟩
abbrev main_v25 : Ref sig .tc := ⟨.hbm, 69, rfl⟩
abbrev main_c_9 : Ref sig .tc := ⟨.hbm, 70, rfl⟩
abbrev main_v26 : Ref sig .tc := ⟨.hbm, 71, rfl⟩
abbrev main_c_10 : Ref sig .tc := ⟨.hbm, 72, rfl⟩
abbrev main_v27 : Ref sig .tc := ⟨.hbm, 73, rfl⟩
abbrev main_c_11 : Ref sig .tc := ⟨.hbm, 74, rfl⟩
abbrev main_call6_v0 : Ref sig .tc := ⟨.hbm, 75, rfl⟩
abbrev main_call6_v1 : Ref sig .tc := ⟨.hbm, 76, rfl⟩
abbrev main_call6_v2 : Ref sig .tc := ⟨.hbm, 77, rfl⟩
abbrev main_call6_v3 : Ref sig .tc := ⟨.hbm, 78, rfl⟩
abbrev main_call6_v4 : Ref sig .tc := ⟨.hbm, 79, rfl⟩
abbrev main_call6_v5 : Ref sig .tc := ⟨.hbm, 80, rfl⟩
abbrev main_call6_c : Ref sig .tc := ⟨.hbm, 81, rfl⟩
abbrev main_call6_v6 : Ref sig .tc := ⟨.hbm, 82, rfl⟩
abbrev main_call6_v7 : Ref sig .tc := ⟨.hbm, 83, rfl⟩
abbrev main_call6_c_0 : Ref sig .tc := ⟨.hbm, 84, rfl⟩
abbrev main_call6_v8 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_c_12 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_c_13 : Ref sig .tc := ⟨.hbm, 102, rfl⟩
abbrev main_call7_v0 : Ref sig .tc := ⟨.hbm, 103, rfl⟩
abbrev main_call7_v1 : Ref sig .tc := ⟨.hbm, 104, rfl⟩
abbrev main_call7_v2 : Ref sig .tc := ⟨.hbm, 105, rfl⟩
abbrev main_v44 : Ref sig .tc := ⟨.hbm, 106, rfl⟩
abbrev main_c_14 : Ref sig .tc := ⟨.hbm, 107, rfl⟩
abbrev main_v45 : Ref sig .tc := ⟨.hbm, 108, rfl⟩
abbrev main_v46 : Ref sig .tc := ⟨.hbm, 109, rfl⟩
abbrev main_c_15 : Ref sig .tc := ⟨.hbm, 110, rfl⟩
abbrev main_call8_v0 : Ref sig .tc := ⟨.hbm, 111, rfl⟩
abbrev main_call8_v1 : Ref sig .tc := ⟨.hbm, 112, rfl⟩
abbrev main_call8_v2 : Ref sig .tc := ⟨.hbm, 113, rfl⟩
abbrev main_v47 : Ref sig .tc := ⟨.hbm, 114, rfl⟩
abbrev main_c_16 : Ref sig .tc := ⟨.hbm, 115, rfl⟩
abbrev main_v48 : Ref sig .tc := ⟨.hbm, 116, rfl⟩
abbrev main_c_17 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_c_18 : Ref sig .tc := ⟨.hbm, 121, rfl⟩
abbrev main_v52 : Ref sig .tc := ⟨.hbm, 122, rfl⟩
abbrev main_v53 : Ref sig .tc := ⟨.hbm, 123, rfl⟩
abbrev main_c_19 : Ref sig .tc := ⟨.hbm, 124, rfl⟩
abbrev main_call9_v0 : Ref sig .tc := ⟨.hbm, 125, rfl⟩
abbrev main_call9_v1 : Ref sig .tc := ⟨.hbm, 126, rfl⟩
abbrev main_v54 : Ref sig .tc := ⟨.hbm, 127, rfl⟩
abbrev main_v55 : Ref sig .tc := ⟨.hbm, 128, rfl⟩
abbrev main_c_20 : Ref sig .tc := ⟨.hbm, 129, rfl⟩
abbrev main_c_21 : Ref sig .tc := ⟨.hbm, 130, rfl⟩
abbrev main_call10_v0 : Ref sig .tc := ⟨.hbm, 131, rfl⟩
abbrev main_call10_v1 : Ref sig .tc := ⟨.hbm, 132, rfl⟩
abbrev main_call10_v2 : Ref sig .tc := ⟨.hbm, 133, rfl⟩
abbrev main_call10_v3 : Ref sig .tc := ⟨.hbm, 134, rfl⟩
abbrev main_call10_v4 : Ref sig .tc := ⟨.hbm, 135, rfl⟩
abbrev main_v56 : Ref sig .tc := ⟨.hbm, 136, rfl⟩
abbrev main_c_22 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_c_23 : Ref sig .tc := ⟨.hbm, 141, rfl⟩
abbrev main_v60 : Ref sig .tc := ⟨.hbm, 142, rfl⟩
abbrev main_v61 : Ref sig .tc := ⟨.hbm, 143, rfl⟩
abbrev main_v63 : Ref sig .tc := ⟨.hbm, 144, rfl⟩
abbrev main_v64_0 : Ref sig .tc := ⟨.hbm, 145, rfl⟩
abbrev main_v64_1 : Ref sig .tc := ⟨.hbm, 146, rfl⟩
abbrev main_v28 : Ref sig .tc := ⟨.smem, 0, rfl⟩
abbrev main_v62 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_stg11_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15

abbrev nD : Nat := 1
abbrev τ : Topo := Topo.v7x

variable {F : FTy → Type} [FloatOps F]

abbrev grid0 : Pipeline.Grid := ⟨1, ![0], ![true]⟩

abbrev pre0 : Pipeline.Prefetch sig := ⟨2, ![main_v28.idx, main_v62.idx], fun | 0 => main_v28.names | 1 => main_v62.names | ⟨_ + 2, h⟩ => absurd h (Nat.not_lt.2 (Nat.le_add_left _ _)), fun | 0 => rfl | 1 => rfl | ⟨_ + 2, h⟩ => absurd h (Nat.not_lt.2 (Nat.le_add_left _ _))⟩

def dynb0 (pf : pre0.Contents (Elt F)) : grid0.Bounds := ![(pf 0 fun a => a.elim0).toNat]

@[reducible] def k0_t1_loop : Scf.Loop 32 :=
  let c0_i32_5 : BitVec 32 := 0#32
  let c577_i32 : BitVec 32 := 577#32
  let v12 : BitVec 32 := Scalar.addi c0_i32_5 c577_i32
  let c1_i32_6 : BitVec 32 := 1#32
  ⟨c0_i32_5, v12, c1_i32_6⟩
def k0_off1 (k0_t1 : Fin k0_t1_loop.trips) : Fin 2 → Nat :=
  let c0_i32_240 : BitVec 32 := 0#32
  let c0_i32_5 : BitVec 32 := 0#32
  let c1_i32_6 : BitVec 32 := 1#32
  let arg23 : BitVec 32 := Scf.iv c0_i32_5 c1_i32_6 k0_t1
  let c8_i32_239 : BitVec 32 := 8#32
  let v868 : BitVec 32 := Scalar.muli arg23 c8_i32_239
  let v869 : BitVec 32 := Scalar.addi c0_i32_240 v868
  let v871 : Index := Scalar.indexCast v869
  let c0_242 : Index := 0#32
  ![v871.toNat, 0]
def k0_off2 (k0_t1 : Fin k0_t1_loop.trips) : Fin 2 → Nat :=
  let c0_i32_240 : BitVec 32 := 0#32
  let c0_i32_5 : BitVec 32 := 0#32
  let c1_i32_6 : BitVec 32 := 1#32
  let arg23 : BitVec 32 := Scf.iv c0_i32_5 c1_i32_6 k0_t1
  let c8_i32_239 : BitVec 32 := 8#32
  let v868 : BitVec 32 := Scalar.muli arg23 c8_i32_239
  let v869 : BitVec 32 := Scalar.addi c0_i32_240 v868
  let v876 : Index := Scalar.indexCast v869
  let c0_244 : Index := 0#32
  ![v876.toNat, 0]
@[reducible] def k0_t2_loop : Scf.Loop 32 :=
  let c0_i32_233 : BitVec 32 := 0#32
  let c36_i32 : BitVec 32 := 36#32
  let v859 : BitVec 32 := Scalar.addi c0_i32_233 c36_i32
  let c1_i32_234 : BitVec 32 := 1#32
  ⟨c0_i32_233, v859, c1_i32_234⟩
def k0_mult1 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c16_i32_241 : BitVec 32 := 16#32
  let v870 : BitVec 32 := Scalar.muli v869 c16_i32_241
  v870
def k0_off3 (k0_t2 : Fin k0_t2_loop.trips) : Fin 2 → Nat :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c16_i32_241 : BitVec 32 := 16#32
  let v870 : BitVec 32 := Scalar.muli v869 c16_i32_241
  let v871 : BitVec 32 := v870
  let v872 : Index := Scalar.indexCast v871
  let c0_242 : Index := 0#32
  ![v872.toNat, 0]
def k0_mult2 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c128_i32_248 : BitVec 32 := 128#32
  let v880 : BitVec 32 := Scalar.muli v869 c128_i32_248
  let c0_i32_249 : BitVec 32 := 0#32
  let v881 : BitVec 32 := Scalar.addi v880 c0_i32_249
  v881
def k0_off4 (k0_t2 : Fin k0_t2_loop.trips) (c0_i32_249 : BitVec 32) : Fin 2 → Nat :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c128_i32_248 : BitVec 32 := 128#32
  let v880 : BitVec 32 := Scalar.muli v869 c128_i32_248
  let v881 : BitVec 32 := Scalar.addi v880 c0_i32_249
  let v882 : BitVec 32 := v881
  let v886 : Index := Scalar.indexCast v882
  let c0_250 : Index := 0#32
  ![v886.toNat, 0]
def k0_mult3 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c256_i32 : BitVec 32 := 256#32
  let v890 : BitVec 32 := Scalar.muli v869 c256_i32
  let c0_i32_251 : BitVec 32 := 0#32
  let v891 : BitVec 32 := Scalar.addi v890 c0_i32_251
  v891
def k0_off5 (k0_t2 : Fin k0_t2_loop.trips) (c0_i32_251 : BitVec 32) : Fin 2 → Nat :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c256_i32 : BitVec 32 := 256#32
  let v890 : BitVec 32 := Scalar.muli v869 c256_i32
  let v891 : BitVec 32 := Scalar.addi v890 c0_i32_251
  let v892 : BitVec 32 := v891
  let v896 : Index := Scalar.indexCast v892
  let c0_252 : Index := 0#32
  ![v896.toNat, 0]
def k0_mult4 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c128_i32_253 : BitVec 32 := 128#32
  let v900 : BitVec 32 := Scalar.muli v869 c128_i32_253
  let c8_i32_254 : BitVec 32 := 8#32
  let v901 : BitVec 32 := Scalar.addi v900 c8_i32_254
  v901
def k0_mult5 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c256_i32_256 : BitVec 32 := 256#32
  let v910 : BitVec 32 := Scalar.muli v869 c256_i32_256
  let c16_i32_257 : BitVec 32 := 16#32
  let v911 : BitVec 32 := Scalar.addi v910 c16_i32_257
  v911
def k0_mult6 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c128_i32_259 : BitVec 32 := 128#32
  let v920 : BitVec 32 := Scalar.muli v869 c128_i32_259
  let c16_i32_260 : BitVec 32 := 16#32
  let v921 : BitVec 32 := Scalar.addi v920 c16_i32_260
  v921
def k0_mult7 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c256_i32_262 : BitVec 32 := 256#32
  let v930 : BitVec 32 := Scalar.muli v869 c256_i32_262
  let c32_i32_263 : BitVec 32 := 32#32
  let v931 : BitVec 32 := Scalar.addi v930 c32_i32_263
  v931
def k0_mult8 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c128_i32_265 : BitVec 32 := 128#32
  let v940 : BitVec 32 := Scalar.muli v869 c128_i32_265
  let c24_i32_266 : BitVec 32 := 24#32
  let v941 : BitVec 32 := Scalar.addi v940 c24_i32_266
  v941
def k0_mult9 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c256_i32_268 : BitVec 32 := 256#32
  let v950 : BitVec 32 := Scalar.muli v869 c256_i32_268
  let c48_i32_269 : BitVec 32 := 48#32
  let v951 : BitVec 32 := Scalar.addi v950 c48_i32_269
  v951
def k0_mult10 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c128_i32_271 : BitVec 32 := 128#32
  let v960 : BitVec 32 := Scalar.muli v869 c128_i32_271
  let c32_i32_272 : BitVec 32 := 32#32
  let v961 : BitVec 32 := Scalar.addi v960 c32_i32_272
  v961
def k0_mult11 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c256_i32_274 : BitVec 32 := 256#32
  let v970 : BitVec 32 := Scalar.muli v869 c256_i32_274
  let c64_i32_275 : BitVec 32 := 64#32
  let v971 : BitVec 32 := Scalar.addi v970 c64_i32_275
  v971
def k0_mult12 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c128_i32_277 : BitVec 32 := 128#32
  let v980 : BitVec 32 := Scalar.muli v869 c128_i32_277
  let c40_i32_278 : BitVec 32 := 40#32
  let v981 : BitVec 32 := Scalar.addi v980 c40_i32_278
  v981
def k0_mult13 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c256_i32_280 : BitVec 32 := 256#32
  let v990 : BitVec 32 := Scalar.muli v869 c256_i32_280
  let c80_i32_281 : BitVec 32 := 80#32
  let v991 : BitVec 32 := Scalar.addi v990 c80_i32_281
  v991
def k0_mult14 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c128_i32_283 : BitVec 32 := 128#32
  let v1000 : BitVec 32 := Scalar.muli v869 c128_i32_283
  let c48_i32_284 : BitVec 32 := 48#32
  let v1001 : BitVec 32 := Scalar.addi v1000 c48_i32_284
  v1001
def k0_mult15 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c256_i32_286 : BitVec 32 := 256#32
  let v1010 : BitVec 32 := Scalar.muli v869 c256_i32_286
  let c96_i32_287 : BitVec 32 := 96#32
  let v1011 : BitVec 32 := Scalar.addi v1010 c96_i32_287
  v1011
def k0_mult16 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c128_i32_289 : BitVec 32 := 128#32
  let v1020 : BitVec 32 := Scalar.muli v869 c128_i32_289
  let c56_i32_290 : BitVec 32 := 56#32
  let v1021 : BitVec 32 := Scalar.addi v1020 c56_i32_290
  v1021
def k0_mult17 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c256_i32_292 : BitVec 32 := 256#32
  let v1030 : BitVec 32 := Scalar.muli v869 c256_i32_292
  let c112_i32_293 : BitVec 32 := 112#32
  let v1031 : BitVec 32 := Scalar.addi v1030 c112_i32_293
  v1031
def k0_mult18 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c128_i32_295 : BitVec 32 := 128#32
  let v1040 : BitVec 32 := Scalar.muli v869 c128_i32_295
  let c64_i32_296 : BitVec 32 := 64#32
  let v1041 : BitVec 32 := Scalar.addi v1040 c64_i32_296
  v1041
def k0_mult19 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c256_i32_298 : BitVec 32 := 256#32
  let v1050 : BitVec 32 := Scalar.muli v869 c256_i32_298
  let c128_i32_299 : BitVec 32 := 128#32
  let v1051 : BitVec 32 := Scalar.addi v1050 c128_i32_299
  v1051
def k0_mult20 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c128_i32_301 : BitVec 32 := 128#32
  let v1060 : BitVec 32 := Scalar.muli v869 c128_i32_301
  let c72_i32_302 : BitVec 32 := 72#32
  let v1061 : BitVec 32 := Scalar.addi v1060 c72_i32_302
  v1061
def k0_mult21 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c256_i32_304 : BitVec 32 := 256#32
  let v1070 : BitVec 32 := Scalar.muli v869 c256_i32_304
  let c144_i32 : BitVec 32 := 144#32
  let v1071 : BitVec 32 := Scalar.addi v1070 c144_i32
  v1071
def k0_mult22 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c128_i32_306 : BitVec 32 := 128#32
  let v1080 : BitVec 32 := Scalar.muli v869 c128_i32_306
  let c80_i32_307 : BitVec 32 := 80#32
  let v1081 : BitVec 32 := Scalar.addi v1080 c80_i32_307
  v1081
def k0_mult23 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c256_i32_309 : BitVec 32 := 256#32
  let v1090 : BitVec 32 := Scalar.muli v869 c256_i32_309
  let c160_i32 : BitVec 32 := 160#32
  let v1091 : BitVec 32 := Scalar.addi v1090 c160_i32
  v1091
def k0_mult24 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c128_i32_311 : BitVec 32 := 128#32
  let v1100 : BitVec 32 := Scalar.muli v869 c128_i32_311
  let c88_i32_312 : BitVec 32 := 88#32
  let v1101 : BitVec 32 := Scalar.addi v1100 c88_i32_312
  v1101
def k0_mult25 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c256_i32_314 : BitVec 32 := 256#32
  let v1110 : BitVec 32 := Scalar.muli v869 c256_i32_314
  let c176_i32 : BitVec 32 := 176#32
  let v1111 : BitVec 32 := Scalar.addi v1110 c176_i32
  v1111
def k0_mult26 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c128_i32_316 : BitVec 32 := 128#32
  let v1120 : BitVec 32 := Scalar.muli v869 c128_i32_316
  let c96_i32_317 : BitVec 32 := 96#32
  let v1121 : BitVec 32 := Scalar.addi v1120 c96_i32_317
  v1121
def k0_mult27 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c256_i32_319 : BitVec 32 := 256#32
  let v1130 : BitVec 32 := Scalar.muli v869 c256_i32_319
  let c192_i32 : BitVec 32 := 192#32
  let v1131 : BitVec 32 := Scalar.addi v1130 c192_i32
  v1131
def k0_mult28 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c128_i32_321 : BitVec 32 := 128#32
  let v1140 : BitVec 32 := Scalar.muli v869 c128_i32_321
  let c104_i32_322 : BitVec 32 := 104#32
  let v1141 : BitVec 32 := Scalar.addi v1140 c104_i32_322
  v1141
def k0_mult29 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c256_i32_324 : BitVec 32 := 256#32
  let v1150 : BitVec 32 := Scalar.muli v869 c256_i32_324
  let c208_i32 : BitVec 32 := 208#32
  let v1151 : BitVec 32 := Scalar.addi v1150 c208_i32
  v1151
def k0_mult30 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c128_i32_326 : BitVec 32 := 128#32
  let v1160 : BitVec 32 := Scalar.muli v869 c128_i32_326
  let c112_i32_327 : BitVec 32 := 112#32
  let v1161 : BitVec 32 := Scalar.addi v1160 c112_i32_327
  v1161
def k0_mult31 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c256_i32_329 : BitVec 32 := 256#32
  let v1170 : BitVec 32 := Scalar.muli v869 c256_i32_329
  let c224_i32 : BitVec 32 := 224#32
  let v1171 : BitVec 32 := Scalar.addi v1170 c224_i32
  v1171
def k0_mult32 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c128_i32_331 : BitVec 32 := 128#32
  let v1180 : BitVec 32 := Scalar.muli v869 c128_i32_331
  let c120_i32_332 : BitVec 32 := 120#32
  let v1181 : BitVec 32 := Scalar.addi v1180 c120_i32_332
  v1181
def k0_mult33 (k0_t2 : Fin k0_t2_loop.trips) : BitVec 32 :=
  let c0_i32_240 : BitVec 32 := 0#32
  let c0_i32_233 : BitVec 32 := 0#32
  let c1_i32_234 : BitVec 32 := 1#32
  let arg23 : BitVec 32 := Scf.iv c0_i32_233 c1_i32_234 k0_t2
  let c1_i32_239 : BitVec 32 := 1#32
  let v868 : BitVec 32 := Scalar.muli arg23 c1_i32_239
  let v869 : BitVec 32 := Scalar.addi c0_i32_240 v868
  let c256_i32_334 : BitVec 32 := 256#32
  let v1190 : BitVec 32 := Scalar.muli v869 c256_i32_334
  let c240_i32 : BitVec 32 := 240#32
  let v1191 : BitVec 32 := Scalar.addi v1190 c240_i32
  v1191
@[reducible] def k0_t3_loop : Scf.Loop 32 :=
  let c0_i32_1 : BitVec 32 := 0#32
  let c4_i32 : BitVec 32 := 4#32
  let v6 : BitVec 32 := Scalar.addi c0_i32_1 c4_i32
  let c1_i32 : BitVec 32 := 1#32
  ⟨c0_i32_1, v6, c1_i32⟩
def k0_off6 (arg0 : BitVec 32) (k0_t3 : Fin k0_t3_loop.trips) (c0_i32_8 : BitVec 32) : Fin 1 → Nat :=
  let c4_i32_7 : BitVec 32 := 4#32
  let v14 : BitVec 32 := Scalar.muli arg0 c4_i32_7
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let v15 : BitVec 32 := Scalar.addi v14 v13
  let c32_i32 : BitVec 32 := 32#32
  let v16 : BitVec 32 := Scalar.muli v15 c32_i32
  let v17 : BitVec 32 := Scalar.addi v16 c0_i32_8
  let v18 : Index := Scalar.indexCast v17
  ![v18.toNat]

def k0_chk1 (arg0 : BitVec 32) : Prop :=
  (∀ k0_t3 : Fin k0_t3_loop.trips, ∀ (r : Fin 32), ∀ a, (k0_off6 arg0 k0_t3 (BitVec.ofNat 32 r.val)) a + S1.size a ≤ S4608.size a)
theorem k0_off6_inb : ∀ (arg0 : BitVec 32) (k0_hw1 : k0_chk1 arg0) (k0_t3 : Fin k0_t3_loop.trips), ∀ (r : Fin 32), ∀ a, (k0_off6 arg0 k0_t3 (BitVec.ofNat 32 r.val)) a + S1.size a ≤ S4608.size a := fun arg0 k0_hw1 k0_t3 r => k0_hw1 k0_t3 r

def k0_mult34 (v19 : BitVec 32) : BitVec 32 :=
  let c65535_i32 : BitVec 32 := 65535#32
  let v113 : BitVec 32 := Scalar.andi v19 c65535_i32
  let c8_i32_11 : BitVec 32 := 8#32
  let v114 : BitVec 32 := Scalar.muli v113 c8_i32_11
  v114

def k0_mult35 (v22 : BitVec 32) : BitVec 32 :=
  let c65535_i32_12 : BitVec 32 := 65535#32
  let v116 : BitVec 32 := Scalar.andi v22 c65535_i32_12
  let c8_i32_13 : BitVec 32 := 8#32
  let v117 : BitVec 32 := Scalar.muli v116 c8_i32_13
  v117

def k0_mult36 (v25 : BitVec 32) : BitVec 32 :=
  let c65535_i32_14 : BitVec 32 := 65535#32
  let v119 : BitVec 32 := Scalar.andi v25 c65535_i32_14
  let c8_i32_15 : BitVec 32 := 8#32
  let v120 : BitVec 32 := Scalar.muli v119 c8_i32_15
  v120

def k0_mult37 (v28 : BitVec 32) : BitVec 32 :=
  let c65535_i32_16 : BitVec 32 := 65535#32
  let v122 : BitVec 32 := Scalar.andi v28 c65535_i32_16
  let c8_i32_17 : BitVec 32 := 8#32
  let v123 : BitVec 32 := Scalar.muli v122 c8_i32_17
  v123

def k0_mult38 (v31 : BitVec 32) : BitVec 32 :=
  let c65535_i32_18 : BitVec 32 := 65535#32
  let v125 : BitVec 32 := Scalar.andi v31 c65535_i32_18
  let c8_i32_19 : BitVec 32 := 8#32
  let v126 : BitVec 32 := Scalar.muli v125 c8_i32_19
  v126

def k0_mult39 (v34 : BitVec 32) : BitVec 32 :=
  let c65535_i32_20 : BitVec 32 := 65535#32
  let v128 : BitVec 32 := Scalar.andi v34 c65535_i32_20
  let c8_i32_21 : BitVec 32 := 8#32
  let v129 : BitVec 32 := Scalar.muli v128 c8_i32_21
  v129

def k0_mult40 (v37 : BitVec 32) : BitVec 32 :=
  let c65535_i32_22 : BitVec 32 := 65535#32
  let v131 : BitVec 32 := Scalar.andi v37 c65535_i32_22
  let c8_i32_23 : BitVec 32 := 8#32
  let v132 : BitVec 32 := Scalar.muli v131 c8_i32_23
  v132

def k0_mult41 (v40 : BitVec 32) : BitVec 32 :=
  let c65535_i32_24 : BitVec 32 := 65535#32
  let v134 : BitVec 32 := Scalar.andi v40 c65535_i32_24
  let c8_i32_25 : BitVec 32 := 8#32
  let v135 : BitVec 32 := Scalar.muli v134 c8_i32_25
  v135

def k0_mult42 (v43 : BitVec 32) : BitVec 32 :=
  let c65535_i32_26 : BitVec 32 := 65535#32
  let v137 : BitVec 32 := Scalar.andi v43 c65535_i32_26
  let c8_i32_27 : BitVec 32 := 8#32
  let v138 : BitVec 32 := Scalar.muli v137 c8_i32_27
  v138

def k0_mult43 (v46 : BitVec 32) : BitVec 32 :=
  let c65535_i32_28 : BitVec 32 := 65535#32
  let v140 : BitVec 32 := Scalar.andi v46 c65535_i32_28
  let c8_i32_29 : BitVec 32 := 8#32
  let v141 : BitVec 32 := Scalar.muli v140 c8_i32_29
  v141

def k0_mult44 (v49 : BitVec 32) : BitVec 32 :=
  let c65535_i32_30 : BitVec 32 := 65535#32
  let v143 : BitVec 32 := Scalar.andi v49 c65535_i32_30
  let c8_i32_31 : BitVec 32 := 8#32
  let v144 : BitVec 32 := Scalar.muli v143 c8_i32_31
  v144

def k0_mult45 (v52 : BitVec 32) : BitVec 32 :=
  let c65535_i32_32 : BitVec 32 := 65535#32
  let v146 : BitVec 32 := Scalar.andi v52 c65535_i32_32
  let c8_i32_33 : BitVec 32 := 8#32
  let v147 : BitVec 32 := Scalar.muli v146 c8_i32_33
  v147

def k0_mult46 (v55 : BitVec 32) : BitVec 32 :=
  let c65535_i32_34 : BitVec 32 := 65535#32
  let v149 : BitVec 32 := Scalar.andi v55 c65535_i32_34
  let c8_i32_35 : BitVec 32 := 8#32
  let v150 : BitVec 32 := Scalar.muli v149 c8_i32_35
  v150

def k0_mult47 (v58 : BitVec 32) : BitVec 32 :=
  let c65535_i32_36 : BitVec 32 := 65535#32
  let v152 : BitVec 32 := Scalar.andi v58 c65535_i32_36
  let c8_i32_37 : BitVec 32 := 8#32
  let v153 : BitVec 32 := Scalar.muli v152 c8_i32_37
  v153

def k0_mult48 (v61 : BitVec 32) : BitVec 32 :=
  let c65535_i32_38 : BitVec 32 := 65535#32
  let v155 : BitVec 32 := Scalar.andi v61 c65535_i32_38
  let c8_i32_39 : BitVec 32 := 8#32
  let v156 : BitVec 32 := Scalar.muli v155 c8_i32_39
  v156

def k0_mult49 (v64 : BitVec 32) : BitVec 32 :=
  let c65535_i32_40 : BitVec 32 := 65535#32
  let v158 : BitVec 32 := Scalar.andi v64 c65535_i32_40
  let c8_i32_41 : BitVec 32 := 8#32
  let v159 : BitVec 32 := Scalar.muli v158 c8_i32_41
  v159

def k0_mult50 (v67 : BitVec 32) : BitVec 32 :=
  let c65535_i32_42 : BitVec 32 := 65535#32
  let v161 : BitVec 32 := Scalar.andi v67 c65535_i32_42
  let c8_i32_43 : BitVec 32 := 8#32
  let v162 : BitVec 32 := Scalar.muli v161 c8_i32_43
  v162

def k0_mult51 (v70 : BitVec 32) : BitVec 32 :=
  let c65535_i32_44 : BitVec 32 := 65535#32
  let v164 : BitVec 32 := Scalar.andi v70 c65535_i32_44
  let c8_i32_45 : BitVec 32 := 8#32
  let v165 : BitVec 32 := Scalar.muli v164 c8_i32_45
  v165

def k0_mult52 (v73 : BitVec 32) : BitVec 32 :=
  let c65535_i32_46 : BitVec 32 := 65535#32
  let v167 : BitVec 32 := Scalar.andi v73 c65535_i32_46
  let c8_i32_47 : BitVec 32 := 8#32
  let v168 : BitVec 32 := Scalar.muli v167 c8_i32_47
  v168

def k0_mult53 (v76 : BitVec 32) : BitVec 32 :=
  let c65535_i32_48 : BitVec 32 := 65535#32
  let v170 : BitVec 32 := Scalar.andi v76 c65535_i32_48
  let c8_i32_49 : BitVec 32 := 8#32
  let v171 : BitVec 32 := Scalar.muli v170 c8_i32_49
  v171

def k0_mult54 (v79 : BitVec 32) : BitVec 32 :=
  let c65535_i32_50 : BitVec 32 := 65535#32
  let v173 : BitVec 32 := Scalar.andi v79 c65535_i32_50
  let c8_i32_51 : BitVec 32 := 8#32
  let v174 : BitVec 32 := Scalar.muli v173 c8_i32_51
  v174

def k0_mult55 (v82 : BitVec 32) : BitVec 32 :=
  let c65535_i32_52 : BitVec 32 := 65535#32
  let v176 : BitVec 32 := Scalar.andi v82 c65535_i32_52
  let c8_i32_53 : BitVec 32 := 8#32
  let v177 : BitVec 32 := Scalar.muli v176 c8_i32_53
  v177

def k0_mult56 (v85 : BitVec 32) : BitVec 32 :=
  let c65535_i32_54 : BitVec 32 := 65535#32
  let v179 : BitVec 32 := Scalar.andi v85 c65535_i32_54
  let c8_i32_55 : BitVec 32 := 8#32
  let v180 : BitVec 32 := Scalar.muli v179 c8_i32_55
  v180

def k0_mult57 (v88 : BitVec 32) : BitVec 32 :=
  let c65535_i32_56 : BitVec 32 := 65535#32
  let v182 : BitVec 32 := Scalar.andi v88 c65535_i32_56
  let c8_i32_57 : BitVec 32 := 8#32
  let v183 : BitVec 32 := Scalar.muli v182 c8_i32_57
  v183

def k0_mult58 (v91 : BitVec 32) : BitVec 32 :=
  let c65535_i32_58 : BitVec 32 := 65535#32
  let v185 : BitVec 32 := Scalar.andi v91 c65535_i32_58
  let c8_i32_59 : BitVec 32 := 8#32
  let v186 : BitVec 32 := Scalar.muli v185 c8_i32_59
  v186

def k0_mult59 (v94 : BitVec 32) : BitVec 32 :=
  let c65535_i32_60 : BitVec 32 := 65535#32
  let v188 : BitVec 32 := Scalar.andi v94 c65535_i32_60
  let c8_i32_61 : BitVec 32 := 8#32
  let v189 : BitVec 32 := Scalar.muli v188 c8_i32_61
  v189

def k0_mult60 (v97 : BitVec 32) : BitVec 32 :=
  let c65535_i32_62 : BitVec 32 := 65535#32
  let v191 : BitVec 32 := Scalar.andi v97 c65535_i32_62
  let c8_i32_63 : BitVec 32 := 8#32
  let v192 : BitVec 32 := Scalar.muli v191 c8_i32_63
  v192

def k0_mult61 (v100 : BitVec 32) : BitVec 32 :=
  let c65535_i32_64 : BitVec 32 := 65535#32
  let v194 : BitVec 32 := Scalar.andi v100 c65535_i32_64
  let c8_i32_65 : BitVec 32 := 8#32
  let v195 : BitVec 32 := Scalar.muli v194 c8_i32_65
  v195

def k0_mult62 (v103 : BitVec 32) : BitVec 32 :=
  let c65535_i32_66 : BitVec 32 := 65535#32
  let v197 : BitVec 32 := Scalar.andi v103 c65535_i32_66
  let c8_i32_67 : BitVec 32 := 8#32
  let v198 : BitVec 32 := Scalar.muli v197 c8_i32_67
  v198

def k0_mult63 (v106 : BitVec 32) : BitVec 32 :=
  let c65535_i32_68 : BitVec 32 := 65535#32
  let v200 : BitVec 32 := Scalar.andi v106 c65535_i32_68
  let c8_i32_69 : BitVec 32 := 8#32
  let v201 : BitVec 32 := Scalar.muli v200 c8_i32_69
  v201

def k0_mult64 (v109 : BitVec 32) : BitVec 32 :=
  let c65535_i32_70 : BitVec 32 := 65535#32
  let v203 : BitVec 32 := Scalar.andi v109 c65535_i32_70
  let c8_i32_71 : BitVec 32 := 8#32
  let v204 : BitVec 32 := Scalar.muli v203 c8_i32_71
  v204

def k0_mult65 (v112 : BitVec 32) : BitVec 32 :=
  let c65535_i32_72 : BitVec 32 := 65535#32
  let v206 : BitVec 32 := Scalar.andi v112 c65535_i32_72
  let c8_i32_73 : BitVec 32 := 8#32
  let v207 : BitVec 32 := Scalar.muli v206 c8_i32_73
  v207

def k0_mult66 (v19 : BitVec 32) : BitVec 32 :=
  let c65535_i32_74 : BitVec 32 := 65535#32
  let v209 : BitVec 32 := Scalar.andi v19 c65535_i32_74
  let c16_i32_75 : BitVec 32 := 16#32
  let v210 : BitVec 32 := Scalar.muli v209 c16_i32_75
  v210
def k0_mult67 (v22 : BitVec 32) : BitVec 32 :=
  let c65535_i32_76 : BitVec 32 := 65535#32
  let v212 : BitVec 32 := Scalar.andi v22 c65535_i32_76
  let c16_i32_77 : BitVec 32 := 16#32
  let v213 : BitVec 32 := Scalar.muli v212 c16_i32_77
  v213
def k0_mult68 (v25 : BitVec 32) : BitVec 32 :=
  let c65535_i32_78 : BitVec 32 := 65535#32
  let v215 : BitVec 32 := Scalar.andi v25 c65535_i32_78
  let c16_i32_79 : BitVec 32 := 16#32
  let v216 : BitVec 32 := Scalar.muli v215 c16_i32_79
  v216
def k0_mult69 (v28 : BitVec 32) : BitVec 32 :=
  let c65535_i32_80 : BitVec 32 := 65535#32
  let v218 : BitVec 32 := Scalar.andi v28 c65535_i32_80
  let c16_i32_81 : BitVec 32 := 16#32
  let v219 : BitVec 32 := Scalar.muli v218 c16_i32_81
  v219
def k0_mult70 (v31 : BitVec 32) : BitVec 32 :=
  let c65535_i32_82 : BitVec 32 := 65535#32
  let v221 : BitVec 32 := Scalar.andi v31 c65535_i32_82
  let c16_i32_83 : BitVec 32 := 16#32
  let v222 : BitVec 32 := Scalar.muli v221 c16_i32_83
  v222
def k0_mult71 (v34 : BitVec 32) : BitVec 32 :=
  let c65535_i32_84 : BitVec 32 := 65535#32
  let v224 : BitVec 32 := Scalar.andi v34 c65535_i32_84
  let c16_i32_85 : BitVec 32 := 16#32
  let v225 : BitVec 32 := Scalar.muli v224 c16_i32_85
  v225
def k0_mult72 (v37 : BitVec 32) : BitVec 32 :=
  let c65535_i32_86 : BitVec 32 := 65535#32
  let v227 : BitVec 32 := Scalar.andi v37 c65535_i32_86
  let c16_i32_87 : BitVec 32 := 16#32
  let v228 : BitVec 32 := Scalar.muli v227 c16_i32_87
  v228
def k0_mult73 (v40 : BitVec 32) : BitVec 32 :=
  let c65535_i32_88 : BitVec 32 := 65535#32
  let v230 : BitVec 32 := Scalar.andi v40 c65535_i32_88
  let c16_i32_89 : BitVec 32 := 16#32
  let v231 : BitVec 32 := Scalar.muli v230 c16_i32_89
  v231
def k0_mult74 (v43 : BitVec 32) : BitVec 32 :=
  let c65535_i32_90 : BitVec 32 := 65535#32
  let v233 : BitVec 32 := Scalar.andi v43 c65535_i32_90
  let c16_i32_91 : BitVec 32 := 16#32
  let v234 : BitVec 32 := Scalar.muli v233 c16_i32_91
  v234
def k0_mult75 (v46 : BitVec 32) : BitVec 32 :=
  let c65535_i32_92 : BitVec 32 := 65535#32
  let v236 : BitVec 32 := Scalar.andi v46 c65535_i32_92
  let c16_i32_93 : BitVec 32 := 16#32
  let v237 : BitVec 32 := Scalar.muli v236 c16_i32_93
  v237
def k0_mult76 (v49 : BitVec 32) : BitVec 32 :=
  let c65535_i32_94 : BitVec 32 := 65535#32
  let v239 : BitVec 32 := Scalar.andi v49 c65535_i32_94
  let c16_i32_95 : BitVec 32 := 16#32
  let v240 : BitVec 32 := Scalar.muli v239 c16_i32_95
  v240
def k0_mult77 (v52 : BitVec 32) : BitVec 32 :=
  let c65535_i32_96 : BitVec 32 := 65535#32
  let v242 : BitVec 32 := Scalar.andi v52 c65535_i32_96
  let c16_i32_97 : BitVec 32 := 16#32
  let v243 : BitVec 32 := Scalar.muli v242 c16_i32_97
  v243
def k0_mult78 (v55 : BitVec 32) : BitVec 32 :=
  let c65535_i32_98 : BitVec 32 := 65535#32
  let v245 : BitVec 32 := Scalar.andi v55 c65535_i32_98
  let c16_i32_99 : BitVec 32 := 16#32
  let v246 : BitVec 32 := Scalar.muli v245 c16_i32_99
  v246
def k0_mult79 (v58 : BitVec 32) : BitVec 32 :=
  let c65535_i32_100 : BitVec 32 := 65535#32
  let v248 : BitVec 32 := Scalar.andi v58 c65535_i32_100
  let c16_i32_101 : BitVec 32 := 16#32
  let v249 : BitVec 32 := Scalar.muli v248 c16_i32_101
  v249
def k0_mult80 (v61 : BitVec 32) : BitVec 32 :=
  let c65535_i32_102 : BitVec 32 := 65535#32
  let v251 : BitVec 32 := Scalar.andi v61 c65535_i32_102
  let c16_i32_103 : BitVec 32 := 16#32
  let v252 : BitVec 32 := Scalar.muli v251 c16_i32_103
  v252
def k0_mult81 (v64 : BitVec 32) : BitVec 32 :=
  let c65535_i32_104 : BitVec 32 := 65535#32
  let v254 : BitVec 32 := Scalar.andi v64 c65535_i32_104
  let c16_i32_105 : BitVec 32 := 16#32
  let v255 : BitVec 32 := Scalar.muli v254 c16_i32_105
  v255
def k0_mult82 (v67 : BitVec 32) : BitVec 32 :=
  let c65535_i32_106 : BitVec 32 := 65535#32
  let v257 : BitVec 32 := Scalar.andi v67 c65535_i32_106
  let c16_i32_107 : BitVec 32 := 16#32
  let v258 : BitVec 32 := Scalar.muli v257 c16_i32_107
  v258
def k0_mult83 (v70 : BitVec 32) : BitVec 32 :=
  let c65535_i32_108 : BitVec 32 := 65535#32
  let v260 : BitVec 32 := Scalar.andi v70 c65535_i32_108
  let c16_i32_109 : BitVec 32 := 16#32
  let v261 : BitVec 32 := Scalar.muli v260 c16_i32_109
  v261
def k0_mult84 (v73 : BitVec 32) : BitVec 32 :=
  let c65535_i32_110 : BitVec 32 := 65535#32
  let v263 : BitVec 32 := Scalar.andi v73 c65535_i32_110
  let c16_i32_111 : BitVec 32 := 16#32
  let v264 : BitVec 32 := Scalar.muli v263 c16_i32_111
  v264
def k0_mult85 (v76 : BitVec 32) : BitVec 32 :=
  let c65535_i32_112 : BitVec 32 := 65535#32
  let v266 : BitVec 32 := Scalar.andi v76 c65535_i32_112
  let c16_i32_113 : BitVec 32 := 16#32
  let v267 : BitVec 32 := Scalar.muli v266 c16_i32_113
  v267
def k0_mult86 (v79 : BitVec 32) : BitVec 32 :=
  let c65535_i32_114 : BitVec 32 := 65535#32
  let v269 : BitVec 32 := Scalar.andi v79 c65535_i32_114
  let c16_i32_115 : BitVec 32 := 16#32
  let v270 : BitVec 32 := Scalar.muli v269 c16_i32_115
  v270
def k0_mult87 (v82 : BitVec 32) : BitVec 32 :=
  let c65535_i32_116 : BitVec 32 := 65535#32
  let v272 : BitVec 32 := Scalar.andi v82 c65535_i32_116
  let c16_i32_117 : BitVec 32 := 16#32
  let v273 : BitVec 32 := Scalar.muli v272 c16_i32_117
  v273
def k0_mult88 (v85 : BitVec 32) : BitVec 32 :=
  let c65535_i32_118 : BitVec 32 := 65535#32
  let v275 : BitVec 32 := Scalar.andi v85 c65535_i32_118
  let c16_i32_119 : BitVec 32 := 16#32
  let v276 : BitVec 32 := Scalar.muli v275 c16_i32_119
  v276
def k0_mult89 (v88 : BitVec 32) : BitVec 32 :=
  let c65535_i32_120 : BitVec 32 := 65535#32
  let v278 : BitVec 32 := Scalar.andi v88 c65535_i32_120
  let c16_i32_121 : BitVec 32 := 16#32
  let v279 : BitVec 32 := Scalar.muli v278 c16_i32_121
  v279
def k0_mult90 (v91 : BitVec 32) : BitVec 32 :=
  let c65535_i32_122 : BitVec 32 := 65535#32
  let v281 : BitVec 32 := Scalar.andi v91 c65535_i32_122
  let c16_i32_123 : BitVec 32 := 16#32
  let v282 : BitVec 32 := Scalar.muli v281 c16_i32_123
  v282
def k0_mult91 (v94 : BitVec 32) : BitVec 32 :=
  let c65535_i32_124 : BitVec 32 := 65535#32
  let v284 : BitVec 32 := Scalar.andi v94 c65535_i32_124
  let c16_i32_125 : BitVec 32 := 16#32
  let v285 : BitVec 32 := Scalar.muli v284 c16_i32_125
  v285
def k0_mult92 (v97 : BitVec 32) : BitVec 32 :=
  let c65535_i32_126 : BitVec 32 := 65535#32
  let v287 : BitVec 32 := Scalar.andi v97 c65535_i32_126
  let c16_i32_127 : BitVec 32 := 16#32
  let v288 : BitVec 32 := Scalar.muli v287 c16_i32_127
  v288
def k0_mult93 (v100 : BitVec 32) : BitVec 32 :=
  let c65535_i32_128 : BitVec 32 := 65535#32
  let v290 : BitVec 32 := Scalar.andi v100 c65535_i32_128
  let c16_i32_129 : BitVec 32 := 16#32
  let v291 : BitVec 32 := Scalar.muli v290 c16_i32_129
  v291
def k0_mult94 (v103 : BitVec 32) : BitVec 32 :=
  let c65535_i32_130 : BitVec 32 := 65535#32
  let v293 : BitVec 32 := Scalar.andi v103 c65535_i32_130
  let c16_i32_131 : BitVec 32 := 16#32
  let v294 : BitVec 32 := Scalar.muli v293 c16_i32_131
  v294
def k0_mult95 (v106 : BitVec 32) : BitVec 32 :=
  let c65535_i32_132 : BitVec 32 := 65535#32
  let v296 : BitVec 32 := Scalar.andi v106 c65535_i32_132
  let c16_i32_133 : BitVec 32 := 16#32
  let v297 : BitVec 32 := Scalar.muli v296 c16_i32_133
  v297
def k0_mult96 (v109 : BitVec 32) : BitVec 32 :=
  let c65535_i32_134 : BitVec 32 := 65535#32
  let v299 : BitVec 32 := Scalar.andi v109 c65535_i32_134
  let c16_i32_135 : BitVec 32 := 16#32
  let v300 : BitVec 32 := Scalar.muli v299 c16_i32_135
  v300
def k0_mult97 (v112 : BitVec 32) : BitVec 32 :=
  let c65535_i32_136 : BitVec 32 := 65535#32
  let v302 : BitVec 32 := Scalar.andi v112 c65535_i32_136
  let c16_i32_137 : BitVec 32 := 16#32
  let v303 : BitVec 32 := Scalar.muli v302 c16_i32_137
  v303
def k0_mult98 (k0_t3 : Fin k0_t3_loop.trips) : BitVec 32 :=
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let c128_i32 : BitVec 32 := 128#32
  let v305 : BitVec 32 := Scalar.muli v13 c128_i32
  let c0_i32_138 : BitVec 32 := 0#32
  let v306 : BitVec 32 := Scalar.addi v305 c0_i32_138
  v306
def k0_off7 (k0_t3 : Fin k0_t3_loop.trips) (c0_i32_138 : BitVec 32) : Fin 2 → Nat :=
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let c128_i32 : BitVec 32 := 128#32
  let v305 : BitVec 32 := Scalar.muli v13 c128_i32
  let v306 : BitVec 32 := Scalar.addi v305 c0_i32_138
  let v307 : BitVec 32 := v306
  let v308 : Index := Scalar.indexCast v307
  let c0 : Index := 0#32
  ![v308.toNat, 0]
def k0_off8 (k0_t3 : Fin k0_t3_loop.trips) (c0_i32_140 : BitVec 32) : Fin 2 → Nat :=
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let c2_i32_139 : BitVec 32 := 2#32
  let v312 : BitVec 32 := Scalar.muli v13 c2_i32_139
  let v313 : BitVec 32 := Scalar.addi v312 c0_i32_140
  let v314 : Index := Scalar.indexCast v313
  let c0_141 : Index := 0#32
  ![v314.toNat, 0]
def k0_off9 (v19 : BitVec 32) : Fin 2 → Nat :=
  let c65535_i32_74 : BitVec 32 := 65535#32
  let v209 : BitVec 32 := Scalar.andi v19 c65535_i32_74
  let c16_i32_75 : BitVec 32 := 16#32
  let v210 : BitVec 32 := Scalar.muli v209 c16_i32_75
  let v211 : BitVec 32 := v210
  let v334 : Index := Scalar.indexCast v211
  let c0_145 : Index := 0#32
  ![v334.toNat, 0]
def k0_off10 (v22 : BitVec 32) : Fin 2 → Nat :=
  let c65535_i32_76 : BitVec 32 := 65535#32
  let v212 : BitVec 32 := Scalar.andi v22 c65535_i32_76
  let c16_i32_77 : BitVec 32 := 16#32
  let v213 : BitVec 32 := Scalar.muli v212 c16_i32_77
  let v214 : BitVec 32 := v213
  let v369 : Index := Scalar.indexCast v214
  let c0_156 : Index := 0#32
  ![v369.toNat, 0]
def k0_mult99 (k0_t3 : Fin k0_t3_loop.trips) : BitVec 32 :=
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let c128_i32_162 : BitVec 32 := 128#32
  let v382 : BitVec 32 := Scalar.muli v13 c128_i32_162
  let c8_i32_163 : BitVec 32 := 8#32
  let v383 : BitVec 32 := Scalar.addi v382 c8_i32_163
  v383
def k0_off11 (v25 : BitVec 32) : Fin 2 → Nat :=
  let c65535_i32_78 : BitVec 32 := 65535#32
  let v215 : BitVec 32 := Scalar.andi v25 c65535_i32_78
  let c16_i32_79 : BitVec 32 := 16#32
  let v216 : BitVec 32 := Scalar.muli v215 c16_i32_79
  let v217 : BitVec 32 := v216
  let v411 : Index := Scalar.indexCast v217
  let c0_171 : Index := 0#32
  ![v411.toNat, 0]
def k0_off12 (v28 : BitVec 32) : Fin 2 → Nat :=
  let c65535_i32_80 : BitVec 32 := 65535#32
  let v218 : BitVec 32 := Scalar.andi v28 c65535_i32_80
  let c16_i32_81 : BitVec 32 := 16#32
  let v219 : BitVec 32 := Scalar.muli v218 c16_i32_81
  let v220 : BitVec 32 := v219
  let v446 : Index := Scalar.indexCast v220
  let c0_183 : Index := 0#32
  ![v446.toNat, 0]
def k0_mult100 (k0_t3 : Fin k0_t3_loop.trips) : BitVec 32 :=
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let c128_i32_189 : BitVec 32 := 128#32
  let v459 : BitVec 32 := Scalar.muli v13 c128_i32_189
  let c16_i32_190 : BitVec 32 := 16#32
  let v460 : BitVec 32 := Scalar.addi v459 c16_i32_190
  v460
def k0_off13 (v31 : BitVec 32) : Fin 2 → Nat :=
  let c65535_i32_82 : BitVec 32 := 65535#32
  let v221 : BitVec 32 := Scalar.andi v31 c65535_i32_82
  let c16_i32_83 : BitVec 32 := 16#32
  let v222 : BitVec 32 := Scalar.muli v221 c16_i32_83
  let v223 : BitVec 32 := v222
  let v488 : Index := Scalar.indexCast v223
  let c0_198 : Index := 0#32
  ![v488.toNat, 0]
def k0_off14 (v34 : BitVec 32) : Fin 2 → Nat :=
  let c65535_i32_84 : BitVec 32 := 65535#32
  let v224 : BitVec 32 := Scalar.andi v34 c65535_i32_84
  let c16_i32_85 : BitVec 32 := 16#32
  let v225 : BitVec 32 := Scalar.muli v224 c16_i32_85
  let v226 : BitVec 32 := v225
  let v523 : Index := Scalar.indexCast v226
  let c0_209 : Index := 0#32
  ![v523.toNat, 0]
def k0_mult101 (k0_t3 : Fin k0_t3_loop.trips) : BitVec 32 :=
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let c128_i32_215 : BitVec 32 := 128#32
  let v536 : BitVec 32 := Scalar.muli v13 c128_i32_215
  let c24_i32_216 : BitVec 32 := 24#32
  let v537 : BitVec 32 := Scalar.addi v536 c24_i32_216
  v537
def k0_off15 (v37 : BitVec 32) : Fin 2 → Nat :=
  let c65535_i32_86 : BitVec 32 := 65535#32
  let v227 : BitVec 32 := Scalar.andi v37 c65535_i32_86
  let c16_i32_87 : BitVec 32 := 16#32
  let v228 : BitVec 32 := Scalar.muli v227 c16_i32_87
  let v229 : BitVec 32 := v228
  let v565 : Index := Scalar.indexCast v229
  let c0_223 : Index := 0#32
  ![v565.toNat, 0]
def k0_off16 (v40 : BitVec 32) : Fin 2 → Nat :=
  let c65535_i32_88 : BitVec 32 := 65535#32
  let v230 : BitVec 32 := Scalar.andi v40 c65535_i32_88
  let c16_i32_89 : BitVec 32 := 16#32
  let v231 : BitVec 32 := Scalar.muli v230 c16_i32_89
  let v232 : BitVec 32 := v231
  let v600 : Index := Scalar.indexCast v232
  let c0_234 : Index := 0#32
  ![v600.toNat, 0]
def k0_mult102 (k0_t3 : Fin k0_t3_loop.trips) : BitVec 32 :=
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let c128_i32_240 : BitVec 32 := 128#32
  let v613 : BitVec 32 := Scalar.muli v13 c128_i32_240
  let c32_i32_241 : BitVec 32 := 32#32
  let v614 : BitVec 32 := Scalar.addi v613 c32_i32_241
  v614
def k0_off17 (v43 : BitVec 32) : Fin 2 → Nat :=
  let c65535_i32_90 : BitVec 32 := 65535#32
  let v233 : BitVec 32 := Scalar.andi v43 c65535_i32_90
  let c16_i32_91 : BitVec 32 := 16#32
  let v234 : BitVec 32 := Scalar.muli v233 c16_i32_91
  let v235 : BitVec 32 := v234
  let v642 : Index := Scalar.indexCast v235
  let c0_248 : Index := 0#32
  ![v642.toNat, 0]
def k0_off18 (v46 : BitVec 32) : Fin 2 → Nat :=
  let c65535_i32_92 : BitVec 32 := 65535#32
  let v236 : BitVec 32 := Scalar.andi v46 c65535_i32_92
  let c16_i32_93 : BitVec 32 := 16#32
  let v237 : BitVec 32 := Scalar.muli v236 c16_i32_93
  let v238 : BitVec 32 := v237
  let v677 : Index := Scalar.indexCast v238
  let c0_259 : Index := 0#32
  ![v677.toNat, 0]
def k0_mult103 (k0_t3 : Fin k0_t3_loop.trips) : BitVec 32 :=
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let c128_i32_265 : BitVec 32 := 128#32
  let v690 : BitVec 32 := Scalar.muli v13 c128_i32_265
  let c40_i32_266 : BitVec 32 := 40#32
  let v691 : BitVec 32 := Scalar.addi v690 c40_i32_266
  v691
def k0_off19 (v49 : BitVec 32) : Fin 2 → Nat :=
  let c65535_i32_94 : BitVec 32 := 65535#32
  let v239 : BitVec 32 := Scalar.andi v49 c65535_i32_94
  let c16_i32_95 : BitVec 32 := 16#32
  let v240 : BitVec 32 := Scalar.muli v239 c16_i32_95
  let v241 : BitVec 32 := v240
  let v719 : Index := Scalar.indexCast v241
  let c0_273 : Index := 0#32
  ![v719.toNat, 0]
def k0_off20 (v52 : BitVec 32) : Fin 2 → Nat :=
  let c65535_i32_96 : BitVec 32 := 65535#32
  let v242 : BitVec 32 := Scalar.andi v52 c65535_i32_96
  let c16_i32_97 : BitVec 32 := 16#32
  let v243 : BitVec 32 := Scalar.muli v242 c16_i32_97
  let v244 : BitVec 32 := v243
  let v754 : Index := Scalar.indexCast v244
  let c0_284 : Index := 0#32
  ![v754.toNat, 0]
def k0_mult104 (k0_t3 : Fin k0_t3_loop.trips) : BitVec 32 :=
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let c128_i32_290 : BitVec 32 := 128#32
  let v767 : BitVec 32 := Scalar.muli v13 c128_i32_290
  let c48_i32_291 : BitVec 32 := 48#32
  let v768 : BitVec 32 := Scalar.addi v767 c48_i32_291
  v768
def k0_off21 (v55 : BitVec 32) : Fin 2 → Nat :=
  let c65535_i32_98 : BitVec 32 := 65535#32
  let v245 : BitVec 32 := Scalar.andi v55 c65535_i32_98
  let c16_i32_99 : BitVec 32 := 16#32
  let v246 : BitVec 32 := Scalar.muli v245 c16_i32_99
  let v247 : BitVec 32 := v246
  let v796 : Index := Scalar.indexCast v247
  let c0_298 : Index := 0#32
  ![v796.toNat, 0]
def k0_off22 (v58 : BitVec 32) : Fin 2 → Nat :=
  let c65535_i32_100 : BitVec 32 := 65535#32
  let v248 : BitVec 32 := Scalar.andi v58 c65535_i32_100
  let c16_i32_101 : BitVec 32 := 16#32
  let v249 : BitVec 32 := Scalar.muli v248 c16_i32_101
  let v250 : BitVec 32 := v249
  let v831 : Index := Scalar.indexCast v250
  let c0_309 : Index := 0#32
  ![v831.toNat, 0]
def k0_mult105 (k0_t3 : Fin k0_t3_loop.trips) : BitVec 32 :=
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let c128_i32_315 : BitVec 32 := 128#32
  let v844 : BitVec 32 := Scalar.muli v13 c128_i32_315
  let c56_i32_316 : BitVec 32 := 56#32
  let v845 : BitVec 32 := Scalar.addi v844 c56_i32_316
  v845
def k0_off23 (v61 : BitVec 32) : Fin 2 → Nat :=
  let c65535_i32_102 : BitVec 32 := 65535#32
  let v251 : BitVec 32 := Scalar.andi v61 c65535_i32_102
  let c16_i32_103 : BitVec 32 := 16#32
  let v252 : BitVec 32 := Scalar.muli v251 c16_i32_103
  let v253 : BitVec 32 := v252
  let v873 : Index := Scalar.indexCast v253
  let c0_323 : Index := 0#32
  ![v873.toNat, 0]
def k0_off24 (v64 : BitVec 32) : Fin 2 → Nat :=
  let c65535_i32_104 : BitVec 32 := 65535#32
  let v254 : BitVec 32 := Scalar.andi v64 c65535_i32_104
  let c16_i32_105 : BitVec 32 := 16#32
  let v255 : BitVec 32 := Scalar.muli v254 c16_i32_105
  let v256 : BitVec 32 := v255
  let v908 : Index := Scalar.indexCast v256
  let c0_334 : Index := 0#32
  ![v908.toNat, 0]
def k0_mult106 (k0_t3 : Fin k0_t3_loop.trips) : BitVec 32 :=
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let c128_i32_340 : BitVec 32 := 128#32
  let v921 : BitVec 32 := Scalar.muli v13 c128_i32_340
  let c64_i32_341 : BitVec 32 := 64#32
  let v922 : BitVec 32 := Scalar.addi v921 c64_i32_341
  v922
def k0_off25 (v67 : BitVec 32) : Fin 2 → Nat :=
  let c65535_i32_106 : BitVec 32 := 65535#32
  let v257 : BitVec 32 := Scalar.andi v67 c65535_i32_106
  let c16_i32_107 : BitVec 32 := 16#32
  let v258 : BitVec 32 := Scalar.muli v257 c16_i32_107
  let v259 : BitVec 32 := v258
  let v950 : Index := Scalar.indexCast v259
  let c0_349 : Index := 0#32
  ![v950.toNat, 0]
def k0_off26 (v70 : BitVec 32) : Fin 2 → Nat :=
  let c65535_i32_108 : BitVec 32 := 65535#32
  let v260 : BitVec 32 := Scalar.andi v70 c65535_i32_108
  let c16_i32_109 : BitVec 32 := 16#32
  let v261 : BitVec 32 := Scalar.muli v260 c16_i32_109
  let v262 : BitVec 32 := v261
  let v985 : Index := Scalar.indexCast v262
  let c0_361 : Index := 0#32
  ![v985.toNat, 0]
def k0_mult107 (k0_t3 : Fin k0_t3_loop.trips) : BitVec 32 :=
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let c128_i32_367 : BitVec 32 := 128#32
  let v998 : BitVec 32 := Scalar.muli v13 c128_i32_367
  let c72_i32_368 : BitVec 32 := 72#32
  let v999 : BitVec 32 := Scalar.addi v998 c72_i32_368
  v999
def k0_off27 (v73 : BitVec 32) : Fin 2 → Nat :=
  let c65535_i32_110 : BitVec 32 := 65535#32
  let v263 : BitVec 32 := Scalar.andi v73 c65535_i32_110
  let c16_i32_111 : BitVec 32 := 16#32
  let v264 : BitVec 32 := Scalar.muli v263 c16_i32_111
  let v265 : BitVec 32 := v264
  let v1027 : Index := Scalar.indexCast v265
  let c0_376 : Index := 0#32
  ![v1027.toNat, 0]
def k0_off28 (v76 : BitVec 32) : Fin 2 → Nat :=
  let c65535_i32_112 : BitVec 32 := 65535#32
  let v266 : BitVec 32 := Scalar.andi v76 c65535_i32_112
  let c16_i32_113 : BitVec 32 := 16#32
  let v267 : BitVec 32 := Scalar.muli v266 c16_i32_113
  let v268 : BitVec 32 := v267
  let v1062 : Index := Scalar.indexCast v268
  let c0_388 : Index := 0#32
  ![v1062.toNat, 0]
def k0_mult108 (k0_t3 : Fin k0_t3_loop.trips) : BitVec 32 :=
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let c128_i32_394 : BitVec 32 := 128#32
  let v1075 : BitVec 32 := Scalar.muli v13 c128_i32_394
  let c80_i32_395 : BitVec 32 := 80#32
  let v1076 : BitVec 32 := Scalar.addi v1075 c80_i32_395
  v1076
def k0_off29 (v79 : BitVec 32) : Fin 2 → Nat :=
  let c65535_i32_114 : BitVec 32 := 65535#32
  let v269 : BitVec 32 := Scalar.andi v79 c65535_i32_114
  let c16_i32_115 : BitVec 32 := 16#32
  let v270 : BitVec 32 := Scalar.muli v269 c16_i32_115
  let v271 : BitVec 32 := v270
  let v1104 : Index := Scalar.indexCast v271
  let c0_403 : Index := 0#32
  ![v1104.toNat, 0]
def k0_off30 (v82 : BitVec 32) : Fin 2 → Nat :=
  let c65535_i32_116 : BitVec 32 := 65535#32
  let v272 : BitVec 32 := Scalar.andi v82 c65535_i32_116
  let c16_i32_117 : BitVec 32 := 16#32
  let v273 : BitVec 32 := Scalar.muli v272 c16_i32_117
  let v274 : BitVec 32 := v273
  let v1139 : Index := Scalar.indexCast v274
  let c0_415 : Index := 0#32
  ![v1139.toNat, 0]
def k0_mult109 (k0_t3 : Fin k0_t3_loop.trips) : BitVec 32 :=
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let c128_i32_421 : BitVec 32 := 128#32
  let v1152 : BitVec 32 := Scalar.muli v13 c128_i32_421
  let c88_i32_422 : BitVec 32 := 88#32
  let v1153 : BitVec 32 := Scalar.addi v1152 c88_i32_422
  v1153
def k0_off31 (v85 : BitVec 32) : Fin 2 → Nat :=
  let c65535_i32_118 : BitVec 32 := 65535#32
  let v275 : BitVec 32 := Scalar.andi v85 c65535_i32_118
  let c16_i32_119 : BitVec 32 := 16#32
  let v276 : BitVec 32 := Scalar.muli v275 c16_i32_119
  let v277 : BitVec 32 := v276
  let v1181 : Index := Scalar.indexCast v277
  let c0_430 : Index := 0#32
  ![v1181.toNat, 0]
def k0_off32 (v88 : BitVec 32) : Fin 2 → Nat :=
  let c65535_i32_120 : BitVec 32 := 65535#32
  let v278 : BitVec 32 := Scalar.andi v88 c65535_i32_120
  let c16_i32_121 : BitVec 32 := 16#32
  let v279 : BitVec 32 := Scalar.muli v278 c16_i32_121
  let v280 : BitVec 32 := v279
  let v1216 : Index := Scalar.indexCast v280
  let c0_442 : Index := 0#32
  ![v1216.toNat, 0]
def k0_mult110 (k0_t3 : Fin k0_t3_loop.trips) : BitVec 32 :=
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let c128_i32_448 : BitVec 32 := 128#32
  let v1229 : BitVec 32 := Scalar.muli v13 c128_i32_448
  let c96_i32_449 : BitVec 32 := 96#32
  let v1230 : BitVec 32 := Scalar.addi v1229 c96_i32_449
  v1230
def k0_off33 (v91 : BitVec 32) : Fin 2 → Nat :=
  let c65535_i32_122 : BitVec 32 := 65535#32
  let v281 : BitVec 32 := Scalar.andi v91 c65535_i32_122
  let c16_i32_123 : BitVec 32 := 16#32
  let v282 : BitVec 32 := Scalar.muli v281 c16_i32_123
  let v283 : BitVec 32 := v282
  let v1258 : Index := Scalar.indexCast v283
  let c0_457 : Index := 0#32
  ![v1258.toNat, 0]
def k0_off34 (v94 : BitVec 32) : Fin 2 → Nat :=
  let c65535_i32_124 : BitVec 32 := 65535#32
  let v284 : BitVec 32 := Scalar.andi v94 c65535_i32_124
  let c16_i32_125 : BitVec 32 := 16#32
  let v285 : BitVec 32 := Scalar.muli v284 c16_i32_125
  let v286 : BitVec 32 := v285
  let v1293 : Index := Scalar.indexCast v286
  let c0_469 : Index := 0#32
  ![v1293.toNat, 0]
def k0_mult111 (k0_t3 : Fin k0_t3_loop.trips) : BitVec 32 :=
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let c128_i32_475 : BitVec 32 := 128#32
  let v1306 : BitVec 32 := Scalar.muli v13 c128_i32_475
  let c104_i32_476 : BitVec 32 := 104#32
  let v1307 : BitVec 32 := Scalar.addi v1306 c104_i32_476
  v1307
def k0_off35 (v97 : BitVec 32) : Fin 2 → Nat :=
  let c65535_i32_126 : BitVec 32 := 65535#32
  let v287 : BitVec 32 := Scalar.andi v97 c65535_i32_126
  let c16_i32_127 : BitVec 32 := 16#32
  let v288 : BitVec 32 := Scalar.muli v287 c16_i32_127
  let v289 : BitVec 32 := v288
  let v1335 : Index := Scalar.indexCast v289
  let c0_484 : Index := 0#32
  ![v1335.toNat, 0]
def k0_off36 (v100 : BitVec 32) : Fin 2 → Nat :=
  let c65535_i32_128 : BitVec 32 := 65535#32
  let v290 : BitVec 32 := Scalar.andi v100 c65535_i32_128
  let c16_i32_129 : BitVec 32 := 16#32
  let v291 : BitVec 32 := Scalar.muli v290 c16_i32_129
  let v292 : BitVec 32 := v291
  let v1370 : Index := Scalar.indexCast v292
  let c0_496 : Index := 0#32
  ![v1370.toNat, 0]
def k0_mult112 (k0_t3 : Fin k0_t3_loop.trips) : BitVec 32 :=
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let c128_i32_502 : BitVec 32 := 128#32
  let v1383 : BitVec 32 := Scalar.muli v13 c128_i32_502
  let c112_i32_503 : BitVec 32 := 112#32
  let v1384 : BitVec 32 := Scalar.addi v1383 c112_i32_503
  v1384
def k0_off37 (v103 : BitVec 32) : Fin 2 → Nat :=
  let c65535_i32_130 : BitVec 32 := 65535#32
  let v293 : BitVec 32 := Scalar.andi v103 c65535_i32_130
  let c16_i32_131 : BitVec 32 := 16#32
  let v294 : BitVec 32 := Scalar.muli v293 c16_i32_131
  let v295 : BitVec 32 := v294
  let v1412 : Index := Scalar.indexCast v295
  let c0_511 : Index := 0#32
  ![v1412.toNat, 0]
def k0_off38 (v106 : BitVec 32) : Fin 2 → Nat :=
  let c65535_i32_132 : BitVec 32 := 65535#32
  let v296 : BitVec 32 := Scalar.andi v106 c65535_i32_132
  let c16_i32_133 : BitVec 32 := 16#32
  let v297 : BitVec 32 := Scalar.muli v296 c16_i32_133
  let v298 : BitVec 32 := v297
  let v1447 : Index := Scalar.indexCast v298
  let c0_523 : Index := 0#32
  ![v1447.toNat, 0]
def k0_mult113 (k0_t3 : Fin k0_t3_loop.trips) : BitVec 32 :=
  let c0_i32_6 : BitVec 32 := 0#32
  let c0_i32_1 : BitVec 32 := 0#32
  let c1_i32 : BitVec 32 := 1#32
  let arg23 : BitVec 32 := Scf.iv c0_i32_1 c1_i32 k0_t3
  let c1_i32_5 : BitVec 32 := 1#32
  let v12 : BitVec 32 := Scalar.muli arg23 c1_i32_5
  let v13 : BitVec 32 := Scalar.addi c0_i32_6 v12
  let c128_i32_529 : BitVec 32 := 128#32
  let v1460 : BitVec 32 := Scalar.muli v13 c128_i32_529
  let c120_i32_530 : BitVec 32 := 120#32
  let v1461 : BitVec 32 := Scalar.addi v1460 c120_i32_530
  v1461
def k0_off39 (v109 : BitVec 32) : Fin 2 → Nat :=
  let c65535_i32_134 : BitVec 32 := 65535#32
  let v299 : BitVec 32 := Scalar.andi v109 c65535_i32_134
  let c16_i32_135 : BitVec 32 := 16#32
  let v300 : BitVec 32 := Scalar.muli v299 c16_i32_135
  let v301 : BitVec 32 := v300
  let v1489 : Index := Scalar.indexCast v301
  let c0_538 : Index := 0#32
  ![v1489.toNat, 0]
def k0_off40 (v112 : BitVec 32) : Fin 2 → Nat :=
  let c65535_i32_136 : BitVec 32 := 65535#32
  let v302 : BitVec 32 := Scalar.andi v112 c65535_i32_136
  let c16_i32_137 : BitVec 32 := 16#32
  let v303 : BitVec 32 := Scalar.muli v302 c16_i32_137
  let v304 : BitVec 32 := v303
  let v1524 : Index := Scalar.indexCast v304
  let c0_550 : Index := 0#32
  ![v1524.toNat, 0]
def k0_off41 (v19 : BitVec 32) : Fin 2 → Nat :=
  let c65535_i32 : BitVec 32 := 65535#32
  let v113 : BitVec 32 := Scalar.andi v19 c65535_i32
  let c8_i32_11 : BitVec 32 := 8#32
  let v114 : BitVec 32 := Scalar.muli v113 c8_i32_11
  let v115 : BitVec 32 := v114
  let v1548 : Index := Scalar.indexCast v115
  let c0_569 : Index := 0#32
  ![v1548.toNat, 0]
def k0_off42 (v22 : BitVec 32) : Fin 2 → Nat :=
  let c65535_i32_12 : BitVec 32 := 65535#32
  let v116 : BitVec 32 := Scalar.andi v22 c65535_i32_12
  let c8_i32_13 : BitVec 32 := 8#32
  let v117 : BitVec 32 := Scalar.muli v116 c8_i32_13
  let v118 : BitVec 32 := v117
  let v1564 : Index := Scalar.indexCast v118
  let c0_575 : Index := 0#32
  ![v1564.toNat, 0]
def k0_off43 (v25 : BitVec 32) : Fin 2 → Nat :=
  let c65535_i32_14 : BitVec 32 := 65535#32
  let v119 : BitVec 32 := Scalar.andi v25 c65535_i32_14
  let c8_i32_15 : BitVec 32 := 8#32
  let v120 : BitVec 32 := Scalar.muli v119 c8_i32_15
  let v121 : BitVec 32 := v120
  let v1580 : Index := Scalar.indexCast v121
  let c0_581 : Index := 0#32
  ![v1580.toNat, 0]
def k0_off44 (v28 : BitVec 32) : Fin 2 → Nat :=
  let c65535_i32_16 : BitVec 32 := 65535#32
  let v122 : BitVec 32 := Scalar.andi v28 c65535_i32_16
  let c8_i32_17 : BitVec 32 := 8#32
  let v123 : BitVec 32 := Scalar.muli v122 c8_i32_17
  let v124 : BitVec 32 := v123
  let v1596 : Index := Scalar.indexCast v124
  let c0_587 : Index := 0#32
  ![v1596.toNat, 0]
def k0_off45 (v31 : BitVec 32) : Fin 2 → Nat :=
  let c65535_i32_18 : BitVec 32 := 65535#32
  let v125 : BitVec 32 := Scalar.andi v31 c65535_i32_18
  let c8_i32_19 : BitVec 32 := 8#32
  let v126 : BitVec 32 := Scalar.muli v125 c8_i32_19
  let v127 : BitVec 32 := v126
  let v1612 : Index := Scalar.indexCast v127
  let c0_593 : Index := 0#32
  ![v1612.toNat, 0]
def k0_off46 (v34 : BitVec 32) : Fin 2 → Nat :=
  let c65535_i32_20 : BitVec 32 := 65535#32
  let v128 : BitVec 32 := Scalar.andi v34 c65535_i32_20
  let c8_i32_21 : BitVec 32 := 8#32
  let v129 : BitVec 32 := Scalar.muli v128 c8_i32_21
  let v130 : BitVec 32 := v129
  let v1628 : Index := Scalar.indexCast v130
  let c0_599 : Index := 0#32
  ![v1628.toNat, 0]
def k0_off47 (v37 : BitVec 32) : Fin 2 → Nat :=
  let c65535_i32_22 : BitVec 32 := 65535#32
  let v131 : BitVec 32 := Scalar.andi v37 c65535_i32_22
  let c8_i32_23 : BitVec 32 := 8#32
  let v132 : BitVec 32 := Scalar.muli v131 c8_i32_23
  let v133 : BitVec 32 := v132
  let v1644 : Index := Scalar.indexCast v133
  let c0_605 : Index := 0#32
  ![v1644.toNat, 0]
def k0_off48 (v40 : BitVec 32) : Fin 2 → Nat :=
  let c65535_i32_24 : BitVec 32 := 65535#32
  let v134 : BitVec 32 := Scalar.andi v40 c65535_i32_24
  let c8_i32_25 : BitVec 32 := 8#32
  let v135 : BitVec 32 := Scalar.muli v134 c8_i32_25
  let v136 : BitVec 32 := v135
  let v1660 : Index := Scalar.indexCast v136
  let c0_611 : Index := 0#32
  ![v1660.toNat, 0]
def k0_off49 (v43 : BitVec 32) : Fin 2 → Nat :=
  let c65535_i32_26 : BitVec 32 := 65535#32
  let v137 : BitVec 32 := Scalar.andi v43 c65535_i32_26
  let c8_i32_27 : BitVec 32 := 8#32
  let v138 : BitVec 32 := Scalar.muli v137 c8_i32_27
  let v139 : BitVec 32 := v138
  let v1676 : Index := Scalar.indexCast v139
  let c0_617 : Index := 0#32
  ![v1676.toNat, 0]
def k0_off50 (v46 : BitVec 32) : Fin 2 → Nat :=
  let c65535_i32_28 : BitVec 32 := 65535#32
  let v140 : BitVec 32 := Scalar.andi v46 c65535_i32_28
  let c8_i32_29 : BitVec 32 := 8#32
  let v141 : BitVec 32 := Scalar.muli v140 c8_i32_29
  let v142 : BitVec 32 := v141
  let v1692 : Index := Scalar.indexCast v142
  let c0_623 : Index := 0#32
  ![v1692.toNat, 0]
def k0_off51 (v49 : BitVec 32) : Fin 2 → Nat :=
  let c65535_i32_30 : BitVec 32 := 65535#32
  let v143 : BitVec 32 := Scalar.andi v49 c65535_i32_30
  let c8_i32_31 : BitVec 32 := 8#32
  let v144 : BitVec 32 := Scalar.muli v143 c8_i32_31
  let v145 : BitVec 32 := v144
  let v1708 : Index := Scalar.indexCast v145
  let c0_629 : Index := 0#32
  ![v1708.toNat, 0]
def k0_off52 (v52 : BitVec 32) : Fin 2 → Nat :=
  let c65535_i32_32 : BitVec 32 := 65535#32
  let v146 : BitVec 32 := Scalar.andi v52 c65535_i32_32
  let c8_i32_33 : BitVec 32 := 8#32
  let v147 : BitVec 32 := Scalar.muli v146 c8_i32_33
  let v148 : BitVec 32 := v147
  let v1724 : Index := Scalar.indexCast v148
  let c0_635 : Index := 0#32
  ![v1724.toNat, 0]
def k0_off53 (v55 : BitVec 32) : Fin 2 → Nat :=
  let c65535_i32_34 : BitVec 32 := 65535#32
  let v149 : BitVec 32 := Scalar.andi v55 c65535_i32_34
  let c8_i32_35 : BitVec 32 := 8#32
  let v150 : BitVec 32 := Scalar.muli v149 c8_i32_35
  let v151 : BitVec 32 := v150
  let v1740 : Index := Scalar.indexCast v151
  let c0_641 : Index := 0#32
  ![v1740.toNat, 0]
def k0_off54 (v58 : BitVec 32) : Fin 2 → Nat :=
  let c65535_i32_36 : BitVec 32 := 65535#32
  let v152 : BitVec 32 := Scalar.andi v58 c65535_i32_36
  let c8_i32_37 : BitVec 32 := 8#32
  let v153 : BitVec 32 := Scalar.muli v152 c8_i32_37
  let v154 : BitVec 32 := v153
  let v1756 : Index := Scalar.indexCast v154
  let c0_647 : Index := 0#32
  ![v1756.toNat, 0]
def k0_off55 (v61 : BitVec 32) : Fin 2 → Nat :=
  let c65535_i32_38 : BitVec 32 := 65535#32
  let v155 : BitVec 32 := Scalar.andi v61 c65535_i32_38
  let c8_i32_39 : BitVec 32 := 8#32
  let v156 : BitVec 32 := Scalar.muli v155 c8_i32_39
  let v157 : BitVec 32 := v156
  let v1772 : Index := Scalar.indexCast v157
  let c0_653 : Index := 0#32
  ![v1772.toNat, 0]
def k0_off56 (v64 : BitVec 32) : Fin 2 → Nat :=
  let c65535_i32_40 : BitVec 32 := 65535#32
  let v158 : BitVec 32 := Scalar.andi v64 c65535_i32_40
  let c8_i32_41 : BitVec 32 := 8#32
  let v159 : BitVec 32 := Scalar.muli v158 c8_i32_41
  let v160 : BitVec 32 := v159
  let v1788 : Index := Scalar.indexCast v160
  let c0_659 : Index := 0#32
  ![v1788.toNat, 0]
def k0_off57 (v67 : BitVec 32) : Fin 2 → Nat :=
  let c65535_i32_42 : BitVec 32 := 65535#32
  let v161 : BitVec 32 := Scalar.andi v67 c65535_i32_42
  let c8_i32_43 : BitVec 32 := 8#32
  let v162 : BitVec 32 := Scalar.muli v161 c8_i32_43
  let v163 : BitVec 32 := v162
  let v1804 : Index := Scalar.indexCast v163
  let c0_665 : Index := 0#32
  ![v1804.toNat, 0]
def k0_off58 (v70 : BitVec 32) : Fin 2 → Nat :=
  let c65535_i32_44 : BitVec 32 := 65535#32
  let v164 : BitVec 32 := Scalar.andi v70 c65535_i32_44
  let c8_i32_45 : BitVec 32 := 8#32
  let v165 : BitVec 32 := Scalar.muli v164 c8_i32_45
  let v166 : BitVec 32 := v165
  let v1820 : Index := Scalar.indexCast v166
  let c0_671 : Index := 0#32
  ![v1820.toNat, 0]
def k0_off59 (v73 : BitVec 32) : Fin 2 → Nat :=
  let c65535_i32_46 : BitVec 32 := 65535#32
  let v167 : BitVec 32 := Scalar.andi v73 c65535_i32_46
  let c8_i32_47 : BitVec 32 := 8#32
  let v168 : BitVec 32 := Scalar.muli v167 c8_i32_47
  let v169 : BitVec 32 := v168
  let v1836 : Index := Scalar.indexCast v169
  let c0_677 : Index := 0#32
  ![v1836.toNat, 0]
def k0_off60 (v76 : BitVec 32) : Fin 2 → Nat :=
  let c65535_i32_48 : BitVec 32 := 65535#32
  let v170 : BitVec 32 := Scalar.andi v76 c65535_i32_48
  let c8_i32_49 : BitVec 32 := 8#32
  let v171 : BitVec 32 := Scalar.muli v170 c8_i32_49
  let v172 : BitVec 32 := v171
  let v1852 : Index := Scalar.indexCast v172
  let c0_683 : Index := 0#32
  ![v1852.toNat, 0]
def k0_off61 (v79 : BitVec 32) : Fin 2 → Nat :=
  let c65535_i32_50 : BitVec 32 := 65535#32
  let v173 : BitVec 32 := Scalar.andi v79 c65535_i32_50
  let c8_i32_51 : BitVec 32 := 8#32
  let v174 : BitVec 32 := Scalar.muli v173 c8_i32_51
  let v175 : BitVec 32 := v174
  let v1868 : Index := Scalar.indexCast v175
  let c0_689 : Index := 0#32
  ![v1868.toNat, 0]
def k0_off62 (v82 : BitVec 32) : Fin 2 → Nat :=
  let c65535_i32_52 : BitVec 32 := 65535#32
  let v176 : BitVec 32 := Scalar.andi v82 c65535_i32_52
  let c8_i32_53 : BitVec 32 := 8#32
  let v177 : BitVec 32 := Scalar.muli v176 c8_i32_53
  let v178 : BitVec 32 := v177
  let v1884 : Index := Scalar.indexCast v178
  let c0_695 : Index := 0#32
  ![v1884.toNat, 0]
def k0_off63 (v85 : BitVec 32) : Fin 2 → Nat :=
  let c65535_i32_54 : BitVec 32 := 65535#32
  let v179 : BitVec 32 := Scalar.andi v85 c65535_i32_54
  let c8_i32_55 : BitVec 32 := 8#32
  let v180 : BitVec 32 := Scalar.muli v179 c8_i32_55
  let v181 : BitVec 32 := v180
  let v1900 : Index := Scalar.indexCast v181
  let c0_701 : Index := 0#32
  ![v1900.toNat, 0]
def k0_off64 (v88 : BitVec 32) : Fin 2 → Nat :=
  let c65535_i32_56 : BitVec 32 := 65535#32
  let v182 : BitVec 32 := Scalar.andi v88 c65535_i32_56
  let c8_i32_57 : BitVec 32 := 8#32
  let v183 : BitVec 32 := Scalar.muli v182 c8_i32_57
  let v184 : BitVec 32 := v183
  let v1916 : Index := Scalar.indexCast v184
  let c0_707 : Index := 0#32
  ![v1916.toNat, 0]
def k0_off65 (v91 : BitVec 32) : Fin 2 → Nat :=
  let c65535_i32_58 : BitVec 32 := 65535#32
  let v185 : BitVec 32 := Scalar.andi v91 c65535_i32_58
  let c8_i32_59 : BitVec 32 := 8#32
  let v186 : BitVec 32 := Scalar.muli v185 c8_i32_59
  let v187 : BitVec 32 := v186
  let v1932 : Index := Scalar.indexCast v187
  let c0_713 : Index := 0#32
  ![v1932.toNat, 0]
def k0_off66 (v94 : BitVec 32) : Fin 2 → Nat :=
  let c65535_i32_60 : BitVec 32 := 65535#32
  let v188 : BitVec 32 := Scalar.andi v94 c65535_i32_60
  let c8_i32_61 : BitVec 32 := 8#32
  let v189 : BitVec 32 := Scalar.muli v188 c8_i32_61
  let v190 : BitVec 32 := v189
  let v1948 : Index := Scalar.indexCast v190
  let c0_719 : Index := 0#32
  ![v1948.toNat, 0]
def k0_off67 (v97 : BitVec 32) : Fin 2 → Nat :=
  let c65535_i32_62 : BitVec 32 := 65535#32
  let v191 : BitVec 32 := Scalar.andi v97 c65535_i32_62
  let c8_i32_63 : BitVec 32 := 8#32
  let v192 : BitVec 32 := Scalar.muli v191 c8_i32_63
  let v193 : BitVec 32 := v192
  let v1964 : Index := Scalar.indexCast v193
  let c0_725 : Index := 0#32
  ![v1964.toNat, 0]
def k0_off68 (v100 : BitVec 32) : Fin 2 → Nat :=
  let c65535_i32_64 : BitVec 32 := 65535#32
  let v194 : BitVec 32 := Scalar.andi v100 c65535_i32_64
  let c8_i32_65 : BitVec 32 := 8#32
  let v195 : BitVec 32 := Scalar.muli v194 c8_i32_65
  let v196 : BitVec 32 := v195
  let v1980 : Index := Scalar.indexCast v196
  let c0_731 : Index := 0#32
  ![v1980.toNat, 0]
def k0_off69 (v103 : BitVec 32) : Fin 2 → Nat :=
  let c65535_i32_66 : BitVec 32 := 65535#32
  let v197 : BitVec 32 := Scalar.andi v103 c65535_i32_66
  let c8_i32_67 : BitVec 32 := 8#32
  let v198 : BitVec 32 := Scalar.muli v197 c8_i32_67
  let v199 : BitVec 32 := v198
  let v1996 : Index := Scalar.indexCast v199
  let c0_737 : Index := 0#32
  ![v1996.toNat, 0]
def k0_off70 (v106 : BitVec 32) : Fin 2 → Nat :=
  let c65535_i32_68 : BitVec 32 := 65535#32
  let v200 : BitVec 32 := Scalar.andi v106 c65535_i32_68
  let c8_i32_69 : BitVec 32 := 8#32
  let v201 : BitVec 32 := Scalar.muli v200 c8_i32_69
  let v202 : BitVec 32 := v201
  let v2012 : Index := Scalar.indexCast v202
  let c0_743 : Index := 0#32
  ![v2012.toNat, 0]
def k0_off71 (v109 : BitVec 32) : Fin 2 → Nat :=
  let c65535_i32_70 : BitVec 32 := 65535#32
  let v203 : BitVec 32 := Scalar.andi v109 c65535_i32_70
  let c8_i32_71 : BitVec 32 := 8#32
  let v204 : BitVec 32 := Scalar.muli v203 c8_i32_71
  let v205 : BitVec 32 := v204
  let v2028 : Index := Scalar.indexCast v205
  let c0_749 : Index := 0#32
  ![v2028.toNat, 0]
def k0_off72 (v112 : BitVec 32) : Fin 2 → Nat :=
  let c65535_i32_72 : BitVec 32 := 65535#32
  let v206 : BitVec 32 := Scalar.andi v112 c65535_i32_72
  let c8_i32_73 : BitVec 32 := 8#32
  let v207 : BitVec 32 := Scalar.muli v206 c8_i32_73
  let v208 : BitVec 32 := v207
  let v2044 : Index := Scalar.indexCast v208
  let c0_755 : Index := 0#32
  ![v2044.toNat, 0]
def k0_off73 (v19 : BitVec 32) : Fin 2 → Nat :=
  let c65535_i32 : BitVec 32 := 65535#32
  let v113 : BitVec 32 := Scalar.andi v19 c65535_i32
  let c8_i32_11 : BitVec 32 := 8#32
  let v114 : BitVec 32 := Scalar.muli v113 c8_i32_11
  let v115 : BitVec 32 := v114
  let v2113 : Index := Scalar.indexCast v115
  let c0_782 : Index := 0#32
  ![v2113.toNat, 0]
def k0_off74 (v19 : BitVec 32) : Fin 2 → Nat :=
  let c65535_i32 : BitVec 32 := 65535#32
  let v113 : BitVec 32 := Scalar.andi v19 c65535_i32
  let c8_i32_11 : BitVec 32 := 8#32
  let v114 : BitVec 32 := Scalar.muli v113 c8_i32_11
  let v115 : BitVec 32 := v114
  let v2130 : Index := Scalar.indexCast v115
  let c0_787 : Index := 0#32
  ![v2130.toNat, 0]

def k0_chk2 (v19 : BitVec 32) : Prop :=
  (8 ∣ (k0_mult34 v19).toNat) ∧
  (16 ∣ (k0_mult66 v19).toNat) ∧
  (∀ a, (k0_off9 v19) a + S16x512.size a ≤ S9232x512.size a) ∧
  (∀ a, (k0_off41 v19) a + S8x256.size a ≤ S4616x256.size a) ∧
  (∀ a, (k0_off73 v19) a + S8x512.size a ≤ S4616x512.size a) ∧
  (∀ a, (k0_off74 v19) a + S8x128.size a ≤ S4616x128.size a)
theorem k0_mult34_dvd : ∀ (v19 : BitVec 32) (k0_hw2 : k0_chk2 v19), 8 ∣ (k0_mult34 v19).toNat := fun v19 k0_hw2 => k0_hw2.1
theorem k0_mult66_dvd : ∀ (v19 : BitVec 32) (k0_hw2 : k0_chk2 v19), 16 ∣ (k0_mult66 v19).toNat := fun v19 k0_hw2 => k0_hw2.2.1
theorem k0_off9_inb : ∀ (v19 : BitVec 32) (k0_hw2 : k0_chk2 v19), ∀ a, (k0_off9 v19) a + S16x512.size a ≤ S9232x512.size a := fun v19 k0_hw2 => k0_hw2.2.2.1
theorem k0_off41_inb : ∀ (v19 : BitVec 32) (k0_hw2 : k0_chk2 v19), ∀ a, (k0_off41 v19) a + S8x256.size a ≤ S4616x256.size a := fun v19 k0_hw2 => k0_hw2.2.2.2.1
theorem k0_off73_inb : ∀ (v19 : BitVec 32) (k0_hw2 : k0_chk2 v19), ∀ a, (k0_off73 v19) a + S8x512.size a ≤ S4616x512.size a := fun v19 k0_hw2 => k0_hw2.2.2.2.2.1
theorem k0_off74_inb : ∀ (v19 : BitVec 32) (k0_hw2 : k0_chk2 v19), ∀ a, (k0_off74 v19) a + S8x128.size a ≤ S4616x128.size a := fun v19 k0_hw2 => k0_hw2.2.2.2.2.2

def k0_off75 (v22 : BitVec 32) : Fin 2 → Nat :=
  let c65535_i32_12 : BitVec 32 := 65535#32
  let v116 : BitVec 32 := Scalar.andi v22 c65535_i32_12
  let c8_i32_13 : BitVec 32 := 8#32
  let v117 : BitVec 32 := Scalar.muli v116 c8_i32_13
  let v118 : BitVec 32 := v117
  let v2164 : Index := Scalar.indexCast v118
  let c0_797 : Index := 0#32
  ![v2164.toNat, 0]
def k0_off76 (v22 : BitVec 32) : Fin 2 → Nat :=
  let c65535_i32_12 : BitVec 32 := 65535#32
  let v116 : BitVec 32 := Scalar.andi v22 c65535_i32_12
  let c8_i32_13 : BitVec 32 := 8#32
  let v117 : BitVec 32 := Scalar.muli v116 c8_i32_13
  let v118 : BitVec 32 := v117
  let v2181 : Index := Scalar.indexCast v118
  let c0_802 : Index := 0#32
  ![v2181.toNat, 0]

def k0_chk3 (v22 : BitVec 32) : Prop :=
  (8 ∣ (k0_mult35 v22).toNat) ∧
  (16 ∣ (k0_mult67 v22).toNat) ∧
  (∀ a, (k0_off10 v22) a + S16x512.size a ≤ S9232x512.size a) ∧
  (∀ a, (k0_off42 v22) a + S8x256.size a ≤ S4616x256.size a) ∧
  (∀ a, (k0_off75 v22) a + S8x512.size a ≤ S4616x512.size a) ∧
  (∀ a, (k0_off76 v22) a + S8x128.size a ≤ S4616x128.size a)
theorem k0_mult35_dvd : ∀ (v22 : BitVec 32) (k0_hw3 : k0_chk3 v22), 8 ∣ (k0_mult35 v22).toNat := fun v22 k0_hw3 => k0_hw3.1
theorem k0_mult67_dvd : ∀ (v22 : BitVec 32) (k0_hw3 : k0_chk3 v22), 16 ∣ (k0_mult67 v22).toNat := fun v22 k0_hw3 => k0_hw3.2.1
theorem k0_off10_inb : ∀ (v22 : BitVec 32) (k0_hw3 : k0_chk3 v22), ∀ a, (k0_off10 v22) a + S16x512.size a ≤ S9232x512.size a := fun v22 k0_hw3 => k0_hw3.2.2.1
theorem k0_off42_inb : ∀ (v22 : BitVec 32) (k0_hw3 : k0_chk3 v22), ∀ a, (k0_off42 v22) a + S8x256.size a ≤ S4616x256.size a := fun v22 k0_hw3 => k0_hw3.2.2.2.1
theorem k0_off75_inb : ∀ (v22 : BitVec 32) (k0_hw3 : k0_chk3 v22), ∀ a, (k0_off75 v22) a + S8x512.size a ≤ S4616x512.size a := fun v22 k0_hw3 => k0_hw3.2.2.2.2.1
theorem k0_off76_inb : ∀ (v22 : BitVec 32) (k0_hw3 : k0_chk3 v22), ∀ a, (k0_off76 v22) a + S8x128.size a ≤ S4616x128.size a := fun v22 k0_hw3 => k0_hw3.2.2.2.2.2

def k0_off77 (v25 : BitVec 32) : Fin 2 → Nat :=
  let c65535_i32_14 : BitVec 32 := 65535#32
  let v119 : BitVec 32 := Scalar.andi v25 c65535_i32_14
  let c8_i32_15 : BitVec 32 := 8#32
  let v120 : BitVec 32 := Scalar.muli v119 c8_i32_15
  let v121 : BitVec 32 := v120
  let v2215 : Index := Scalar.indexCast v121
  let c0_812 : Index := 0#32
  ![v2215.toNat, 0]
def k0_off78 (v25 : BitVec 32) : Fin 2 → Nat :=
  let c65535_i32_14 : BitVec 32 := 65535#32
  let v119 : BitVec 32 := Scalar.andi v25 c65535_i32_14
  let c8_i32_15 : BitVec 32 := 8#32
  let v120 : BitVec 32 := Scalar.muli v119 c8_i32_15
  let v121 : BitVec 32 := v120
  let v2232 : Index := Scalar.indexCast v121
  let c0_817 : Index := 0#32
  ![v2232.toNat, 0]

def k0_chk4 (v25 : BitVec 32) : Prop :=
  (8 ∣ (k0_mult36 v25).toNat) ∧
  (16 ∣ (k0_mult68 v25).toNat) ∧
  (∀ a, (k0_off11 v25) a + S16x512.size a ≤ S9232x512.size a) ∧
  (∀ a, (k0_off43 v25) a + S8x256.size a ≤ S4616x256.size a) ∧
  (∀ a, (k0_off77 v25) a + S8x512.size a ≤ S4616x512.size a) ∧
  (∀ a, (k0_off78 v25) a + S8x128.size a ≤ S4616x128.size a)
theorem k0_mult36_dvd : ∀ (v25 : BitVec 32) (k0_hw4 : k0_chk4 v25), 8 ∣ (k0_mult36 v25).toNat := fun v25 k0_hw4 => k0_hw4.1
theorem k0_mult68_dvd : ∀ (v25 : BitVec 32) (k0_hw4 : k0_chk4 v25), 16 ∣ (k0_mult68 v25).toNat := fun v25 k0_hw4 => k0_hw4.2.1
theorem k0_off11_inb : ∀ (v25 : BitVec 32) (k0_hw4 : k0_chk4 v25), ∀ a, (k0_off11 v25) a + S16x512.size a ≤ S9232x512.size a := fun v25 k0_hw4 => k0_hw4.2.2.1
theorem k0_off43_inb : ∀ (v25 : BitVec 32) (k0_hw4 : k0_chk4 v25), ∀ a, (k0_off43 v25) a + S8x256.size a ≤ S4616x256.size a := fun v25 k0_hw4 => k0_hw4.2.2.2.1
theorem k0_off77_inb : ∀ (v25 : BitVec 32) (k0_hw4 : k0_chk4 v25), ∀ a, (k0_off77 v25) a + S8x512.size a ≤ S4616x512.size a := fun v25 k0_hw4 => k0_hw4.2.2.2.2.1
theorem k0_off78_inb : ∀ (v25 : BitVec 32) (k0_hw4 : k0_chk4 v25), ∀ a, (k0_off78 v25) a + S8x128.size a ≤ S4616x128.size a := fun v25 k0_hw4 => k0_hw4.2.2.2.2.2

def k0_off79 (v28 : BitVec 32) : Fin 2 → Nat :=
  let c65535_i32_16 : BitVec 32 := 65535#32
  let v122 : BitVec 32 := Scalar.andi v28 c65535_i32_16
  let c8_i32_17 : BitVec 32 := 8#32
  let v123 : BitVec 32 := Scalar.muli v122 c8_i32_17
  let v124 : BitVec 32 := v123
  let v2266 : Index := Scalar.indexCast v124
  let c0_827 : Index := 0#32
  ![v2266.toNat, 0]
def k0_off80 (v28 : BitVec 32) : Fin 2 → Nat :=
  let c65535_i32_16 : BitVec 32 := 65535#32
  let v122 : BitVec 32 := Scalar.andi v28 c65535_i32_16
  let c8_i32_17 : BitVec 32 := 8#32
  let v123 : BitVec 32 := Scalar.muli v122 c8_i32_17
  let v124 : BitVec 32 := v123
  let v2283 : Index := Scalar.indexCast v124
  let c0_832 : Index := 0#32
  ![v2283.toNat, 0]

def k0_chk5 (v28 : BitVec 32) : Prop :=
  (8 ∣ (k0_mult37 v28).toNat) ∧
  (16 ∣ (k0_mult69 v28).toNat) ∧
  (∀ a, (k0_off12 v28) a + S16x512.size a ≤ S9232x512.size a) ∧
  (∀ a, (k0_off44 v28) a + S8x256.size a ≤ S4616x256.size a) ∧
  (∀ a, (k0_off79 v28) a + S8x512.size a ≤ S4616x512.size a) ∧
  (∀ a, (k0_off80 v28) a + S8x128.size a ≤ S4616x128.size a)
theorem k0_mult37_dvd : ∀ (v28 : BitVec 32) (k0_hw5 : k0_chk5 v28), 8 ∣ (k0_mult37 v28).toNat := fun v28 k0_hw5 => k0_hw5.1
theorem k0_mult69_dvd : ∀ (v28 : BitVec 32) (k0_hw5 : k0_chk5 v28), 16 ∣ (k0_mult69 v28).toNat := fun v28 k0_hw5 => k0_hw5.2.1
theorem k0_off12_inb : ∀ (v28 : BitVec 32) (k0_hw5 : k0_chk5 v28), ∀ a, (k0_off12 v28) a + S16x512.size a ≤ S9232x512.size a := fun v28 k0_hw5 => k0_hw5.2.2.1
theorem k0_off44_inb : ∀ (v28 : BitVec 32) (k0_hw5 : k0_chk5 v28), ∀ a, (k0_off44 v28) a + S8x256.size a ≤ S4616x256.size a := fun v28 k0_hw5 => k0_hw5.2.2.2.1
theorem k0_off79_inb : ∀ (v28 : BitVec 32) (k0_hw5 : k0_chk5 v28), ∀ a, (k0_off79 v28) a + S8x512.size a ≤ S4616x512.size a := fun v28 k0_hw5 => k0_hw5.2.2.2.2.1
theorem k0_off80_inb : ∀ (v28 : BitVec 32) (k0_hw5 : k0_chk5 v28), ∀ a, (k0_off80 v28) a + S8x128.size a ≤ S4616x128.size a := fun v28 k0_hw5 => k0_hw5.2.2.2.2.2

def k0_off81 (v31 : BitVec 32) : Fin 2 → Nat :=
  let c65535_i32_18 : BitVec 32 := 65535#32
  let v125 : BitVec 32 := Scalar.andi v31 c65535_i32_18
  let c8_i32_19 : BitVec 32 := 8#32
  let v126 : BitVec 32 := Scalar.muli v125 c8_i32_19
  let v127 : BitVec 32 := v126
  let v2317 : Index := Scalar.indexCast v127
  let c0_842 : Index := 0#32
  ![v2317.toNat, 0]
def k0_off82 (v31 : BitVec 32) : Fin 2 → Nat :=
  let c65535_i32_18 : BitVec 32 := 65535#32
  let v125 : BitVec 32 := Scalar.andi v31 c65535_i32_18
  let c8_i32_19 : BitVec 32 := 8#32
  let v126 : BitVec 32 := Scalar.muli v125 c8_i32_19
  let v127 : BitVec 32 := v126
  let v2334 : Index := Scalar.indexCast v127
  let c0_847 : Index := 0#32
  ![v2334.toNat, 0]

def k0_chk6 (v31 : BitVec 32) : Prop :=
  (8 ∣ (k0_mult38 v31).toNat) ∧
  (16 ∣ (k0_mult70 v31).toNat) ∧
  (∀ a, (k0_off13 v31) a + S16x512.size a ≤ S9232x512.size a) ∧
  (∀ a, (k0_off45 v31) a + S8x256.size a ≤ S4616x256.size a) ∧
  (∀ a, (k0_off81 v31) a + S8x512.size a ≤ S4616x512.size a) ∧
  (∀ a, (k0_off82 v31) a + S8x128.size a ≤ S4616x128.size a)
theorem k0_mult38_dvd : ∀ (v31 : BitVec 32) (k0_hw6 : k0_chk6 v31), 8 ∣ (k0_mult38 v31).toNat := fun v31 k0_hw6 => k0_hw6.1
theorem k0_mult70_dvd : ∀ (v31 : BitVec 32) (k0_hw6 : k0_chk6 v31), 16 ∣ (k0_mult70 v31).toNat := fun v31 k0_hw6 => k0_hw6.2.1
theorem k0_off13_inb : ∀ (v31 : BitVec 32) (k0_hw6 : k0_chk6 v31), ∀ a, (k0_off13 v31) a + S16x512.size a ≤ S9232x512.size a := fun v31 k0_hw6 => k0_hw6.2.2.1
theorem k0_off45_inb : ∀ (v31 : BitVec 32) (k0_hw6 : k0_chk6 v31), ∀ a, (k0_off45 v31) a + S8x256.size a ≤ S4616x256.size a := fun v31 k0_hw6 => k0_hw6.2.2.2.1
theorem k0_off81_inb : ∀ (v31 : BitVec 32) (k0_hw6 : k0_chk6 v31), ∀ a, (k0_off81 v31) a + S8x512.size a ≤ S4616x512.size a := fun v31 k0_hw6 => k0_hw6.2.2.2.2.1
theorem k0_off82_inb : ∀ (v31 : BitVec 32) (k0_hw6 : k0_chk6 v31), ∀ a, (k0_off82 v31) a + S8x128.size a ≤ S4616x128.size a := fun v31 k0_hw6 => k0_hw6.2.2.2.2.2

def k0_off83 (v34 : BitVec 32) : Fin 2 → Nat :=
  let c65535_i32_20 : BitVec 32 := 65535#32
  let v128 : BitVec 32 := Scalar.andi v34 c65535_i32_20
  let c8_i32_21 : BitVec 32 := 8#32
  let v129 : BitVec 32 := Scalar.muli v128 c8_i32_21
  let v130 : BitVec 32 := v129
  let v2368 : Index := Scalar.indexCast v130
  let c0_857 : Index := 0#32
  ![v2368.toNat, 0]
def k0_off84 (v34 : BitVec 32) : Fin 2 → Nat :=
  let c65535_i32_20 : BitVec 32 := 65535#32
  let v128 : BitVec 32 := Scalar.andi v34 c65535_i32_20
  let c8_i32_21 : BitVec 32 := 8#32
  let v129 : BitVec 32 := Scalar.muli v128 c8_i32_21
  let v130 : BitVec 32 := v129
  let v2385 : Index := Scalar.indexCast v130
  let c0_862 : Index := 0#32
  ![v2385.toNat, 0]

def k0_chk7 (v34 : BitVec 32) : Prop :=
  (8 ∣ (k0_mult39 v34).toNat) ∧
  (16 ∣ (k0_mult71 v34).toNat) ∧
  (∀ a, (k0_off14 v34) a + S16x512.size a ≤ S9232x512.size a) ∧
  (∀ a, (k0_off46 v34) a + S8x256.size a ≤ S4616x256.size a) ∧
  (∀ a, (k0_off83 v34) a + S8x512.size a ≤ S4616x512.size a) ∧
  (∀ a, (k0_off84 v34) a + S8x128.size a ≤ S4616x128.size a)
theorem k0_mult39_dvd : ∀ (v34 : BitVec 32) (k0_hw7 : k0_chk7 v34), 8 ∣ (k0_mult39 v34).toNat := fun v34 k0_hw7 => k0_hw7.1
theorem k0_mult71_dvd : ∀ (v34 : BitVec 32) (k0_hw7 : k0_chk7 v34), 16 ∣ (k0_mult71 v34).toNat := fun v34 k0_hw7 => k0_hw7.2.1
theorem k0_off14_inb : ∀ (v34 : BitVec 32) (k0_hw7 : k0_chk7 v34), ∀ a, (k0_off14 v34) a + S16x512.size a ≤ S9232x512.size a := fun v34 k0_hw7 => k0_hw7.2.2.1
theorem k0_off46_inb : ∀ (v34 : BitVec 32) (k0_hw7 : k0_chk7 v34), ∀ a, (k0_off46 v34) a + S8x256.size a ≤ S4616x256.size a := fun v34 k0_hw7 => k0_hw7.2.2.2.1
theorem k0_off83_inb : ∀ (v34 : BitVec 32) (k0_hw7 : k0_chk7 v34), ∀ a, (k0_off83 v34) a + S8x512.size a ≤ S4616x512.size a := fun v34 k0_hw7 => k0_hw7.2.2.2.2.1
theorem k0_off84_inb : ∀ (v34 : BitVec 32) (k0_hw7 : k0_chk7 v34), ∀ a, (k0_off84 v34) a + S8x128.size a ≤ S4616x128.size a := fun v34 k0_hw7 => k0_hw7.2.2.2.2.2

def k0_off85 (v37 : BitVec 32) : Fin 2 → Nat :=
  let c65535_i32_22 : BitVec 32 := 65535#32
  let v131 : BitVec 32 := Scalar.andi v37 c65535_i32_22
  let c8_i32_23 : BitVec 32 := 8#32
  let v132 : BitVec 32 := Scalar.muli v131 c8_i32_23
  let v133 : BitVec 32 := v132
  let v2419 : Index := Scalar.indexCast v133
  let c0_872 : Index := 0#32
  ![v2419.toNat, 0]
def k0_off86 (v37 : BitVec 32) : Fin 2 → Nat :=
  let c65535_i32_22 : BitVec 32 := 65535#32
  let v131 : BitVec 32 := Scalar.andi v37 c65535_i32_22
  let c8_i32_23 : BitVec 32 := 8#32
  let v132 : BitVec 32 := Scalar.muli v131 c8_i32_23
  let v133 : BitVec 32 := v132
  let v2436 : Index := Scalar.indexCast v133
  let c0_877 : Index := 0#32
  ![v2436.toNat, 0]

def k0_chk8 (v37 : BitVec 32) : Prop :=
  (8 ∣ (k0_mult40 v37).toNat) ∧
  (16 ∣ (k0_mult72 v37).toNat) ∧
  (∀ a, (k0_off15 v37) a + S16x512.size a ≤ S9232x512.size a) ∧
  (∀ a, (k0_off47 v37) a + S8x256.size a ≤ S4616x256.size a) ∧
  (∀ a, (k0_off85 v37) a + S8x512.size a ≤ S4616x512.size a) ∧
  (∀ a, (k0_off86 v37) a + S8x128.size a ≤ S4616x128.size a)
theorem k0_mult40_dvd : ∀ (v37 : BitVec 32) (k0_hw8 : k0_chk8 v37), 8 ∣ (k0_mult40 v37).toNat := fun v37 k0_hw8 => k0_hw8.1
theorem k0_mult72_dvd : ∀ (v37 : BitVec 32) (k0_hw8 : k0_chk8 v37), 16 ∣ (k0_mult72 v37).toNat := fun v37 k0_hw8 => k0_hw8.2.1
theorem k0_off15_inb : ∀ (v37 : BitVec 32) (k0_hw8 : k0_chk8 v37), ∀ a, (k0_off15 v37) a + S16x512.size a ≤ S9232x512.size a := fun v37 k0_hw8 => k0_hw8.2.2.1
theorem k0_off47_inb : ∀ (v37 : BitVec 32) (k0_hw8 : k0_chk8 v37), ∀ a, (k0_off47 v37) a + S8x256.size a ≤ S4616x256.size a := fun v37 k0_hw8 => k0_hw8.2.2.2.1
theorem k0_off85_inb : ∀ (v37 : BitVec 32) (k0_hw8 : k0_chk8 v37), ∀ a, (k0_off85 v37) a + S8x512.size a ≤ S4616x512.size a := fun v37 k0_hw8 => k0_hw8.2.2.2.2.1
theorem k0_off86_inb : ∀ (v37 : BitVec 32) (k0_hw8 : k0_chk8 v37), ∀ a, (k0_off86 v37) a + S8x128.size a ≤ S4616x128.size a := fun v37 k0_hw8 => k0_hw8.2.2.2.2.2

def k0_off87 (v40 : BitVec 32) : Fin 2 → Nat :=
  let c65535_i32_24 : BitVec 32 := 65535#32
  let v134 : BitVec 32 := Scalar.andi v40 c65535_i32_24
  let c8_i32_25 : BitVec 32 := 8#32
  let v135 : BitVec 32 := Scalar.muli v134 c8_i32_25
  let v136 : BitVec 32 := v135
  let v2470 : Index := Scalar.indexCast v136
  let c0_887 : Index := 0#32
  ![v2470.toNat, 0]
def k0_off88 (v40 : BitVec 32) : Fin 2 → Nat :=
  let c65535_i32_24 : BitVec 32 := 65535#32
  let v134 : BitVec 32 := Scalar.andi v40 c65535_i32_24
  let c8_i32_25 : BitVec 32 := 8#32
  let v135 : BitVec 32 := Scalar.muli v134 c8_i32_25
  let v136 : BitVec 32 := v135
  let v2487 : Index := Scalar.indexCast v136
  let c0_892 : Index := 0#32
  ![v2487.toNat, 0]

def k0_chk9 (v40 : BitVec 32) : Prop :=
  (8 ∣ (k0_mult41 v40).toNat) ∧
  (16 ∣ (k0_mult73 v40).toNat) ∧
  (∀ a, (k0_off16 v40) a + S16x512.size a ≤ S9232x512.size a) ∧
  (∀ a, (k0_off48 v40) a + S8x256.size a ≤ S4616x256.size a) ∧
  (∀ a, (k0_off87 v40) a + S8x512.size a ≤ S4616x512.size a) ∧
  (∀ a, (k0_off88 v40) a + S8x128.size a ≤ S4616x128.size a)
theorem k0_mult41_dvd : ∀ (v40 : BitVec 32) (k0_hw9 : k0_chk9 v40), 8 ∣ (k0_mult41 v40).toNat := fun v40 k0_hw9 => k0_hw9.1
theorem k0_mult73_dvd : ∀ (v40 : BitVec 32) (k0_hw9 : k0_chk9 v40), 16 ∣ (k0_mult73 v40).toNat := fun v40 k0_hw9 => k0_hw9.2.1
theorem k0_off16_inb : ∀ (v40 : BitVec 32) (k0_hw9 : k0_chk9 v40), ∀ a, (k0_off16 v40) a + S16x512.size a ≤ S9232x512.size a := fun v40 k0_hw9 => k0_hw9.2.2.1
theorem k0_off48_inb : ∀ (v40 : BitVec 32) (k0_hw9 : k0_chk9 v40), ∀ a, (k0_off48 v40) a + S8x256.size a ≤ S4616x256.size a := fun v40 k0_hw9 => k0_hw9.2.2.2.1
theorem k0_off87_inb : ∀ (v40 : BitVec 32) (k0_hw9 : k0_chk9 v40), ∀ a, (k0_off87 v40) a + S8x512.size a ≤ S4616x512.size a := fun v40 k0_hw9 => k0_hw9.2.2.2.2.1
theorem k0_off88_inb : ∀ (v40 : BitVec 32) (k0_hw9 : k0_chk9 v40), ∀ a, (k0_off88 v40) a + S8x128.size a ≤ S4616x128.size a := fun v40 k0_hw9 => k0_hw9.2.2.2.2.2

def k0_off89 (v43 : BitVec 32) : Fin 2 → Nat :=
  let c65535_i32_26 : BitVec 32 := 65535#32
  let v137 : BitVec 32 := Scalar.andi v43 c65535_i32_26
  let c8_i32_27 : BitVec 32 := 8#32
  let v138 : BitVec 32 := Scalar.muli v137 c8_i32_27
  let v139 : BitVec 32 := v138
  let v2521 : Index := Scalar.indexCast v139
  let c0_902 : Index := 0#32
  ![v2521.toNat, 0]
def k0_off90 (v43 : BitVec 32) : Fin 2 → Nat :=
  let c65535_i32_26 : BitVec 32 := 65535#32
  let v137 : BitVec 32 := Scalar.andi v43 c65535_i32_26
  let c8_i32_27 : BitVec 32 := 8#32
  let v138 : BitVec 32 := Scalar.muli v137 c8_i32_27
  let v139 : BitVec 32 := v138
  let v2538 : Index := Scalar.indexCast v139
  let c0_907 : Index := 0#32
  ![v2538.toNat, 0]

def k0_chk10 (v43 : BitVec 32) : Prop :=
  (8 ∣ (k0_mult42 v43).toNat) ∧
  (16 ∣ (k0_mult74 v43).toNat) ∧
  (∀ a, (k0_off17 v43) a + S16x512.size a ≤ S9232x512.size a) ∧
  (∀ a, (k0_off49 v43) a + S8x256.size a ≤ S4616x256.size a) ∧
  (∀ a, (k0_off89 v43) a + S8x512.size a ≤ S4616x512.size a) ∧
  (∀ a, (k0_off90 v43) a + S8x128.size a ≤ S4616x128.size a)
theorem k0_mult42_dvd : ∀ (v43 : BitVec 32) (k0_hw10 : k0_chk10 v43), 8 ∣ (k0_mult42 v43).toNat := fun v43 k0_hw10 => k0_hw10.1
theorem k0_mult74_dvd : ∀ (v43 : BitVec 32) (k0_hw10 : k0_chk10 v43), 16 ∣ (k0_mult74 v43).toNat := fun v43 k0_hw10 => k0_hw10.2.1
theorem k0_off17_inb : ∀ (v43 : BitVec 32) (k0_hw10 : k0_chk10 v43), ∀ a, (k0_off17 v43) a + S16x512.size a ≤ S9232x512.size a := fun v43 k0_hw10 => k0_hw10.2.2.1
theorem k0_off49_inb : ∀ (v43 : BitVec 32) (k0_hw10 : k0_chk10 v43), ∀ a, (k0_off49 v43) a + S8x256.size a ≤ S4616x256.size a := fun v43 k0_hw10 => k0_hw10.2.2.2.1
theorem k0_off89_inb : ∀ (v43 : BitVec 32) (k0_hw10 : k0_chk10 v43), ∀ a, (k0_off89 v43) a + S8x512.size a ≤ S4616x512.size a := fun v43 k0_hw10 => k0_hw10.2.2.2.2.1
theorem k0_off90_inb : ∀ (v43 : BitVec 32) (k0_hw10 : k0_chk10 v43), ∀ a, (k0_off90 v43) a + S8x128.size a ≤ S4616x128.size a := fun v43 k0_hw10 => k0_hw10.2.2.2.2.2

def k0_off91 (v46 : BitVec 32) : Fin 2 → Nat :=
  let c65535_i32_28 : BitVec 32 := 65535#32
  let v140 : BitVec 32 := Scalar.andi v46 c65535_i32_28
  let c8_i32_29 : BitVec 32 := 8#32
  let v141 : BitVec 32 := Scalar.muli v140 c8_i32_29
  let v142 : BitVec 32 := v141
  let v2572 : Index := Scalar.indexCast v142
  let c0_917 : Index := 0#32
  ![v2572.toNat, 0]
def k0_off92 (v46 : BitVec 32) : Fin 2 → Nat :=
  let c65535_i32_28 : BitVec 32 := 65535#32
  let v140 : BitVec 32 := Scalar.andi v46 c65535_i32_28
  let c8_i32_29 : BitVec 32 := 8#32
  let v141 : BitVec 32 := Scalar.muli v140 c8_i32_29
  let v142 : BitVec 32 := v141
  let v2589 : Index := Scalar.indexCast v142
  let c0_922 : Index := 0#32
  ![v2589.toNat, 0]

def k0_chk11 (v46 : BitVec 32) : Prop :=
  (8 ∣ (k0_mult43 v46).toNat) ∧
  (16 ∣ (k0_mult75 v46).toNat) ∧
  (∀ a, (k0_off18 v46) a + S16x512.size a ≤ S9232x512.size a) ∧
  (∀ a, (k0_off50 v46) a + S8x256.size a ≤ S4616x256.size a) ∧
  (∀ a, (k0_off91 v46) a + S8x512.size a ≤ S4616x512.size a) ∧
  (∀ a, (k0_off92 v46) a + S8x128.size a ≤ S4616x128.size a)
theorem k0_mult43_dvd : ∀ (v46 : BitVec 32) (k0_hw11 : k0_chk11 v46), 8 ∣ (k0_mult43 v46).toNat := fun v46 k0_hw11 => k0_hw11.1
theorem k0_mult75_dvd : ∀ (v46 : BitVec 32) (k0_hw11 : k0_chk11 v46), 16 ∣ (k0_mult75 v46).toNat := fun v46 k0_hw11 => k0_hw11.2.1
theorem k0_off18_inb : ∀ (v46 : BitVec 32) (k0_hw11 : k0_chk11 v46), ∀ a, (k0_off18 v46) a + S16x512.size a ≤ S9232x512.size a := fun v46 k0_hw11 => k0_hw11.2.2.1
theorem k0_off50_inb : ∀ (v46 : BitVec 32) (k0_hw11 : k0_chk11 v46), ∀ a, (k0_off50 v46) a + S8x256.size a ≤ S4616x256.size a := fun v46 k0_hw11 => k0_hw11.2.2.2.1
theorem k0_off91_inb : ∀ (v46 : BitVec 32) (k0_hw11 : k0_chk11 v46), ∀ a, (k0_off91 v46) a + S8x512.size a ≤ S4616x512.size a := fun v46 k0_hw11 => k0_hw11.2.2.2.2.1
theorem k0_off92_inb : ∀ (v46 : BitVec 32) (k0_hw11 : k0_chk11 v46), ∀ a, (k0_off92 v46) a + S8x128.size a ≤ S4616x128.size a := fun v46 k0_hw11 => k0_hw11.2.2.2.2.2

def k0_off93 (v49 : BitVec 32) : Fin 2 → Nat :=
  let c65535_i32_30 : BitVec 32 := 65535#32
  let v143 : BitVec 32 := Scalar.andi v49 c65535_i32_30
  let c8_i32_31 : BitVec 32 := 8#32
  let v144 : BitVec 32 := Scalar.muli v143 c8_i32_31
  let v145 : BitVec 32 := v144
  let v2623 : Index := Scalar.indexCast v145
  let c0_932 : Index := 0#32
  ![v2623.toNat, 0]
def k0_off94 (v49 : BitVec 32) : Fin 2 → Nat :=
  let c65535_i32_30 : BitVec 32 := 65535#32
  let v143 : BitVec 32 := Scalar.andi v49 c65535_i32_30
  let c8_i32_31 : BitVec 32 := 8#32
  let v144 : BitVec 32 := Scalar.muli v143 c8_i32_31
  let v145 : BitVec 32 := v144
  let v2640 : Index := Scalar.indexCast v145
  let c0_937 : Index := 0#32
  ![v2640.toNat, 0]

def k0_chk12 (v49 : BitVec 32) : Prop :=
  (8 ∣ (k0_mult44 v49).toNat) ∧
  (16 ∣ (k0_mult76 v49).toNat) ∧
  (∀ a, (k0_off19 v49) a + S16x512.size a ≤ S9232x512.size a) ∧
  (∀ a, (k0_off51 v49) a + S8x256.size a ≤ S4616x256.size a) ∧
  (∀ a, (k0_off93 v49) a + S8x512.size a ≤ S4616x512.size a) ∧
  (∀ a, (k0_off94 v49) a + S8x128.size a ≤ S4616x128.size a)
theorem k0_mult44_dvd : ∀ (v49 : BitVec 32) (k0_hw12 : k0_chk12 v49), 8 ∣ (k0_mult44 v49).toNat := fun v49 k0_hw12 => k0_hw12.1
theorem k0_mult76_dvd : ∀ (v49 : BitVec 32) (k0_hw12 : k0_chk12 v49), 16 ∣ (k0_mult76 v49).toNat := fun v49 k0_hw12 => k0_hw12.2.1
theorem k0_off19_inb : ∀ (v49 : BitVec 32) (k0_hw12 : k0_chk12 v49), ∀ a, (k0_off19 v49) a + S16x512.size a ≤ S9232x512.size a := fun v49 k0_hw12 => k0_hw12.2.2.1
theorem k0_off51_inb : ∀ (v49 : BitVec 32) (k0_hw12 : k0_chk12 v49), ∀ a, (k0_off51 v49) a + S8x256.size a ≤ S4616x256.size a := fun v49 k0_hw12 => k0_hw12.2.2.2.1
theorem k0_off93_inb : ∀ (v49 : BitVec 32) (k0_hw12 : k0_chk12 v49), ∀ a, (k0_off93 v49) a + S8x512.size a ≤ S4616x512.size a := fun v49 k0_hw12 => k0_hw12.2.2.2.2.1
theorem k0_off94_inb : ∀ (v49 : BitVec 32) (k0_hw12 : k0_chk12 v49), ∀ a, (k0_off94 v49) a + S8x128.size a ≤ S4616x128.size a := fun v49 k0_hw12 => k0_hw12.2.2.2.2.2

def k0_off95 (v52 : BitVec 32) : Fin 2 → Nat :=
  let c65535_i32_32 : BitVec 32 := 65535#32
  let v146 : BitVec 32 := Scalar.andi v52 c65535_i32_32
  let c8_i32_33 : BitVec 32 := 8#32
  let v147 : BitVec 32 := Scalar.muli v146 c8_i32_33
  let v148 : BitVec 32 := v147
  let v2674 : Index := Scalar.indexCast v148
  let c0_947 : Index := 0#32
  ![v2674.toNat, 0]
def k0_off96 (v52 : BitVec 32) : Fin 2 → Nat :=
  let c65535_i32_32 : BitVec 32 := 65535#32
  let v146 : BitVec 32 := Scalar.andi v52 c65535_i32_32
  let c8_i32_33 : BitVec 32 := 8#32
  let v147 : BitVec 32 := Scalar.muli v146 c8_i32_33
  let v148 : BitVec 32 := v147
  let v2691 : Index := Scalar.indexCast v148
  let c0_952 : Index := 0#32
  ![v2691.toNat, 0]

def k0_chk13 (v52 : BitVec 32) : Prop :=
  (8 ∣ (k0_mult45 v52).toNat) ∧
  (16 ∣ (k0_mult77 v52).toNat) ∧
  (∀ a, (k0_off20 v52) a + S16x512.size a ≤ S9232x512.size a) ∧
  (∀ a, (k0_off52 v52) a + S8x256.size a ≤ S4616x256.size a) ∧
  (∀ a, (k0_off95 v52) a + S8x512.size a ≤ S4616x512.size a) ∧
  (∀ a, (k0_off96 v52) a + S8x128.size a ≤ S4616x128.size a)
theorem k0_mult45_dvd : ∀ (v52 : BitVec 32) (k0_hw13 : k0_chk13 v52), 8 ∣ (k0_mult45 v52).toNat := fun v52 k0_hw13 => k0_hw13.1
theorem k0_mult77_dvd : ∀ (v52 : BitVec 32) (k0_hw13 : k0_chk13 v52), 16 ∣ (k0_mult77 v52).toNat := fun v52 k0_hw13 => k0_hw13.2.1
theorem k0_off20_inb : ∀ (v52 : BitVec 32) (k0_hw13 : k0_chk13 v52), ∀ a, (k0_off20 v52) a + S16x512.size a ≤ S9232x512.size a := fun v52 k0_hw13 => k0_hw13.2.2.1
theorem k0_off52_inb : ∀ (v52 : BitVec 32) (k0_hw13 : k0_chk13 v52), ∀ a, (k0_off52 v52) a + S8x256.size a ≤ S4616x256.size a := fun v52 k0_hw13 => k0_hw13.2.2.2.1
theorem k0_off95_inb : ∀ (v52 : BitVec 32) (k0_hw13 : k0_chk13 v52), ∀ a, (k0_off95 v52) a + S8x512.size a ≤ S4616x512.size a := fun v52 k0_hw13 => k0_hw13.2.2.2.2.1
theorem k0_off96_inb : ∀ (v52 : BitVec 32) (k0_hw13 : k0_chk13 v52), ∀ a, (k0_off96 v52) a + S8x128.size a ≤ S4616x128.size a := fun v52 k0_hw13 => k0_hw13.2.2.2.2.2

def k0_off97 (v55 : BitVec 32) : Fin 2 → Nat :=
  let c65535_i32_34 : BitVec 32 := 65535#32
  let v149 : BitVec 32 := Scalar.andi v55 c65535_i32_34
  let c8_i32_35 : BitVec 32 := 8#32
  let v150 : BitVec 32 := Scalar.muli v149 c8_i32_35
  let v151 : BitVec 32 := v150
  let v2725 : Index := Scalar.indexCast v151
  let c0_962 : Index := 0#32
  ![v2725.toNat, 0]
def k0_off98 (v55 : BitVec 32) : Fin 2 → Nat :=
  let c65535_i32_34 : BitVec 32 := 65535#32
  let v149 : BitVec 32 := Scalar.andi v55 c65535_i32_34
  let c8_i32_35 : BitVec 32 := 8#32
  let v150 : BitVec 32 := Scalar.muli v149 c8_i32_35
  let v151 : BitVec 32 := v150
  let v2742 : Index := Scalar.indexCast v151
  let c0_967 : Index := 0#32
  ![v2742.toNat, 0]

def k0_chk14 (v55 : BitVec 32) : Prop :=
  (8 ∣ (k0_mult46 v55).toNat) ∧
  (16 ∣ (k0_mult78 v55).toNat) ∧
  (∀ a, (k0_off21 v55) a + S16x512.size a ≤ S9232x512.size a) ∧
  (∀ a, (k0_off53 v55) a + S8x256.size a ≤ S4616x256.size a) ∧
  (∀ a, (k0_off97 v55) a + S8x512.size a ≤ S4616x512.size a) ∧
  (∀ a, (k0_off98 v55) a + S8x128.size a ≤ S4616x128.size a)
theorem k0_mult46_dvd : ∀ (v55 : BitVec 32) (k0_hw14 : k0_chk14 v55), 8 ∣ (k0_mult46 v55).toNat := fun v55 k0_hw14 => k0_hw14.1
theorem k0_mult78_dvd : ∀ (v55 : BitVec 32) (k0_hw14 : k0_chk14 v55), 16 ∣ (k0_mult78 v55).toNat := fun v55 k0_hw14 => k0_hw14.2.1
theorem k0_off21_inb : ∀ (v55 : BitVec 32) (k0_hw14 : k0_chk14 v55), ∀ a, (k0_off21 v55) a + S16x512.size a ≤ S9232x512.size a := fun v55 k0_hw14 => k0_hw14.2.2.1
theorem k0_off53_inb : ∀ (v55 : BitVec 32) (k0_hw14 : k0_chk14 v55), ∀ a, (k0_off53 v55) a + S8x256.size a ≤ S4616x256.size a := fun v55 k0_hw14 => k0_hw14.2.2.2.1
theorem k0_off97_inb : ∀ (v55 : BitVec 32) (k0_hw14 : k0_chk14 v55), ∀ a, (k0_off97 v55) a + S8x512.size a ≤ S4616x512.size a := fun v55 k0_hw14 => k0_hw14.2.2.2.2.1
theorem k0_off98_inb : ∀ (v55 : BitVec 32) (k0_hw14 : k0_chk14 v55), ∀ a, (k0_off98 v55) a + S8x128.size a ≤ S4616x128.size a := fun v55 k0_hw14 => k0_hw14.2.2.2.2.2

def k0_off99 (v58 : BitVec 32) : Fin 2 → Nat :=
  let c65535_i32_36 : BitVec 32 := 65535#32
  let v152 : BitVec 32 := Scalar.andi v58 c65535_i32_36
  let c8_i32_37 : BitVec 32 := 8#32
  let v153 : BitVec 32 := Scalar.muli v152 c8_i32_37
  let v154 : BitVec 32 := v153
  let v2776 : Index := Scalar.indexCast v154
  let c0_977 : Index := 0#32
  ![v2776.toNat, 0]
def k0_off100 (v58 : BitVec 32) : Fin 2 → Nat :=
  let c65535_i32_36 : BitVec 32 := 65535#32
  let v152 : BitVec 32 := Scalar.andi v58 c65535_i32_36
  let c8_i32_37 : BitVec 32 := 8#32
  let v153 : BitVec 32 := Scalar.muli v152 c8_i32_37
  let v154 : BitVec 32 := v153
  let v2793 : Index := Scalar.indexCast v154
  let c0_982 : Index := 0#32
  ![v2793.toNat, 0]

def k0_chk15 (v58 : BitVec 32) : Prop :=
  (8 ∣ (k0_mult47 v58).toNat) ∧
  (16 ∣ (k0_mult79 v58).toNat) ∧
  (∀ a, (k0_off22 v58) a + S16x512.size a ≤ S9232x512.size a) ∧
  (∀ a, (k0_off54 v58) a + S8x256.size a ≤ S4616x256.size a) ∧
  (∀ a, (k0_off99 v58) a + S8x512.size a ≤ S4616x512.size a) ∧
  (∀ a, (k0_off100 v58) a + S8x128.size a ≤ S4616x128.size a)
theorem k0_mult47_dvd : ∀ (v58 : BitVec 32) (k0_hw15 : k0_chk15 v58), 8 ∣ (k0_mult47 v58).toNat := fun v58 k0_hw15 => k0_hw15.1
theorem k0_mult79_dvd : ∀ (v58 : BitVec 32) (k0_hw15 : k0_chk15 v58), 16 ∣ (k0_mult79 v58).toNat := fun v58 k0_hw15 => k0_hw15.2.1
theorem k0_off22_inb : ∀ (v58 : BitVec 32) (k0_hw15 : k0_chk15 v58), ∀ a, (k0_off22 v58) a + S16x512.size a ≤ S9232x512.size a := fun v58 k0_hw15 => k0_hw15.2.2.1
theorem k0_off54_inb : ∀ (v58 : BitVec 32) (k0_hw15 : k0_chk15 v58), ∀ a, (k0_off54 v58) a + S8x256.size a ≤ S4616x256.size a := fun v58 k0_hw15 => k0_hw15.2.2.2.1
theorem k0_off99_inb : ∀ (v58 : BitVec 32) (k0_hw15 : k0_chk15 v58), ∀ a, (k0_off99 v58) a + S8x512.size a ≤ S4616x512.size a := fun v58 k0_hw15 => k0_hw15.2.2.2.2.1
theorem k0_off100_inb : ∀ (v58 : BitVec 32) (k0_hw15 : k0_chk15 v58), ∀ a, (k0_off100 v58) a + S8x128.size a ≤ S4616x128.size a := fun v58 k0_hw15 => k0_hw15.2.2.2.2.2

def k0_off101 (v61 : BitVec 32) : Fin 2 → Nat :=
  let c65535_i32_38 : BitVec 32 := 65535#32
  let v155 : BitVec 32 := Scalar.andi v61 c65535_i32_38
  let c8_i32_39 : BitVec 32 := 8#32
  let v156 : BitVec 32 := Scalar.muli v155 c8_i32_39
  let v157 : BitVec 32 := v156
  let v2827 : Index := Scalar.indexCast v157
  let c0_992 : Index := 0#32
  ![v2827.toNat, 0]
def k0_off102 (v61 : BitVec 32) : Fin 2 → Nat :=
  let c65535_i32_38 : BitVec 32 := 65535#32
  let v155 : BitVec 32 := Scalar.andi v61 c65535_i32_38
  let c8_i32_39 : BitVec 32 := 8#32
  let v156 : BitVec 32 := Scalar.muli v155 c8_i32_39
  let v157 : BitVec 32 := v156
  let v2844 : Index := Scalar.indexCast v157
  let c0_997 : Index := 0#32
  ![v2844.toNat, 0]

def k0_chk16 (v61 : BitVec 32) : Prop :=
  (8 ∣ (k0_mult48 v61).toNat) ∧
  (16 ∣ (k0_mult80 v61).toNat) ∧
  (∀ a, (k0_off23 v61) a + S16x512.size a ≤ S9232x512.size a) ∧
  (∀ a, (k0_off55 v61) a + S8x256.size a ≤ S4616x256.size a) ∧
  (∀ a, (k0_off101 v61) a + S8x512.size a ≤ S4616x512.size a) ∧
  (∀ a, (k0_off102 v61) a + S8x128.size a ≤ S4616x128.size a)
theorem k0_mult48_dvd : ∀ (v61 : BitVec 32) (k0_hw16 : k0_chk16 v61), 8 ∣ (k0_mult48 v61).toNat := fun v61 k0_hw16 => k0_hw16.1
theorem k0_mult80_dvd : ∀ (v61 : BitVec 32) (k0_hw16 : k0_chk16 v61), 16 ∣ (k0_mult80 v61).toNat := fun v61 k0_hw16 => k0_hw16.2.1
theorem k0_off23_inb : ∀ (v61 : BitVec 32) (k0_hw16 : k0_chk16 v61), ∀ a, (k0_off23 v61) a + S16x512.size a ≤ S9232x512.size a := fun v61 k0_hw16 => k0_hw16.2.2.1
theorem k0_off55_inb : ∀ (v61 : BitVec 32) (k0_hw16 : k0_chk16 v61), ∀ a, (k0_off55 v61) a + S8x256.size a ≤ S4616x256.size a := fun v61 k0_hw16 => k0_hw16.2.2.2.1
theorem k0_off101_inb : ∀ (v61 : BitVec 32) (k0_hw16 : k0_chk16 v61), ∀ a, (k0_off101 v61) a + S8x512.size a ≤ S4616x512.size a := fun v61 k0_hw16 => k0_hw16.2.2.2.2.1
theorem k0_off102_inb : ∀ (v61 : BitVec 32) (k0_hw16 : k0_chk16 v61), ∀ a, (k0_off102 v61) a + S8x128.size a ≤ S4616x128.size a := fun v61 k0_hw16 => k0_hw16.2.2.2.2.2

def k0_off103 (v64 : BitVec 32) : Fin 2 → Nat :=
  let c65535_i32_40 : BitVec 32 := 65535#32
  let v158 : BitVec 32 := Scalar.andi v64 c65535_i32_40
  let c8_i32_41 : BitVec 32 := 8#32
  let v159 : BitVec 32 := Scalar.muli v158 c8_i32_41
  let v160 : BitVec 32 := v159
  let v2878 : Index := Scalar.indexCast v160
  let c0_1007 : Index := 0#32
  ![v2878.toNat, 0]
def k0_off104 (v64 : BitVec 32) : Fin 2 → Nat :=
  let c65535_i32_40 : BitVec 32 := 65535#32
  let v158 : BitVec 32 := Scalar.andi v64 c65535_i32_40
  let c8_i32_41 : BitVec 32 := 8#32
  let v159 : BitVec 32 := Scalar.muli v158 c8_i32_41
  let v160 : BitVec 32 := v159
  let v2895 : Index := Scalar.indexCast v160
  let c0_1012 : Index := 0#32
  ![v2895.toNat, 0]

def k0_chk17 (v64 : BitVec 32) : Prop :=
  (8 ∣ (k0_mult49 v64).toNat) ∧
  (16 ∣ (k0_mult81 v64).toNat) ∧
  (∀ a, (k0_off24 v64) a + S16x512.size a ≤ S9232x512.size a) ∧
  (∀ a, (k0_off56 v64) a + S8x256.size a ≤ S4616x256.size a) ∧
  (∀ a, (k0_off103 v64) a + S8x512.size a ≤ S4616x512.size a) ∧
  (∀ a, (k0_off104 v64) a + S8x128.size a ≤ S4616x128.size a)
theorem k0_mult49_dvd : ∀ (v64 : BitVec 32) (k0_hw17 : k0_chk17 v64), 8 ∣ (k0_mult49 v64).toNat := fun v64 k0_hw17 => k0_hw17.1
theorem k0_mult81_dvd : ∀ (v64 : BitVec 32) (k0_hw17 : k0_chk17 v64), 16 ∣ (k0_mult81 v64).toNat := fun v64 k0_hw17 => k0_hw17.2.1
theorem k0_off24_inb : ∀ (v64 : BitVec 32) (k0_hw17 : k0_chk17 v64), ∀ a, (k0_off24 v64) a + S16x512.size a ≤ S9232x512.size a := fun v64 k0_hw17 => k0_hw17.2.2.1
theorem k0_off56_inb : ∀ (v64 : BitVec 32) (k0_hw17 : k0_chk17 v64), ∀ a, (k0_off56 v64) a + S8x256.size a ≤ S4616x256.size a := fun v64 k0_hw17 => k0_hw17.2.2.2.1
theorem k0_off103_inb : ∀ (v64 : BitVec 32) (k0_hw17 : k0_chk17 v64), ∀ a, (k0_off103 v64) a + S8x512.size a ≤ S4616x512.size a := fun v64 k0_hw17 => k0_hw17.2.2.2.2.1
theorem k0_off104_inb : ∀ (v64 : BitVec 32) (k0_hw17 : k0_chk17 v64), ∀ a, (k0_off104 v64) a + S8x128.size a ≤ S4616x128.size a := fun v64 k0_hw17 => k0_hw17.2.2.2.2.2

def k0_off105 (v67 : BitVec 32) : Fin 2 → Nat :=
  let c65535_i32_42 : BitVec 32 := 65535#32
  let v161 : BitVec 32 := Scalar.andi v67 c65535_i32_42
  let c8_i32_43 : BitVec 32 := 8#32
  let v162 : BitVec 32 := Scalar.muli v161 c8_i32_43
  let v163 : BitVec 32 := v162
  let v2929 : Index := Scalar.indexCast v163
  let c0_1022 : Index := 0#32
  ![v2929.toNat, 0]
def k0_off106 (v67 : BitVec 32) : Fin 2 → Nat :=
  let c65535_i32_42 : BitVec 32 := 65535#32
  let v161 : BitVec 32 := Scalar.andi v67 c65535_i32_42
  let c8_i32_43 : BitVec 32 := 8#32
  let v162 : BitVec 32 := Scalar.muli v161 c8_i32_43
  let v163 : BitVec 32 := v162
  let v2946 : Index := Scalar.indexCast v163
  let c0_1027 : Index := 0#32
  ![v2946.toNat, 0]

def k0_chk18 (v67 : BitVec 32) : Prop :=
  (8 ∣ (k0_mult50 v67).toNat) ∧
  (16 ∣ (k0_mult82 v67).toNat) ∧
  (∀ a, (k0_off25 v67) a + S16x512.size a ≤ S9232x512.size a) ∧
  (∀ a, (k0_off57 v67) a + S8x256.size a ≤ S4616x256.size a) ∧
  (∀ a, (k0_off105 v67) a + S8x512.size a ≤ S4616x512.size a) ∧
  (∀ a, (k0_off106 v67) a + S8x128.size a ≤ S4616x128.size a)
theorem k0_mult50_dvd : ∀ (v67 : BitVec 32) (k0_hw18 : k0_chk18 v67), 8 ∣ (k0_mult50 v67).toNat := fun v67 k0_hw18 => k0_hw18.1
theorem k0_mult82_dvd : ∀ (v67 : BitVec 32) (k0_hw18 : k0_chk18 v67), 16 ∣ (k0_mult82 v67).toNat := fun v67 k0_hw18 => k0_hw18.2.1
theorem k0_off25_inb : ∀ (v67 : BitVec 32) (k0_hw18 : k0_chk18 v67), ∀ a, (k0_off25 v67) a + S16x512.size a ≤ S9232x512.size a := fun v67 k0_hw18 => k0_hw18.2.2.1
theorem k0_off57_inb : ∀ (v67 : BitVec 32) (k0_hw18 : k0_chk18 v67), ∀ a, (k0_off57 v67) a + S8x256.size a ≤ S4616x256.size a := fun v67 k0_hw18 => k0_hw18.2.2.2.1
theorem k0_off105_inb : ∀ (v67 : BitVec 32) (k0_hw18 : k0_chk18 v67), ∀ a, (k0_off105 v67) a + S8x512.size a ≤ S4616x512.size a := fun v67 k0_hw18 => k0_hw18.2.2.2.2.1
theorem k0_off106_inb : ∀ (v67 : BitVec 32) (k0_hw18 : k0_chk18 v67), ∀ a, (k0_off106 v67) a + S8x128.size a ≤ S4616x128.size a := fun v67 k0_hw18 => k0_hw18.2.2.2.2.2

def k0_off107 (v70 : BitVec 32) : Fin 2 → Nat :=
  let c65535_i32_44 : BitVec 32 := 65535#32
  let v164 : BitVec 32 := Scalar.andi v70 c65535_i32_44
  let c8_i32_45 : BitVec 32 := 8#32
  let v165 : BitVec 32 := Scalar.muli v164 c8_i32_45
  let v166 : BitVec 32 := v165
  let v2980 : Index := Scalar.indexCast v166
  let c0_1037 : Index := 0#32
  ![v2980.toNat, 0]
def k0_off108 (v70 : BitVec 32) : Fin 2 → Nat :=
  let c65535_i32_44 : BitVec 32 := 65535#32
  let v164 : BitVec 32 := Scalar.andi v70 c65535_i32_44
  let c8_i32_45 : BitVec 32 := 8#32
  let v165 : BitVec 32 := Scalar.muli v164 c8_i32_45
  let v166 : BitVec 32 := v165
  let v2997 : Index := Scalar.indexCast v166
  let c0_1042 : Index := 0#32
  ![v2997.toNat, 0]

def k0_chk19 (v70 : BitVec 32) : Prop :=
  (8 ∣ (k0_mult51 v70).toNat) ∧
  (16 ∣ (k0_mult83 v70).toNat) ∧
  (∀ a, (k0_off26 v70) a + S16x512.size a ≤ S9232x512.size a) ∧
  (∀ a, (k0_off58 v70) a + S8x256.size a ≤ S4616x256.size a) ∧
  (∀ a, (k0_off107 v70) a + S8x512.size a ≤ S4616x512.size a) ∧
  (∀ a, (k0_off108 v70) a + S8x128.size a ≤ S4616x128.size a)
theorem k0_mult51_dvd : ∀ (v70 : BitVec 32) (k0_hw19 : k0_chk19 v70), 8 ∣ (k0_mult51 v70).toNat := fun v70 k0_hw19 => k0_hw19.1
theorem k0_mult83_dvd : ∀ (v70 : BitVec 32) (k0_hw19 : k0_chk19 v70), 16 ∣ (k0_mult83 v70).toNat := fun v70 k0_hw19 => k0_hw19.2.1
theorem k0_off26_inb : ∀ (v70 : BitVec 32) (k0_hw19 : k0_chk19 v70), ∀ a, (k0_off26 v70) a + S16x512.size a ≤ S9232x512.size a := fun v70 k0_hw19 => k0_hw19.2.2.1
theorem k0_off58_inb : ∀ (v70 : BitVec 32) (k0_hw19 : k0_chk19 v70), ∀ a, (k0_off58 v70) a + S8x256.size a ≤ S4616x256.size a := fun v70 k0_hw19 => k0_hw19.2.2.2.1
theorem k0_off107_inb : ∀ (v70 : BitVec 32) (k0_hw19 : k0_chk19 v70), ∀ a, (k0_off107 v70) a + S8x512.size a ≤ S4616x512.size a := fun v70 k0_hw19 => k0_hw19.2.2.2.2.1
theorem k0_off108_inb : ∀ (v70 : BitVec 32) (k0_hw19 : k0_chk19 v70), ∀ a, (k0_off108 v70) a + S8x128.size a ≤ S4616x128.size a := fun v70 k0_hw19 => k0_hw19.2.2.2.2.2

def k0_off109 (v73 : BitVec 32) : Fin 2 → Nat :=
  let c65535_i32_46 : BitVec 32 := 65535#32
  let v167 : BitVec 32 := Scalar.andi v73 c65535_i32_46
  let c8_i32_47 : BitVec 32 := 8#32
  let v168 : BitVec 32 := Scalar.muli v167 c8_i32_47
  let v169 : BitVec 32 := v168
  let v3031 : Index := Scalar.indexCast v169
  let c0_1052 : Index := 0#32
  ![v3031.toNat, 0]
def k0_off110 (v73 : BitVec 32) : Fin 2 → Nat :=
  let c65535_i32_46 : BitVec 32 := 65535#32
  let v167 : BitVec 32 := Scalar.andi v73 c65535_i32_46
  let c8_i32_47 : BitVec 32 := 8#32
  let v168 : BitVec 32 := Scalar.muli v167 c8_i32_47
  let v169 : BitVec 32 := v168
  let v3048 : Index := Scalar.indexCast v169
  let c0_1057 : Index := 0#32
  ![v3048.toNat, 0]

def k0_chk20 (v73 : BitVec 32) : Prop :=
  (8 ∣ (k0_mult52 v73).toNat) ∧
  (16 ∣ (k0_mult84 v73).toNat) ∧
  (∀ a, (k0_off27 v73) a + S16x512.size a ≤ S9232x512.size a) ∧
  (∀ a, (k0_off59 v73) a + S8x256.size a ≤ S4616x256.size a) ∧
  (∀ a, (k0_off109 v73) a + S8x512.size a ≤ S4616x512.size a) ∧
  (∀ a, (k0_off110 v73) a + S8x128.size a ≤ S4616x128.size a)
theorem k0_mult52_dvd : ∀ (v73 : BitVec 32) (k0_hw20 : k0_chk20 v73), 8 ∣ (k0_mult52 v73).toNat := fun v73 k0_hw20 => k0_hw20.1
theorem k0_mult84_dvd : ∀ (v73 : BitVec 32) (k0_hw20 : k0_chk20 v73), 16 ∣ (k0_mult84 v73).toNat := fun v73 k0_hw20 => k0_hw20.2.1
theorem k0_off27_inb : ∀ (v73 : BitVec 32) (k0_hw20 : k0_chk20 v73), ∀ a, (k0_off27 v73) a + S16x512.size a ≤ S9232x512.size a := fun v73 k0_hw20 => k0_hw20.2.2.1
theorem k0_off59_inb : ∀ (v73 : BitVec 32) (k0_hw20 : k0_chk20 v73), ∀ a, (k0_off59 v73) a + S8x256.size a ≤ S4616x256.size a := fun v73 k0_hw20 => k0_hw20.2.2.2.1
theorem k0_off109_inb : ∀ (v73 : BitVec 32) (k0_hw20 : k0_chk20 v73), ∀ a, (k0_off109 v73) a + S8x512.size a ≤ S4616x512.size a := fun v73 k0_hw20 => k0_hw20.2.2.2.2.1
theorem k0_off110_inb : ∀ (v73 : BitVec 32) (k0_hw20 : k0_chk20 v73), ∀ a, (k0_off110 v73) a + S8x128.size a ≤ S4616x128.size a := fun v73 k0_hw20 => k0_hw20.2.2.2.2.2

def k0_off111 (v76 : BitVec 32) : Fin 2 → Nat :=
  let c65535_i32_48 : BitVec 32 := 65535#32
  let v170 : BitVec 32 := Scalar.andi v76 c65535_i32_48
  let c8_i32_49 : BitVec 32 := 8#32
  let v171 : BitVec 32 := Scalar.muli v170 c8_i32_49
  let v172 : BitVec 32 := v171
  let v3082 : Index := Scalar.indexCast v172
  let c0_1067 : Index := 0#32
  ![v3082.toNat, 0]
def k0_off112 (v76 : BitVec 32) : Fin 2 → Nat :=
  let c65535_i32_48 : BitVec 32 := 65535#32
  let v170 : BitVec 32 := Scalar.andi v76 c65535_i32_48
  let c8_i32_49 : BitVec 32 := 8#32
  let v171 : BitVec 32 := Scalar.muli v170 c8_i32_49
  let v172 : BitVec 32 := v171
  let v3099 : Index := Scalar.indexCast v172
  let c0_1072 : Index := 0#32
  ![v3099.toNat, 0]

def k0_chk21 (v76 : BitVec 32) : Prop :=
  (8 ∣ (k0_mult53 v76).toNat) ∧
  (16 ∣ (k0_mult85 v76).toNat) ∧
  (∀ a, (k0_off28 v76) a + S16x512.size a ≤ S9232x512.size a) ∧
  (∀ a, (k0_off60 v76) a + S8x256.size a ≤ S4616x256.size a) ∧
  (∀ a, (k0_off111 v76) a + S8x512.size a ≤ S4616x512.size a) ∧
  (∀ a, (k0_off112 v76) a + S8x128.size a ≤ S4616x128.size a)
theorem k0_mult53_dvd : ∀ (v76 : BitVec 32) (k0_hw21 : k0_chk21 v76), 8 ∣ (k0_mult53 v76).toNat := fun v76 k0_hw21 => k0_hw21.1
theorem k0_mult85_dvd : ∀ (v76 : BitVec 32) (k0_hw21 : k0_chk21 v76), 16 ∣ (k0_mult85 v76).toNat := fun v76 k0_hw21 => k0_hw21.2.1
theorem k0_off28_inb : ∀ (v76 : BitVec 32) (k0_hw21 : k0_chk21 v76), ∀ a, (k0_off28 v76) a + S16x512.size a ≤ S9232x512.size a := fun v76 k0_hw21 => k0_hw21.2.2.1
theorem k0_off60_inb : ∀ (v76 : BitVec 32) (k0_hw21 : k0_chk21 v76), ∀ a, (k0_off60 v76) a + S8x256.size a ≤ S4616x256.size a := fun v76 k0_hw21 => k0_hw21.2.2.2.1
theorem k0_off111_inb : ∀ (v76 : BitVec 32) (k0_hw21 : k0_chk21 v76), ∀ a, (k0_off111 v76) a + S8x512.size a ≤ S4616x512.size a := fun v76 k0_hw21 => k0_hw21.2.2.2.2.1
theorem k0_off112_inb : ∀ (v76 : BitVec 32) (k0_hw21 : k0_chk21 v76), ∀ a, (k0_off112 v76) a + S8x128.size a ≤ S4616x128.size a := fun v76 k0_hw21 => k0_hw21.2.2.2.2.2

def k0_off113 (v79 : BitVec 32) : Fin 2 → Nat :=
  let c65535_i32_50 : BitVec 32 := 65535#32
  let v173 : BitVec 32 := Scalar.andi v79 c65535_i32_50
  let c8_i32_51 : BitVec 32 := 8#32
  let v174 : BitVec 32 := Scalar.muli v173 c8_i32_51
  let v175 : BitVec 32 := v174
  let v3133 : Index := Scalar.indexCast v175
  let c0_1082 : Index := 0#32
  ![v3133.toNat, 0]
def k0_off114 (v79 : BitVec 32) : Fin 2 → Nat :=
  let c65535_i32_50 : BitVec 32 := 65535#32
  let v173 : BitVec 32 := Scalar.andi v79 c65535_i32_50
  let c8_i32_51 : BitVec 32 := 8#32
  let v174 : BitVec 32 := Scalar.muli v173 c8_i32_51
  let v175 : BitVec 32 := v174
  let v3150 : Index := Scalar.indexCast v175
  let c0_1087 : Index := 0#32
  ![v3150.toNat, 0]

def k0_chk22 (v79 : BitVec 32) : Prop :=
  (8 ∣ (k0_mult54 v79).toNat) ∧
  (16 ∣ (k0_mult86 v79).toNat) ∧
  (∀ a, (k0_off29 v79) a + S16x512.size a ≤ S9232x512.size a) ∧
  (∀ a, (k0_off61 v79) a + S8x256.size a ≤ S4616x256.size a) ∧
  (∀ a, (k0_off113 v79) a + S8x512.size a ≤ S4616x512.size a) ∧
  (∀ a, (k0_off114 v79) a + S8x128.size a ≤ S4616x128.size a)
theorem k0_mult54_dvd : ∀ (v79 : BitVec 32) (k0_hw22 : k0_chk22 v79), 8 ∣ (k0_mult54 v79).toNat := fun v79 k0_hw22 => k0_hw22.1
theorem k0_mult86_dvd : ∀ (v79 : BitVec 32) (k0_hw22 : k0_chk22 v79), 16 ∣ (k0_mult86 v79).toNat := fun v79 k0_hw22 => k0_hw22.2.1
theorem k0_off29_inb : ∀ (v79 : BitVec 32) (k0_hw22 : k0_chk22 v79), ∀ a, (k0_off29 v79) a + S16x512.size a ≤ S9232x512.size a := fun v79 k0_hw22 => k0_hw22.2.2.1
theorem k0_off61_inb : ∀ (v79 : BitVec 32) (k0_hw22 : k0_chk22 v79), ∀ a, (k0_off61 v79) a + S8x256.size a ≤ S4616x256.size a := fun v79 k0_hw22 => k0_hw22.2.2.2.1
theorem k0_off113_inb : ∀ (v79 : BitVec 32) (k0_hw22 : k0_chk22 v79), ∀ a, (k0_off113 v79) a + S8x512.size a ≤ S4616x512.size a := fun v79 k0_hw22 => k0_hw22.2.2.2.2.1
theorem k0_off114_inb : ∀ (v79 : BitVec 32) (k0_hw22 : k0_chk22 v79), ∀ a, (k0_off114 v79) a + S8x128.size a ≤ S4616x128.size a := fun v79 k0_hw22 => k0_hw22.2.2.2.2.2

def k0_off115 (v82 : BitVec 32) : Fin 2 → Nat :=
  let c65535_i32_52 : BitVec 32 := 65535#32
  let v176 : BitVec 32 := Scalar.andi v82 c65535_i32_52
  let c8_i32_53 : BitVec 32 := 8#32
  let v177 : BitVec 32 := Scalar.muli v176 c8_i32_53
  let v178 : BitVec 32 := v177
  let v3184 : Index := Scalar.indexCast v178
  let c0_1097 : Index := 0#32
  ![v3184.toNat, 0]
def k0_off116 (v82 : BitVec 32) : Fin 2 → Nat :=
  let c65535_i32_52 : BitVec 32 := 65535#32
  let v176 : BitVec 32 := Scalar.andi v82 c65535_i32_52
  let c8_i32_53 : BitVec 32 := 8#32
  let v177 : BitVec 32 := Scalar.muli v176 c8_i32_53
  let v178 : BitVec 32 := v177
  let v3201 : Index := Scalar.indexCast v178
  let c0_1102 : Index := 0#32
  ![v3201.toNat, 0]

def k0_chk23 (v82 : BitVec 32) : Prop :=
  (8 ∣ (k0_mult55 v82).toNat) ∧
  (16 ∣ (k0_mult87 v82).toNat) ∧
  (∀ a, (k0_off30 v82) a + S16x512.size a ≤ S9232x512.size a) ∧
  (∀ a, (k0_off62 v82) a + S8x256.size a ≤ S4616x256.size a) ∧
  (∀ a, (k0_off115 v82) a + S8x512.size a ≤ S4616x512.size a) ∧
  (∀ a, (k0_off116 v82) a + S8x128.size a ≤ S4616x128.size a)
theorem k0_mult55_dvd : ∀ (v82 : BitVec 32) (k0_hw23 : k0_chk23 v82), 8 ∣ (k0_mult55 v82).toNat := fun v82 k0_hw23 => k0_hw23.1
theorem k0_mult87_dvd : ∀ (v82 : BitVec 32) (k0_hw23 : k0_chk23 v82), 16 ∣ (k0_mult87 v82).toNat := fun v82 k0_hw23 => k0_hw23.2.1
theorem k0_off30_inb : ∀ (v82 : BitVec 32) (k0_hw23 : k0_chk23 v82), ∀ a, (k0_off30 v82) a + S16x512.size a ≤ S9232x512.size a := fun v82 k0_hw23 => k0_hw23.2.2.1
theorem k0_off62_inb : ∀ (v82 : BitVec 32) (k0_hw23 : k0_chk23 v82), ∀ a, (k0_off62 v82) a + S8x256.size a ≤ S4616x256.size a := fun v82 k0_hw23 => k0_hw23.2.2.2.1
theorem k0_off115_inb : ∀ (v82 : BitVec 32) (k0_hw23 : k0_chk23 v82), ∀ a, (k0_off115 v82) a + S8x512.size a ≤ S4616x512.size a := fun v82 k0_hw23 => k0_hw23.2.2.2.2.1
theorem k0_off116_inb : ∀ (v82 : BitVec 32) (k0_hw23 : k0_chk23 v82), ∀ a, (k0_off116 v82) a + S8x128.size a ≤ S4616x128.size a := fun v82 k0_hw23 => k0_hw23.2.2.2.2.2

def k0_off117 (v85 : BitVec 32) : Fin 2 → Nat :=
  let c65535_i32_54 : BitVec 32 := 65535#32
  let v179 : BitVec 32 := Scalar.andi v85 c65535_i32_54
  let c8_i32_55 : BitVec 32 := 8#32
  let v180 : BitVec 32 := Scalar.muli v179 c8_i32_55
  let v181 : BitVec 32 := v180
  let v3235 : Index := Scalar.indexCast v181
  let c0_1112 : Index := 0#32
  ![v3235.toNat, 0]
def k0_off118 (v85 : BitVec 32) : Fin 2 → Nat :=
  let c65535_i32_54 : BitVec 32 := 65535#32
  let v179 : BitVec 32 := Scalar.andi v85 c65535_i32_54
  let c8_i32_55 : BitVec 32 := 8#32
  let v180 : BitVec 32 := Scalar.muli v179 c8_i32_55
  let v181 : BitVec 32 := v180
  let v3252 : Index := Scalar.indexCast v181
  let c0_1117 : Index := 0#32
  ![v3252.toNat, 0]

def k0_chk24 (v85 : BitVec 32) : Prop :=
  (8 ∣ (k0_mult56 v85).toNat) ∧
  (16 ∣ (k0_mult88 v85).toNat) ∧
  (∀ a, (k0_off31 v85) a + S16x512.size a ≤ S9232x512.size a) ∧
  (∀ a, (k0_off63 v85) a + S8x256.size a ≤ S4616x256.size a) ∧
  (∀ a, (k0_off117 v85) a + S8x512.size a ≤ S4616x512.size a) ∧
  (∀ a, (k0_off118 v85) a + S8x128.size a ≤ S4616x128.size a)
theorem k0_mult56_dvd : ∀ (v85 : BitVec 32) (k0_hw24 : k0_chk24 v85), 8 ∣ (k0_mult56 v85).toNat := fun v85 k0_hw24 => k0_hw24.1
theorem k0_mult88_dvd : ∀ (v85 : BitVec 32) (k0_hw24 : k0_chk24 v85), 16 ∣ (k0_mult88 v85).toNat := fun v85 k0_hw24 => k0_hw24.2.1
theorem k0_off31_inb : ∀ (v85 : BitVec 32) (k0_hw24 : k0_chk24 v85), ∀ a, (k0_off31 v85) a + S16x512.size a ≤ S9232x512.size a := fun v85 k0_hw24 => k0_hw24.2.2.1
theorem k0_off63_inb : ∀ (v85 : BitVec 32) (k0_hw24 : k0_chk24 v85), ∀ a, (k0_off63 v85) a + S8x256.size a ≤ S4616x256.size a := fun v85 k0_hw24 => k0_hw24.2.2.2.1
theorem k0_off117_inb : ∀ (v85 : BitVec 32) (k0_hw24 : k0_chk24 v85), ∀ a, (k0_off117 v85) a + S8x512.size a ≤ S4616x512.size a := fun v85 k0_hw24 => k0_hw24.2.2.2.2.1
theorem k0_off118_inb : ∀ (v85 : BitVec 32) (k0_hw24 : k0_chk24 v85), ∀ a, (k0_off118 v85) a + S8x128.size a ≤ S4616x128.size a := fun v85 k0_hw24 => k0_hw24.2.2.2.2.2

def k0_off119 (v88 : BitVec 32) : Fin 2 → Nat :=
  let c65535_i32_56 : BitVec 32 := 65535#32
  let v182 : BitVec 32 := Scalar.andi v88 c65535_i32_56
  let c8_i32_57 : BitVec 32 := 8#32
  let v183 : BitVec 32 := Scalar.muli v182 c8_i32_57
  let v184 : BitVec 32 := v183
  let v3286 : Index := Scalar.indexCast v184
  let c0_1127 : Index := 0#32
  ![v3286.toNat, 0]
def k0_off120 (v88 : BitVec 32) : Fin 2 → Nat :=
  let c65535_i32_56 : BitVec 32 := 65535#32
  let v182 : BitVec 32 := Scalar.andi v88 c65535_i32_56
  let c8_i32_57 : BitVec 32 := 8#32
  let v183 : BitVec 32 := Scalar.muli v182 c8_i32_57
  let v184 : BitVec 32 := v183
  let v3303 : Index := Scalar.indexCast v184
  let c0_1132 : Index := 0#32
  ![v3303.toNat, 0]

def k0_chk25 (v88 : BitVec 32) : Prop :=
  (8 ∣ (k0_mult57 v88).toNat) ∧
  (16 ∣ (k0_mult89 v88).toNat) ∧
  (∀ a, (k0_off32 v88) a + S16x512.size a ≤ S9232x512.size a) ∧
  (∀ a, (k0_off64 v88) a + S8x256.size a ≤ S4616x256.size a) ∧
  (∀ a, (k0_off119 v88) a + S8x512.size a ≤ S4616x512.size a) ∧
  (∀ a, (k0_off120 v88) a + S8x128.size a ≤ S4616x128.size a)
theorem k0_mult57_dvd : ∀ (v88 : BitVec 32) (k0_hw25 : k0_chk25 v88), 8 ∣ (k0_mult57 v88).toNat := fun v88 k0_hw25 => k0_hw25.1
theorem k0_mult89_dvd : ∀ (v88 : BitVec 32) (k0_hw25 : k0_chk25 v88), 16 ∣ (k0_mult89 v88).toNat := fun v88 k0_hw25 => k0_hw25.2.1
theorem k0_off32_inb : ∀ (v88 : BitVec 32) (k0_hw25 : k0_chk25 v88), ∀ a, (k0_off32 v88) a + S16x512.size a ≤ S9232x512.size a := fun v88 k0_hw25 => k0_hw25.2.2.1
theorem k0_off64_inb : ∀ (v88 : BitVec 32) (k0_hw25 : k0_chk25 v88), ∀ a, (k0_off64 v88) a + S8x256.size a ≤ S4616x256.size a := fun v88 k0_hw25 => k0_hw25.2.2.2.1
theorem k0_off119_inb : ∀ (v88 : BitVec 32) (k0_hw25 : k0_chk25 v88), ∀ a, (k0_off119 v88) a + S8x512.size a ≤ S4616x512.size a := fun v88 k0_hw25 => k0_hw25.2.2.2.2.1
theorem k0_off120_inb : ∀ (v88 : BitVec 32) (k0_hw25 : k0_chk25 v88), ∀ a, (k0_off120 v88) a + S8x128.size a ≤ S4616x128.size a := fun v88 k0_hw25 => k0_hw25.2.2.2.2.2

def k0_off121 (v91 : BitVec 32) : Fin 2 → Nat :=
  let c65535_i32_58 : BitVec 32 := 65535#32
  let v185 : BitVec 32 := Scalar.andi v91 c65535_i32_58
  let c8_i32_59 : BitVec 32 := 8#32
  let v186 : BitVec 32 := Scalar.muli v185 c8_i32_59
  let v187 : BitVec 32 := v186
  let v3337 : Index := Scalar.indexCast v187
  let c0_1142 : Index := 0#32
  ![v3337.toNat, 0]
def k0_off122 (v91 : BitVec 32) : Fin 2 → Nat :=
  let c65535_i32_58 : BitVec 32 := 65535#32
  let v185 : BitVec 32 := Scalar.andi v91 c65535_i32_58
  let c8_i32_59 : BitVec 32 := 8#32
  let v186 : BitVec 32 := Scalar.muli v185 c8_i32_59
  let v187 : BitVec 32 := v186
  let v3354 : Index := Scalar.indexCast v187
  let c0_1147 : Index := 0#32
  ![v3354.toNat, 0]

def k0_chk26 (v91 : BitVec 32) : Prop :=
  (8 ∣ (k0_mult58 v91).toNat) ∧
  (16 ∣ (k0_mult90 v91).toNat) ∧
  (∀ a, (k0_off33 v91) a + S16x512.size a ≤ S9232x512.size a) ∧
  (∀ a, (k0_off65 v91) a + S8x256.size a ≤ S4616x256.size a) ∧
  (∀ a, (k0_off121 v91) a + S8x512.size a ≤ S4616x512.size a) ∧
  (∀ a, (k0_off122 v91) a + S8x128.size a ≤ S4616x128.size a)
theorem k0_mult58_dvd : ∀ (v91 : BitVec 32) (k0_hw26 : k0_chk26 v91), 8 ∣ (k0_mult58 v91).toNat := fun v91 k0_hw26 => k0_hw26.1
theorem k0_mult90_dvd : ∀ (v91 : BitVec 32) (k0_hw26 : k0_chk26 v91), 16 ∣ (k0_mult90 v91).toNat := fun v91 k0_hw26 => k0_hw26.2.1
theorem k0_off33_inb : ∀ (v91 : BitVec 32) (k0_hw26 : k0_chk26 v91), ∀ a, (k0_off33 v91) a + S16x512.size a ≤ S9232x512.size a := fun v91 k0_hw26 => k0_hw26.2.2.1
theorem k0_off65_inb : ∀ (v91 : BitVec 32) (k0_hw26 : k0_chk26 v91), ∀ a, (k0_off65 v91) a + S8x256.size a ≤ S4616x256.size a := fun v91 k0_hw26 => k0_hw26.2.2.2.1
theorem k0_off121_inb : ∀ (v91 : BitVec 32) (k0_hw26 : k0_chk26 v91), ∀ a, (k0_off121 v91) a + S8x512.size a ≤ S4616x512.size a := fun v91 k0_hw26 => k0_hw26.2.2.2.2.1
theorem k0_off122_inb : ∀ (v91 : BitVec 32) (k0_hw26 : k0_chk26 v91), ∀ a, (k0_off122 v91) a + S8x128.size a ≤ S4616x128.size a := fun v91 k0_hw26 => k0_hw26.2.2.2.2.2

def k0_off123 (v94 : BitVec 32) : Fin 2 → Nat :=
  let c65535_i32_60 : BitVec 32 := 65535#32
  let v188 : BitVec 32 := Scalar.andi v94 c65535_i32_60
  let c8_i32_61 : BitVec 32 := 8#32
  let v189 : BitVec 32 := Scalar.muli v188 c8_i32_61
  let v190 : BitVec 32 := v189
  let v3388 : Index := Scalar.indexCast v190
  let c0_1157 : Index := 0#32
  ![v3388.toNat, 0]
def k0_off124 (v94 : BitVec 32) : Fin 2 → Nat :=
  let c65535_i32_60 : BitVec 32 := 65535#32
  let v188 : BitVec 32 := Scalar.andi v94 c65535_i32_60
  let c8_i32_61 : BitVec 32 := 8#32
  let v189 : BitVec 32 := Scalar.muli v188 c8_i32_61
  let v190 : BitVec 32 := v189
  let v3405 : Index := Scalar.indexCast v190
  let c0_1162 : Index := 0#32
  ![v3405.toNat, 0]

def k0_chk27 (v94 : BitVec 32) : Prop :=
  (8 ∣ (k0_mult59 v94).toNat) ∧
  (16 ∣ (k0_mult91 v94).toNat) ∧
  (∀ a, (k0_off34 v94) a + S16x512.size a ≤ S9232x512.size a) ∧
  (∀ a, (k0_off66 v94) a + S8x256.size a ≤ S4616x256.size a) ∧
  (∀ a, (k0_off123 v94) a + S8x512.size a ≤ S4616x512.size a) ∧
  (∀ a, (k0_off124 v94) a + S8x128.size a ≤ S4616x128.size a)
theorem k0_mult59_dvd : ∀ (v94 : BitVec 32) (k0_hw27 : k0_chk27 v94), 8 ∣ (k0_mult59 v94).toNat := fun v94 k0_hw27 => k0_hw27.1
theorem k0_mult91_dvd : ∀ (v94 : BitVec 32) (k0_hw27 : k0_chk27 v94), 16 ∣ (k0_mult91 v94).toNat := fun v94 k0_hw27 => k0_hw27.2.1
theorem k0_off34_inb : ∀ (v94 : BitVec 32) (k0_hw27 : k0_chk27 v94), ∀ a, (k0_off34 v94) a + S16x512.size a ≤ S9232x512.size a := fun v94 k0_hw27 => k0_hw27.2.2.1
theorem k0_off66_inb : ∀ (v94 : BitVec 32) (k0_hw27 : k0_chk27 v94), ∀ a, (k0_off66 v94) a + S8x256.size a ≤ S4616x256.size a := fun v94 k0_hw27 => k0_hw27.2.2.2.1
theorem k0_off123_inb : ∀ (v94 : BitVec 32) (k0_hw27 : k0_chk27 v94), ∀ a, (k0_off123 v94) a + S8x512.size a ≤ S4616x512.size a := fun v94 k0_hw27 => k0_hw27.2.2.2.2.1
theorem k0_off124_inb : ∀ (v94 : BitVec 32) (k0_hw27 : k0_chk27 v94), ∀ a, (k0_off124 v94) a + S8x128.size a ≤ S4616x128.size a := fun v94 k0_hw27 => k0_hw27.2.2.2.2.2

def k0_off125 (v97 : BitVec 32) : Fin 2 → Nat :=
  let c65535_i32_62 : BitVec 32 := 65535#32
  let v191 : BitVec 32 := Scalar.andi v97 c65535_i32_62
  let c8_i32_63 : BitVec 32 := 8#32
  let v192 : BitVec 32 := Scalar.muli v191 c8_i32_63
  let v193 : BitVec 32 := v192
  let v3439 : Index := Scalar.indexCast v193
  let c0_1172 : Index := 0#32
  ![v3439.toNat, 0]
def k0_off126 (v97 : BitVec 32) : Fin 2 → Nat :=
  let c65535_i32_62 : BitVec 32 := 65535#32
  let v191 : BitVec 32 := Scalar.andi v97 c65535_i32_62
  let c8_i32_63 : BitVec 32 := 8#32
  let v192 : BitVec 32 := Scalar.muli v191 c8_i32_63
  let v193 : BitVec 32 := v192
  let v3456 : Index := Scalar.indexCast v193
  let c0_1177 : Index := 0#32
  ![v3456.toNat, 0]

def k0_chk28 (v97 : BitVec 32) : Prop :=
  (8 ∣ (k0_mult60 v97).toNat) ∧
  (16 ∣ (k0_mult92 v97).toNat) ∧
  (∀ a, (k0_off35 v97) a + S16x512.size a ≤ S9232x512.size a) ∧
  (∀ a, (k0_off67 v97) a + S8x256.size a ≤ S4616x256.size a) ∧
  (∀ a, (k0_off125 v97) a + S8x512.size a ≤ S4616x512.size a) ∧
  (∀ a, (k0_off126 v97) a + S8x128.size a ≤ S4616x128.size a)
theorem k0_mult60_dvd : ∀ (v97 : BitVec 32) (k0_hw28 : k0_chk28 v97), 8 ∣ (k0_mult60 v97).toNat := fun v97 k0_hw28 => k0_hw28.1
theorem k0_mult92_dvd : ∀ (v97 : BitVec 32) (k0_hw28 : k0_chk28 v97), 16 ∣ (k0_mult92 v97).toNat := fun v97 k0_hw28 => k0_hw28.2.1
theorem k0_off35_inb : ∀ (v97 : BitVec 32) (k0_hw28 : k0_chk28 v97), ∀ a, (k0_off35 v97) a + S16x512.size a ≤ S9232x512.size a := fun v97 k0_hw28 => k0_hw28.2.2.1
theorem k0_off67_inb : ∀ (v97 : BitVec 32) (k0_hw28 : k0_chk28 v97), ∀ a, (k0_off67 v97) a + S8x256.size a ≤ S4616x256.size a := fun v97 k0_hw28 => k0_hw28.2.2.2.1
theorem k0_off125_inb : ∀ (v97 : BitVec 32) (k0_hw28 : k0_chk28 v97), ∀ a, (k0_off125 v97) a + S8x512.size a ≤ S4616x512.size a := fun v97 k0_hw28 => k0_hw28.2.2.2.2.1
theorem k0_off126_inb : ∀ (v97 : BitVec 32) (k0_hw28 : k0_chk28 v97), ∀ a, (k0_off126 v97) a + S8x128.size a ≤ S4616x128.size a := fun v97 k0_hw28 => k0_hw28.2.2.2.2.2

def k0_off127 (v100 : BitVec 32) : Fin 2 → Nat :=
  let c65535_i32_64 : BitVec 32 := 65535#32
  let v194 : BitVec 32 := Scalar.andi v100 c65535_i32_64
  let c8_i32_65 : BitVec 32 := 8#32
  let v195 : BitVec 32 := Scalar.muli v194 c8_i32_65
  let v196 : BitVec 32 := v195
  let v3490 : Index := Scalar.indexCast v196
  let c0_1187 : Index := 0#32
  ![v3490.toNat, 0]
def k0_off128 (v100 : BitVec 32) : Fin 2 → Nat :=
  let c65535_i32_64 : BitVec 32 := 65535#32
  let v194 : BitVec 32 := Scalar.andi v100 c65535_i32_64
  let c8_i32_65 : BitVec 32 := 8#32
  let v195 : BitVec 32 := Scalar.muli v194 c8_i32_65
  let v196 : BitVec 32 := v195
  let v3507 : Index := Scalar.indexCast v196
  let c0_1192 : Index := 0#32
  ![v3507.toNat, 0]

def k0_chk29 (v100 : BitVec 32) : Prop :=
  (8 ∣ (k0_mult61 v100).toNat) ∧
  (16 ∣ (k0_mult93 v100).toNat) ∧
  (∀ a, (k0_off36 v100) a + S16x512.size a ≤ S9232x512.size a) ∧
  (∀ a, (k0_off68 v100) a + S8x256.size a ≤ S4616x256.size a) ∧
  (∀ a, (k0_off127 v100) a + S8x512.size a ≤ S4616x512.size a) ∧
  (∀ a, (k0_off128 v100) a + S8x128.size a ≤ S4616x128.size a)
theorem k0_mult61_dvd : ∀ (v100 : BitVec 32) (k0_hw29 : k0_chk29 v100), 8 ∣ (k0_mult61 v100).toNat := fun v100 k0_hw29 => k0_hw29.1
theorem k0_mult93_dvd : ∀ (v100 : BitVec 32) (k0_hw29 : k0_chk29 v100), 16 ∣ (k0_mult93 v100).toNat := fun v100 k0_hw29 => k0_hw29.2.1
theorem k0_off36_inb : ∀ (v100 : BitVec 32) (k0_hw29 : k0_chk29 v100), ∀ a, (k0_off36 v100) a + S16x512.size a ≤ S9232x512.size a := fun v100 k0_hw29 => k0_hw29.2.2.1
theorem k0_off68_inb : ∀ (v100 : BitVec 32) (k0_hw29 : k0_chk29 v100), ∀ a, (k0_off68 v100) a + S8x256.size a ≤ S4616x256.size a := fun v100 k0_hw29 => k0_hw29.2.2.2.1
theorem k0_off127_inb : ∀ (v100 : BitVec 32) (k0_hw29 : k0_chk29 v100), ∀ a, (k0_off127 v100) a + S8x512.size a ≤ S4616x512.size a := fun v100 k0_hw29 => k0_hw29.2.2.2.2.1
theorem k0_off128_inb : ∀ (v100 : BitVec 32) (k0_hw29 : k0_chk29 v100), ∀ a, (k0_off128 v100) a + S8x128.size a ≤ S4616x128.size a := fun v100 k0_hw29 => k0_hw29.2.2.2.2.2

def k0_off129 (v103 : BitVec 32) : Fin 2 → Nat :=
  let c65535_i32_66 : BitVec 32 := 65535#32
  let v197 : BitVec 32 := Scalar.andi v103 c65535_i32_66
  let c8_i32_67 : BitVec 32 := 8#32
  let v198 : BitVec 32 := Scalar.muli v197 c8_i32_67
  let v199 : BitVec 32 := v198
  let v3541 : Index := Scalar.indexCast v199
  let c0_1202 : Index := 0#32
  ![v3541.toNat, 0]
def k0_off130 (v103 : BitVec 32) : Fin 2 → Nat :=
  let c65535_i32_66 : BitVec 32 := 65535#32
  let v197 : BitVec 32 := Scalar.andi v103 c65535_i32_66
  let c8_i32_67 : BitVec 32 := 8#32
  let v198 : BitVec 32 := Scalar.muli v197 c8_i32_67
  let v199 : BitVec 32 := v198
  let v3558 : Index := Scalar.indexCast v199
  let c0_1207 : Index := 0#32
  ![v3558.toNat, 0]

def k0_chk30 (v103 : BitVec 32) : Prop :=
  (8 ∣ (k0_mult62 v103).toNat) ∧
  (16 ∣ (k0_mult94 v103).toNat) ∧
  (∀ a, (k0_off37 v103) a + S16x512.size a ≤ S9232x512.size a) ∧
  (∀ a, (k0_off69 v103) a + S8x256.size a ≤ S4616x256.size a) ∧
  (∀ a, (k0_off129 v103) a + S8x512.size a ≤ S4616x512.size a) ∧
  (∀ a, (k0_off130 v103) a + S8x128.size a ≤ S4616x128.size a)
theorem k0_mult62_dvd : ∀ (v103 : BitVec 32) (k0_hw30 : k0_chk30 v103), 8 ∣ (k0_mult62 v103).toNat := fun v103 k0_hw30 => k0_hw30.1
theorem k0_mult94_dvd : ∀ (v103 : BitVec 32) (k0_hw30 : k0_chk30 v103), 16 ∣ (k0_mult94 v103).toNat := fun v103 k0_hw30 => k0_hw30.2.1
theorem k0_off37_inb : ∀ (v103 : BitVec 32) (k0_hw30 : k0_chk30 v103), ∀ a, (k0_off37 v103) a + S16x512.size a ≤ S9232x512.size a := fun v103 k0_hw30 => k0_hw30.2.2.1
theorem k0_off69_inb : ∀ (v103 : BitVec 32) (k0_hw30 : k0_chk30 v103), ∀ a, (k0_off69 v103) a + S8x256.size a ≤ S4616x256.size a := fun v103 k0_hw30 => k0_hw30.2.2.2.1
theorem k0_off129_inb : ∀ (v103 : BitVec 32) (k0_hw30 : k0_chk30 v103), ∀ a, (k0_off129 v103) a + S8x512.size a ≤ S4616x512.size a := fun v103 k0_hw30 => k0_hw30.2.2.2.2.1
theorem k0_off130_inb : ∀ (v103 : BitVec 32) (k0_hw30 : k0_chk30 v103), ∀ a, (k0_off130 v103) a + S8x128.size a ≤ S4616x128.size a := fun v103 k0_hw30 => k0_hw30.2.2.2.2.2

def k0_off131 (v106 : BitVec 32) : Fin 2 → Nat :=
  let c65535_i32_68 : BitVec 32 := 65535#32
  let v200 : BitVec 32 := Scalar.andi v106 c65535_i32_68
  let c8_i32_69 : BitVec 32 := 8#32
  let v201 : BitVec 32 := Scalar.muli v200 c8_i32_69
  let v202 : BitVec 32 := v201
  let v3592 : Index := Scalar.indexCast v202
  let c0_1217 : Index := 0#32
  ![v3592.toNat, 0]
def k0_off132 (v106 : BitVec 32) : Fin 2 → Nat :=
  let c65535_i32_68 : BitVec 32 := 65535#32
  let v200 : BitVec 32 := Scalar.andi v106 c65535_i32_68
  let c8_i32_69 : BitVec 32 := 8#32
  let v201 : BitVec 32 := Scalar.muli v200 c8_i32_69
  let v202 : BitVec 32 := v201
  let v3609 : Index := Scalar.indexCast v202
  let c0_1222 : Index := 0#32
  ![v3609.toNat, 0]

def k0_chk31 (v106 : BitVec 32) : Prop :=
  (8 ∣ (k0_mult63 v106).toNat) ∧
  (16 ∣ (k0_mult95 v106).toNat) ∧
  (∀ a, (k0_off38 v106) a + S16x512.size a ≤ S9232x512.size a) ∧
  (∀ a, (k0_off70 v106) a + S8x256.size a ≤ S4616x256.size a) ∧
  (∀ a, (k0_off131 v106) a + S8x512.size a ≤ S4616x512.size a) ∧
  (∀ a, (k0_off132 v106) a + S8x128.size a ≤ S4616x128.size a)
theorem k0_mult63_dvd : ∀ (v106 : BitVec 32) (k0_hw31 : k0_chk31 v106), 8 ∣ (k0_mult63 v106).toNat := fun v106 k0_hw31 => k0_hw31.1
theorem k0_mult95_dvd : ∀ (v106 : BitVec 32) (k0_hw31 : k0_chk31 v106), 16 ∣ (k0_mult95 v106).toNat := fun v106 k0_hw31 => k0_hw31.2.1
theorem k0_off38_inb : ∀ (v106 : BitVec 32) (k0_hw31 : k0_chk31 v106), ∀ a, (k0_off38 v106) a + S16x512.size a ≤ S9232x512.size a := fun v106 k0_hw31 => k0_hw31.2.2.1
theorem k0_off70_inb : ∀ (v106 : BitVec 32) (k0_hw31 : k0_chk31 v106), ∀ a, (k0_off70 v106) a + S8x256.size a ≤ S4616x256.size a := fun v106 k0_hw31 => k0_hw31.2.2.2.1
theorem k0_off131_inb : ∀ (v106 : BitVec 32) (k0_hw31 : k0_chk31 v106), ∀ a, (k0_off131 v106) a + S8x512.size a ≤ S4616x512.size a := fun v106 k0_hw31 => k0_hw31.2.2.2.2.1
theorem k0_off132_inb : ∀ (v106 : BitVec 32) (k0_hw31 : k0_chk31 v106), ∀ a, (k0_off132 v106) a + S8x128.size a ≤ S4616x128.size a := fun v106 k0_hw31 => k0_hw31.2.2.2.2.2

def k0_off133 (v109 : BitVec 32) : Fin 2 → Nat :=
  let c65535_i32_70 : BitVec 32 := 65535#32
  let v203 : BitVec 32 := Scalar.andi v109 c65535_i32_70
  let c8_i32_71 : BitVec 32 := 8#32
  let v204 : BitVec 32 := Scalar.muli v203 c8_i32_71
  let v205 : BitVec 32 := v204
  let v3643 : Index := Scalar.indexCast v205
  let c0_1232 : Index := 0#32
  ![v3643.toNat, 0]
def k0_off134 (v109 : BitVec 32) : Fin 2 → Nat :=
  let c65535_i32_70 : BitVec 32 := 65535#32
  let v203 : BitVec 32 := Scalar.andi v109 c65535_i32_70
  let c8_i32_71 : BitVec 32 := 8#32
  let v204 : BitVec 32 := Scalar.muli v203 c8_i32_71
  let v205 : BitVec 32 := v204
  let v3660 : Index := Scalar.indexCast v205
  let c0_1237 : Index := 0#32
  ![v3660.toNat, 0]

def k0_chk32 (v109 : BitVec 32) : Prop :=
  (8 ∣ (k0_mult64 v109).toNat) ∧
  (16 ∣ (k0_mult96 v109).toNat) ∧
  (∀ a, (k0_off39 v109) a + S16x512.size a ≤ S9232x512.size a) ∧
  (∀ a, (k0_off71 v109) a + S8x256.size a ≤ S4616x256.size a) ∧
  (∀ a, (k0_off133 v109) a + S8x512.size a ≤ S4616x512.size a) ∧
  (∀ a, (k0_off134 v109) a + S8x128.size a ≤ S4616x128.size a)
theorem k0_mult64_dvd : ∀ (v109 : BitVec 32) (k0_hw32 : k0_chk32 v109), 8 ∣ (k0_mult64 v109).toNat := fun v109 k0_hw32 => k0_hw32.1
theorem k0_mult96_dvd : ∀ (v109 : BitVec 32) (k0_hw32 : k0_chk32 v109), 16 ∣ (k0_mult96 v109).toNat := fun v109 k0_hw32 => k0_hw32.2.1
theorem k0_off39_inb : ∀ (v109 : BitVec 32) (k0_hw32 : k0_chk32 v109), ∀ a, (k0_off39 v109) a + S16x512.size a ≤ S9232x512.size a := fun v109 k0_hw32 => k0_hw32.2.2.1
theorem k0_off71_inb : ∀ (v109 : BitVec 32) (k0_hw32 : k0_chk32 v109), ∀ a, (k0_off71 v109) a + S8x256.size a ≤ S4616x256.size a := fun v109 k0_hw32 => k0_hw32.2.2.2.1
theorem k0_off133_inb : ∀ (v109 : BitVec 32) (k0_hw32 : k0_chk32 v109), ∀ a, (k0_off133 v109) a + S8x512.size a ≤ S4616x512.size a := fun v109 k0_hw32 => k0_hw32.2.2.2.2.1
theorem k0_off134_inb : ∀ (v109 : BitVec 32) (k0_hw32 : k0_chk32 v109), ∀ a, (k0_off134 v109) a + S8x128.size a ≤ S4616x128.size a := fun v109 k0_hw32 => k0_hw32.2.2.2.2.2

def k0_off135 (v112 : BitVec 32) : Fin 2 → Nat :=
  let c65535_i32_72 : BitVec 32 := 65535#32
  let v206 : BitVec 32 := Scalar.andi v112 c65535_i32_72
  let c8_i32_73 : BitVec 32 := 8#32
  let v207 : BitVec 32 := Scalar.muli v206 c8_i32_73
  let v208 : BitVec 32 := v207
  let v3694 : Index := Scalar.indexCast v208
  let c0_1247 : Index := 0#32
  ![v3694.toNat, 0]
def k0_off136 (v112 : BitVec 32) : Fin 2 → Nat :=
  let c65535_i32_72 : BitVec 32 := 65535#32
  let v206 : BitVec 32 := Scalar.andi v112 c65535_i32_72
  let c8_i32_73 : BitVec 32 := 8#32
  let v207 : BitVec 32 := Scalar.muli v206 c8_i32_73
  let v208 : BitVec 32 := v207
  let v3711 : Index := Scalar.indexCast v208
  let c0_1252 : Index := 0#32
  ![v3711.toNat, 0]

def k0_chk33 (v112 : BitVec 32) : Prop :=
  (8 ∣ (k0_mult65 v112).toNat) ∧
  (16 ∣ (k0_mult97 v112).toNat) ∧
  (∀ a, (k0_off40 v112) a + S16x512.size a ≤ S9232x512.size a) ∧
  (∀ a, (k0_off72 v112) a + S8x256.size a ≤ S4616x256.size a) ∧
  (∀ a, (k0_off135 v112) a + S8x512.size a ≤ S4616x512.size a) ∧
  (∀ a, (k0_off136 v112) a + S8x128.size a ≤ S4616x128.size a)
theorem k0_mult65_dvd : ∀ (v112 : BitVec 32) (k0_hw33 : k0_chk33 v112), 8 ∣ (k0_mult65 v112).toNat := fun v112 k0_hw33 => k0_hw33.1
theorem k0_mult97_dvd : ∀ (v112 : BitVec 32) (k0_hw33 : k0_chk33 v112), 16 ∣ (k0_mult97 v112).toNat := fun v112 k0_hw33 => k0_hw33.2.1
theorem k0_off40_inb : ∀ (v112 : BitVec 32) (k0_hw33 : k0_chk33 v112), ∀ a, (k0_off40 v112) a + S16x512.size a ≤ S9232x512.size a := fun v112 k0_hw33 => k0_hw33.2.2.1
theorem k0_off72_inb : ∀ (v112 : BitVec 32) (k0_hw33 : k0_chk33 v112), ∀ a, (k0_off72 v112) a + S8x256.size a ≤ S4616x256.size a := fun v112 k0_hw33 => k0_hw33.2.2.2.1
theorem k0_off135_inb : ∀ (v112 : BitVec 32) (k0_hw33 : k0_chk33 v112), ∀ a, (k0_off135 v112) a + S8x512.size a ≤ S4616x512.size a := fun v112 k0_hw33 => k0_hw33.2.2.2.2.1
theorem k0_off136_inb : ∀ (v112 : BitVec 32) (k0_hw33 : k0_chk33 v112), ∀ a, (k0_off136 v112) a + S8x128.size a ≤ S4616x128.size a := fun v112 k0_hw33 => k0_hw33.2.2.2.2.2

@[reducible] def k0_t4_loop : Scf.Loop 32 :=
  let c0_i32_5 : BitVec 32 := 0#32
  let c36_i32 : BitVec 32 := 36#32
  let v12 : BitVec 32 := Scalar.addi c0_i32_5 c36_i32
  let c1_i32_6 : BitVec 32 := 1#32
  ⟨c0_i32_5, v12, c1_i32_6⟩
def k0_mult114 (k0_t4 : Fin k0_t4_loop.trips) : BitVec 32 :=
  let c0_i32_9 : BitVec 32 := 0#32
  let c0_i32_5 : BitVec 32 := 0#32
  let c1_i32_6 : BitVec 32 := 1#32
  let arg23 : BitVec 32 := Scf.iv c0_i32_5 c1_i32_6 k0_t4
  let c1_i32_8 : BitVec 32 := 1#32
  let v13 : BitVec 32 := Scalar.muli arg23 c1_i32_8
  let v14 : BitVec 32 := Scalar.addi c0_i32_9 v13
  let c128_i32 : BitVec 32 := 128#32
  let v15 : BitVec 32 := Scalar.muli v14 c128_i32
  v15
def k0_mult115 (k0_t4 : Fin k0_t4_loop.trips) : BitVec 32 :=
  let c0_i32_9 : BitVec 32 := 0#32
  let c0_i32_5 : BitVec 32 := 0#32
  let c1_i32_6 : BitVec 32 := 1#32
  let arg23 : BitVec 32 := Scf.iv c0_i32_5 c1_i32_6 k0_t4
  let c1_i32_8 : BitVec 32 := 1#32
  let v13 : BitVec 32 := Scalar.muli arg23 c1_i32_8
  let v14 : BitVec 32 := Scalar.addi c0_i32_9 v13
  let c16_i32 : BitVec 32 := 16#32
  let v17 : BitVec 32 := Scalar.muli v14 c16_i32
  v17
def k0_off137 (k0_t4 : Fin k0_t4_loop.trips) : Fin 2 → Nat :=
  let c0_i32_9 : BitVec 32 := 0#32
  let c0_i32_5 : BitVec 32 := 0#32
  let c1_i32_6 : BitVec 32 := 1#32
  let arg23 : BitVec 32 := Scf.iv c0_i32_5 c1_i32_6 k0_t4
  let c1_i32_8 : BitVec 32 := 1#32
  let v13 : BitVec 32 := Scalar.muli arg23 c1_i32_8
  let v14 : BitVec 32 := Scalar.addi c0_i32_9 v13
  let c128_i32 : BitVec 32 := 128#32
  let v15 : BitVec 32 := Scalar.muli v14 c128_i32
  let v16 : BitVec 32 := v15
  let v19 : Index := Scalar.indexCast v16
  let c0 : Index := 0#32
  ![v19.toNat, 0]
def k0_off138 (k0_t4 : Fin k0_t4_loop.trips) : Fin 2 → Nat :=
  let c0_i32_9 : BitVec 32 := 0#32
  let c0_i32_5 : BitVec 32 := 0#32
  let c1_i32_6 : BitVec 32 := 1#32
  let arg23 : BitVec 32 := Scf.iv c0_i32_5 c1_i32_6 k0_t4
  let c1_i32_8 : BitVec 32 := 1#32
  let v13 : BitVec 32 := Scalar.muli arg23 c1_i32_8
  let v14 : BitVec 32 := Scalar.addi c0_i32_9 v13
  let c16_i32 : BitVec 32 := 16#32
  let v17 : BitVec 32 := Scalar.muli v14 c16_i32
  let v18 : BitVec 32 := v17
  let v24 : Index := Scalar.indexCast v18
  let c0_10 : Index := 0#32
  ![v24.toNat, 0]
def k0_off139 (k0_t4 : Fin k0_t4_loop.trips) : Fin 2 → Nat :=
  let c0_i32_9 : BitVec 32 := 0#32
  let c0_i32_5 : BitVec 32 := 0#32
  let c1_i32_6 : BitVec 32 := 1#32
  let arg23 : BitVec 32 := Scf.iv c0_i32_5 c1_i32_6 k0_t4
  let c1_i32_8 : BitVec 32 := 1#32
  let v13 : BitVec 32 := Scalar.muli arg23 c1_i32_8
  let v14 : BitVec 32 := Scalar.addi c0_i32_9 v13
  let c128_i32 : BitVec 32 := 128#32
  let v15 : BitVec 32 := Scalar.muli v14 c128_i32
  let v16 : BitVec 32 := v15
  let v26 : Index := Scalar.indexCast v16
  let c0_11 : Index := 0#32
  ![v26.toNat, 0]
def k0_off140 (k0_t4 : Fin k0_t4_loop.trips) : Fin 2 → Nat :=
  let c0_i32_9 : BitVec 32 := 0#32
  let c0_i32_5 : BitVec 32 := 0#32
  let c1_i32_6 : BitVec 32 := 1#32
  let arg23 : BitVec 32 := Scf.iv c0_i32_5 c1_i32_6 k0_t4
  let c1_i32_8 : BitVec 32 := 1#32
  let v13 : BitVec 32 := Scalar.muli arg23 c1_i32_8
  let v14 : BitVec 32 := Scalar.addi c0_i32_9 v13
  let c16_i32 : BitVec 32 := 16#32
  let v17 : BitVec 32 := Scalar.muli v14 c16_i32
  let v18 : BitVec 32 := v17
  let v30 : Index := Scalar.indexCast v18
  let c0_13 : Index := 0#32
  ![v30.toNat, 0]
def k0_cond2 (arg0 : BitVec 32) (v7 : BitVec 32) : BitVec 1 :=
  let c1_i32_3 : BitVec 32 := 1#32
  let v8 : BitVec 32 := Scalar.subi v7 c1_i32_3
  let v9 : BitVec 1 := Scalar.cmpi .eq arg0 v8
  let v10 : BitVec 32 := Scalar.extui v9
  let c0_i32_4 : BitVec 32 := 0#32
  let v11 : BitVec 1 := Scalar.cmpi .ne v10 c0_i32_4
  v11

def cc0_transform_0 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (b : grid0.Bounds) (i : (grid0.at b).Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_3 (b : grid0.Bounds) (i : (grid0.at b).Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_4 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (b : grid0.Bounds) (i : (grid0.at b).Coords) : Fin 1 → Nat :=
  let arg0 : BitVec 32 := BitVec.ofNat 32 (i 0).val
  let c0_i32 : BitVec 32 := 0#32
  let c0_i32_0 : BitVec 32 := 0#32
  ![c0_i32.toNat]

def cc0_transform_12 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S144x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S576x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S576x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S576 : Shape := ⟨1, ![576]⟩
abbrev S18944x512 : Shape := ⟨2, ![18944, 512]⟩
abbrev S37888 : Shape := ⟨1, ![37888]⟩
abbrev S2048x256 : Shape := ⟨2, ![2048, 256]⟩
abbrev S256 : Shape := ⟨1, ![256]⟩
abbrev S256x96 : Shape := ⟨2, ![256, 96]⟩
abbrev S96 : Shape := ⟨1, ![96]⟩
abbrev S1 : Shape := ⟨1, ![1]⟩
abbrev S18944x512x4 : Shape := ⟨3, ![18944, 512, 4]⟩
abbrev S18944x4x512 : Shape := ⟨3, ![18944, 4, 512]⟩
abbrev S75776x512 : Shape := ⟨2, ![75776, 512]⟩
abbrev S37888x2 : Shape := ⟨2, ![37888, 2]⟩
abbrev S75776 : Shape := ⟨1, ![75776]⟩
abbrev S75776x1 : Shape := ⟨2, ![75776, 1]⟩
abbrev S_ : Shape := ⟨0, ![]⟩
abbrev S576x1 : Shape := ⟨2, ![576, 1]⟩
abbrev S128 : Shape := ⟨1, ![128]⟩
abbrev S1x128 : Shape := ⟨2, ![1, 128]⟩
abbrev S576x128 : Shape := ⟨2, ![576, 128]⟩
abbrev S576x128x1 : Shape := ⟨3, ![576, 128, 1]⟩
abbrev S576x128x512 : Shape := ⟨3, ![576, 128, 512]⟩
abbrev S576x512 : Shape := ⟨2, ![576, 512]⟩
abbrev S576x1x512 : Shape := ⟨3, ![576, 1, 512]⟩
abbrev S576x128x2048 : Shape := ⟨3, ![576, 128, 2048]⟩
abbrev S576x128x256 : Shape := ⟨3, ![576, 128, 256]⟩
abbrev S1x1x256 : Shape := ⟨3, ![1, 1, 256]⟩
abbrev S576x128x96 : Shape := ⟨3, ![576, 128, 96]⟩
abbrev S1x1x96 : Shape := ⟨3, ![1, 1, 96]⟩

abbrev nBuf : Space → Nat
  | .hbm => 115
  | .vmem => 0
  | .smem => 0
  | _ => 0

abbrev bufTy : (tb : Table) → Fin (tcTables nBuf tb) → BufTy
  | .hbm, ⟨0, _⟩ => ⟨S576, .i32⟩
  | .hbm, ⟨1, _⟩ => ⟨S18944x512, .i32⟩
  | .hbm, ⟨2, _⟩ => ⟨S37888, .i32⟩
  | .hbm, ⟨3, _⟩ => ⟨S2048x256, .bf16⟩
  | .hbm, ⟨4, _⟩ => ⟨S256, .f32⟩
  | .hbm, ⟨5, _⟩ => ⟨S256, .f32⟩
  | .hbm, ⟨6, _⟩ => ⟨S256x96, .bf16⟩
  | .hbm, ⟨7, _⟩ => ⟨S96, .f32⟩
  | .hbm, ⟨8, _⟩ => ⟨S96, .f32⟩
  | .hbm, ⟨9, _⟩ => ⟨S96, .bf16⟩
  | .hbm, ⟨10, _⟩ => ⟨S1, .f32⟩
  | .hbm, ⟨11, _⟩ => ⟨S18944x512x4, .i8⟩
  | .hbm, ⟨12, _⟩ => ⟨S18944x512x4, .i32⟩
  | .hbm, ⟨13, _⟩ => ⟨S18944x4x512, .i32⟩
  | .hbm, ⟨14, _⟩ => ⟨S75776x512, .i32⟩
  | .hbm, ⟨15, _⟩ => ⟨S37888x2, .bf16⟩
  | .hbm, ⟨16, _⟩ => ⟨S75776, .bf16⟩
  | .hbm, ⟨17, _⟩ => ⟨S75776x512, .f32⟩
  | .hbm, ⟨18, _⟩ => ⟨S75776x512, .bf16⟩
  | .hbm, ⟨19, _⟩ => ⟨S75776x1, .bf16⟩
  | .hbm, ⟨20, _⟩ => ⟨S75776x512, .bf16⟩
  | .hbm, ⟨21, _⟩ => ⟨S75776x512, .bf16⟩
  | .hbm, ⟨22, _⟩ => ⟨S_, .i32⟩
  | .hbm, ⟨23, _⟩ => ⟨S576, .i32⟩
  | .hbm, ⟨24, _⟩ => ⟨S576, .i32⟩
  | .hbm, ⟨25, _⟩ => ⟨S_, .i32⟩
  | .hbm, ⟨26, _⟩ => ⟨S576, .i32⟩
  | .hbm, ⟨27, _⟩ => ⟨S576, .i32⟩
  | .hbm, ⟨28, _⟩ => ⟨S_, .i32⟩
  | .hbm, ⟨29, _⟩ => ⟨S_, .i32⟩
  | .hbm, ⟨30, _⟩ => ⟨S576, .i32⟩
  | .hbm, ⟨31, _⟩ => ⟨S576, .i32⟩
  | .hbm, ⟨32, _⟩ => ⟨S576, .i32⟩
  | .hbm, ⟨33, _⟩ => ⟨S_, .i32⟩
  | .hbm, ⟨34, _⟩ => ⟨S576, .i32⟩
  | .hbm, ⟨35, _⟩ => ⟨S576, .i1⟩
  | .hbm, ⟨36, _⟩ => ⟨S576, .i32⟩
  | .hbm, ⟨37, _⟩ => ⟨S576, .i32⟩
  | .hbm, ⟨38, _⟩ => ⟨S_, .i32⟩
  | .hbm, ⟨39, _⟩ => ⟨S576, .i32⟩
  | .hbm, ⟨40, _⟩ => ⟨S576, .i1⟩
  | .hbm, ⟨41, _⟩ => ⟨S576, .i1⟩
  | .hbm, ⟨42, _⟩ => ⟨S_, .i32⟩
  | .hbm, ⟨43, _⟩ => ⟨S576, .i32⟩
  | .hbm, ⟨44, _⟩ => ⟨S576, .i32⟩
  | .hbm, ⟨45, _⟩ => ⟨S576, .i32⟩
  | .hbm, ⟨46, _⟩ => ⟨S_, .i32⟩
  | .hbm, ⟨47, _⟩ => ⟨S_, .i32⟩
  | .hbm, ⟨48, _⟩ => ⟨S576, .i32⟩
  | .hbm, ⟨49, _⟩ => ⟨S576, .i32⟩
  | .hbm, ⟨50, _⟩ => ⟨S_, .i32⟩
  | .hbm, ⟨51, _⟩ => ⟨S576, .i32⟩
  | .hbm, ⟨52, _⟩ => ⟨S576, .i32⟩
  | .hbm, ⟨53, _⟩ => ⟨S_, .i32⟩
  | .hbm, ⟨54, _⟩ => ⟨S576, .i32⟩
  | .hbm, ⟨55, _⟩ => ⟨S576, .i32⟩
  | .hbm, ⟨56, _⟩ => ⟨S576x1, .i32⟩
  | .hbm, ⟨57, _⟩ => ⟨S128, .i32⟩
  | .hbm, ⟨58, _⟩ => ⟨S1x128, .i32⟩
  | .hbm, ⟨59, _⟩ => ⟨S576x128, .i32⟩
  | .hbm, ⟨60, _⟩ => ⟨S576x128, .i32⟩
  | .hbm, ⟨61, _⟩ => ⟨S576x128, .i32⟩
  | .hbm, ⟨62, _⟩ => ⟨S_, .i32⟩
  | .hbm, ⟨63, _⟩ => ⟨S576x128, .i32⟩
  | .hbm, ⟨64, _⟩ => ⟨S576x128, .i1⟩
  | .hbm, ⟨65, _⟩ => ⟨S_, .i32⟩
  | .hbm, ⟨66, _⟩ => ⟨S576x128, .i32⟩
  | .hbm, ⟨67, _⟩ => ⟨S576x128, .i32⟩
  | .hbm, ⟨68, _⟩ => ⟨S576x128, .i32⟩
  | .hbm, ⟨69, _⟩ => ⟨S576x128x1, .i32⟩
  | .hbm, ⟨70, _⟩ => ⟨S576x128x512, .bf16⟩
  | .hbm, ⟨71, _⟩ => ⟨S576x512, .bf16⟩
  | .hbm, ⟨72, _⟩ => ⟨S576x1x512, .bf16⟩
  | .hbm, ⟨73, _⟩ => ⟨S576x128x512, .bf16⟩
  | .hbm, ⟨74, _⟩ => ⟨S576x128x512, .bf16⟩
  | .hbm, ⟨75, _⟩ => ⟨S576x128x512, .bf16⟩
  | .hbm, ⟨76, _⟩ => ⟨S576x128x2048, .bf16⟩
  | .hbm, ⟨77, _⟩ => ⟨S576x128x256, .f32⟩
  | .hbm, ⟨78, _⟩ => ⟨S1x1x256, .f32⟩
  | .hbm, ⟨79, _⟩ => ⟨S576x128x256, .f32⟩
  | .hbm, ⟨80, _⟩ => ⟨S576x128x256, .f32⟩
  | .hbm, ⟨81, _⟩ => ⟨S_, .f32⟩
  | .hbm, ⟨82, _⟩ => ⟨S576x128x256, .f32⟩
  | .hbm, ⟨83, _⟩ => ⟨S576x128x256, .i1⟩
  | .hbm, ⟨84, _⟩ => ⟨S1x1x256, .f32⟩
  | .hbm, ⟨85, _⟩ => ⟨S576x128x256, .f32⟩
  | .hbm, ⟨86, _⟩ => ⟨S576x128x256, .f32⟩
  | .hbm, ⟨87, _⟩ => ⟨S576x128x256, .f32⟩
  | .hbm, ⟨88, _⟩ => ⟨S576x128x256, .bf16⟩
  | .hbm, ⟨89, _⟩ => ⟨S576x128x96, .f32⟩
  | .hbm, ⟨90, _⟩ => ⟨S1x1x96, .f32⟩
  | .hbm, ⟨91, _⟩ => ⟨S576x128x96, .f32⟩
  | .hbm, ⟨92, _⟩ => ⟨S576x128x96, .f32⟩
  | .hbm, ⟨93, _⟩ => ⟨S_, .f32⟩
  | .hbm, ⟨94, _⟩ => ⟨S576x128x96, .f32⟩
  | .hbm, ⟨95, _⟩ => ⟨S576x128x96, .i1⟩
  | .hbm, ⟨96, _⟩ => ⟨S1x1x96, .f32⟩
  | .hbm, ⟨97, _⟩ => ⟨S576x128x96, .f32⟩
  | .hbm, ⟨98, _⟩ => ⟨S576x128x96, .f32⟩
  | .hbm, ⟨99, _⟩ => ⟨S576x128x96, .f32⟩
  | .hbm, ⟨100, _⟩ => ⟨S576x128x96, .bf16⟩
  | .hbm, ⟨101, _⟩ => ⟨S576x128, .f32⟩
  | .hbm, ⟨102, _⟩ => ⟨S_, .f32⟩
  | .hbm, ⟨103, _⟩ => ⟨S576x128, .f32⟩
  | .hbm, ⟨104, _⟩ => ⟨S576x128, .f32⟩
  | .hbm, ⟨105, _⟩ => ⟨S128, .i32⟩
  | .hbm, ⟨106, _⟩ => ⟨S1x128, .i32⟩
  | .hbm, ⟨107, _⟩ => ⟨S576x1, .i32⟩
  | .hbm, ⟨108, _⟩ => ⟨S576x128, .i32⟩
  | .hbm, ⟨109, _⟩ => ⟨S576x128, .i32⟩
  | .hbm, ⟨110, _⟩ => ⟨S576x128, .i1⟩
  | .hbm, ⟨111, _⟩ => ⟨S_, .f32⟩
  | .hbm, ⟨112, _⟩ => ⟨S_, .f32⟩
  | .hbm, ⟨113, _⟩ => ⟨S576x128, .f32⟩
  | .hbm, ⟨114, _⟩ => ⟨S576x128, .f32⟩
  | _, _ => ⟨S576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v15 : Ref sig .tc := ⟨.hbm, 45, rfl⟩
abbrev main_call1_call0_c : Ref sig .tc := ⟨.hbm, 46, rfl⟩
abbrev main_call1_call0_v0 : Ref sig .tc := ⟨.hbm, 47, rfl⟩
abbrev main_v16 : Ref sig .tc := ⟨.hbm, 48, rfl⟩
abbrev main_v17 : Ref sig .tc := ⟨.hbm, 49, rfl⟩
abbrev main_c_2 : Ref sig .tc := ⟨.hbm, 50, rfl⟩
abbrev main_v18 : Ref sig .tc := ⟨.hbm, 51, rfl⟩
abbrev main_v19 : Ref sig .tc := ⟨.hbm, 52, rfl⟩
abbrev main_c_3 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c_4 : Ref sig .tc := ⟨.hbm, 62, rfl⟩
abbrev main_v28 : Ref sig .tc := ⟨.hbm, 63, rfl⟩
abbrev main_v29 : Ref sig .tc := ⟨.hbm, 64, rfl⟩
abbrev main_c_5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_6 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_7 : Ref sig .tc := ⟨.hbm, 111, rfl⟩
abbrev main_call4_v0 : Ref sig .tc := ⟨.hbm, 112, rfl⟩
abbrev main_call4_v1 : Ref sig .tc := ⟨.hbm, 113, rfl⟩
abbrev main_v73 : Ref sig .tc := ⟨.hbm, 114, rfl⟩

abbrev nD : Nat := 1
abbrev τ : Topo := Topo.v7x

variable {F : FTy → Type} [FloatOps F]
-- ==== Proof.Fit.lean ====
/-
What the preconditions say of the lengths.
-/
module

public import proofs.«01_k».proof.Pre_lengths_fit
public import proofs.«01_k».proof.Pre_some_history
public import Idealize.ShloMosaic.Lib.Claim
public import Idealize.ShloMosaic.Lib.Routing.Ops

@[expose] public section

namespace Cert.Fit

open Idealize.ShloMosaic Cert.Pre_lengths_fit

instance facts : Cert.Pre_lengths_fit.Facts := ⟨by decide⟩

theorem word_fit (x : BitVec 32) (h : (IntOp.andi (IntOp.cmpi .sge x 0#32) (IntOp.cmpi .sle x 128#32)) = 1#1) : x.toNat ≤ 128 := by
  have h1 : BitVec.sle 0#32 x = true ∧ BitVec.sle x 128#32 = true := by
    have : (BitVec.ofBool (BitVec.sle 0#32 x)) &&& (BitVec.ofBool (BitVec.sle x 128#32)) = 1#1 := h
    revert this
    cases BitVec.sle 0#32 x <;> cases BitVec.sle x 128#32 <;> decide
  have h0 := h1.1
  have h2 := h1.2
  rw [BitVec.sle_eq_decide, decide_eq_true_eq] at h0 h2
  have e0 : (0#32 : BitVec 32).toInt = 0 := by decide
  have e128 : (128#32 : BitVec 32).toInt = 128 := by decide
  rw [e0] at h0
  rw [e128] at h2
  rw [BitVec.toInt_eq_toNat_cond] at h0 h2
  split at h0 <;> omega

variable {F : FTy → Type} [FloatOps F]

theorem lengths_fit (a0 : IVec S576 32) (a1 : IVec S18944x512 32) (a2 : IVec S37888 32) (a3 : FVec F S2048x256 .bf16) (a4 a5 : FVec F S256 .f32)
    (a6 : FVec F S256x96 .bf16) (a7 a8 : FVec F S96 .f32) (a9 : FVec F S96 .bf16) (a10 : FVec F S1 .f32)
    (h : fn (F := F) a0 a1 a2 a3 a4 a5 a6 a7 a8 a9 a10 = fun _ => 1#1) (i : S576.Idx) : (a0 i).toNat ≤ 128 :=
  word_fit _ (congrFun h i)

instance history_facts : Cert.Pre_some_history.Facts := ⟨by decide, by decide, by decide⟩

theorem and_one (x y : BitVec 1) (h : IntOp.andi x y = 1#1) : x = 1#1 ∧ y = 1#1 := by
  revert x y; decide

/-- A disjunction over a list that holds started from false holds at some element. -/
theorem foldl_or {ι : Type} (x : ι → BitVec 1) : ∀ (l : List ι) (r : BitVec 1), l.foldl (fun r n => IntOp.ori r (x n)) r = 1#1 → r = 1#1 ∨ ∃ n, x n = 1#1
  | [], _, h => .inl h
  | a :: l, r, h => by
    rcases foldl_or x l _ h with h | h
    · have : ∀ u v : BitVec 1, IntOp.ori u v = 1#1 → u = 1#1 ∨ v = 1#1 := by decide
      exact (this _ _ h).imp id fun h => ⟨a, h⟩
    · exact .inr h

theorem some_history (a0 : IVec S576 32) (a1 : IVec S18944x512 32) (a2 : IVec S37888 32) (a3 : FVec F S2048x256 .bf16) (a4 a5 : FVec F S256 .f32)
    (a6 : FVec F S256x96 .bf16) (a7 a8 : FVec F S96 .f32) (a9 : FVec F S96 .bf16) (a10 : FVec F S1 .f32)
    (h : Cert.Pre_some_history.fn (F := F) a0 a1 a2 a3 a4 a5 a6 a7 a8 a9 a10 = fun _ => 1#1) :
    (∀ i : S576.Idx, (a0 i).toNat ≤ 128) ∧ ∃ i : S576.Idx, 0 < (a0 i).toNat := by
  refine ⟨fun i => word_fit _ (and_one _ _ (congrFun h i)).1, ?_⟩
  have h0 := (and_one _ _ (congrFun h (fun | 0 => ⟨0, by decide⟩))).2
  rcases foldl_or _ _ _ h0 with h1 | ⟨n, hn⟩
  · exact absurd h1 (by decide)
  · refine ⟨S576.rowMajor.symm n, Nat.pos_of_ne_zero fun hz => ?_⟩
    · have e : a0 (S576.rowMajor.symm n) = 0#32 := BitVec.eq_of_toNat_eq hz
      have hn' : IntOp.cmpi .sgt (a0 (S576.rowMajor.symm n)) 0#32 = 1#1 := hn
      rw [e] at hn'
      exact absurd hn' (by decide)

end Cert.Fit
-- ==== Proof.Score.lean ====
/-
The score of one row of a history against a target, over the extended reals, and the dequantised rows.
-/
module

public import Idealize.ShloMosaic.Lib.Pointwise

@[expose] public section

noncomputable section

namespace Cert.Score

open Idealize.ShloMosaic

/-- A row of the table: the bytes of a row of codes times its scale. Four rows lie in one row of words of codes,
    two scales in one word. -/
def row (codes : Nat → Fin 512 → BitVec 32) (words : Nat → BitVec 32) (r : Nat) (d : Fin 512) : EReal :=
  FloatOps.sitofp (F := Ideal) .bf16 ((codes (r / 4) d).extractLsb' (8 * (r % 4)) 8)
    * Ideal.ofBits .bf16 ((words (r / 2)).extractLsb' (16 * (r % 2)) 16)

def prelu (a z : EReal) : EReal := if 0 ≤ z then z else a * z

/-- The network's weights. -/
structure Net where
  w1 : Fin 2048 → Fin 256 → EReal
  b1 : Fin 256 → EReal
  a1 : Fin 256 → EReal
  w2 : Fin 256 → Fin 96 → EReal
  b2 : Fin 96 → EReal
  a2 : Fin 96 → EReal
  w3 : Fin 96 → EReal
  b3 : EReal

variable (N : Net)

/-- The part of the first layer that the target alone decides. -/
def tz (t : Fin 512 → EReal) (c : Fin 256) : EReal := ∑ k : Fin 512, t k * N.w1 ⟨512 + k.val, by omega⟩ c + N.b1 c

/-- The first hidden layer of a row `h` against a target `t`. -/
def hid (h t : Fin 512 → EReal) (c : Fin 256) : EReal :=
  prelu (N.a1 c) ((∑ k : Fin 512, h k * N.w1 ⟨k.val, by omega⟩ c + ∑ k : Fin 512, (h k - t k) * N.w1 ⟨1024 + k.val, by omega⟩ c
    + ∑ k : Fin 512, h k * t k * N.w1 ⟨1536 + k.val, by omega⟩ c) + tz N t c)

/-- The score from the first hidden layer. -/
def out (u : Fin 256 → EReal) : EReal :=
  ∑ k : Fin 96, prelu (N.a2 k) (∑ c : Fin 256, u c * N.w2 c k + N.b2 k) * N.w3 k + N.b3

/-- The score of a row `h` against a target `t`. -/
def score (h t : Fin 512 → EReal) : EReal := out N (hid N h t)

/-! ## The tables and the plan -/

/-- The words of codes by their row, zero outside the table. -/
def codesOf (x : (⟨2, ![18944, 512]⟩ : Shape).Idx → BitVec 32) (q : Nat) (d : Fin 512) : BitVec 32 :=
  if h : q < 18944 then x (ix2 ⟨q, h⟩ d) else 0

/-- The words of scales, zero outside the table. -/
def wordsOf (x : (⟨1, ![37888]⟩ : Shape).Idx → BitVec 32) (q : Nat) : BitVec 32 :=
  if h : q < 37888 then x (ix1 ⟨q, h⟩) else 0

/-- The groups of sixteen rows of a user. -/
def groups (L : (⟨1, ![576]⟩ : Shape).Idx → BitVec 32) (j : Nat) : Nat :=
  if h : j < 576 then ((L (ix1 ⟨j, h⟩)).toNat + 15) / 16 else 0

/-- The groups of the users before `n`. -/
def start (L : (⟨1, ![576]⟩ : Shape).Idx → BitVec 32) (n : Nat) : Nat := ((List.range n).map (groups L)).sum

theorem start_succ (L : (⟨1, ![576]⟩ : Shape).Idx → BitVec 32) (n : Nat) : start L (n + 1) = start L n + groups L n := by
  simp [start, List.range_succ]

theorem start_mono (L : (⟨1, ![576]⟩ : Shape).Idx → BitVec 32) {a b : Nat} (h : a ≤ b) : start L a ≤ start L b := by
  induction h with
  | refl => exact le_rfl
  | step _ ih => exact ih.trans (by rw [start_succ]; omega)

theorem groups_le (L : (⟨1, ![576]⟩ : Shape).Idx → BitVec 32) (hL : ∀ i, (L i).toNat ≤ 128) (j : Nat) : groups L j ≤ 8 := by
  unfold groups
  split
  · have := hL (ix1 ⟨j, by assumption⟩); omega
  · omega

theorem start_le (L : (⟨1, ![576]⟩ : Shape).Idx → BitVec 32) (hL : ∀ i, (L i).toNat ≤ 128) (n : Nat) : start L n ≤ 8 * n := by
  induction n with
  | zero => simp [start]
  | succ n ih => rw [start_succ]; have := groups_le L hL n; omega

/-- The score of position `s` of user `b`: zero from the user's length on. -/
def value (L : (⟨1, ![576]⟩ : Shape).Idx → BitVec 32) (codes : (⟨2, ![18944, 512]⟩ : Shape).Idx → BitVec 32)
    (words : (⟨1, ![37888]⟩ : Shape).Idx → BitVec 32) (b : Fin 576) (s : Fin 128) : EReal :=
  if s.val < (L (ix1 b)).toNat then
    score N (row (codesOf codes) (wordsOf words) (2048 + 16 * start L b.val + s.val)) (row (codesOf codes) (wordsOf words) b.val)
  else 0

/-- The weights from their arrays. -/
def net (w1 : (⟨2, ![2048, 256]⟩ : Shape).Idx → EReal) (b1 a1 : (⟨1, ![256]⟩ : Shape).Idx → EReal) (w2 : (⟨2, ![256, 96]⟩ : Shape).Idx → EReal)
    (b2 a2 w3 : (⟨1, ![96]⟩ : Shape).Idx → EReal) (b3 : (⟨1, ![1]⟩ : Shape).Idx → EReal) : Net where
  w1 := fun k c => w1 (ix2 k c)
  b1 := fun c => b1 (ix1 c)
  a1 := fun c => a1 (ix1 c)
  w2 := fun k c => w2 (ix2 k c)
  b2 := fun c => b2 (ix1 c)
  a2 := fun c => a2 (ix1 c)
  w3 := fun c => w3 (ix1 c)
  b3 := b3 (ix1 0)

end Cert.Score

end
-- ==== Proof.Ref.lean ====
/-
What the reference leaves at one user and one position.
-/
module

public import proofs.«01_k».proof.Proof.Gen.ReferenceIdeal.Run
public import proofs.«01_k».proof.Proof.Score
public import Idealize.ShloMosaic.Lib.BitcastConvert
public import Idealize.ShloMosaic.Lib.Routing.Ops
public import Idealize.ShloMosaic.Lib.Routing.Words

@[expose] public section

set_option maxRecDepth 16384

noncomputable section

namespace Cert.ReferenceIdeal.Value

open Idealize.ShloMosaic Idealize.ShloMosaic.TcCoe Idealize.ShloMosaic.Tactic Idealize.ShloMosaic.StableHlo
open Cert.ReferenceIdeal Cert.ReferenceIdeal.Gen Cert.Score

/-- Rows of a table, picked by a two-dimensional array of row numbers. -/
theorem gather_rows {α : Type} (x : S75776x512.Idx → α) (idx : IVec S576x128x1 32) (b : Fin 576) (s : Fin 128) (d : Fin 512) (r : Nat)
    (hr : r < 75776) (h : idx (ix3 b s 0) = BitVec.ofNat 32 r) :
    Host.gather gather_S75776x512_S576x128x1_S576x128x512_2_0_n_n_0_2_1512 x idx (ix3 b s d) = x (ix2 ⟨r, hr⟩ d) := by
  unfold Host.gather
  refine congrArg x (funext fun a => Fin.ext ?_)
  match a with
  | ⟨0, _⟩ =>
    have hsi : ∀ h0, gather_S75776x512_S576x128x1_S576x128x512_2_0_n_n_0_2_1512.siIdx (ix3 b s d) ⟨0, h0⟩ = ix3 b s 0 := by
      intro h0; funext a'
      match a' with
      | ⟨0, _⟩ => rfl
      | ⟨1, _⟩ => rfl
      | ⟨2, _⟩ => rfl
    show gather_S75776x512_S576x128x1_S576x128x512_2_0_n_n_0_2_1512.start (ix3 b s d) idx 0 + 0 + 0 = r
    show min (idx (gather_S75776x512_S576x128x1_S576x128x512_2_0_n_n_0_2_1512.siIdx (ix3 b s d) ⟨0, by decide⟩)).toInt.toNat 75775 = r
    rw [hsi, h, StableHlo.Predicate.toInt_ofNat_small _ (by omega)]; omega
  | ⟨1, _⟩ =>
    show 0 + 0 + d.val = d.val
    omega

variable (V0 : Valuation τ sig (Elt Ideal))

abbrev L0 : IVec S576 32 := V0 (Proc.devRef .tc main_arg0)
abbrev codes0 : IVec S18944x512 32 := V0 (Proc.devRef .tc main_arg1)
abbrev words0 : IVec S37888 32 := V0 (Proc.devRef .tc main_arg2)
abbrev w10 : FVec Ideal S2048x256 .bf16 := V0 (Proc.devRef .tc main_arg3)
abbrev b10 : FVec Ideal S256 .f32 := V0 (Proc.devRef .tc main_arg4)
abbrev a10 : FVec Ideal S256 .f32 := V0 (Proc.devRef .tc main_arg5)
abbrev w20 : FVec Ideal S256x96 .bf16 := V0 (Proc.devRef .tc main_arg6)
abbrev b20 : FVec Ideal S96 .f32 := V0 (Proc.devRef .tc main_arg7)
abbrev a20 : FVec Ideal S96 .f32 := V0 (Proc.devRef .tc main_arg8)
abbrev w30 : FVec Ideal S96 .bf16 := V0 (Proc.devRef .tc main_arg9)
abbrev b30 : FVec Ideal S1 .f32 := V0 (Proc.devRef .tc main_arg10)

abbrev net0 : Net := net (w10 V0) (b10 V0) (a10 V0) (w20 V0) (b20 V0) (a20 V0) (w30 V0) (b30 V0)
abbrev row0 : Nat → Fin 512 → EReal := row (codesOf (codes0 V0)) (wordsOf (words0 V0))

def T10 : FVec Ideal S75776x512 .bf16 := res_main_v10 V0
def T34 : FVec Ideal S576x128x512 .bf16 := res_main_v34 V0
def T37 : FVec Ideal S576x128x512 .bf16 := res_main_v37 V0
def T44 : FVec Ideal S576x128x256 .f32 := res_main_v44 V0
def T55 : FVec Ideal S576x128x96 .f32 := res_main_v55 V0
def T27 : IVec S576x128 32 := res_main_v27 V0
def T15 : IVec S576 32 := res_main_v15 V0

theorem v10_at (r : Fin 75776) (d : Fin 512) : T10 V0 (ix2 r d) = row0 V0 r.val d := by
  show T10 V0 (ix2 r d) = (FloatOps.sitofp (F := Ideal) .bf16 ((codesOf (codes0 V0) (r.val / 4) d).extractLsb' (8 * (r.val % 4)) 8)
    * Ideal.ofBits .bf16 ((wordsOf (words0 V0) (r.val / 2)).extractLsb' (16 * (r.val % 2)) 16) : EReal)
  unfold codesOf wordsOf
  rw [dif_pos (by omega), dif_pos (by omega)]
  pointwise [T10, res_main_v10]
  have e1 : splits_S18944x512_w32_S18944x512x4_w8.drop (ix3 ⟨r.val / 4, by omega⟩ d ⟨r.val % 4, by omega⟩) = ix2 ⟨r.val / 4, by omega⟩ d := by
    funext a
    match a with
    | ⟨0, _⟩ => rfl
    | ⟨1, _⟩ => rfl
  have e2 : splits_S37888_w32_S37888x2_w16.drop (ix2 ⟨r.val / 2, by omega⟩ ⟨r.val % 2, by omega⟩) = ix1 ⟨r.val / 2, by omega⟩ := by
    funext a
    match a with
    | ⟨0, _⟩ => rfl
  rw [e1, e2, Nat.mul_comm (r.val % 4), Nat.mul_comm (r.val % 2)]
  show (((BitVec.signExtend 32 _).toInt : ℝ) : EReal) * _ = (((BitVec.extractLsb' _ 8 _).toInt : ℝ) : EReal) * _
  rw [BitVec.toInt_signExtend_of_le (by omega)]

theorem v37_at (b : Fin 576) (s : Fin 128) (c : Fin 512) : T37 V0 (ix3 b s c) = row0 V0 b.val c := by
  rw [← v10_at V0 ⟨b.val, by omega⟩ c]
  pointwise [T37, res_main_v37]
  rfl

theorem v15_at (hL : ∀ i, (L0 V0 i).toNat ≤ 128) (b : Fin 576) : T15 V0 (ix1 b) = BitVec.ofNat 32 (groups (L0 V0) b.val) := by
  have hg : groups (L0 V0) b.val = ((L0 V0 (ix1 b)).toNat + 15) / 16 := by unfold groups; rw [dif_pos b.isLt]
  rw [hg]
  have h := hL (ix1 b)
  refine Routing.pyDiv_ap bcast_S_S576 (res_main_v14 V0) (constantI S_ 32 16#32) (ix1 b) ?_ rfl ?_ (by decide) (by decide)
  · show L0 V0 (ix1 b) + 16#32 - 1#32 = _
    apply BitVec.eq_of_toNat_eq
    simp only [BitVec.toNat_add, BitVec.toNat_sub, BitVec.toNat_ofNat]
    omega
  · omega

theorem v27_at (hL : ∀ i, (L0 V0 i).toNat ≤ 128) (b : Fin 576) (s : Fin 128) :
    T27 V0 (ix2 b s) = BitVec.ofNat 32 (2048 + 16 * start (L0 V0) b.val + s.val) := by
  have hc := Routing.cumsum1 (N := 576) (Nm1 := 575) rfl (T15 V0) (groups (L0 V0)) (fun i => v15_at V0 hL i)
    (broadcastInDim S_ ![] bcast_S_S_ (constantI S_ 32 0#32)) rfl reduceWindows_S576_S576_w576s1p575_0 h_S_ b
  pointwise [T27, res_main_v27]
  have e : Host.reduceWindow IntOp.addi ![576] ![1] ![575] ![0] (res_main_v15 V0)
      (broadcastInDim S_ ![] bcast_S_S_ (constantI S_ 32 0#32)) reduceWindows_S576_S576_w576s1p575_0 h_S_ (ix1 b)
      = BitVec.ofNat 32 (start (L0 V0) (b.val + 1)) := hc
  have e' : res_main_v15 V0 (ix1 b) = BitVec.ofNat 32 (groups (L0 V0) b.val) := v15_at V0 hL b
  rw [e, e', start_succ]
  have h1 := start_le (L0 V0) hL b.val
  have h2 := groups_le (L0 V0) hL b.val
  show 2048#32 + 16#32 * (BitVec.ofNat 32 _ - BitVec.ofNat 32 _) + BitVec.ofNat 32 s.val = _
  apply BitVec.eq_of_toNat_eq
  simp only [BitVec.toNat_add, BitVec.toNat_sub, BitVec.toNat_mul, BitVec.toNat_ofNat]
  omega

theorem v34_at (hL : ∀ i, (L0 V0 i).toNat ≤ 128) (b : Fin 576) (s : Fin 128) (hs : s.val < (L0 V0 (ix1 b)).toNat) (d : Fin 512) :
    T34 V0 (ix3 b s d) = row0 V0 (2048 + 16 * start (L0 V0) b.val + s.val) d := by
  have h3 : start (L0 V0) (b.val + 1) ≤ 8 * 576 := (start_mono _ (by omega)).trans (start_le (L0 V0) hL 576)
  have h4 : groups (L0 V0) b.val = ((L0 V0 (ix1 b)).toNat + 15) / 16 := by unfold groups; rw [dif_pos b.isLt]
  rw [start_succ, h4] at h3
  have hr : 2048 + 16 * start (L0 V0) b.val + s.val < 75776 := by omega
  rw [← v10_at V0 ⟨_, hr⟩ d]
  refine gather_rows (res_main_v10 V0) _ b s d _ hr ?_
  have e : res_main_v27 V0 (ix2 b s) = BitVec.ofNat 32 (2048 + 16 * start (L0 V0) b.val + s.val) := v27_at V0 hL b s
  pointwise
  rw [e]
  generalize 2048 + 16 * start (L0 V0) b.val + s.val = r at hr
  have : IntOp.cmpi .slt (BitVec.ofNat 32 r) 0#32 = 0#1 := by
    show BitVec.ofBool (BitVec.slt (BitVec.ofNat 32 r) 0#32) = 0#1
    rw [BitVec.slt, StableHlo.Predicate.toInt_ofNat_small _ (by omega)]
    rw [BitVec.toInt_zero, decide_eq_false (by omega)]; rfl
  rw [this]; rfl

theorem sum4 (F : Fin 2048 → EReal) : ∑ x, F x = ∑ k : Fin 512, F ⟨k.val, by omega⟩ + (∑ k : Fin 512, F ⟨512 + k.val, by omega⟩
    + (∑ k : Fin 512, F ⟨512 + (512 + k.val), by omega⟩ + ∑ k : Fin 512, F ⟨512 + (512 + (512 + k.val)), by omega⟩)) := by
  rw [Fin.sum_univ_two_halves 512 1536 rfl, Fin.sum_univ_two_halves 512 1024 rfl, Fin.sum_univ_two_halves 512 512 rfl]

theorem v44_at (b : Fin 576) (s : Fin 128) (c : Fin 256) (h : Fin 512 → EReal) (hh : ∀ d, T34 V0 (ix3 b s d) = h d) :
    prelu (a10 V0 (ix1 c)) (T44 V0 (ix3 b s c)) = hid (net0 V0) h (row0 V0 b.val) c := by
  unfold hid tz
  congr 1
  have h34 : ∀ d, res_main_v34 V0 (ix3 b s d) = h d := hh
  have h37 : ∀ d, res_main_v37 V0 (ix3 b s d) = row0 V0 b.val d := v37_at V0 b s
  pointwise [T44, res_main_v44]
  have c0 : ∀ k : Fin 512, (⟨k.val, k.isLt⟩ : Fin 512) = k := fun k => rfl
  have c1 : ∀ k : Nat, ¬ (512 + k < 512) := by omega
  rw [sum4]
  simp only [Fin.is_lt, c1, dite_true, dite_false, Nat.add_sub_cancel_left, h34, h37]
  have e2 : ∀ k : Fin 512, (⟨512 + (512 + k.val), by omega⟩ : Fin 2048) = ⟨1024 + k.val, by omega⟩ := fun k => Fin.ext (by simp only []; omega)
  have e3 : ∀ k : Fin 512, (⟨512 + (512 + (512 + k.val)), by omega⟩ : Fin 2048) = ⟨1536 + k.val, by omega⟩ := fun k => Fin.ext (by simp only []; omega)
  simp only [e2, e3]
  show (∑ k : Fin 512, h k * w10 V0 (ix2 ⟨k.val, _⟩ c) + (∑ k : Fin 512, row0 V0 b.val k * w10 V0 (ix2 ⟨512 + k.val, _⟩ c)
      + (∑ k : Fin 512, (h k - row0 V0 b.val k) * w10 V0 (ix2 ⟨1024 + k.val, _⟩ c)
        + ∑ k : Fin 512, (h k * row0 V0 b.val k) * w10 V0 (ix2 ⟨1536 + k.val, _⟩ c))) + b10 V0 (ix1 c) : EReal)
    = (∑ k : Fin 512, h k * w10 V0 (ix2 ⟨k.val, _⟩ c) + ∑ k : Fin 512, (h k - row0 V0 b.val k) * w10 V0 (ix2 ⟨1024 + k.val, _⟩ c)
        + ∑ k : Fin 512, (h k * row0 V0 b.val k) * w10 V0 (ix2 ⟨1536 + k.val, _⟩ c))
      + (∑ k : Fin 512, row0 V0 b.val k * w10 V0 (ix2 ⟨512 + k.val, _⟩ c) + b10 V0 (ix1 c))
  abel

theorem v55_at (b : Fin 576) (s : Fin 128) (c : Fin 96) : T55 V0 (ix3 b s c)
    = (∑ k, prelu (a10 V0 (ix1 k)) (T44 V0 (ix3 b s k)) * w20 V0 (ix2 k c) + b20 V0 (ix1 c) : EReal) := by
  pointwise [T55, res_main_v55]
  rfl

/-- The result. -/
def scores : FVec Ideal S576x128 .f32 :=
  select (cmpi .slt (broadcastInDim S576x128 ![0, 1] bcast_S1x128_S576x128_0_1 (broadcastInDim S1x128 ![1] bcast_S128_S1x128_1 (iotaInDim S128 32 0)))
      (broadcastInDim S576x128 ![0, 1] bcast_S576x1_S576x128_0_1 (broadcastInDim S576x1 ![0] bcast_S576_S576x1_0 (L0 V0))))
    (addf (Host.dotGeneral (φ₁ := .bf16) (φ₂ := .bf16) dot_S576x128x96_S96_S576x128_2_0_01_n_n_n none
        (truncf .bf16 (select (cmpf .oge (T55 V0) (broadcastInDim S576x128x96 ![] bcast_S_S576x128x96 (constant S_ .f32 0x00000000#32))) (T55 V0)
          (mulf (broadcastInDim S576x128x96 ![0, 1, 2] bcast_S1x1x96_S576x128x96_0_1_2 (broadcastInDim S1x1x96 ![2] bcast_S96_S1x1x96_2 (a20 V0))) (T55 V0))) bitsLt_bf16_f32)
        (w30 V0))
      (broadcastInDim S576x128 ![] bcast_S_S576x128 (shapeCast S_ (b30 V0) shapeCasts_S1_S_)))
    (broadcastInDim S576x128 ![] bcast_S_S576x128 (id (constant S_ .f32 0x00000000#32)))

theorem scores_at (hL : ∀ i, (L0 V0 i).toNat ≤ 128) (b : Fin 576) (s : Fin 128) :
    scores V0 (ix2 b s) = value (net0 V0) (L0 V0) (codes0 V0) (words0 V0) b s := by
  unfold value
  pointwise [scores]
  have hb := hL (ix1 b)
  have hc : IntOp.cmpi .slt (BitVec.ofNat 32 s.val) (L0 V0 (ix1 b)) = 1#1 ↔ s.val < (L0 V0 (ix1 b)).toNat := by
    show BitVec.ofBool (BitVec.slt (BitVec.ofNat 32 s.val) (L0 V0 (ix1 b))) = 1#1 ↔ _
    rw [BitVec.slt, StableHlo.Predicate.toInt_ofNat_small _ (by omega), BitVec.toInt_eq_toNat_of_lt (by omega)]
    by_cases h : s.val < (L0 V0 (ix1 b)).toNat
    · rw [decide_eq_true (by omega)]; simp [h]
    · rw [decide_eq_false (by omega)]; simp [h]
  by_cases h : s.val < (L0 V0 (ix1 b)).toNat
  · rw [if_pos h, hc.2 h]
    unfold score out
    simp only [← v44_at V0 b s _ _ (v34_at V0 hL b s h)]
    show (∑ k : Fin 96, prelu (a20 V0 (ix1 k)) (T55 V0 (ix3 b s k)) * w30 V0 (ix1 k) + b30 V0 (ix1 0) : EReal) = _
    simp only [v55_at]
    rfl
  · rw [if_neg h]
    have h0 : IntOp.cmpi .slt (BitVec.ofNat 32 s.val) (L0 V0 (ix1 b)) ≠ 1#1 := fun e => h (hc.1 e)
    show (if IntOp.cmpi .slt (BitVec.ofNat 32 s.val) (L0 V0 (ix1 b)) = 1#1 then _ else _) = _
    rw [if_neg h0]
    exact Ideal.ofBits_zero .f32

end Cert.ReferenceIdeal.Value

end
-- ==== Proof.Mini.lean ====
/-
A small language for kernel code over a fixed set of buffers, and its soundness.

`Mini` has loads, stores, assumptions, counted loops and conditionals. `Mini.prog` turns such a program into a kernel
program, and `Mini.wpP` runs it on a record of buffer contents as a plain proposition. `Mini.sound` joins the
two: what `wpP` says of the record holds of the buffers after the kernel program has run. With it every fact
about the kernel's body is a fact about functions on contents.
-/
module

public import Idealize.ShloMosaic.Lib.Exec
public import Idealize.ShloMosaic.Lib.Tactic
public import Idealize.ShloMosaic.Lib.Pipeline.Kit

@[expose] public section

noncomputable section

namespace Cert.Mini

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

local notation "𝕄M" => MT nD τ sig Unit Val ℕ (UR sig nD τ) ℕ

/-- The contents `X` with the rectangle `r` overwritten by `w`. -/
def overwrite {s : Shape} {e : EltTy} (r : Rect s) (X : s.Idx → Val e) (w : r.shape.Idx → Val e) : s.Idx → Val e :=
  fun i => open Classical in if h : ∃ j, r.idx j = i then w h.choose else X i

theorem overwrite_idx {s : Shape} {e : EltTy} (r : Rect s) (X : s.Idx → Val e) (w : r.shape.Idx → Val e) (j : r.shape.Idx) :
    overwrite r X w (r.idx j) = w j := by
  unfold overwrite
  have h : ∃ j', r.idx j' = r.idx j := ⟨j, rfl⟩
  rw [dif_pos h]
  exact congrArg w (r.emb.injective h.choose_spec)

theorem overwrite_of_not {s : Shape} {e : EltTy} (r : Rect s) (X : s.Idx → Val e) (w : r.shape.Idx → Val e) (i : s.Idx)
    (h : ∀ j, r.idx j ≠ i) : overwrite r X w i = X i := by
  unfold overwrite
  rw [dif_neg (by rintro ⟨j, hj⟩; exact h j hj)]

/-- Reading a memref after an unmasked store through a rectangle of it. -/
theorem read_write_access {κ : Kind} {sp : Space} {s : Shape} {e : EltTy} (m : Memref sig κ sp s e) (r : Rect s)
    (f : m.view.ty.Contents Val) (w : r.shape.Idx → Val e) :
    m.view.read Val ((m.access r).write Val f w Finset.univ) = overwrite r (m.view.read Val f) w := by
  funext i
  by_cases h : ∃ j, r.idx j = i
  · obtain ⟨j, rfl⟩ := h
    rw [overwrite_idx]
    exact congrFun (View.read_write_univ (v := m.access r) f w) j
  · rw [overwrite_of_not _ _ _ _ (by intro j hj; exact h ⟨j, hj⟩)]
    rw [View.read_apply, View.read_apply]
    congr 1
    refine View.write_of_not_mem (v := m.access r) _ _ _ ?_
    intro hm
    obtain ⟨j, hj⟩ := by simpa [View.setOn] using hm
    exact h ⟨j, hj⟩

variable (c : Dev nD) {St : Type} (Own : St → sProp (MT nD τ sig Unit Val ℕ (UR sig nD τ) ℕ))

/-- A buffer of the record: its memref, its contents in the record, and that the record owns it. -/
structure Cell (sp : CoreSpace) (s : Shape) (e : EltTy) where
  m : Memref sig .tc sp s e
  get : St → s.Idx → Val e
  ld : ∀ σ, Own σ ⊢ iprop(∃ q, owns (c : Thread nD τ) m q (get σ) ∗ (owns (c : Thread nD τ) m q (get σ) -∗ Own σ))

/-- A buffer of the record that may be written. -/
structure WCell (sp : CoreSpace) (s : Shape) (e : EltTy) extends Cell c Own sp s e where
  set : St → (s.Idx → Val e) → St
  st : ∀ σ, Own σ ⊢ iprop(owns (c : Thread nD τ) m fullShare (get σ) ∗ (∀ X, owns (c : Thread nD τ) m fullShare X -∗ Own (set σ X)))

/-- Programs over the record: loads, stores, assumptions, counted loops (`w`: one followed by an empty return) and
    conditionals. -/
inductive Mini where
  | ret
  | ld {sp : CoreSpace} {s : Shape} {e : EltTy} (b : Cell c Own sp s e) (r : Rect s) (h : b.m.view.LoadsAt r.toLoadRect)
      (k : (r.shape.Idx → Val e) → Mini)
  | st {sp : CoreSpace} {s : Shape} {e : EltTy} (b : WCell c Own sp s e) (r : Rect s) (w : r.shape.Idx → Val e)
      (h : (b.m.access r).Stores Finset.univ) (hm : (Finset.univ : Finset r.shape.Idx) = Finset.univ ∨ ∀ a, r.stride a = 1) (k : Mini)
  | asm (p : Prop) (d : Decidable p) (k : p → Mini)
  | loop (w : Bool) (l : Scf.Loop 32) (ok : l.OK) (body : Fin l.trips → Mini) (k : Mini)
  | ite (p : Prop) (d : Decidable p) (a : p → Mini) (b : Mini)

namespace Mini

variable {c Own} {α : Type}

/-- The kernel program. -/
def prog : Mini c Own → Prog (TpuEff nD τ sig Val Λ .tc) PUnit
  | .ret => .ret ⟨⟩
  | .ld b r h k => .op (.load b.m r.toLoadRect h) fun x => (k x).prog
  | .st b r w h hm k => .op (.store b.m r w Finset.univ h hm) fun _ => k.prog
  | .asm p d k => .op (.assume p d) fun h => (k h.down).prog
  | .loop false l ok body k => Scf.Loop.for l ok ⟨⟩ (fun t _ => (body t).prog) >>= fun _ => k.prog
  | .loop true l ok body k => (Scf.Loop.for l ok ⟨⟩ (fun t _ => (body t).prog) >>= fun _ => (pure PUnit.unit : Prog (TpuEff nD τ sig Val Λ .tc) PUnit)) >>= fun _ => k.prog
  | .ite p d a b => @dite _ p d (fun h => (a h).prog) (fun _ => b.prog)

/-- What holds after running on the record `σ`. -/
def wpP : Mini c Own → St → (St → Prop) → Prop
  | .ret, σ, Q => Q σ
  | .ld b r _ k, σ, Q => (k fun j => b.get σ (r.idx j)).wpP σ Q
  | .st b r w _ _ k, σ, Q => k.wpP (b.set σ (overwrite r (b.get σ) w)) Q
  | .asm p _ k, σ, Q => ∃ h : p, (k h).wpP σ Q
  | .loop _ l _ body k, σ, Q => ∃ I : Nat → St → Prop, I 0 σ ∧ (∀ (t : Fin l.trips) σ, I t.val σ → (body t).wpP σ (I (t.val + 1))) ∧
      ∀ σ, I l.trips σ → k.wpP σ Q
  | .ite p _ a b, σ, Q => (∀ h : p, (a h).wpP σ Q) ∧ (¬ p → b.wpP σ Q)

theorem owns_ld {defs : Defs nD τ sig Val Λ} (𝒱 : Variants) (bd : Option 𝒱.V) (E : Set ℕ)
    {sp : CoreSpace} {s : Shape} {e : EltTy} {m : Memref sig .tc sp s e} {q : PosShare TreeShare} {X : s.Idx → Val e}
    {r : Rect s} {h : m.view.LoadsAt r.toLoadRect} {k : (r.shape.Idx → Val e) → Prog (TpuEff nD τ sig Val Λ .tc) α} {Q : α → sProp 𝕄M} :
    owns (c : Thread nD τ) m q X ⊢ iprop((owns (c : Thread nD τ) m q X -∗ wp frame (wpE defs 𝒱 (c : Thread nD τ) bd) E (k fun j => X (r.idx j)) Q)
      -∗ wp frame (wpE defs 𝒱 (c : Thread nD τ) bd) E (.op (.load m r.toLoadRect h) k) Q) := by
  unfold owns
  iintro ⟨%f, %hf, H⟩ HK
  subst hf
  iapply wp_load 𝒱 (c : Thread nD τ) bd E (S := m.view.set) (q := q) (f := f) (r := r.toLoadRect) (hl := h) (k := k) (View.setOn_subset_set _ _) $$ H
  iintro H
  iapply HK
  iexists f
  isplitr; · ipureintro; rfl
  iexact H

theorem owns_st {defs : Defs nD τ sig Val Λ} (𝒱 : Variants) (bd : Option 𝒱.V) (E : Set ℕ)
    {sp : CoreSpace} {s : Shape} {e : EltTy} {m : Memref sig .tc sp s e} {X : s.Idx → Val e}
    {r : Rect s} {w : r.shape.Idx → Val e} {h : (m.access r).Stores Finset.univ} {hm : (Finset.univ : Finset r.shape.Idx) = Finset.univ ∨ ∀ a, r.stride a = 1}
    {k : PUnit → Prog (TpuEff nD τ sig Val Λ .tc) α} {Q : α → sProp 𝕄M} :
    owns (c : Thread nD τ) m fullShare X ⊢ iprop((owns (c : Thread nD τ) m fullShare (overwrite r X w) -∗ wp frame (wpE defs 𝒱 (c : Thread nD τ) bd) E (k ⟨⟩) Q)
      -∗ wp frame (wpE defs 𝒱 (c : Thread nD τ) bd) E (.op (.store m r w Finset.univ h hm) k) Q) := by
  unfold owns
  iintro ⟨%f, %hf, H⟩ HK
  subst hf
  iapply wp_store 𝒱 (c : Thread nD τ) bd E (S := m.view.set) (f := f) (r := r) (w := w) (hx := h) (hm := hm) (k := k) (Mk := Finset.univ) (by rw [View.setOn_univ]; exact View.set_slice_subset _ _) $$ H
  iintro H
  iapply HK
  iexists _
  isplitr
  rotate_left
  · iexact H
  · ipureintro; exact read_write_access m r f w

/-- Soundness: what `wpP` says of the record holds of the buffers after the kernel program. -/
theorem sound {defs : Defs nD τ sig Val Λ} (𝒱 : Variants) (bd : Option 𝒱.V) (E : Set ℕ) (p : Mini c Own) :
    ∀ (σ : St) (Q : St → Prop), p.wpP σ Q →
      (Own σ ⊢ wp frame (wpE defs 𝒱 (c : Thread nD τ) bd) E p.prog fun _ => iprop(∃ σ', ⌜Q σ'⌝ ∗ Own σ')) := by
  induction p with
  | ret =>
    intro σ Q h
    unfold prog
    iintro H
    sl_step
    iexists σ
    isplitr; · ipureintro; exact h
    iexact H
  | ld b r hl k ih =>
    intro σ Q h
    unfold prog
    iintro H
    ihave H := (b.ld σ) $$ H
    icases H with ⟨%q, H, HB⟩
    iapply owns_ld (c := c) 𝒱 bd E (m := b.m) (q := q) (X := b.get σ) (r := r) (h := hl) $$ H
    iintro H
    ihave H := HB $$ H
    iapply ih _ σ Q h
    iexact H
  | st b r w hs hm k ih =>
    intro σ Q h
    unfold prog
    iintro H
    ihave H := (b.st σ) $$ H
    icases H with ⟨H, HB⟩
    iapply owns_st (c := c) 𝒱 bd E (m := b.m) (X := b.get σ) (r := r) (w := w) (h := hs) (hm := hm) $$ H
    iintro H
    ihave H := HB $$ H
    iapply ih _ Q h
    iexact H
  | asm p d k ih =>
    intro σ Q h
    obtain ⟨hp, h⟩ := h
    unfold prog
    rw [wp_assume_of 𝒱 (c : Thread nD τ) bd E hp]
    exact ih hp σ Q h
  | loop w l ok body k ihb ihk =>
    intro σ Q h
    obtain ⟨I, h0, hs, hk⟩ := h
    have hw : (Mini.loop w l ok body k).prog (Λ := Λ) = (Mini.loop false l ok body k).prog (Λ := Λ) := by
      cases w
      · rfl
      · unfold prog; rw [bind_assoc]; simp only [pure_bind]
    rw [hw]
    unfold prog
    have hL := Scf.wp_for_bind (Q := fun _ => iprop(∃ σ', ⌜Q σ'⌝ ∗ Own σ')) (kk := fun _ => k.prog)
      frame (wpE defs 𝒱 (c : Thread nD τ) bd) E l.lb l.ub l.st ok ⟨⟩ (fun t _ => (body t).prog)
      (fun n _ => iprop(∃ σ', ⌜I n σ'⌝ ∗ Own σ')) (by
        intro t _
        iintro ⟨%σ', %hI, H⟩
        iapply ihb t σ' _ (hs t σ' hI)
        iexact H)
    iintro H
    iapply hL $$ [H]
    · iexists σ
      isplitr; · ipureintro; exact h0
      iexact H
    · iintro %u ⟨%σ', %hI, H⟩
      iapply ihk σ' Q (hk σ' hI)
      iexact H
  | ite p d a b iha ihb =>
    intro σ Q h
    unfold prog
    by_cases hp : p
    · rw [dif_pos hp]
      exact iha hp σ Q (h.1 hp)
    · rw [dif_neg hp]
      exact ihb σ Q (h.2 hp)

/-- What holds after running only grows with the post. -/
theorem wpP_mono (p : Mini c Own) : ∀ {σ : St} {Q Q' : St → Prop}, (∀ σ, Q σ → Q' σ) → p.wpP σ Q → p.wpP σ Q' := by
  induction p with
  | ret => intro σ Q Q' h H; exact h _ H
  | ld b r hl k ih => intro σ Q Q' h H; exact ih _ h H
  | st b r w hs hm k ih => intro σ Q Q' h H; exact ih h H
  | asm p d k ih => intro σ Q Q' h ⟨hp, H⟩; exact ⟨hp, ih hp h H⟩
  | loop w l ok body k ihb ihk => intro σ Q Q' h ⟨I, h0, hs, hk⟩; exact ⟨I, h0, hs, fun σ hI => ihk h (hk σ hI)⟩
  | ite p d a b iha ihb => intro σ Q Q' h H; exact ⟨fun hp => iha hp h (H.1 hp), fun hp => ihb h (H.2 hp)⟩

end Mini

end Cert.Mini

end
-- ==== Proof.State.lean ====
/-
The buffers of the scoring kernel as one record of memrefs and one record of contents, and for each buffer the
cell that lets the small language of `Mini` read it and, for an output or a scratch buffer, write it.
-/
module

public import proofs.«01_k».proof.Proof.Mini
public import proofs.«01_k».proof.Proof.Gen.KernelIdeal

@[expose] public section

noncomputable section

namespace Cert.KernelIdeal.Rolled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.Mini

/-- The kernel's buffers, each whole. -/
structure Mems where
  a1 : Memref sig .tc .smem S4608 .i32
  w1 : a1.IsWhole
  a2 : Memref sig .tc .vmem S144x512 .i32
  w2 : a2.IsWhole
  a3 : Memref sig .tc .vmem S8x128 .i32
  w3 : a3.IsWhole
  a4 : Memref sig .tc .vmem S512x512 .i32
  w4 : a4.IsWhole
  a5 : Memref sig .tc .vmem S8x128 .i32
  w5 : a5.IsWhole
  a6 : Memref sig .tc .vmem S2048x256 .bf16
  w6 : a6.IsWhole
  a7 : Memref sig .tc .vmem S1x256 .f32
  w7 : a7.IsWhole
  a8 : Memref sig .tc .vmem S1x256 .f32
  w8 : a8.IsWhole
  a9 : Memref sig .tc .vmem S256x128 .bf16
  w9 : a9.IsWhole
  a10 : Memref sig .tc .vmem S1x128 .f32
  w10 : a10.IsWhole
  a11 : Memref sig .tc .vmem S1x128 .f32
  w11 : a11.IsWhole
  a12 : Memref sig .tc .vmem S1x128 .f32
  w12 : a12.IsWhole
  a13 : Memref sig .tc .smem S1 .f32
  w13 : a13.IsWhole
  a14 : Memref sig .tc .vmem S576x512 .bf16
  w14 : a14.IsWhole
  a15 : Memref sig .tc .vmem S576x128 .f32
  w15 : a15.IsWhole
  a16 : Memref sig .tc .vmem S576x512 .bf16
  w16 : a16.IsWhole
  a17 : Memref sig .tc .vmem S9232x512 .bf16
  w17 : a17.IsWhole
  a18 : Memref sig .tc .vmem S4616x256 .f32
  w18 : a18.IsWhole
  a19 : Memref sig .tc .vmem S512x1536 .bf16
  w19 : a19.IsWhole
  a20 : Memref sig .tc .vmem S512x256 .bf16
  w20 : a20.IsWhole
  a21 : Memref sig .tc .vmem S4616x512 .f32
  w21 : a21.IsWhole
  a22 : Memref sig .tc .vmem S4616x128 .f32
  w22 : a22.IsWhole

variable (F : FTy → Type) [FloatOps F]

/-- What the buffers hold. -/
structure St where
  x1 : S4608.Idx → Elt F .i32
  x2 : S144x512.Idx → Elt F .i32
  x3 : S8x128.Idx → Elt F .i32
  x4 : S512x512.Idx → Elt F .i32
  x5 : S8x128.Idx → Elt F .i32
  x6 : S2048x256.Idx → Elt F .bf16
  x7 : S1x256.Idx → Elt F .f32
  x8 : S1x256.Idx → Elt F .f32
  x9 : S256x128.Idx → Elt F .bf16
  x10 : S1x128.Idx → Elt F .f32
  x11 : S1x128.Idx → Elt F .f32
  x12 : S1x128.Idx → Elt F .f32
  x13 : S1.Idx → Elt F .f32
  x14 : S576x512.Idx → Elt F .bf16
  x15 : S576x128.Idx → Elt F .f32
  x16 : S576x512.Idx → Elt F .bf16
  x17 : S9232x512.Idx → Elt F .bf16
  x18 : S4616x256.Idx → Elt F .f32
  x19 : S512x1536.Idx → Elt F .bf16
  x20 : S512x256.Idx → Elt F .bf16
  x21 : S4616x512.Idx → Elt F .f32
  x22 : S4616x128.Idx → Elt F .f32

variable {F} (c : Dev nD) (M : Mems) (qs : Fin 14 → PosShare TreeShare)

/-- The buffers' ownership: the table and the inputs at a share each, the others in full. -/
def Own (σ : St F) : sProp (MT nD τ sig Unit (Elt F) ℕ (UR sig nD τ) ℕ) :=
  iprop(owns (c : Thread nD τ) M.a1 (qs 1) σ.x1 ∗
    owns (c : Thread nD τ) M.a2 (qs 2) σ.x2 ∗
    owns (c : Thread nD τ) M.a3 (qs 3) σ.x3 ∗
    owns (c : Thread nD τ) M.a4 (qs 4) σ.x4 ∗
    owns (c : Thread nD τ) M.a5 (qs 5) σ.x5 ∗
    owns (c : Thread nD τ) M.a6 (qs 6) σ.x6 ∗
    owns (c : Thread nD τ) M.a7 (qs 7) σ.x7 ∗
    owns (c : Thread nD τ) M.a8 (qs 8) σ.x8 ∗
    owns (c : Thread nD τ) M.a9 (qs 9) σ.x9 ∗
    owns (c : Thread nD τ) M.a10 (qs 10) σ.x10 ∗
    owns (c : Thread nD τ) M.a11 (qs 11) σ.x11 ∗
    owns (c : Thread nD τ) M.a12 (qs 12) σ.x12 ∗
    owns (c : Thread nD τ) M.a13 (qs 13) σ.x13 ∗
    owns (c : Thread nD τ) M.a14 fullShare σ.x14 ∗
    owns (c : Thread nD τ) M.a15 fullShare σ.x15 ∗
    owns (c : Thread nD τ) M.a16 fullShare σ.x16 ∗
    owns (c : Thread nD τ) M.a17 fullShare σ.x17 ∗
    owns (c : Thread nD τ) M.a18 fullShare σ.x18 ∗
    owns (c : Thread nD τ) M.a19 fullShare σ.x19 ∗
    owns (c : Thread nD τ) M.a20 fullShare σ.x20 ∗
    owns (c : Thread nD τ) M.a21 fullShare σ.x21 ∗
    owns (c : Thread nD τ) M.a22 fullShare σ.x22)

def c1 : Cell c (Own (F := F) c M qs) .smem S4608 .i32 where
  m := M.a1
  get := St.x1
  ld := by
    intro σ; unfold Own
    iintro ⟨H1, H2, H3, H4, H5, H6, H7, H8, H9, H10, H11, H12, H13, H14, H15, H16, H17, H18, H19, H20, H21, H22⟩
    iexists qs 1
    isplitl [H1]; · iexact H1
    iintro H; iframe

def c2 : Cell c (Own (F := F) c M qs) .vmem S144x512 .i32 where
  m := M.a2
  get := St.x2
  ld := by
    intro σ; unfold Own
    iintro ⟨H1, H2, H3, H4, H5, H6, H7, H8, H9, H10, H11, H12, H13, H14, H15, H16, H17, H18, H19, H20, H21, H22⟩
    iexists qs 2
    isplitl [H2]; · iexact H2
    iintro H; iframe

def c3 : Cell c (Own (F := F) c M qs) .vmem S8x128 .i32 where
  m := M.a3
  get := St.x3
  ld := by
    intro σ; unfold Own
    iintro ⟨H1, H2, H3, H4, H5, H6, H7, H8, H9, H10, H11, H12, H13, H14, H15, H16, H17, H18, H19, H20, H21, H22⟩
    iexists qs 3
    isplitl [H3]; · iexact H3
    iintro H; iframe

def c4 : Cell c (Own (F := F) c M qs) .vmem S512x512 .i32 where
  m := M.a4
  get := St.x4
  ld := by
    intro σ; unfold Own
    iintro ⟨H1, H2, H3, H4, H5, H6, H7, H8, H9, H10, H11, H12, H13, H14, H15, H16, H17, H18, H19, H20, H21, H22⟩
    iexists qs 4
    isplitl [H4]; · iexact H4
    iintro H; iframe

def c5 : Cell c (Own (F := F) c M qs) .vmem S8x128 .i32 where
  m := M.a5
  get := St.x5
  ld := by
    intro σ; unfold Own
    iintro ⟨H1, H2, H3, H4, H5, H6, H7, H8, H9, H10, H11, H12, H13, H14, H15, H16, H17, H18, H19, H20, H21, H22⟩
    iexists qs 5
    isplitl [H5]; · iexact H5
    iintro H; iframe

def c6 : Cell c (Own (F := F) c M qs) .vmem S2048x256 .bf16 where
  m := M.a6
  get := St.x6
  ld := by
    intro σ; unfold Own
    iintro ⟨H1, H2, H3, H4, H5, H6, H7, H8, H9, H10, H11, H12, H13, H14, H15, H16, H17, H18, H19, H20, H21, H22⟩
    iexists qs 6
    isplitl [H6]; · iexact H6
    iintro H; iframe

def c7 : Cell c (Own (F := F) c M qs) .vmem S1x256 .f32 where
  m := M.a7
  get := St.x7
  ld := by
    intro σ; unfold Own
    iintro ⟨H1, H2, H3, H4, H5, H6, H7, H8, H9, H10, H11, H12, H13, H14, H15, H16, H17, H18, H19, H20, H21, H22⟩
    iexists qs 7
    isplitl [H7]; · iexact H7
    iintro H; iframe

def c8 : Cell c (Own (F := F) c M qs) .vmem S1x256 .f32 where
  m := M.a8
  get := St.x8
  ld := by
    intro σ; unfold Own
    iintro ⟨H1, H2, H3, H4, H5, H6, H7, H8, H9, H10, H11, H12, H13, H14, H15, H16, H17, H18, H19, H20, H21, H22⟩
    iexists qs 8
    isplitl [H8]; · iexact H8
    iintro H; iframe

def c9 : Cell c (Own (F := F) c M qs) .vmem S256x128 .bf16 where
  m := M.a9
  get := St.x9
  ld := by
    intro σ; unfold Own
    iintro ⟨H1, H2, H3, H4, H5, H6, H7, H8, H9, H10, H11, H12, H13, H14, H15, H16, H17, H18, H19, H20, H21, H22⟩
    iexists qs 9
    isplitl [H9]; · iexact H9
    iintro H; iframe

def c10 : Cell c (Own (F := F) c M qs) .vmem S1x128 .f32 where
  m := M.a10
  get := St.x10
  ld := by
    intro σ; unfold Own
    iintro ⟨H1, H2, H3, H4, H5, H6, H7, H8, H9, H10, H11, H12, H13, H14, H15, H16, H17, H18, H19, H20, H21, H22⟩
    iexists qs 10
    isplitl [H10]; · iexact H10
    iintro H; iframe

def c11 : Cell c (Own (F := F) c M qs) .vmem S1x128 .f32 where
  m := M.a11
  get := St.x11
  ld := by
    intro σ; unfold Own
    iintro ⟨H1, H2, H3, H4, H5, H6, H7, H8, H9, H10, H11, H12, H13, H14, H15, H16, H17, H18, H19, H20, H21, H22⟩
    iexists qs 11
    isplitl [H11]; · iexact H11
    iintro H; iframe

def c12 : Cell c (Own (F := F) c M qs) .vmem S1x128 .f32 where
  m := M.a12
  get := St.x12
  ld := by
    intro σ; unfold Own
    iintro ⟨H1, H2, H3, H4, H5, H6, H7, H8, H9, H10, H11, H12, H13, H14, H15, H16, H17, H18, H19, H20, H21, H22⟩
    iexists qs 12
    isplitl [H12]; · iexact H12
    iintro H; iframe

def c13 : Cell c (Own (F := F) c M qs) .smem S1 .f32 where
  m := M.a13
  get := St.x13
  ld := by
    intro σ; unfold Own
    iintro ⟨H1, H2, H3, H4, H5, H6, H7, H8, H9, H10, H11, H12, H13, H14, H15, H16, H17, H18, H19, H20, H21, H22⟩
    iexists qs 13
    isplitl [H13]; · iexact H13
    iintro H; iframe

def c14 : WCell c (Own (F := F) c M qs) .vmem S576x512 .bf16 where
  m := M.a14
  get := St.x14
  set σ X := { σ with x14 := X }
  ld := by
    intro σ; unfold Own
    iintro ⟨H1, H2, H3, H4, H5, H6, H7, H8, H9, H10, H11, H12, H13, H14, H15, H16, H17, H18, H19, H20, H21, H22⟩
    iexists fullShare
    isplitl [H14]; · iexact H14
    iintro H; iframe
  st := by
    intro σ; unfold Own
    iintro ⟨H1, H2, H3, H4, H5, H6, H7, H8, H9, H10, H11, H12, H13, H14, H15, H16, H17, H18, H19, H20, H21, H22⟩
    isplitl [H14]; · iexact H14
    iintro %X H; iframe

def c15 : WCell c (Own (F := F) c M qs) .vmem S576x128 .f32 where
  m := M.a15
  get := St.x15
  set σ X := { σ with x15 := X }
  ld := by
    intro σ; unfold Own
    iintro ⟨H1, H2, H3, H4, H5, H6, H7, H8, H9, H10, H11, H12, H13, H14, H15, H16, H17, H18, H19, H20, H21, H22⟩
    iexists fullShare
    isplitl [H15]; · iexact H15
    iintro H; iframe
  st := by
    intro σ; unfold Own
    iintro ⟨H1, H2, H3, H4, H5, H6, H7, H8, H9, H10, H11, H12, H13, H14, H15, H16, H17, H18, H19, H20, H21, H22⟩
    isplitl [H15]; · iexact H15
    iintro %X H; iframe

def c16 : WCell c (Own (F := F) c M qs) .vmem S576x512 .bf16 where
  m := M.a16
  get := St.x16
  set σ X := { σ with x16 := X }
  ld := by
    intro σ; unfold Own
    iintro ⟨H1, H2, H3, H4, H5, H6, H7, H8, H9, H10, H11, H12, H13, H14, H15, H16, H17, H18, H19, H20, H21, H22⟩
    iexists fullShare
    isplitl [H16]; · iexact H16
    iintro H; iframe
  st := by
    intro σ; unfold Own
    iintro ⟨H1, H2, H3, H4, H5, H6, H7, H8, H9, H10, H11, H12, H13, H14, H15, H16, H17, H18, H19, H20, H21, H22⟩
    isplitl [H16]; · iexact H16
    iintro %X H; iframe

def c17 : WCell c (Own (F := F) c M qs) .vmem S9232x512 .bf16 where
  m := M.a17
  get := St.x17
  set σ X := { σ with x17 := X }
  ld := by
    intro σ; unfold Own
    iintro ⟨H1, H2, H3, H4, H5, H6, H7, H8, H9, H10, H11, H12, H13, H14, H15, H16, H17, H18, H19, H20, H21, H22⟩
    iexists fullShare
    isplitl [H17]; · iexact H17
    iintro H; iframe
  st := by
    intro σ; unfold Own
    iintro ⟨H1, H2, H3, H4, H5, H6, H7, H8, H9, H10, H11, H12, H13, H14, H15, H16, H17, H18, H19, H20, H21, H22⟩
    isplitl [H17]; · iexact H17
    iintro %X H; iframe

def c18 : WCell c (Own (F := F) c M qs) .vmem S4616x256 .f32 where
  m := M.a18
  get := St.x18
  set σ X := { σ with x18 := X }
  ld := by
    intro σ; unfold Own
    iintro ⟨H1, H2, H3, H4, H5, H6, H7, H8, H9, H10, H11, H12, H13, H14, H15, H16, H17, H18, H19, H20, H21, H22⟩
    iexists fullShare
    isplitl [H18]; · iexact H18
    iintro H; iframe
  st := by
    intro σ; unfold Own
    iintro ⟨H1, H2, H3, H4, H5, H6, H7, H8, H9, H10, H11, H12, H13, H14, H15, H16, H17, H18, H19, H20, H21, H22⟩
    isplitl [H18]; · iexact H18
    iintro %X H; iframe

def c19 : WCell c (Own (F := F) c M qs) .vmem S512x1536 .bf16 where
  m := M.a19
  get := St.x19
  set σ X := { σ with x19 := X }
  ld := by
    intro σ; unfold Own
    iintro ⟨H1, H2, H3, H4, H5, H6, H7, H8, H9, H10, H11, H12, H13, H14, H15, H16, H17, H18, H19, H20, H21, H22⟩
    iexists fullShare
    isplitl [H19]; · iexact H19
    iintro H; iframe
  st := by
    intro σ; unfold Own
    iintro ⟨H1, H2, H3, H4, H5, H6, H7, H8, H9, H10, H11, H12, H13, H14, H15, H16, H17, H18, H19, H20, H21, H22⟩
    isplitl [H19]; · iexact H19
    iintro %X H; iframe

def c20 : WCell c (Own (F := F) c M qs) .vmem S512x256 .bf16 where
  m := M.a20
  get := St.x20
  set σ X := { σ with x20 := X }
  ld := by
    intro σ; unfold Own
    iintro ⟨H1, H2, H3, H4, H5, H6, H7, H8, H9, H10, H11, H12, H13, H14, H15, H16, H17, H18, H19, H20, H21, H22⟩
    iexists fullShare
    isplitl [H20]; · iexact H20
    iintro H; iframe
  st := by
    intro σ; unfold Own
    iintro ⟨H1, H2, H3, H4, H5, H6, H7, H8, H9, H10, H11, H12, H13, H14, H15, H16, H17, H18, H19, H20, H21, H22⟩
    isplitl [H20]; · iexact H20
    iintro %X H; iframe

def c21 : WCell c (Own (F := F) c M qs) .vmem S4616x512 .f32 where
  m := M.a21
  get := St.x21
  set σ X := { σ with x21 := X }
  ld := by
    intro σ; unfold Own
    iintro ⟨H1, H2, H3, H4, H5, H6, H7, H8, H9, H10, H11, H12, H13, H14, H15, H16, H17, H18, H19, H20, H21, H22⟩
    iexists fullShare
    isplitl [H21]; · iexact H21
    iintro H; iframe
  st := by
    intro σ; unfold Own
    iintro ⟨H1, H2, H3, H4, H5, H6, H7, H8, H9, H10, H11, H12, H13, H14, H15, H16, H17, H18, H19, H20, H21, H22⟩
    isplitl [H21]; · iexact H21
    iintro %X H; iframe

def c22 : WCell c (Own (F := F) c M qs) .vmem S4616x128 .f32 where
  m := M.a22
  get := St.x22
  set σ X := { σ with x22 := X }
  ld := by
    intro σ; unfold Own
    iintro ⟨H1, H2, H3, H4, H5, H6, H7, H8, H9, H10, H11, H12, H13, H14, H15, H16, H17, H18, H19, H20, H21, H22⟩
    iexists fullShare
    isplitl [H22]; · iexact H22
    iintro H; iframe
  st := by
    intro σ; unfold Own
    iintro ⟨H1, H2, H3, H4, H5, H6, H7, H8, H9, H10, H11, H12, H13, H14, H15, H16, H17, H18, H19, H20, H21, H22⟩
    isplitl [H22]; · iexact H22
    iintro %X H; iframe

end Cert.KernelIdeal.Rolled
-- ==== Proof.Rolled.lean ====
/-
The body of the kernel's inner loop, written with the 32 groups of a block as recursions in place of 32 copies.
-/
module

public import proofs.«01_k».proof.Proof.State
public import proofs.«01_k».proof.Proof.Gen.KernelIdeal.Skeleton

@[expose] public section

set_option maxRecDepth 16384

noncomputable section

namespace Cert.KernelIdeal.Rolled

open Idealize.ShloMosaic Idealize.ShloMosaic.TcCoe Idealize.ShloMosaic.Tactic
open Idealize.SL Idealize.SL.RA Idealize.SL.BI
open Idealize.SL.Sem
open Cert.KernelIdeal Cert.KernelIdeal.Facts₀ Cert.KernelIdeal.Facts Cert.Mini

variable {F : FTy → Type} [FloatOps F]

/-! ## The rectangles of a group -/

theorem inb19 (k : Fin 32) (j : Fin 3) : ∀ a, (![16 * k.val, 512 * j.val] : Fin 2 → Nat) a + S16x512.size a ≤ S512x1536.size a := by
  revert j k; decide

theorem packed19 (k : Fin 32) (j : Fin 3) :
    (Rect.unit (s := S512x1536) ![16 * k.val, 512 * j.val] S16x512.size (inb19 k j)).PackedRows (EltTy.packing .bf16) := by
  revert j k; decide

theorem inb20 (k : Fin 32) : ∀ a, (![16 * k.val, 0] : Fin 2 → Nat) a + S16x256.size a ≤ S512x256.size a := by
  revert k; decide

theorem packed20 (k : Fin 32) :
    (Rect.unit (s := S512x256) ![16 * k.val, 0] S16x256.size (inb20 k)).PackedRows (EltTy.packing .bf16) := by
  revert k; decide

theorem inb16 (k : Fin 36) : ∀ a, (![16 * k.val, 0] : Fin 2 → Nat) a + S16x512.size a ≤ S576x512.size a := by
  revert k; decide

theorem packed16 (k : Fin 36) :
    (Rect.unit (s := S576x512) ![16 * k.val, 0] S16x512.size (inb16 k)).PackedRows (EltTy.packing .bf16) := by
  revert k; decide

theorem inb2 (p : Fin 18) : ∀ a, (![8 * p.val, 0] : Fin 2 → Nat) a + S8x512.size a ≤ S144x512.size a := by
  revert p; decide

theorem inb3 (k : Fin 3) : ∀ a, (![k.val, 0] : Fin 2 → Nat) a + S1x128.size a ≤ S8x128.size a := by
  revert k; decide

theorem slices32 (g : Fin 2) : S32x512.Slices ![16 * g.val, 0] S16x512 := by revert g; decide
theorem slicesZ (k : Fin 32) : S512x256.Slices ![16 * k.val, 0] S16x256 := by revert k; decide
theorem slicesS (k : Fin 32) (g : Fin 2) : S512x1.Slices ![16 * k.val + 8 * g.val, 0] S8x1 := by revert g k; decide
theorem slicesT (k : Fin 16) : S16x256.Slices ![k.val, 0] S1x256 := by revert k; decide
theorem slicesR (k : Fin 16) : S16x512.Slices ![k.val, 0] S1x512 := by revert k; decide

/-! ## What a group computes -/

/-- The lane an index vector asks for, for the eight pairs of rows from `j` on. -/
def gatherAt (j : BitVec 32) : IVec S8x128 32 :=
  have i : IVec S8x128 32 := addi (iota .tc S8x128 32 [0] iota_S8x128_d0_w32) (broadcast S8x128 j)
  shapeCast S8x128 (shapeCast S8x128x1
    (select (cmpi .slt i (broadcast S8x128 0#32)) (addi i (broadcast S8x128 128#32)) i)
    shapeCasts_S8x128_S8x128x1) shapeCasts_S8x128x1_S8x128

/-- The scales of sixteen rows, each along 128 lanes. -/
def scaleRows (row : Vec F S1x128 .i32) (j : BitVec 32) : FVec F S16x128 .bf16 :=
  bitcastToFloat .bf16 (bitcast S16x128 16 (dynamicGather 1
    (broadcastTo S8x128 (shapeCast S1x128 (shapeCast S1x128 row shapeCasts_S1x128_S1x128 : IVec S1x128 32) shapeCasts_S1x128_S1x128)
      broadcasts_S1x128_S8x128 : IVec S8x128 32) (gatherAt j)) bitcasts_S8x128_w32_S16x128_w16)

/-- The codes of 32 rows as numbers. -/
def codeRows (w : Vec F S8x512 .i32) : FVec F S32x512 .bf16 :=
  sitofp .bf16 (bitcast S32x512 8 (w : IVec S8x512 32) bitcasts_S8x512_w32_S32x512_w8)

/-- Sixteen dequantised rows: half `g` of 32 rows of codes, times their scales. -/
def rows (code : FVec F S32x512 .bf16) (g : Fin 2) (row : Vec F S1x128 .i32) (j : BitVec 32) : FVec F S16x512 .bf16 :=
  have s := scaleRows (F := F) row j
  mulf (extractStridedSlice S16x512 ![16 * g.val, 0] code (slices32 g))
    (concatenate S16x512 1 [⟨S16x128, s⟩, ⟨S16x128, s⟩, ⟨S16x128, s⟩, ⟨S16x128, s⟩]
      concatenates_S16x128_S16x128_S16x128_S16x128_S16x512_d1)

/-- The block's first layer before the target's part. -/
def z1Of (x0 : Vec F S512x512 .bf16) (u0 : Vec F S512x256 .bf16) (x1 : Vec F S512x512 .bf16) (u1 : Vec F S512x256 .bf16)
    (x2 : Vec F S512x512 .bf16) (u2 : Vec F S512x256 .bf16) : FVec F S512x256 .f32 :=
  addf (addf
    (matmul (φ₁ := .bf16) (φ₂ := .bf16) dot_S512x512_S512x256_S512x256_1_0_0_1_n_n none x0 u0 (constant S512x256 .f32 0x00000000#32))
    (matmul (φ₁ := .bf16) (φ₂ := .bf16) dot_S512x512_S512x256_S512x256_1_0_0_1_n_n none x1 u1 (constant S512x256 .f32 0x00000000#32)))
    (matmul (φ₁ := .bf16) (φ₂ := .bf16) dot_S512x512_S512x256_S512x256_1_0_0_1_n_n none x2 u2 (constant S512x256 .f32 0x00000000#32))

/-- The first hidden layer of a group. -/
def d1Of (z1 : FVec F S512x256 .f32) (k : Fin 32) (t8 : Vec F S8x256 .f32) (a : Vec F S1x256 .f32) : FVec F S16x256 .bf16 :=
  have z : FVec F S16x256 .f32 := addf (extractStridedSlice S16x256 ![16 * k.val, 0] z1 (slicesZ k))
    (concatenate S16x256 0 [⟨S8x256, (t8 : FVec F S8x256 .f32)⟩, ⟨S8x256, (t8 : FVec F S8x256 .f32)⟩] concatenates_S8x256_S8x256_S16x256_d0)
  shapeCast S16x256 (truncf .bf16 (select (cmpf .oge z (broadcast S16x256 (Scalar.ofBits .f32 0x00000000#32))) z
    (mulf (broadcastTo S16x256 (shapeCast S1x256 (a : FVec F S1x256 .f32) shapeCasts_S1x256_S1x256) broadcasts_S1x256_S16x256) z)) bitsLt_bf16_f32)
    shapeCasts_S16x256_S16x256

/-- The scores of the block's 512 rows. -/
def scOf (d1 : Vec F S512x256 .bf16) (u : Vec F S256x128 .bf16) (b2 a2 w3 : Vec F S1x128 .f32) (b3 : Elt F .f32) : FVec F S512x1 .f32 :=
  have z : FVec F S512x128 .f32 := addf
    (matmul (φ₁ := .bf16) (φ₂ := .bf16) dot_S512x256_S256x128_S512x128_1_0_0_1_n_n none d1
      (shapeCast S256x128 u shapeCasts_S256x128_S256x128 : FVec F S256x128 .bf16) (constant S512x128 .f32 0x00000000#32))
    (broadcastTo S512x128 (shapeCast S1x128 (b2 : FVec F S1x128 .f32) shapeCasts_S1x128_S1x128) broadcasts_S1x128_S512x128)
  have d : FVec F S512x128 .bf16 := truncf .bf16 (select (cmpf .oge z (broadcast S512x128 (Scalar.ofBits .f32 0x00000000#32))) z
    (mulf (broadcastTo S512x128 (shapeCast S1x128 (a2 : FVec F S1x128 .f32) shapeCasts_S1x128_S1x128) broadcasts_S1x128_S512x128) z)) bitsLt_bf16_f32
  have p : FVec F S512x128 .f32 := mulf (extf .f32 d bitsLt_bf16_f32)
    (broadcastTo S512x128 (shapeCast S1x128 (w3 : FVec F S1x128 .f32) shapeCasts_S1x128_S1x128) broadcasts_S1x128_S512x128)
  addf (shapeCast S512x1 (multiReduction .add [1] S512 p 0x00000000#32 reduces_S512x128_S512 (.inl rfl) rfl) shapeCasts_S512_S512x1)
    (broadcast S512x1 b3)

/-- Half `g` of a group's scores along 128 lanes, zero from row `n` on. -/
def maskedOf (sc : FVec F S512x1 .f32) (k : Fin 32) (g : Fin 2) (n : BitVec 32) : FVec F S8x128 .f32 :=
  select (cmpi .slt (iota .tc S8x128 32 [0] iota_S8x128_d0_w32 : IVec S8x128 32) (broadcast S8x128 n))
    (broadcastTo S8x128 (shapeCast S8x1 (extractStridedSlice S8x1 ![16 * k.val + 8 * g.val, 0] sc (slicesS k g)) shapeCasts_S8x1_S8x1) broadcasts_S8x1_S8x128)
    (broadcast S8x128 (Scalar.ofBits .f32 0x00000000#32))

/-- A group's word split: how many of its rows count, and the position of its first row. -/
def nValid (v : BitVec 32) : BitVec 32 := Scalar.shrui v 24#32
def sFirst (v : BitVec 32) : BitVec 32 := Scalar.andi (Scalar.shrui v 16#32) 255#32

def loOf (sc : FVec F S512x1 .f32) (k : Fin 32) (v : BitVec 32) : FVec F S8x128 .f32 := maskedOf sc k 0 (nValid v)
def hiOf (sc : FVec F S512x1 .f32) (k : Fin 32) (v : BitVec 32) : FVec F S8x128 .f32 := maskedOf sc k 1 (Scalar.subi (nValid v) 8#32)

/-- A group's part of the weighted sum, added to what is there. -/
def accOf (sc : FVec F S512x1 .f32) (k : Fin 32) (v : BitVec 32) (h : Vec F S16x512 .bf16) (acc : Vec F S8x512 .f32) : FVec F S8x512 .f32 :=
  have lo := loOf sc k v
  have hi := hiOf sc k v
  have x : FVec F S16x512 .f32 := extf .f32 (h : FVec F S16x512 .bf16) bitsLt_bf16_f32
  shapeCast S8x512 (addf (acc : FVec F S8x512 .f32)
    (addf (mulf (extractStridedSlice S8x512 ![0, 0] x slices_S16x512_o0_0_S8x512)
        (concatenate S8x512 1 [⟨S8x128, lo⟩, ⟨S8x128, lo⟩, ⟨S8x128, lo⟩, ⟨S8x128, lo⟩] concatenates_S8x128_S8x128_S8x128_S8x128_S8x512_d1))
      (mulf (extractStridedSlice S8x512 ![8, 0] x slices_S16x512_o8_0_S8x512)
        (concatenate S8x512 1 [⟨S8x128, hi⟩, ⟨S8x128, hi⟩, ⟨S8x128, hi⟩, ⟨S8x128, hi⟩] concatenates_S8x128_S8x128_S8x128_S8x128_S8x512_d1))))
    shapeCasts_S8x512_S8x512

/-- Lane minus row. -/
def diag : IVec S8x128 32 :=
  subi (iota .tc S8x128 32 [1] iota_S8x128_d1_w32) (iota .tc S8x128 32 [0] iota_S8x128_d0_w32)

/-- A group's scores, each on its own lane, added to what is there. -/
def posOf (sc : FVec F S512x1 .f32) (k : Fin 32) (v : BitVec 32) (acc : Vec F S8x128 .f32) : FVec F S8x128 .f32 :=
  shapeCast S8x128 (addf (acc : FVec F S8x128 .f32)
    (addf (select (cmpi .eq diag (broadcast S8x128 (sFirst v))) (loOf sc k v) (broadcast S8x128 (Scalar.ofBits .f32 0x00000000#32)))
      (select (cmpi .eq diag (broadcast S8x128 (Scalar.addi (sFirst v) 8#32))) (hiOf sc k v) (broadcast S8x128 (Scalar.ofBits .f32 0x00000000#32)))))
    shapeCasts_S8x128_S8x128

/-! ## The loop body -/

variable (c : Dev nD) (M : Mems) (qs : Fin 14 → PosShare TreeShare)

/-- A table word that passed the kernel's bounds checks. -/
abbrev GW := {v : BitVec 32 // k0_chk2 v}

/-- `f` with the value at `n` replaced. -/
def upd {α : Type} (f : Nat → α) (n : Nat) (v : α) : Nat → α := fun j => bif Nat.beq j n then v else f j

local notation "MM" => Mini c (Own (F := F) c M qs)

/-- Run `step` for each of the last `n` of `N` indices. -/
def foldFin {α : Type} {N : Nat} (step : Fin N → α → α) (cont : α) : (n : Nat) → n ≤ N → α
  | 0, _ => cont
  | n + 1, h => step ⟨N - (n + 1), by omega⟩ (foldFin step cont n (by omega))

variable {c M qs} in
def wordG (arg0 : BitVec 32) (hw1 : k0_chk1 arg0) (t : Fin k0_t3_loop.trips) (k : Fin 32) (cont : GW → MM) : MM :=
  .ld (c1 c M qs) (Rect.unit (s := S4608) (k0_off6 arg0 t (BitVec.ofNat 32 k.val)) S1.size (k0_off6_inb arg0 hw1 t k))
    (View.loadsAt_rect (View.loads_smem_one rfl numel1_S1)) fun f =>
    .asm (k0_chk2 (f (Shape.Idx.first (numel1_S1.symm ▸ Nat.one_pos))))
      (k0_chk2.dec (f (Shape.Idx.first (numel1_S1.symm ▸ Nat.one_pos)))) fun h => cont ⟨_, h⟩

variable {c M qs} in
def wordsG (arg0 : BitVec 32) (hw1 : k0_chk1 arg0) (t : Fin k0_t3_loop.trips) (cont : (Nat → GW) → MM) :
    (n : Nat) → n ≤ 32 → (Nat → GW) → MM
  | 0, _, f => cont f
  | n + 1, h, f => wordG arg0 hw1 t ⟨32 - (n + 1), by omega⟩ fun w =>
      wordsG arg0 hw1 t cont n (by omega) (upd f (32 - (n + 1)) w)

variable {c M qs} in
/-- One store of a group's rows into a third of the block's feature buffer. -/
def put19 (k : Fin 32) (j : Fin 3) (x : FVec F S16x512 .bf16) (cont : MM) : MM :=
  .ld (c19 c M qs).toCell (Rect.unit (s := S512x1536) ![16 * k.val, 512 * j.val] S16x512.size (inb19 k j)) (View.loadsAt_vmem h_S16x512) fun _ =>
  .st (c19 c M qs) (Rect.unit (s := S512x1536) ![16 * k.val, 512 * j.val] S16x512.size (inb19 k j)) (shapeCast S16x512 x shapeCasts_S16x512_S16x512)
    (View.stores_vmem h_S16x512 (M.w19.storeExact_slice rfl _ (packed19 k j)) (fun _ => rfl)) (.inl rfl) cont

variable {c M qs} in
/-- One group's features. -/
def halfG (t : Fin k0_t3_loop.trips) (f : Nat → GW) (code : FVec F S32x512 .bf16) (p : Fin 16) (g : Fin 2) (cont : MM) : MM :=
  .ld (c5 c M qs) (Rect.unit (s := S8x128) (k0_off8 t (BitVec.ofNat 32 (p.val / 8))) S1x128.size (k0_off8_inb t ⟨p.val / 8, by omega⟩))
    (View.loadsAt_vmem h_S1x128) fun row =>
  .ld (c17 c M qs).toCell (Rect.unit (s := S9232x512) (k0_off9 (f (2 * p.val + g.val)).1) S16x512.size (k0_off9_inb _ (f (2 * p.val + g.val)).2))
    (View.loadsAt_vmem h_S16x512) fun tt =>
  put19 ⟨2 * p.val + g.val, by omega⟩ 0 (rows code g row (BitVec.ofNat 32 (8 * ((2 * p.val + g.val) % 16)))) <|
  put19 ⟨2 * p.val + g.val, by omega⟩ 1 (subf (rows code g row (BitVec.ofNat 32 (8 * ((2 * p.val + g.val) % 16)))) tt) <|
  put19 ⟨2 * p.val + g.val, by omega⟩ 2 (mulf (rows code g row (BitVec.ofNat 32 (8 * ((2 * p.val + g.val) % 16)))) tt) cont

variable {c M qs} in
/-- Two groups' features. -/
def pairG (t : Fin k0_t3_loop.trips) (f : Nat → GW) (p : Fin 16) (cont : MM) : MM :=
  .ld (c4 c M qs) (Rect.unit (s := S512x512) (k0_off7 t (BitVec.ofNat 32 (8 * p.val))) S8x512.size (k0_off7_inb t p)) (View.loadsAt_vmem h_S8x512) fun w =>
  halfG t f (codeRows w) p 0 (halfG t f (codeRows w) p 1 cont)

variable {c M qs} in
/-- The first layer's three products. -/
def z1G (cont : FVec F S512x256 .f32 → MM) : MM :=
  .ld (c19 c M qs).toCell (Rect.unit (s := S512x1536) ![0, 0] S512x512.size inb_S512x1536_S512x512_0_0) (View.loadsAt_vmem h_S512x512) fun x0 =>
  .ld (c6 c M qs) (Rect.unit (s := S2048x256) ![0, 0] S512x256.size inb_S2048x256_S512x256_0_0) (View.loadsAt_vmem h_S512x256) fun u0 =>
  .ld (c19 c M qs).toCell (Rect.unit (s := S512x1536) ![0, 512] S512x512.size inb_S512x1536_S512x512_0_512) (View.loadsAt_vmem h_S512x512) fun x1 =>
  .ld (c6 c M qs) (Rect.unit (s := S2048x256) ![1024, 0] S512x256.size inb_S2048x256_S512x256_1024_0) (View.loadsAt_vmem h_S512x256) fun u1 =>
  .ld (c19 c M qs).toCell (Rect.unit (s := S512x1536) ![0, 1024] S512x512.size inb_S512x1536_S512x512_0_1024) (View.loadsAt_vmem h_S512x512) fun x2 =>
  .ld (c6 c M qs) (Rect.unit (s := S2048x256) ![1536, 0] S512x256.size inb_S2048x256_S512x256_1536_0) (View.loadsAt_vmem h_S512x256) fun u2 =>
  cont (z1Of x0 u0 x1 u1 x2 u2)

variable {c M qs} in
/-- A group's first hidden layer. -/
def d1G (f : Nat → GW) (z1 : FVec F S512x256 .f32) (k : Fin 32) (cont : MM) : MM :=
  .ld (c18 c M qs).toCell (Rect.unit (s := S4616x256) (k0_off41 (f k.val).1) S8x256.size (k0_off41_inb _ (f k.val).2)) (View.loadsAt_vmem h_S8x256) fun t8 =>
  .ld (c8 c M qs) (Rect.unit (s := S1x256) ![0, 0] S1x256.size inb_S1x256_S1x256_0_0) (View.loadsAt_vmem h_S1x256) fun a =>
  .ld (c20 c M qs).toCell (Rect.unit (s := S512x256) ![16 * k.val, 0] S16x256.size (inb20 k)) (View.loadsAt_vmem h_S16x256) fun _ =>
  .st (c20 c M qs) (Rect.unit (s := S512x256) ![16 * k.val, 0] S16x256.size (inb20 k)) (d1Of z1 k t8 a)
    (View.stores_vmem h_S16x256 (M.w20.storeExact_slice rfl _ (packed20 k)) (fun _ => rfl)) (.inl rfl) cont

variable {c M qs} in
/-- The block's scores. -/
def scG (cont : FVec F S512x1 .f32 → MM) : MM :=
  .ld (c20 c M qs).toCell (Rect.unit (s := S512x256) ![0, 0] S512x256.size inb_S512x256_S512x256_0_0) (View.loadsAt_vmem h_S512x256) fun d1 =>
  .ld (c9 c M qs) (Rect.unit (s := S256x128) ![0, 0] S256x128.size inb_S256x128_S256x128_0_0) (View.loadsAt_vmem h_S256x128) fun u =>
  .ld (c10 c M qs) (Rect.unit (s := S1x128) ![0, 0] S1x128.size inb_S1x128_S1x128_0_0) (View.loadsAt_vmem h_S1x128) fun b2 =>
  .ld (c11 c M qs) (Rect.unit (s := S1x128) ![0, 0] S1x128.size inb_S1x128_S1x128_0_0) (View.loadsAt_vmem h_S1x128) fun a2 =>
  .ld (c12 c M qs) (Rect.unit (s := S1x128) ![0, 0] S1x128.size inb_S1x128_S1x128_0_0) (View.loadsAt_vmem h_S1x128) fun w3 =>
  .ld (c13 c M qs) (Rect.unit (s := S1) ![0] S1.size inb_S1_S1_0) (View.loadsAt_rect (View.loads_smem_one rfl numel1_S1)) fun b3 =>
  cont (scOf d1 u b2 a2 w3 (b3 (Shape.Idx.first (numel1_S1.symm ▸ Nat.one_pos))))

variable {c M qs} in
/-- A group's two accumulations. -/
def accG (f : Nat → GW) (sc : FVec F S512x1 .f32) (k : Fin 32) (cont : MM) : MM :=
  .ld (c19 c M qs).toCell (Rect.unit (s := S512x1536) ![16 * k.val, 0] S16x512.size (inb19 k 0)) (View.loadsAt_vmem h_S16x512) fun h =>
  .ld (c21 c M qs).toCell (Rect.unit (s := S4616x512) (k0_off73 (f k.val).1) S8x512.size (k0_off73_inb _ (f k.val).2)) (View.loadsAt_vmem h_S8x512) fun acc =>
  .ld (c21 c M qs).toCell (Rect.unit (s := S4616x512) (k0_off73 (f k.val).1) S8x512.size (k0_off73_inb _ (f k.val).2)) (View.loadsAt_vmem h_S8x512) fun _ =>
  .st (c21 c M qs) (Rect.unit (s := S4616x512) (k0_off73 (f k.val).1) S8x512.size (k0_off73_inb _ (f k.val).2)) (accOf sc k (f k.val).1 h acc)
    (View.stores_vmem_bits_univ h_S8x512 rfl) (.inl rfl) <|
  .ld (c22 c M qs).toCell (Rect.unit (s := S4616x128) (k0_off74 (f k.val).1) S8x128.size (k0_off74_inb _ (f k.val).2)) (View.loadsAt_vmem h_S8x128) fun pos =>
  .ld (c22 c M qs).toCell (Rect.unit (s := S4616x128) (k0_off74 (f k.val).1) S8x128.size (k0_off74_inb _ (f k.val).2)) (View.loadsAt_vmem h_S8x128) fun _ =>
  .st (c22 c M qs) (Rect.unit (s := S4616x128) (k0_off74 (f k.val).1) S8x128.size (k0_off74_inb _ (f k.val).2)) (posOf sc k (f k.val).1 pos)
    (View.stores_vmem_bits_univ h_S8x128 rfl) (.inl rfl) cont

/-- A word that passes the checks. -/
def gw0 : GW := ⟨0#32, by decide⟩

/-- The loop body. -/
def t3 (arg0 : BitVec 32) (hw1 : k0_chk1 arg0) (t : Fin k0_t3_loop.trips) : MM :=
  wordsG arg0 hw1 t (fun f =>
    foldFin (pairG t f) (z1G fun z1 => foldFin (d1G f z1) (scG fun sc => foldFin (accG f sc) .ret 32 (by omega)) 32 (by omega)) 16 (by omega))
    32 (by omega) (fun _ => gw0)

theorem t3_eq (b : grid0.Bounds) (i : grid0.Static) (arg0 : BitVec 32) (hw1 : k0_chk1 arg0) (t : Fin k0_t3_loop.trips) :
    Gen.k0_t3_body (F := F) b i arg0 M.a1 M.w1 M.a2 M.w2 M.a3 M.w3 M.a4 M.w4 M.a5 M.w5 M.a6 M.w6 M.a7 M.w7 M.a8 M.w8 M.a9 M.w9 M.a10 M.w10
      M.a11 M.w11 M.a12 M.w12 M.a13 M.w13 M.a14 M.w14 M.a15 M.w15 M.a16 M.w16 M.a17 M.w17 M.a18 M.w18 M.a19 M.w19 M.a20 M.w20
      M.a21 M.w21 M.a22 M.w22 hw1 (iota .tc S8x128 32 [0] iota_S8x128_d0_w32) t ()
      = (t3 c M qs arg0 hw1 t).prog := by
  sl_kernel_rfl

end Cert.KernelIdeal.Rolled
-- ==== Proof.Body.lean ====
/-
The kernel's whole body over the record of buffers: the first step's preparation, the loop over a block's
quarters, and the last step's reduction.
-/
module

public import proofs.«01_k».proof.Proof.Rolled

@[expose] public section

set_option maxRecDepth 16384

noncomputable section

namespace Cert.KernelIdeal.Rolled

open Idealize.ShloMosaic Idealize.ShloMosaic.TcCoe Idealize.ShloMosaic.Tactic
open Idealize.SL Idealize.SL.RA Idealize.SL.BI
open Idealize.SL.Sem
open Cert.KernelIdeal Cert.KernelIdeal.Facts₀ Cert.KernelIdeal.Facts Cert.Mini

variable {F : FTy → Type} [FloatOps F] {c : Dev nD} {M : Mems} {qs : Fin 14 → PosShare TreeShare}

local notation "MM" => Mini c (Own (F := F) c M qs)

def zero512 : FVec F S8x512 .f32 := shapeCast S8x512 (broadcast S8x512 (Scalar.ofBits .f32 0x00000000#32 : F .f32)) shapeCasts_S8x512_S8x512
def zero128 : FVec F S8x128 .f32 := shapeCast S8x128 (broadcast S8x128 (Scalar.ofBits .f32 0x00000000#32 : F .f32)) shapeCasts_S8x128_S8x128
def zero256 : FVec F S8x256 .f32 := shapeCast S8x256 (broadcast S8x256 (Scalar.ofBits .f32 0x00000000#32 : F .f32)) shapeCasts_S8x256_S8x256
def zeroRows : FVec F S16x512 .bf16 := shapeCast S16x512 (broadcast S16x512 (Scalar.ofBits .bf16 0x0000#16 : F .bf16)) shapeCasts_S16x512_S16x512

/-- Clear one user's accumulators. -/
def t1 (t : Fin k0_t1_loop.trips) : MM :=
  .ld (c21 c M qs).toCell (Rect.unit (s := S4616x512) (k0_off1 t) S8x512.size (k0_off1_inb t)) (View.loadsAt_vmem h_S8x512) fun _ =>
  .st (c21 c M qs) (Rect.unit (s := S4616x512) (k0_off1 t) S8x512.size (k0_off1_inb t)) zero512 (View.stores_vmem_bits_univ h_S8x512 rfl) (.inl rfl) <|
  .ld (c22 c M qs).toCell (Rect.unit (s := S4616x128) (k0_off2 t) S8x128.size (k0_off2_inb t)) (View.loadsAt_vmem h_S8x128) fun _ =>
  .st (c22 c M qs) (Rect.unit (s := S4616x128) (k0_off2 t) S8x128.size (k0_off2_inb t)) zero128 (View.stores_vmem_bits_univ h_S8x128 rfl) (.inl rfl) .ret

/-- Sixteen target rows. -/
def tgtHalf (code : FVec F S32x512 .bf16) (p : Fin 18) (g : Fin 2) (cont : MM) : MM :=
  .ld (c3 c M qs) (Rect.unit (s := S8x128) ![p.val / 8, 0] S1x128.size (inb3 ⟨p.val / 8, by omega⟩)) (View.loadsAt_vmem h_S1x128) fun row =>
  .ld (c16 c M qs).toCell (Rect.unit (s := S576x512) ![16 * (2 * p.val + g.val), 0] S16x512.size (inb16 ⟨2 * p.val + g.val, by omega⟩)) (View.loadsAt_vmem h_S16x512) fun _ =>
  .st (c16 c M qs) (Rect.unit (s := S576x512) ![16 * (2 * p.val + g.val), 0] S16x512.size (inb16 ⟨2 * p.val + g.val, by omega⟩))
    (shapeCast S16x512 (rows code g row (BitVec.ofNat 32 (8 * ((2 * p.val + g.val) % 16)))) shapeCasts_S16x512_S16x512)
    (View.stores_vmem h_S16x512 (M.w16.storeExact_slice rfl _ (packed16 ⟨2 * p.val + g.val, by omega⟩)) (fun _ => rfl)) (.inl rfl) cont

/-- Thirty-two target rows. -/
def tgtPair (p : Fin 18) (cont : MM) : MM :=
  .ld (c2 c M qs) (Rect.unit (s := S144x512) ![8 * p.val, 0] S8x512.size (inb2 p)) (View.loadsAt_vmem h_S8x512) fun w =>
  tgtHalf (codeRows w) p 0 (tgtHalf (codeRows w) p 1 cont)

/-- The target's part of the first layer for sixteen users. -/
def tzOf (t : Vec F S16x512 .bf16) (u : Vec F S512x256 .bf16) (b : Vec F S1x256 .f32) : FVec F S16x256 .f32 :=
  addf (matmul (φ₁ := .bf16) (φ₂ := .bf16) dot_S16x512_S512x256_S16x256_1_0_0_1_n_n none t u (constant S16x256 .f32 0x00000000#32))
    (broadcastTo S16x256 (shapeCast S1x256 (b : FVec F S1x256 .f32) shapeCasts_S1x256_S1x256) broadcasts_S1x256_S16x256)

/-- One user's row of it, eight times. -/
def tz8 (tz : FVec F S16x256 .f32) (k : Fin 16) : FVec F S8x256 .f32 :=
  shapeCast S8x256 (broadcastTo S8x256 (shapeCast S1x256 (extractStridedSlice S1x256 ![k.val, 0] tz (slicesT k)) shapeCasts_S1x256_S1x256) broadcasts_S1x256_S8x256) shapeCasts_S8x256_S8x256

/-- One user's target row, sixteen times. -/
def t16 (t : Vec F S16x512 .bf16) (k : Fin 16) : FVec F S16x512 .bf16 :=
  shapeCast S16x512 (broadcastTo S16x512 (shapeCast S1x512 (extractStridedSlice S1x512 ![k.val, 0] (t : FVec F S16x512 .bf16) (slicesR k)) shapeCasts_S1x512_S1x512) broadcasts_S1x512_S16x512) shapeCasts_S16x512_S16x512

/-- One user's copies of its target row and of the target's part of the first layer. -/
def dupG (t : Fin k0_t2_loop.trips) (x : Vec F S16x512 .bf16) (tz : FVec F S16x256 .f32) (k : Fin 16) (cont : MM) : MM :=
  .ld (c18 c M qs).toCell (Rect.unit (s := S4616x256) (k0_off4 t (BitVec.ofNat 32 (8 * k.val))) S8x256.size (k0_off4_inb t k)) (View.loadsAt_vmem h_S8x256) fun _ =>
  .st (c18 c M qs) (Rect.unit (s := S4616x256) (k0_off4 t (BitVec.ofNat 32 (8 * k.val))) S8x256.size (k0_off4_inb t k)) (tz8 tz k)
    (View.stores_vmem_bits_univ h_S8x256 rfl) (.inl rfl) <|
  .ld (c17 c M qs).toCell (Rect.unit (s := S9232x512) (k0_off5 t (BitVec.ofNat 32 (16 * k.val))) S16x512.size (k0_off5_inb t k)) (View.loadsAt_vmem h_S16x512) fun _ =>
  .st (c17 c M qs) (Rect.unit (s := S9232x512) (k0_off5 t (BitVec.ofNat 32 (16 * k.val))) S16x512.size (k0_off5_inb t k)) (t16 x k)
    (View.stores_vmem h_S16x512 (M.w17.storeExact_slice rfl _ (k0_off5_packedbf16 t k)) (fun _ => rfl)) (.inl rfl) cont

def t2 (t : Fin k0_t2_loop.trips) : MM :=
  .ld (c16 c M qs).toCell (Rect.unit (s := S576x512) (k0_off3 t) S16x512.size (k0_off3_inb t)) (View.loadsAt_vmem h_S16x512) fun x =>
  .ld (c6 c M qs) (Rect.unit (s := S2048x256) ![512, 0] S512x256.size inb_S2048x256_S512x256_512_0) (View.loadsAt_vmem h_S512x256) fun u =>
  .ld (c7 c M qs) (Rect.unit (s := S1x256) ![0, 0] S1x256.size inb_S1x256_S1x256_0_0) (View.loadsAt_vmem h_S1x256) fun b =>
  foldFin (dupG t x (tzOf x u b)) .ret 16 (by omega)

/-- The first step's preparation. -/
def initM (cont : MM) : MM :=
  .loop false k0_t1_loop k0_t1_ok t1 <|
  foldFin tgtPair (.loop true k0_t2_loop k0_t2_ok t2 cont) 18 (by omega)

/-- The dummy user's rows are zero. -/
def dummyM (cont : MM) : MM :=
  .ld (c18 c M qs).toCell (Rect.unit (s := S4616x256) ![4608, 0] S8x256.size inb_S4616x256_S8x256_4608_0) (View.loadsAt_vmem h_S8x256) fun _ =>
  .st (c18 c M qs) (Rect.unit (s := S4616x256) ![4608, 0] S8x256.size inb_S4616x256_S8x256_4608_0) zero256 (View.stores_vmem_bits_univ h_S8x256 rfl) (.inl rfl) <|
  .ld (c17 c M qs).toCell (Rect.unit (s := S9232x512) ![9216, 0] S16x512.size inb_S9232x512_S16x512_9216_0) (View.loadsAt_vmem h_S16x512) fun _ =>
  .st (c17 c M qs) (Rect.unit (s := S9232x512) ![9216, 0] S16x512.size inb_S9232x512_S16x512_9216_0) zeroRows
    (View.stores_vmem h_S16x512 (M.w17.storeExact_slice rfl _ packedbf16_S9232x512_S16x512_9216_0) (fun _ => rfl)) (.inl rfl) cont

def sum512 (x : Vec F S128x512 .f32) : FVec F S16x512 .bf16 :=
  truncf .bf16 (multiReduction .add [1] S16x512 (shapeCast S16x8x512 (x : FVec F S128x512 .f32) shapeCasts_S128x512_S16x8x512) 0x00000000#32 reduces_S16x8x512_S16x512 (.inl rfl) rfl) bitsLt_bf16_f32

def sum128 (x : Vec F S128x128 .f32) : FVec F S16x128 .f32 :=
  multiReduction .add [1] S16x128 (shapeCast S16x8x128 (x : FVec F S128x128 .f32) shapeCasts_S128x128_S16x8x128) 0x00000000#32 reduces_S16x8x128_S16x128 (.inl rfl) rfl

/-- The last step's reduction for sixteen users. -/
def t4 (t : Fin k0_t4_loop.trips) : MM :=
  .ld (c21 c M qs).toCell (Rect.unit (s := S4616x512) (k0_off137 t) S128x512.size (k0_off137_inb t)) (View.loadsAt_vmem h_S128x512) fun x =>
  .ld (c14 c M qs).toCell (Rect.unit (s := S576x512) (k0_off138 t) S16x512.size (k0_off138_inb t)) (View.loadsAt_vmem h_S16x512) fun _ =>
  .st (c14 c M qs) (Rect.unit (s := S576x512) (k0_off138 t) S16x512.size (k0_off138_inb t)) (sum512 x)
    (View.stores_vmem h_S16x512 (M.w14.storeExact_slice rfl _ (k0_off138_packedbf16 t)) (fun _ => rfl)) (.inl rfl) <|
  .ld (c22 c M qs).toCell (Rect.unit (s := S4616x128) (k0_off139 t) S128x128.size (k0_off139_inb t)) (View.loadsAt_vmem h_S128x128) fun y =>
  .ld (c15 c M qs).toCell (Rect.unit (s := S576x128) (k0_off140 t) S16x128.size (k0_off140_inb t)) (View.loadsAt_vmem h_S16x128) fun _ =>
  .st (c15 c M qs) (Rect.unit (s := S576x128) (k0_off140 t) S16x128.size (k0_off140_inb t)) (sum128 y)
    (View.stores_vmem_bits_univ h_S16x128 rfl) (.inl rfl) .ret

/-- What every step runs. -/
def restM (n arg0 : BitVec 32) (hw1 : k0_chk1 arg0) : MM :=
  .loop false k0_t3_loop k0_t3_ok (t3 c M qs arg0 hw1) <|
  .ite (k0_cond2 arg0 n = 1#1) inferInstance (fun _ => .loop false k0_t4_loop k0_t4_ok t4 .ret) .ret

def isFirst (arg0 : BitVec 32) : Prop := Scalar.cmpi .ne (Scalar.extui (Scalar.cmpi .eq arg0 0#32) : BitVec 32) 0#32 = 1#1

/-- The body. -/
def bodyM (n arg0 : BitVec 32) : MM :=
  .asm (k0_chk1 arg0) (k0_chk1.dec arg0) fun hw1 =>
  .ite (isFirst arg0) (inferInstanceAs (Decidable (Scalar.cmpi .ne (Scalar.extui (Scalar.cmpi .eq arg0 0#32) : BitVec 32) 0#32 = 1#1)))
    (fun _ => initM (dummyM (restM n arg0 hw1))) (restM n arg0 hw1)

theorem init_eq (b : grid0.Bounds) (i : grid0.Static) (arg0 : BitVec 32) (cont : MM) :
    (k0_part27 (F := F) b i arg0 M.a1 M.w1 M.a2 M.w2 M.a3 M.w3 M.a4 M.w4 M.a5 M.w5 M.a6 M.w6 M.a7 M.w7 M.a8 M.w8 M.a9 M.w9 M.a10 M.w10
      M.a11 M.w11 M.a12 M.w12 M.a13 M.w13 M.a14 M.w14 M.a15 M.w15 M.a16 M.w16 M.a17 M.w17 M.a18 M.w18 M.a19 M.w19 M.a20 M.w20
      M.a21 M.w21 M.a22 M.w22 >>= fun _ => cont.prog) = (initM cont).prog := by
  rw [Gen.k0_part27_eq_skeleton]
  unfold Gen.k0_part27_skel
  rw [Gen.k0_part8_eq_skeleton]
  unfold Gen.k0_part8_skel
  rw [bind_assoc, bind_assoc]
  sl_kernel_rfl

theorem body_eq (b : grid0.Bounds) (i : grid0.Static) (arg0 : BitVec 32) :
    cc0_score_rows_0 (F := F) b i arg0 M.a1 M.w1 M.a2 M.w2 M.a3 M.w3 M.a4 M.w4 M.a5 M.w5 M.a6 M.w6 M.a7 M.w7 M.a8 M.w8 M.a9 M.w9 M.a10 M.w10
      M.a11 M.w11 M.a12 M.w12 M.a13 M.w13 M.a14 M.w14 M.a15 M.w15 M.a16 M.w16 M.a17 M.w17 M.a18 M.w18 M.a19 M.w19 M.a20 M.w20
      M.a21 M.w21 M.a22 M.w22 = (bodyM (c := c) (M := M) (qs := qs) (BitVec.ofNat 32 (b 0)) arg0).prog := by
  rw [Gen.cc0_score_rows_0_eq_skeleton]
  have h : Gen.cc0_score_rows_0_skel (F := F) b i arg0 M.a1 M.w1 M.a2 M.w2 M.a3 M.w3 M.a4 M.w4 M.a5 M.w5 M.a6 M.w6 M.a7 M.w7 M.a8 M.w8 M.a9 M.w9 M.a10 M.w10
      M.a11 M.w11 M.a12 M.w12 M.a13 M.w13 M.a14 M.w14 M.a15 M.w15 M.a16 M.w16 M.a17 M.w17 M.a18 M.w18 M.a19 M.w19 M.a20 M.w20
      M.a21 M.w21 M.a22 M.w22
      = .op (.assume (k0_chk1 arg0) (k0_chk1.dec arg0)) (fun hw =>
          if Scalar.cmpi .ne (Scalar.extui (Scalar.cmpi .eq arg0 0#32) : BitVec 32) 0#32 = 1#1 then
            k0_part27 (F := F) b i arg0 M.a1 M.w1 M.a2 M.w2 M.a3 M.w3 M.a4 M.w4 M.a5 M.w5 M.a6 M.w6 M.a7 M.w7 M.a8 M.w8 M.a9 M.w9 M.a10 M.w10
              M.a11 M.w11 M.a12 M.w12 M.a13 M.w13 M.a14 M.w14 M.a15 M.w15 M.a16 M.w16 M.a17 M.w17 M.a18 M.w18 M.a19 M.w19 M.a20 M.w20
              M.a21 M.w21 M.a22 M.w22 >>= fun _ => (dummyM (c := c) (M := M) (qs := qs) (restM (BitVec.ofNat 32 (b 0)) arg0 hw.down)).prog
          else (restM (c := c) (M := M) (qs := qs) (BitVec.ofNat 32 (b 0)) arg0 hw.down).prog) := by
    sl_kernel_rfl
  rw [h]
  simp only [init_eq]
  rfl

end Cert.KernelIdeal.Rolled
-- ==== Proof.Sem.lean ====
/-
What the kernel's body does to the contents of its buffers, as functions on the record of contents, and the rule
that runs the body on them: the first step's preparation and the last step's reduction as functions, the loop over
a block's quarters by an invariant.
-/
module

public import proofs.«01_k».proof.Proof.Body

@[expose] public section

set_option maxRecDepth 16384

noncomputable section

namespace Cert.KernelIdeal.Rolled

open Idealize.ShloMosaic Idealize.ShloMosaic.TcCoe Idealize.ShloMosaic.Tactic
open Idealize.SL Idealize.SL.RA Idealize.SL.BI
open Idealize.SL.Sem
open Cert.KernelIdeal Cert.KernelIdeal.Facts₀ Cert.KernelIdeal.Facts Cert.Mini

variable {F : FTy → Type} [FloatOps F] {c : Dev nD} {M : Mems} {qs : Fin 14 → PosShare TreeShare}

local notation "MM" => Mini c (Own (F := F) c M qs)

/-- Two contents with the same inputs. -/
structure SameIn (σ σ' : St F) : Prop where
  e1 : σ'.x1 = σ.x1
  e2 : σ'.x2 = σ.x2
  e3 : σ'.x3 = σ.x3
  e4 : σ'.x4 = σ.x4
  e5 : σ'.x5 = σ.x5
  e6 : σ'.x6 = σ.x6
  e7 : σ'.x7 = σ.x7
  e8 : σ'.x8 = σ.x8
  e9 : σ'.x9 = σ.x9
  e10 : σ'.x10 = σ.x10
  e11 : σ'.x11 = σ.x11
  e12 : σ'.x12 = σ.x12
  e13 : σ'.x13 = σ.x13

theorem SameIn.refl (σ : St F) : SameIn σ σ := ⟨rfl, rfl, rfl, rfl, rfl, rfl, rfl, rfl, rfl, rfl, rfl, rfl, rfl⟩

theorem SameIn.trans {σ σ' σ'' : St F} (h : SameIn σ σ') (h' : SameIn σ' σ'') : SameIn σ σ'' :=
  ⟨h'.e1.trans h.e1, h'.e2.trans h.e2, h'.e3.trans h.e3, h'.e4.trans h.e4, h'.e5.trans h.e5, h'.e6.trans h.e6, h'.e7.trans h.e7,
    h'.e8.trans h.e8, h'.e9.trans h.e9, h'.e10.trans h.e10, h'.e11.trans h.e11, h'.e12.trans h.e12, h'.e13.trans h.e13⟩

/-! ## Folds and loops of functions -/

/-- Apply `f` for the last `n` of `N` indices, the smallest first. -/
def runFin {α : Type} {N : Nat} (f : Fin N → α → α) : (n : Nat) → n ≤ N → α → α
  | 0, _, x => x
  | n + 1, h, x => runFin f n (by omega) (f ⟨N - (n + 1), by omega⟩ x)

/-- Apply `f` for the indices below `n`. -/
def iterN {α : Type} {N : Nat} (f : Fin N → α → α) : Nat → α → α
  | 0, x => x
  | n + 1, x => if h : n < N then f ⟨n, h⟩ (iterN f n x) else iterN f n x

theorem runFin_inv {α : Type} {N : Nat} (f : Fin N → α → α) (J : Nat → α → Prop)
    (hf : ∀ k x, J k.val x → J (k.val + 1) (f k x)) :
    ∀ (n : Nat) (h : n ≤ N) (x : α), J (N - n) x → J N (runFin f n h x)
  | 0, _, x, hx => by simpa [runFin] using hx
  | n + 1, h, x, hx => by
    unfold runFin
    refine runFin_inv f J hf n (by omega) _ ?_
    have := hf ⟨N - (n + 1), by omega⟩ x hx
    have e : N - (n + 1) + 1 = N - n := by omega
    simpa [e] using this

theorem iterN_inv {α : Type} {N : Nat} (f : Fin N → α → α) (J : Nat → α → Prop)
    (hf : ∀ k x, J k.val x → J (k.val + 1) (f k x)) (x : α) (hx : J 0 x) : ∀ n, n ≤ N → J n (iterN f n x)
  | 0, _ => hx
  | n + 1, h => by
    unfold iterN
    rw [dif_pos (by omega : n < N)]
    exact hf ⟨n, by omega⟩ _ (iterN_inv f J hf x hx n (by omega))

theorem wp_foldFin {N : Nat} (step : Fin N → MM → MM) (f : Fin N → St F → St F) (Q : St F → Prop)
    (hs : ∀ k cont σ, cont.wpP (f k σ) Q → (step k cont).wpP σ Q) (cont : MM) :
    ∀ (n : Nat) (h : n ≤ N) (σ : St F), cont.wpP (runFin f n h σ) Q → (foldFin step cont n h).wpP σ Q
  | 0, _, _, h => h
  | n + 1, _, _, h => hs _ _ _ (wp_foldFin step f Q hs cont n _ _ h)

theorem wp_iter (w : Bool) (l : Scf.Loop 32) (ok : l.OK) (body : Fin l.trips → MM) (f : Fin l.trips → St F → St F) (k : MM)
    (hb : ∀ t σ (Q : St F → Prop), Q (f t σ) → (body t).wpP σ Q) (σ : St F) (Q : St F → Prop)
    (h : k.wpP (iterN f l.trips σ) Q) : (Mini.loop w l ok body k).wpP σ Q :=
  ⟨fun i σ' => σ' = iterN f i σ, rfl, fun t σ' e => hb _ _ _ (by
    subst e; show _ = iterN f (t.val + 1) σ
    rw [iterN, dif_pos t.isLt]), fun σ' e => by subst e; exact h⟩

/-! ## The first step's preparation -/

def t1F (t : Fin k0_t1_loop.trips) (σ : St F) : St F :=
  { σ with
    x21 := overwrite (Rect.unit (s := S4616x512) (k0_off1 t) S8x512.size (k0_off1_inb t)) σ.x21 zero512
    x22 := overwrite (Rect.unit (s := S4616x128) (k0_off2 t) S8x128.size (k0_off2_inb t)) σ.x22 zero128 }

theorem t1_wp (t : Fin k0_t1_loop.trips) (σ : St F) (Q : St F → Prop)
    (h : Q (t1F t σ)) : (t1 t : MM).wpP σ Q := by
  have e : (t1 t : MM).wpP σ Q = Q (t1F t σ) := by sl_kernel_rfl
  exact Eq.mpr e h

def tgtHalfF (code : FVec F S32x512 .bf16) (p : Fin 18) (g : Fin 2) (σ : St F) : St F :=
  { σ with
    x16 := overwrite (Rect.unit (s := S576x512) ![16 * (2 * p.val + g.val), 0] S16x512.size (inb16 ⟨2 * p.val + g.val, by omega⟩)) σ.x16
      (shapeCast S16x512 (rows code g (fun j => σ.x3 ((Rect.unit (s := S8x128) ![p.val / 8, 0] S1x128.size (inb3 ⟨p.val / 8, by omega⟩)).idx j))
        (BitVec.ofNat 32 (8 * ((2 * p.val + g.val) % 16)))) shapeCasts_S16x512_S16x512) }

def tgtPairF (p : Fin 18) (σ : St F) : St F :=
  have code := codeRows (F := F) fun j => σ.x2 ((Rect.unit (s := S144x512) ![8 * p.val, 0] S8x512.size (inb2 p)).idx j)
  tgtHalfF code p 1 (tgtHalfF code p 0 σ)

theorem tgtPair_wp (p : Fin 18) (cont : MM) (σ : St F) (Q : St F → Prop)
    (h : cont.wpP (tgtPairF p σ) Q) : (tgtPair p cont).wpP σ Q := by
  have e : (tgtPair p cont).wpP σ Q = cont.wpP (tgtPairF p σ) Q := by sl_kernel_rfl
  exact Eq.mpr e h

def dupF (t : Fin k0_t2_loop.trips) (x : Vec F S16x512 .bf16) (tz : FVec F S16x256 .f32) (k : Fin 16) (σ : St F) : St F :=
  { σ with
    x18 := overwrite (Rect.unit (s := S4616x256) (k0_off4 t (BitVec.ofNat 32 (8 * k.val))) S8x256.size (k0_off4_inb t k)) σ.x18 (tz8 tz k)
    x17 := overwrite (Rect.unit (s := S9232x512) (k0_off5 t (BitVec.ofNat 32 (16 * k.val))) S16x512.size (k0_off5_inb t k)) σ.x17 (t16 x k) }

theorem dup_wp (t : Fin k0_t2_loop.trips) (x : Vec F S16x512 .bf16) (tz : FVec F S16x256 .f32) (k : Fin 16) (cont : MM) (σ : St F)
    (Q : St F → Prop)
    (h : cont.wpP (dupF t x tz k σ) Q) : (dupG t x tz k cont).wpP σ Q := by
  have e : (dupG t x tz k cont).wpP σ Q = cont.wpP (dupF t x tz k σ) Q := by sl_kernel_rfl
  exact Eq.mpr e h

def t2x (t : Fin k0_t2_loop.trips) (σ : St F) : Vec F S16x512 .bf16 :=
  fun j => σ.x16 ((Rect.unit (s := S576x512) (k0_off3 t) S16x512.size (k0_off3_inb t)).idx j)

def t2z (t : Fin k0_t2_loop.trips) (σ : St F) : FVec F S16x256 .f32 :=
  tzOf (t2x t σ) (fun j => σ.x6 ((Rect.unit (s := S2048x256) ![512, 0] S512x256.size inb_S2048x256_S512x256_512_0).idx j))
    (fun j => σ.x7 ((Rect.unit (s := S1x256) ![0, 0] S1x256.size inb_S1x256_S1x256_0_0).idx j))

def t2F (t : Fin k0_t2_loop.trips) (σ : St F) : St F := runFin (dupF t (t2x t σ) (t2z t σ)) 16 (by omega) σ

theorem t2_wp (t : Fin k0_t2_loop.trips) (σ : St F) (Q : St F → Prop) (h : Q (t2F t σ)) : (t2 t : MM).wpP σ Q := by
  have e : (t2 t : MM).wpP σ Q = (foldFin (dupG t (t2x t σ) (t2z t σ)) .ret 16 (by omega) : MM).wpP σ Q := by sl_kernel_rfl
  exact Eq.mpr e (wp_foldFin _ (dupF t (t2x t σ) (t2z t σ)) Q (fun k cont σ h => dup_wp t _ _ k cont σ Q h) _ _ _ _ h)

def dummyF (σ : St F) : St F :=
  { σ with
    x18 := overwrite (Rect.unit (s := S4616x256) ![4608, 0] S8x256.size inb_S4616x256_S8x256_4608_0) σ.x18 zero256
    x17 := overwrite (Rect.unit (s := S9232x512) ![9216, 0] S16x512.size inb_S9232x512_S16x512_9216_0) σ.x17 zeroRows }

/-- The first step's preparation. -/
def initF (σ : St F) : St F :=
  dummyF (iterN t2F k0_t2_loop.trips (runFin tgtPairF 18 (by omega) (iterN t1F k0_t1_loop.trips σ)))

theorem dummy_wp (cont : MM) (σ : St F) (Q : St F → Prop) (h : cont.wpP (dummyF σ) Q) : (dummyM cont).wpP σ Q := by
  have e : (dummyM cont).wpP σ Q = cont.wpP (dummyF σ) Q := by sl_kernel_rfl
  exact Eq.mpr e h

theorem init_wp (cont : MM) (σ : St F) (Q : St F → Prop) (h : cont.wpP (initF σ) Q) : (initM (dummyM cont)).wpP σ Q := by
  unfold initM
  refine wp_iter _ _ _ _ t1F _ (fun t σ Q h => t1_wp t σ Q h) _ _ ?_
  refine wp_foldFin _ tgtPairF Q (fun k cont σ h => tgtPair_wp k cont σ Q h) _ _ _ _ ?_
  refine wp_iter _ _ _ _ t2F _ (fun t σ Q h => t2_wp t σ Q h) _ _ ?_
  exact dummy_wp cont _ Q h

/-! ## The last step's reduction -/

def t4F (t : Fin k0_t4_loop.trips) (σ : St F) : St F :=
  { σ with
    x14 := overwrite (Rect.unit (s := S576x512) (k0_off138 t) S16x512.size (k0_off138_inb t)) σ.x14
      (sum512 fun j => σ.x21 ((Rect.unit (s := S4616x512) (k0_off137 t) S128x512.size (k0_off137_inb t)).idx j))
    x15 := overwrite (Rect.unit (s := S576x128) (k0_off140 t) S16x128.size (k0_off140_inb t)) σ.x15
      (sum128 fun j => σ.x22 ((Rect.unit (s := S4616x128) (k0_off139 t) S128x128.size (k0_off139_inb t)).idx j)) }

theorem t4_wp (t : Fin k0_t4_loop.trips) (σ : St F) (Q : St F → Prop)
    (h : Q (t4F t σ)) : (t4 t : MM).wpP σ Q := by
  have e : (t4 t : MM).wpP σ Q = Q (t4F t σ) := by sl_kernel_rfl
  exact Eq.mpr e h

def lastF (σ : St F) : St F := iterN t4F k0_t4_loop.trips σ

/-! ## A quarter of a block -/

/-- Group `k`'s word in the table. -/
def word (x : Vec F S4608 .i32) (arg0 : BitVec 32) (hw1 : k0_chk1 arg0) (t : Fin k0_t3_loop.trips) (k : Fin 32) : BitVec 32 :=
  x ((Rect.unit (s := S4608) (k0_off6 arg0 t (BitVec.ofNat 32 k.val)) S1.size (k0_off6_inb arg0 hw1 t k)).idx
    (Shape.Idx.first (numel1_S1.symm ▸ Nat.one_pos)))

theorem words_wp (arg0 : BitVec 32) (hw1 : k0_chk1 arg0) (t : Fin k0_t3_loop.trips) (cont : (Nat → GW) → MM) (σ : St F) (Q : St F → Prop)
    (hc : ∀ k, k0_chk2 (word σ.x1 arg0 hw1 t k))
    (h : ∀ f : Nat → GW, (∀ k : Fin 32, (f k.val).1 = word σ.x1 arg0 hw1 t k) → (cont f).wpP σ Q) :
    ∀ (n : Nat) (hn : n ≤ 32) (f : Nat → GW), (∀ k : Fin 32, k.val < 32 - n → (f k.val).1 = word σ.x1 arg0 hw1 t k) →
      (wordsG arg0 hw1 t cont n hn f).wpP σ Q
  | 0, _, f, hf => h f fun k => hf k k.isLt
  | n + 1, hn, f, hf => ⟨hc ⟨32 - (n + 1), by omega⟩, words_wp arg0 hw1 t cont σ Q hc h n (by omega) _ fun k hk => by
      unfold upd
      by_cases e : k.val = 32 - (n + 1)
      · rw [e, Nat.beq_refl]
        have : k = ⟨32 - (n + 1), by omega⟩ := Fin.ext e
        rw [this]; rfl
      · have : Nat.beq k.val (32 - (n + 1)) = false := by
          rw [← Bool.not_eq_true]; exact fun h => e (Nat.eq_of_beq_eq_true h)
        rw [this]; exact hf k (by omega)⟩

def put19F (k : Fin 32) (j : Fin 3) (x : FVec F S16x512 .bf16) (σ : St F) : St F :=
  { σ with
    x19 := overwrite (Rect.unit (s := S512x1536) ![16 * k.val, 512 * j.val] S16x512.size (inb19 k j)) σ.x19
      (shapeCast S16x512 x shapeCasts_S16x512_S16x512) }

/-- A group's sixteen dequantised rows. -/
def hRows (t : Fin k0_t3_loop.trips) (x5 : Vec F S8x128 .i32) (code : FVec F S32x512 .bf16) (p : Fin 16) (g : Fin 2) : FVec F S16x512 .bf16 :=
  rows code g (fun j => x5 ((Rect.unit (s := S8x128) (k0_off8 t (BitVec.ofNat 32 (p.val / 8))) S1x128.size (k0_off8_inb t ⟨p.val / 8, by omega⟩)).idx j))
    (BitVec.ofNat 32 (8 * ((2 * p.val + g.val) % 16)))

/-- A group's sixteen target rows. -/
def tRows (x17 : Vec F S9232x512 .bf16) (w : GW) : FVec F S16x512 .bf16 :=
  fun j => x17 ((Rect.unit (s := S9232x512) (k0_off9 w.1) S16x512.size (k0_off9_inb _ w.2)).idx j)

def halfF (t : Fin k0_t3_loop.trips) (f : Nat → GW) (code : FVec F S32x512 .bf16) (p : Fin 16) (g : Fin 2) (σ : St F) : St F :=
  have h := hRows t σ.x5 code p g
  have tt := tRows σ.x17 (f (2 * p.val + g.val))
  put19F ⟨2 * p.val + g.val, by omega⟩ 2 (mulf h tt)
    (put19F ⟨2 * p.val + g.val, by omega⟩ 1 (subf h tt) (put19F ⟨2 * p.val + g.val, by omega⟩ 0 h σ))

def pairF (t : Fin k0_t3_loop.trips) (f : Nat → GW) (p : Fin 16) (σ : St F) : St F :=
  have code := codeRows (F := F) fun j => σ.x4 ((Rect.unit (s := S512x512) (k0_off7 t (BitVec.ofNat 32 (8 * p.val))) S8x512.size (k0_off7_inb t p)).idx j)
  halfF t f code p 1 (halfF t f code p 0 σ)

theorem pair_wp (t : Fin k0_t3_loop.trips) (f : Nat → GW) (p : Fin 16) (cont : MM) (σ : St F) (Q : St F → Prop)

    (h : cont.wpP (pairF t f p σ) Q) : (pairG t f p cont).wpP σ Q := by
  have e : (pairG t f p cont).wpP σ Q = cont.wpP (pairF t f p σ) Q := by sl_kernel_rfl
  exact Eq.mpr e h

def z1F (σ : St F) : FVec F S512x256 .f32 :=
  z1Of (fun j => σ.x19 ((Rect.unit (s := S512x1536) ![0, 0] S512x512.size inb_S512x1536_S512x512_0_0).idx j))
    (fun j => σ.x6 ((Rect.unit (s := S2048x256) ![0, 0] S512x256.size inb_S2048x256_S512x256_0_0).idx j))
    (fun j => σ.x19 ((Rect.unit (s := S512x1536) ![0, 512] S512x512.size inb_S512x1536_S512x512_0_512).idx j))
    (fun j => σ.x6 ((Rect.unit (s := S2048x256) ![1024, 0] S512x256.size inb_S2048x256_S512x256_1024_0).idx j))
    (fun j => σ.x19 ((Rect.unit (s := S512x1536) ![0, 1024] S512x512.size inb_S512x1536_S512x512_0_1024).idx j))
    (fun j => σ.x6 ((Rect.unit (s := S2048x256) ![1536, 0] S512x256.size inb_S2048x256_S512x256_1536_0).idx j))

def d1F (f : Nat → GW) (z1 : FVec F S512x256 .f32) (k : Fin 32) (σ : St F) : St F :=
  { σ with
    x20 := overwrite (Rect.unit (s := S512x256) ![16 * k.val, 0] S16x256.size (inb20 k)) σ.x20
      (d1Of z1 k (fun j => σ.x18 ((Rect.unit (s := S4616x256) (k0_off41 (f k.val).1) S8x256.size (k0_off41_inb _ (f k.val).2)).idx j))
        (fun j => σ.x8 ((Rect.unit (s := S1x256) ![0, 0] S1x256.size inb_S1x256_S1x256_0_0).idx j))) }

theorem d1_wp (f : Nat → GW) (z1 : FVec F S512x256 .f32) (k : Fin 32) (cont : MM) (σ : St F) (Q : St F → Prop)

    (h : cont.wpP (d1F f z1 k σ) Q) : (d1G f z1 k cont).wpP σ Q := by
  have e : (d1G f z1 k cont).wpP σ Q = cont.wpP (d1F f z1 k σ) Q := by sl_kernel_rfl
  exact Eq.mpr e h

def scF (σ : St F) : FVec F S512x1 .f32 :=
  scOf (fun j => σ.x20 ((Rect.unit (s := S512x256) ![0, 0] S512x256.size inb_S512x256_S512x256_0_0).idx j))
    (fun j => σ.x9 ((Rect.unit (s := S256x128) ![0, 0] S256x128.size inb_S256x128_S256x128_0_0).idx j))
    (fun j => σ.x10 ((Rect.unit (s := S1x128) ![0, 0] S1x128.size inb_S1x128_S1x128_0_0).idx j))
    (fun j => σ.x11 ((Rect.unit (s := S1x128) ![0, 0] S1x128.size inb_S1x128_S1x128_0_0).idx j))
    (fun j => σ.x12 ((Rect.unit (s := S1x128) ![0, 0] S1x128.size inb_S1x128_S1x128_0_0).idx j))
    (σ.x13 ((Rect.unit (s := S1) ![0] S1.size inb_S1_S1_0).idx (Shape.Idx.first (numel1_S1.symm ▸ Nat.one_pos))))

def accF (f : Nat → GW) (sc : FVec F S512x1 .f32) (k : Fin 32) (σ : St F) : St F :=
  { σ with
    x21 := overwrite (Rect.unit (s := S4616x512) (k0_off73 (f k.val).1) S8x512.size (k0_off73_inb _ (f k.val).2)) σ.x21
      (accOf sc k (f k.val).1 (fun j => σ.x19 ((Rect.unit (s := S512x1536) ![16 * k.val, 0] S16x512.size (inb19 k 0)).idx j))
        (fun j => σ.x21 ((Rect.unit (s := S4616x512) (k0_off73 (f k.val).1) S8x512.size (k0_off73_inb _ (f k.val).2)).idx j)))
    x22 := overwrite (Rect.unit (s := S4616x128) (k0_off74 (f k.val).1) S8x128.size (k0_off74_inb _ (f k.val).2)) σ.x22
      (posOf sc k (f k.val).1
        (fun j => σ.x22 ((Rect.unit (s := S4616x128) (k0_off74 (f k.val).1) S8x128.size (k0_off74_inb _ (f k.val).2)).idx j))) }

theorem acc_wp (f : Nat → GW) (sc : FVec F S512x1 .f32) (k : Fin 32) (cont : MM) (σ : St F) (Q : St F → Prop)

    (h : cont.wpP (accF f sc k σ) Q) : (accG f sc k cont).wpP σ Q := by
  have e : (accG f sc k cont).wpP σ Q = cont.wpP (accF f sc k σ) Q := by sl_kernel_rfl
  exact Eq.mpr e h

/-- A quarter of a block, its words given. -/
def t3F (t : Fin k0_t3_loop.trips) (f : Nat → GW) (σ : St F) : St F :=
  have σ₁ := runFin (pairF t f) 16 (by omega) σ
  have σ₂ := runFin (d1F f (z1F σ₁)) 32 (by omega) σ₁
  runFin (accF f (scF σ₂)) 32 (by omega) σ₂

theorem z1_wp (cont : FVec F S512x256 .f32 → MM) (σ : St F) (Q : St F → Prop) (h : (cont (z1F σ)).wpP σ Q) : (z1G cont).wpP σ Q := by
  have e : (z1G cont).wpP σ Q = (cont (z1F σ)).wpP σ Q := by sl_kernel_rfl
  exact Eq.mpr e h

theorem sc_wp (cont : FVec F S512x1 .f32 → MM) (σ : St F) (Q : St F → Prop) (h : (cont (scF σ)).wpP σ Q) : (scG cont).wpP σ Q := by
  have e : (scG cont).wpP σ Q = (cont (scF σ)).wpP σ Q := by sl_kernel_rfl
  exact Eq.mpr e h

theorem t3_wp (arg0 : BitVec 32) (hw1 : k0_chk1 arg0) (t : Fin k0_t3_loop.trips) (σ : St F) (Q : St F → Prop)
    (hc : ∀ k, k0_chk2 (word σ.x1 arg0 hw1 t k))
    (h : ∀ f : Nat → GW, (∀ k : Fin 32, (f k.val).1 = word σ.x1 arg0 hw1 t k) → Q (t3F t f σ)) :
    (t3 c M qs arg0 hw1 t : MM).wpP σ Q := by
  unfold t3
  refine words_wp arg0 hw1 t _ σ Q hc (fun f hf => ?_) _ _ _ (fun k hk => by omega)
  refine wp_foldFin _ (pairF t f) Q (fun k cont σ h => pair_wp t f k cont σ Q h) _ _ _ _ ?_
  refine z1_wp _ _ Q ?_
  refine wp_foldFin _ (d1F f _) Q (fun k cont σ h => d1_wp f _ k cont σ Q h) _ _ _ _ ?_
  refine sc_wp _ _ Q ?_
  exact wp_foldFin _ (accF f _) Q (fun k cont σ h => acc_wp f _ k cont σ Q h) _ _ _ _ (h f hf)

/-! ## The inputs stay -/

theorem runFin_same {N : Nat} (f : Fin N → St F → St F) (hf : ∀ k σ, SameIn σ (f k σ)) (n : Nat) (h : n ≤ N) (σ : St F) :
    SameIn σ (runFin f n h σ) :=
  runFin_inv f (fun _ σ' => SameIn σ σ') (fun k x hx => hx.trans (hf k x)) n h σ (.refl σ)

theorem iterN_same {N : Nat} (f : Fin N → St F → St F) (hf : ∀ k σ, SameIn σ (f k σ)) (n : Nat) (h : n ≤ N) (σ : St F) :
    SameIn σ (iterN f n σ) :=
  iterN_inv f (fun _ σ' => SameIn σ σ') (fun k x hx => hx.trans (hf k x)) σ (.refl σ) n h

theorem t1F_same (t : Fin k0_t1_loop.trips) (σ : St F) : SameIn σ (t1F t σ) := by
  constructor <;> sl_kernel_rfl

theorem tgtPairF_same (p : Fin 18) (σ : St F) : SameIn σ (tgtPairF p σ) := by
  constructor <;> sl_kernel_rfl

theorem dupF_same (t : Fin k0_t2_loop.trips) (x : Vec F S16x512 .bf16) (tz : FVec F S16x256 .f32) (k : Fin 16) (σ : St F) : SameIn σ (dupF t x tz k σ) := by
  constructor <;> sl_kernel_rfl

theorem dummyF_same (σ : St F) : SameIn σ (dummyF σ) := by
  constructor <;> sl_kernel_rfl

theorem t4F_same (t : Fin k0_t4_loop.trips) (σ : St F) : SameIn σ (t4F t σ) := by
  constructor <;> sl_kernel_rfl

theorem pairF_same (t : Fin k0_t3_loop.trips) (f : Nat → GW) (p : Fin 16) (σ : St F) : SameIn σ (pairF t f p σ) := by
  constructor <;> sl_kernel_rfl

theorem d1F_same (f : Nat → GW) (z1 : FVec F S512x256 .f32) (k : Fin 32) (σ : St F) : SameIn σ (d1F f z1 k σ) := by
  constructor <;> sl_kernel_rfl

theorem accF_same (f : Nat → GW) (sc : FVec F S512x1 .f32) (k : Fin 32) (σ : St F) : SameIn σ (accF f sc k σ) := by
  constructor <;> sl_kernel_rfl

theorem t2F_same (t : Fin k0_t2_loop.trips) (σ : St F) : SameIn σ (t2F t σ) := by
  unfold t2F
  exact runFin_same _ (fun k σ => dupF_same t _ _ k σ) _ _ _

theorem init_same (σ : St F) : SameIn σ (initF σ) := by
  unfold initF
  exact (iterN_same t1F t1F_same _ le_rfl σ).trans ((runFin_same tgtPairF tgtPairF_same _ _ _).trans
    ((iterN_same t2F t2F_same _ le_rfl _).trans (dummyF_same _)))

theorem last_same (σ : St F) : SameIn σ (lastF σ) := by
  unfold lastF
  exact iterN_same t4F t4F_same _ le_rfl σ

theorem t3_same (t : Fin k0_t3_loop.trips) (f : Nat → GW) (σ : St F) : SameIn σ (t3F t f σ) := by
  unfold t3F
  exact (runFin_same (pairF t f) (pairF_same t f) _ _ _).trans ((runFin_same (d1F f _) (d1F_same f _) _ _ _).trans
    (runFin_same (accF f _) (accF_same f _) _ _ _))

/-! ## The whole body -/

instance (arg0 : BitVec 32) : Decidable (isFirst arg0) :=
  inferInstanceAs (Decidable (Scalar.cmpi .ne (Scalar.extui (Scalar.cmpi .eq arg0 0#32) : BitVec 32) 0#32 = 1#1))

/-- The body run on contents `σ`: `J` is the invariant of the loop over the block's quarters. -/
theorem body_wp (n arg0 : BitVec 32) (σ : St F) (Q : St F → Prop) (hw1 : k0_chk1 arg0)
    (hc : ∀ t k, k0_chk2 (word σ.x1 arg0 hw1 t k)) (J : Nat → St F → Prop)
    (hfirst : isFirst arg0 → J 0 (initF σ)) (hnext : ¬isFirst arg0 → J 0 σ)
    (hstep : ∀ (t : Fin k0_t3_loop.trips) σ' f, J t.val σ' → SameIn σ σ' → (∀ k : Fin 32, (f k.val).1 = word σ.x1 arg0 hw1 t k) →
      J (t.val + 1) (t3F t f σ'))
    (hlast : ∀ σ', J k0_t3_loop.trips σ' → SameIn σ σ' → k0_cond2 arg0 n = 1#1 → Q (lastF σ'))
    (hmid : ∀ σ', J k0_t3_loop.trips σ' → SameIn σ σ' → ¬k0_cond2 arg0 n = 1#1 → Q σ') :
    (bodyM n arg0 : MM).wpP σ Q := by
  have rest : ∀ σ₁, J 0 σ₁ → SameIn σ σ₁ → (restM n arg0 hw1 : MM).wpP σ₁ Q := fun σ₁ hJ hS =>
    ⟨fun i σ' => J i σ' ∧ SameIn σ σ', ⟨hJ, hS⟩, fun t σ' h =>
      t3_wp arg0 hw1 t σ' _ (fun k => by rw [h.2.e1]; exact hc t k) fun f hf =>
        ⟨hstep t σ' f h.1 h.2 (fun k => by rw [hf k, h.2.e1]), h.2.trans (t3_same t f σ')⟩,
      fun σ' h => ⟨fun hl => wp_iter _ _ _ _ t4F _ (fun t σ Q h => t4_wp t σ Q h) _ _ (hlast σ' h.1 h.2 hl), fun hl => hmid σ' h.1 h.2 hl⟩⟩
  exact ⟨hw1, fun hf => init_wp _ σ Q (rest _ (hfirst hf) (init_same σ)), fun hf => rest σ (hnext hf) (.refl σ)⟩

end Cert.KernelIdeal.Rolled
-- ==== Proof.Host.lean ====
/-
The launch: the buffers' contents when the pipeline is entered, the pipeline's proof data with an invariant of the
scratch buffers, the body's obligation from the rule of `Sem`, and the run.
-/
module

public import proofs.«01_k».proof.Proof.Sem
public import proofs.«01_k».proof.Proof.Gen.KernelIdeal.Launch
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts Cert.KernelIdeal.Rolled Cert.KernelIdeal.Gen Cert.Mini

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations -/

/-- The host operations before the pipeline, call by call. -/
abbrev hosts : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22]

/-- The buffers when the pipeline is entered. -/
abbrev V (c : Dev nD) (b : Ref sig .tc) : Buf (Elt F) ((c : Thread nD τ).loc b) := StableHlo.after (hosts (F := F)).flatten (fun b => m (c, b)) b

theorem hosts_sub : (hosts (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub⟩

theorem hostOps0_fresh : (hostOps0 : List (HloOp τ sig (Elt F))).Forall fun op => op.fresh = ∅ := by
  simp only [List.Forall]; repeat' constructor

theorem hostOps0_1_fresh : (hostOps0_1 : List (HloOp τ sig (Elt F))).Forall fun op => op.fresh = ∅ := by
  simp only [List.Forall]; repeat' constructor

theorem hostOps0_2_fresh : (hostOps0_2 : List (HloOp τ sig (Elt F))).Forall fun op => op.fresh = ∅ := by
  simp only [List.Forall]; repeat' constructor

theorem hostOps0_3_fresh : (hostOps0_3 : List (HloOp τ sig (Elt F))).Forall fun op => op.fresh = ∅ := by
  simp only [List.Forall]; repeat' constructor

theorem hostOps0_4_fresh : (hostOps0_4 : List (HloOp τ sig (Elt F))).Forall fun op => op.fresh = ∅ := by
  simp only [List.Forall]; repeat' constructor

theorem hostOps0_5_fresh : (hostOps0_5 : List (HloOp τ sig (Elt F))).Forall fun op => op.fresh = ∅ := by
  simp only [List.Forall]; repeat' constructor

theorem hostOps0_6_fresh : (hostOps0_6 : List (HloOp τ sig (Elt F))).Forall fun op => op.fresh = ∅ := by
  simp only [List.Forall]; repeat' constructor

theorem hostOps0_7_fresh : (hostOps0_7 : List (HloOp τ sig (Elt F))).Forall fun op => op.fresh = ∅ := by
  simp only [List.Forall]; repeat' constructor

theorem hostOps0_8_fresh : (hostOps0_8 : List (HloOp τ sig (Elt F))).Forall fun op => op.fresh = ∅ := by
  simp only [List.Forall]; repeat' constructor

theorem hostOps0_9_fresh : (hostOps0_9 : List (HloOp τ sig (Elt F))).Forall fun op => op.fresh = ∅ := by
  simp only [List.Forall]; repeat' constructor

theorem hostOps0_10_fresh : (hostOps0_10 : List (HloOp τ sig (Elt F))).Forall fun op => op.fresh = ∅ := by
  simp only [List.Forall]; repeat' constructor

theorem hostOps0_11_fresh : (hostOps0_11 : List (HloOp τ sig (Elt F))).Forall fun op => op.fresh = ∅ := by
  simp only [List.Forall]; repeat' constructor

theorem hostOps0_12_fresh : (hostOps0_12 : List (HloOp τ sig (Elt F))).Forall fun op => op.fresh = ∅ := by
  simp only [List.Forall]; repeat' constructor

theorem hostOps0_13_fresh : (hostOps0_13 : List (HloOp τ sig (Elt F))).Forall fun op => op.fresh = ∅ := by
  simp only [List.Forall]; repeat' constructor

theorem hostOps0_14_fresh : (hostOps0_14 : List (HloOp τ sig (Elt F))).Forall fun op => op.fresh = ∅ := by
  simp only [List.Forall]; repeat' constructor

theorem hostOps0_15_fresh : (hostOps0_15 : List (HloOp τ sig (Elt F))).Forall fun op => op.fresh = ∅ := by
  simp only [List.Forall]; repeat' constructor

theorem hostOps0_16_fresh : (hostOps0_16 : List (HloOp τ sig (Elt F))).Forall fun op => op.fresh = ∅ := by
  simp only [List.Forall]; repeat' constructor

theorem hostOps0_17_fresh : (hostOps0_17 : List (HloOp τ sig (Elt F))).Forall fun op => op.fresh = ∅ := by
  simp only [List.Forall]; repeat' constructor

theorem hostOps0_18_fresh : (hostOps0_18 : List (HloOp τ sig (Elt F))).Forall fun op => op.fresh = ∅ := by
  simp only [List.Forall]; repeat' constructor

theorem hostOps0_19_fresh : (hostOps0_19 : List (HloOp τ sig (Elt F))).Forall fun op => op.fresh = ∅ := by
  simp only [List.Forall]; repeat' constructor

theorem hostOps0_20_fresh : (hostOps0_20 : List (HloOp τ sig (Elt F))).Forall fun op => op.fresh = ∅ := by
  simp only [List.Forall]; repeat' constructor

theorem hostOps0_21_fresh : (hostOps0_21 : List (HloOp τ sig (Elt F))).Forall fun op => op.fresh = ∅ := by
  simp only [List.Forall]; repeat' constructor

theorem hostOps0_22_fresh : (hostOps0_22 : List (HloOp τ sig (Elt F))).Forall fun op => op.fresh = ∅ := by
  simp only [List.Forall]; repeat' constructor

theorem hosts_fresh : (hosts (F := F)).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh⟩

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hosts hosts_sub hosts_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables -/

/-- The tables' contents when the pipeline is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

end Cert.KernelIdeal.Run
-- ==== Proof.Launch.lean ====
/-
The launch: the pipeline's proof data with an invariant of the scratch buffers and a relation for what each output
holds, the body's obligation from the rule of the body's meaning, and the run.
-/
module

public import proofs.«01_k».proof.Proof.Host
public import Idealize.ShloMosaic.Lib.Pipeline.FrameBody
public import Idealize.ShloMosaic.Lib.Pipeline.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts Cert.KernelIdeal.Rolled Cert.KernelIdeal.Gen Cert.Mini
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers of two states hold the same. -/
structure SameScr (σ σ' : St F) : Prop where
  e16 : σ'.x16 = σ.x16
  e17 : σ'.x17 = σ.x17
  e18 : σ'.x18 = σ.x18
  e19 : σ'.x19 = σ.x19
  e20 : σ'.x20 = σ.x20
  e21 : σ'.x21 = σ.x21
  e22 : σ'.x22 = σ.x22

/-- The contents the body finds: the table, the staged blocks, and the scratch buffers of a state. -/
def mk (hO : Ok m) (Y : (w : Fin 14) → ((cfgM m hO).win w).block.Idx → Elt F ((cfgM m hO).win w).elt) (σ : St F) : St F where
  x1 := tbl m 1
  x2 := Y 0
  x3 := Y 1
  x4 := Y 2
  x5 := Y 3
  x6 := Y 4
  x7 := Y 5
  x8 := Y 6
  x9 := Y 7
  x10 := Y 8
  x11 := Y 9
  x12 := Y 10
  x13 := Y 11
  x14 := Y 12
  x15 := Y 13
  x16 := σ.x16
  x17 := σ.x17
  x18 := σ.x18
  x19 := σ.x19
  x20 := σ.x20
  x21 := σ.x21
  x22 := σ.x22

/-- The body's buffers at a point. -/
def mems (hO : Ok m) (t : Fin (cfgM m hO).N) : Mems where
  a1 := Memref.whole main_v62
  w1 := Memref.isWhole_whole _
  a2 := spec0_0.stage ((cfgM m hO).slots t 0)
  w2 := Facts₀.hstage0_0 (((cfgM m hO).slots t 0).cast Facts₀.nbuf0_0)
  a3 := spec0_1.stage ((cfgM m hO).slots t 1)
  w3 := Facts₀.hstage0_1 (((cfgM m hO).slots t 1).cast Facts₀.nbuf0_1)
  a4 := spec0_2.stage ((cfgM m hO).slots t 2)
  w4 := Facts₀.hstage0_2 (((cfgM m hO).slots t 2).cast Facts₀.nbuf0_2)
  a5 := spec0_3.stage ((cfgM m hO).slots t 3)
  w5 := Facts₀.hstage0_3 (((cfgM m hO).slots t 3).cast Facts₀.nbuf0_3)
  a6 := spec0_4.stage ((cfgM m hO).slots t 4)
  w6 := Facts₀.hstage0_4 (((cfgM m hO).slots t 4).cast Facts₀.nbuf0_4)
  a7 := spec0_5.stage ((cfgM m hO).slots t 5)
  w7 := Facts₀.hstage0_5 (((cfgM m hO).slots t 5).cast Facts₀.nbuf0_5)
  a8 := spec0_6.stage ((cfgM m hO).slots t 6)
  w8 := Facts₀.hstage0_6 (((cfgM m hO).slots t 6).cast Facts₀.nbuf0_6)
  a9 := spec0_7.stage ((cfgM m hO).slots t 7)
  w9 := Facts₀.hstage0_7 (((cfgM m hO).slots t 7).cast Facts₀.nbuf0_7)
  a10 := spec0_8.stage ((cfgM m hO).slots t 8)
  w10 := Facts₀.hstage0_8 (((cfgM m hO).slots t 8).cast Facts₀.nbuf0_8)
  a11 := spec0_9.stage ((cfgM m hO).slots t 9)
  w11 := Facts₀.hstage0_9 (((cfgM m hO).slots t 9).cast Facts₀.nbuf0_9)
  a12 := spec0_10.stage ((cfgM m hO).slots t 10)
  w12 := Facts₀.hstage0_10 (((cfgM m hO).slots t 10).cast Facts₀.nbuf0_10)
  a13 := spec0_11.stage ((cfgM m hO).slots t 11)
  w13 := Facts₀.hstage0_11 (((cfgM m hO).slots t 11).cast Facts₀.nbuf0_11)
  a14 := spec0_12.stage ((cfgM m hO).slots t 12)
  w14 := Facts₀.hstage0_12 (((cfgM m hO).slots t 12).cast Facts₀.nbuf0_12)
  a15 := spec0_13.stage ((cfgM m hO).slots t 13)
  w15 := Facts₀.hstage0_13 (((cfgM m hO).slots t 13).cast Facts₀.nbuf0_13)
  a16 := Memref.whole cc0_scratch0
  w16 := Memref.isWhole_whole _
  a17 := Memref.whole cc0_scratch1
  w17 := Memref.isWhole_whole _
  a18 := Memref.whole cc0_scratch2
  w18 := Memref.isWhole_whole _
  a19 := Memref.whole cc0_scratch3
  w19 := Memref.isWhole_whole _
  a20 := Memref.whole cc0_scratch4
  w20 := Memref.isWhole_whole _
  a21 := Memref.whole cc0_scratch5
  w21 := Memref.isWhole_whole _
  a22 := Memref.whole cc0_scratch6
  w22 := Memref.isWhole_whole _

/-- The scratch buffers at a state's contents. -/
def scr (c : Dev nD) (σ : St F) : sProp 𝕄 :=
  iprop(owns (c : Thread nD τ) (Memref.whole cc0_scratch0) fullShare σ.x16 ∗ owns (c : Thread nD τ) (Memref.whole cc0_scratch1) fullShare σ.x17 ∗ owns (c : Thread nD τ) (Memref.whole cc0_scratch2) fullShare σ.x18 ∗ owns (c : Thread nD τ) (Memref.whole cc0_scratch3) fullShare σ.x19 ∗ owns (c : Thread nD τ) (Memref.whole cc0_scratch4) fullShare σ.x20 ∗ owns (c : Thread nD τ) (Memref.whole cc0_scratch5) fullShare σ.x21 ∗ owns (c : Thread nD τ) (Memref.whole cc0_scratch6) fullShare σ.x22)

/-- The invariant between points: the scratch buffers at contents satisfying `Inv`, the generator register, and the
    tables' halves. -/
def Phi (Inv : Nat → St F → Prop) (c : Dev nD) (n : Nat) : sProp 𝕄 :=
  iprop(∃ σ : St F, ⌜Inv n σ⌝ ∗ scr c σ ∗ (∃ r, prngReg c r) ∗ Pipeline.ΦT pre0 (tbl m) c)

/-- What the body leaves in a staging buffer: an input as found, an output as the relations say. -/
def aft (hO : Ok m) (R12 : Nat → (S576x512.Idx → Elt F .bf16) → Prop) (R13 : Nat → (S576x128.Idx → Elt F .f32) → Prop) :
    (w : Fin 14) → Fin (cfgM m hO).N → (Y X : ((cfgM m hO).win w).block.Idx → Elt F ((cfgM m hO).win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun _ Y X => X = Y
  | 8 => fun _ Y X => X = Y
  | 9 => fun _ Y X => X = Y
  | 10 => fun _ Y X => X = Y
  | 11 => fun _ Y X => X = Y
  | 12 => fun t _ X => R12 t.val X
  | 13 => fun t _ X => R13 t.val X
  | ⟨_ + 14, h⟩ => absurd h (Nat.not_lt.2 (Nat.le_add_left _ _))

/-- The pipeline's proof data. -/
def rdat (hO : Ok m) (Inv : Nat → St F → Prop) (R12 : Nat → (S576x512.Idx → Elt F .bf16) → Prop)
    (R13 : Nat → (S576x128.Idx → Elt F .f32) → Prop) (c : Dev nD) :
    RDat τ (Elt F) Unit ℕ (UR sig nD τ) ℕ (cfgM m hO) c where
  A w := V m c (Pipeline.arrRef spec0 w)
  after := aft m hO R12 R13
  Φ t := Phi m Inv c t.val
  q w := Pipeline.shareOf spec0 w
  owed _ := 0

theorem PhiT0_eq (c : Dev nD) : (Pipeline.ΦT pre0 (tbl m) c : sProp 𝕄) =
    iprop((((c : Thread nD τ).loc main_v28) ↦{fullShare.right} (tbl m 0)) ∗ owns (c : Thread nD τ) (Memref.whole main_v62) fullShare.right (tbl m 1)) := by
  unfold Pipeline.ΦT Pipeline.prefHeld
  rw [bigSep_univ_eq_bigSepL [(0 : Fin 2), (1 : Fin 2)] (by decide) (by decide)]
  exact congrArg (fun X : sProp 𝕄 => iprop((((c : Thread nD τ).loc main_v28) ↦{fullShare.right} (tbl m 0)) ∗ X)) (owns_whole (c : Thread nD τ) main_v62 fullShare.right (tbl m 1)).symm

theorem PhiA0_eq (c : Dev nD) : (Pipeline.ΦA spec0 c : sProp 𝕄) =
    iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- The shares the body's buffers are held at: half of the table, the staged blocks whole. -/
def qs : Fin 14 → PosShare TreeShare := fun n => if n = 1 then fullShare.right else fullShare

theorem defs₀_row (hO : Ok m) (t : Fin (cfgM m hO).N) :
    defs₀ (F := F) .tc (cfgM m hO).body ((cfgM m hO).bodyArgs t ((cfgM m hO).slots t))
      = cc0_score_rows_0 (dynb0 (tbl m)) (Pipeline.Grid.Coords.static grid0 ((grid0.at (dynb0 (tbl m))).coords t)) (BitVec.ofNat 32 ((grid0.at (dynb0 (tbl m))).coords t 0).val)
          (mems m hO t).a1 (mems m hO t).w1 (mems m hO t).a2 (mems m hO t).w2 (mems m hO t).a3 (mems m hO t).w3 (mems m hO t).a4 (mems m hO t).w4 (mems m hO t).a5 (mems m hO t).w5 (mems m hO t).a6 (mems m hO t).w6 (mems m hO t).a7 (mems m hO t).w7 (mems m hO t).a8 (mems m hO t).w8 (mems m hO t).a9 (mems m hO t).w9 (mems m hO t).a10 (mems m hO t).w10 (mems m hO t).a11 (mems m hO t).w11 (mems m hO t).a12 (mems m hO t).w12 (mems m hO t).a13 (mems m hO t).w13 (mems m hO t).a14 (mems m hO t).w14 (mems m hO t).a15 (mems m hO t).w15 (mems m hO t).a16 (mems m hO t).w16 (mems m hO t).a17 (mems m hO t).w17 (mems m hO t).a18 (mems m hO t).w18 (mems m hO t).a19 (mems m hO t).w19 (mems m hO t).a20 (mems m hO t).w20 (mems m hO t).a21 (mems m hO t).w21 (mems m hO t).a22 (mems m hO t).w22 := by
  unfold defs₀; rw [Defs.onTc_tc]; rfl

/-- What the body must do at every point, on the contents it finds. -/
def Step (hO : Ok m) (Inv : Nat → St F → Prop) (R12 : Nat → (S576x512.Idx → Elt F .bf16) → Prop)
    (R13 : Nat → (S576x128.Idx → Elt F .f32) → Prop) (c : Dev nD) : Prop :=
  ∀ (t : Fin (cfgM m hO).N) (Y : (w : Fin 14) → ((cfgM m hO).win w).block.Idx → Elt F ((cfgM m hO).win w).elt),
    (∀ w, (rdat m hO Inv R12 R13 c).Finds w t (Y w)) → ∀ σ : St F, Inv t.val σ →
    (bodyM (c := c) (M := mems m hO t) (qs := qs) (BitVec.ofNat 32 (dynb0 (tbl m) 0)) (BitVec.ofNat 32 ((grid0.at (dynb0 (tbl m))).coords t 0).val)).wpP
      (mk m hO Y σ) (fun σ' => SameIn (mk m hO Y σ) σ' ∧ Inv (t.val + 1) σ' ∧ R12 t.val σ'.x14 ∧ R13 t.val σ'.x15)

set_option maxHeartbeats 2000000 in
theorem body_obligation (hO : Ok m) (Inv : Nat → St F → Prop) (R12 : Nat → (S576x512.Idx → Elt F .bf16) → Prop)
    (R13 : Nat → (S576x128.Idx → Elt F .f32) → Prop) (c : Dev nD) (hs : Step m hO Inv R12 R13 c) :
    (rdat m hO Inv R12 R13 c).BodyObligation (defs₀ (F := F)) Variants.none () Set.univ := by
  intro t Y hY
  rw [bigSep_W0, bigSep_W0, defs₀_row m hO]
  rw [show (rdat m hO Inv R12 R13 c).Φ t.castSucc = Phi m Inv c t.val from rfl,
    show (rdat m hO Inv R12 R13 c).Φ t.succ = Phi m Inv c (t.val + 1) from rfl]
  unfold Phi; rw [PhiT0_eq]
  have hb := body_eq (F := F) (c := c) (M := mems m hO t) (qs := qs) (dynb0 (tbl m))
    (Pipeline.Grid.Coords.static grid0 ((grid0.at (dynb0 (tbl m))).coords t)) (BitVec.ofNat 32 ((grid0.at (dynb0 (tbl m))).coords t 0).val)
  iintro ⟨⟨%σ, %hI, Hscr, Hg, HT0, HT1⟩, Ho, H0, H1, H2, H3, H4, H5, H6, H7, H8, H9, H10, H11, H12, H13⟩
  have hw := Mini.sound (defs := defs₀ (F := F)) Variants.none none Set.univ _ _ _ (hs t Y hY σ hI)
  rw [← hb] at hw
  unfold scr
  icases Hscr with ⟨S0, S1, S2, S3, S4, S5, S6⟩
  iapply (wp_wand_r _ _ _)
  isplitl [HT1 H0 H1 H2 H3 H4 H5 H6 H7 H8 H9 H10 H11 H12 H13 S0 S1 S2 S3 S4 S5 S6]
  · iapply hw
    unfold Own
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    isplitl [S3]; · iexact S3
    isplitl [S4]; · iexact S4
    isplitl [S5]; · iexact S5
    iexact S6
  iintro %u ⟨%σ', %hQ, HO⟩
  obtain ⟨hS, hI', h12, h13⟩ := hQ
  unfold Own
  icases HO with ⟨HT1, H0, H1, H2, H3, H4, H5, H6, H7, H8, H9, H10, H11, H12, H13, S0, S1, S2, S3, S4, S5, S6⟩
  isplitl [HT0 HT1 Hg S0 S1 S2 S3 S4 S5 S6]
  · iexists σ'
    isplitr; · ipureintro; exact hI'
    isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    isplitl [Hg]; · iexact Hg
    isplitl [HT0]; · iexact HT0
    rw [hS.e1]; iexact HT1
  isplitl [Ho]; · iexact Ho
  isplitl [H0]
  · iexists σ'.x2; isplitr; swap; · iexact H0
    ipureintro; exact hS.e2
  isplitl [H1]
  · iexists σ'.x3; isplitr; swap; · iexact H1
    ipureintro; exact hS.e3
  isplitl [H2]
  · iexists σ'.x4; isplitr; swap; · iexact H2
    ipureintro; exact hS.e4
  isplitl [H3]
  · iexists σ'.x5; isplitr; swap; · iexact H3
    ipureintro; exact hS.e5
  isplitl [H4]
  · iexists σ'.x6; isplitr; swap; · iexact H4
    ipureintro; exact hS.e6
  isplitl [H5]
  · iexists σ'.x7; isplitr; swap; · iexact H5
    ipureintro; exact hS.e7
  isplitl [H6]
  · iexists σ'.x8; isplitr; swap; · iexact H6
    ipureintro; exact hS.e8
  isplitl [H7]
  · iexists σ'.x9; isplitr; swap; · iexact H7
    ipureintro; exact hS.e9
  isplitl [H8]
  · iexists σ'.x10; isplitr; swap; · iexact H8
    ipureintro; exact hS.e10
  isplitl [H9]
  · iexists σ'.x11; isplitr; swap; · iexact H9
    ipureintro; exact hS.e11
  isplitl [H10]
  · iexists σ'.x12; isplitr; swap; · iexact H10
    ipureintro; exact hS.e12
  isplitl [H11]
  · iexists σ'.x13; isplitr; swap; · iexact H11
    ipureintro; exact hS.e13
  isplitl [H12]
  · iexists σ'.x14; isplitr; swap; · iexact H12
    ipureintro; exact h12
  iexists σ'.x15; isplitr; swap; · iexact H13
  ipureintro; exact h13

section
variable (hO : Ok m) (Inv : Nat → St F → Prop) (R12 : Nat → (S576x512.Idx → Elt F .bf16) → Prop)
  (R13 : Nat → (S576x128.Idx → Elt F .f32) → Prop)

theorem hin (h0 : ∀ σ, Inv 0 σ) (c : Dev nD) : iprop(Pipeline.ΦA spec0 c ∗ Pipeline.ΦT pre0 (tbl m) c) ⊢ (rdat m hO Inv R12 R13 c).Φ 0 := by
  rw [show (rdat m hO Inv R12 R13 c).Φ 0 = Phi m Inv c 0 from rfl, PhiA0_eq]
  unfold Phi scr
  iintro ⟨⟨⟨⟨%d0, S0⟩, ⟨%d1, S1⟩, ⟨%d2, S2⟩, ⟨%d3, S3⟩, ⟨%d4, S4⟩, ⟨%d5, S5⟩, ⟨%d6, S6⟩⟩, Hg⟩, HT⟩
  iexists (⟨tbl m 1, fun _ => Classical.choice (Elt.nonempty F .i32), fun _ => Classical.choice (Elt.nonempty F .i32), fun _ => Classical.choice (Elt.nonempty F .i32), fun _ => Classical.choice (Elt.nonempty F .i32), fun _ => Classical.choice (Elt.nonempty F .bf16), fun _ => Classical.choice (Elt.nonempty F .f32), fun _ => Classical.choice (Elt.nonempty F .f32), fun _ => Classical.choice (Elt.nonempty F .bf16), fun _ => Classical.choice (Elt.nonempty F .f32), fun _ => Classical.choice (Elt.nonempty F .f32), fun _ => Classical.choice (Elt.nonempty F .f32), fun _ => Classical.choice (Elt.nonempty F .f32), fun _ => Classical.choice (Elt.nonempty F .bf16), fun _ => Classical.choice (Elt.nonempty F .f32), d0, d1, d2, d3, d4, d5, d6⟩ : St F)
  isplitr; · ipureintro; exact h0 _
  isplitl [S0 S1 S2 S3 S4 S5 S6]
  ·
    isplitl [S0]; · iexact S0
    isplitl [S1]; · iexact S1
    isplitl [S2]; · iexact S2
    isplitl [S3]; · iexact S3
    isplitl [S4]; · iexact S4
    isplitl [S5]; · iexact S5
    iexact S6
  isplitl [Hg]; · iexact Hg
  iexact HT

theorem hout (c : Dev nD) : (rdat m hO Inv R12 R13 c).Φ (Fin.last (cfgM m hO).N) ⊢ Pipeline.ΦA spec0 c := by
  rw [show (rdat m hO Inv R12 R13 c).Φ (Fin.last (cfgM m hO).N) = Phi m Inv c (cfgM m hO).N from rfl, PhiA0_eq]
  unfold Phi scr
  iintro ⟨%σ, -, ⟨S0, S1, S2, S3, S4, S5, S6⟩, Hg, -⟩
  isplitl [S0 S1 S2 S3 S4 S5 S6]
  ·
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  iexact Hg

set_option backward.isDefEq.respectTransparency.types false in
/-- The run: every windowed array ends at contents the proof data allow, every other buffer at its contents when the
    pipeline was entered, and every semaphore counter at zero. -/
theorem run_main (h0 : ∀ σ, Inv 0 σ) (hs : ∀ c, Step m hO Inv R12 R13 c) :
    θ_run defs (onTc (τ := τ) (main (F := F))) (s₀ m ρ) (fun r =>
      (RDat.FramePost ((Pipeline.pin pcfgs fun _ => adm m hO) 0) (rdat m hO Inv R12 R13) (V m)) r ∧ r.2.sem = fun _ => 0) :=
  RDat.θ_run_frameP_track_shared (Q' := _) pcfgs (fun _ => adm m hO) (0 : Fin 1) launch₀0 defs₀ Variants.none (rdat m hO Inv R12 R13) m ρ main
    (hbody := fun c => body_obligation m hO Inv R12 R13 c (hs c)) (hq := fun _ _ _ => rfl)
    (howed := fun _ _ => rfl) (V := V m) (hmain := hmain m Variants.none) (hA := fun _ _ => rfl) (hpf := V_pre m)
    (hin := hin m hO Inv R12 R13 h0) (hout := hout m hO Inv R12 R13)

/-- The arguments end unchanged. -/
theorem args_kept (r : PUnit × MemSt nD τ sig (Elt F))
    (h : RDat.FramePost ((Pipeline.pin pcfgs fun _ => adm m hO) 0) (rdat m hO Inv R12 R13) (V m) r) (c : Dev nD) :
     r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  ⟨((h c).2 main_arg0 (by decide : main_arg0 ∈ Pipeline.restRefs sig spec0)).trans (V_main_arg0 m c),
   (RDat.FramePost.arr_in h c 0 rfl).trans (V_main_arg1 m c),
   ((h c).2 main_arg2 (by decide : main_arg2 ∈ Pipeline.restRefs sig spec0)).trans (V_main_arg2 m c),
   (RDat.FramePost.arr_in h c 4 rfl).trans (V_main_arg3 m c),
   ((h c).2 main_arg4 (by decide : main_arg4 ∈ Pipeline.restRefs sig spec0)).trans (V_main_arg4 m c),
   ((h c).2 main_arg5 (by decide : main_arg5 ∈ Pipeline.restRefs sig spec0)).trans (V_main_arg5 m c),
   ((h c).2 main_arg6 (by decide : main_arg6 ∈ Pipeline.restRefs sig spec0)).trans (V_main_arg6 m c),
   ((h c).2 main_arg7 (by decide : main_arg7 ∈ Pipeline.restRefs sig spec0)).trans (V_main_arg7 m c),
   ((h c).2 main_arg8 (by decide : main_arg8 ∈ Pipeline.restRefs sig spec0)).trans (V_main_arg8 m c),
   ((h c).2 main_arg9 (by decide : main_arg9 ∈ Pipeline.restRefs sig spec0)).trans (V_main_arg9 m c),
   (RDat.FramePost.arr_in h c 11 rfl).trans (V_main_arg10 m c)⟩
end

end Cert.KernelIdeal.Run
-- ==== Proof.Plan.lean ====
/-
The step plan the host code computes from the lengths: the number of steps and the word of each group of sixteen
rows, and the bounds that the precondition gives them.
-/
module

public import proofs.«01_k».proof.Proof.Host
public import Idealize.ShloMosaic.Lib.Routing.OpsSearch
public import Idealize.ShloMosaic.Lib.StableHlo.Predicate
public import Idealize.ShloMosaic.Lib.StableHlo.ReadAt

@[expose] public section

set_option maxRecDepth 16384

noncomputable section

namespace Cert.KernelIdeal.Run

open Idealize.ShloMosaic Idealize.ShloMosaic.TcCoe Idealize.ShloMosaic.Tactic Idealize.ShloMosaic.Routing
open Cert.KernelIdeal Cert.KernelIdeal.Facts Cert.KernelIdeal.Rolled Cert.KernelIdeal.Gen Cert.Mini

variable {F : FTy → Type} [FloatOps F]
variable (m : (ℓ : Loc nD τ sig) → Buf (Elt F) ℓ)

/-! ## The plan as functions of the lengths -/

/-- The number of groups of sixteen rows of each user. -/
def groupsV (L : IVec S576 32) : IVec S576 32 :=
  pyDiv bcast_S_S576 (addi L (broadcastInDim S576 ![] bcast_S_S576 (constantI S_ 32 15#32))) (constantI S_ 32 16#32)

/-- The groups of the users up to and with each one. -/
def gendV (L : IVec S576 32) : IVec S576 32 :=
  Host.reduce IntOp.addi
    (select (cmpi .sge (broadcastInDim S576x576 ![0, 1] bcast_S576x1_S576x576_0_1 (broadcastInDim S576x1 ![0] bcast_S576_S576x1_0 (iotaInDim S576 32 0)))
        (broadcastInDim S576x576 ![0, 1] bcast_S1x576_S576x576_0_1 (broadcastInDim S1x576 ![1] bcast_S576_S1x576_1 (iotaInDim S576 32 0))))
      (broadcastInDim S576x576 ![0, 1] bcast_S1x576_S576x576_0_1 (broadcastInDim S1x576 ![1] bcast_S576_S1x576_1 (groupsV L)))
      (broadcastInDim S576x576 ![] bcast_S_S576x576 (constantI S_ 32 0#32)))
    (constantI S_ 32 0#32) reducesTo_S576x576_S576_d1 h_S_

/-- All groups. -/
def totalV (L : IVec S576 32) : IVec S_ 32 := Host.reduce IntOp.addi (groupsV L) (constantI S_ 32 0#32) reducesTo_S576_S_d0 h_S_

/-- The steps of the grid. -/
def stepsV (L : IVec S576 32) : IVec S_ 32 :=
  pyDiv0 (subi (addi (muli (totalV L) (constantI S_ 32 16#32)) (constantI S_ 32 2048#32)) (constantI S_ 32 1#32)) (constantI S_ 32 2048#32)

/-- Where a group's user has ended already. -/
def endedV (L : IVec S576 32) : IVec S4608x576 1 :=
  cmpi .sle (broadcastInDim S4608x576 ![0, 1] bcast_S1x576_S4608x576_0_1 (broadcastInDim S1x576 ![1] bcast_S576_S1x576_1 (gendV L)))
    (broadcastInDim S4608x576 ![0, 1] bcast_S4608x1_S4608x576_0_1 (broadcastInDim S4608x1 ![0] bcast_S4608_S4608x1_0 (iotaInDim S4608 32 0)))

/-- The user of each group. -/
def userV (L : IVec S576 32) : IVec S4608 32 :=
  Host.reduce IntOp.addi (extui 32 (endedV L) natLt_1_32) (constantI S_ 32 0#32) reducesTo_S4608x576_S4608_d1 h_S_

/-- A table's entry of each group's user, by a masked sum. -/
def pickV (L : IVec S576 32) (x : IVec S576 32) : IVec S4608 32 :=
  Host.reduce IntOp.addi
    (select (cmpi .eq (broadcastInDim S4608x576 ![0, 1] bcast_S4608x1_S4608x576_0_1 (broadcastInDim S4608x1 ![0] bcast_S4608_S4608x1_0 (userV L)))
        (broadcastInDim S4608x576 ![0, 1] bcast_S1x576_S4608x576_0_1 (broadcastInDim S1x576 ![1] bcast_S576_S1x576_1 (iotaInDim S576 32 0))))
      (broadcastInDim S4608x576 ![0, 1] bcast_S1x576_S4608x576_0_1 (broadcastInDim S1x576 ![1] bcast_S576_S1x576_1 x))
      (broadcastInDim S4608x576 ![] bcast_S_S4608x576 (constantI S_ 32 0#32)))
    (constantI S_ 32 0#32) reducesTo_S4608x576_S4608_d1 h_S_

/-- The position of each group's first row within its user. -/
def startV (L : IVec S576 32) : IVec S4608 32 :=
  select (cmpi .slt (userV L) (broadcastInDim S4608 ![] bcast_S_S4608 (constantI S_ 32 576#32)))
    (muli (broadcastInDim S4608 ![] bcast_S_S4608 (constantI S_ 32 16#32)) (subi (iotaInDim S4608 32 0) (pickV L (subi (gendV L) (groupsV L)))))
    (broadcastInDim S4608 ![] bcast_S_S4608 (constantI S_ 32 0#32))

/-- How many of each group's rows count. -/
def validV (L : IVec S576 32) : IVec S4608 32 :=
  minsi (broadcastInDim S4608 ![] bcast_S_S4608 (constantI S_ 32 16#32))
    (maxsi (broadcastInDim S4608 ![] bcast_S_S4608 (constantI S_ 32 0#32)) (subi (pickV L L) (startV L)))

/-- The word of each group. -/
def infoV (L : IVec S576 32) : IVec S4608 32 :=
  ori (ori (userV L) (Host.shli (startV L) (broadcastInDim S4608 ![] bcast_S_S4608 (constantI S_ 32 16#32))))
    (Host.shli (validV L) (broadcastInDim S4608 ![] bcast_S_S4608 (constantI S_ 32 24#32)))

/-- The lengths. -/
abbrev lens : IVec S576 32 := m ((0 : Dev nD), main_arg0)

theorem tbl_steps : tbl m 0 = stepsV (lens m) := by
  show V m (0 : Dev nD) main_v28 = _
  unfold V
  simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_reads_simp
  simp -implicitDefEqProofs only [StableHlo.TRef.toBuf, StableHlo.TRef.ofBuf, cast_cast, cast_eq]
  unfold stepsV totalV groupsV pyDiv pyDiv0
  rfl

theorem tbl_info : tbl m 1 = infoV (lens m) := by
  show V m (0 : Dev nD) main_v62 = _
  unfold V
  simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_reads_simp
  simp -implicitDefEqProofs only [StableHlo.TRef.toBuf, StableHlo.TRef.ofBuf, cast_cast, cast_eq]
  unfold infoV validV startV pickV userV endedV gendV groupsV pyDiv
  rfl

/-! ## Bounds -/

/-- The lengths are between 0 and 128. -/
def Fit (L : IVec S576 32) : Prop := ∀ i, (L i).toNat ≤ 128

variable (L : IVec S576 32)

theorem groups_at (hL : Fit L) (i : S576.Idx) : groupsV L i = BitVec.ofNat 32 (((L i).toNat + 15) / 16) := by
  refine pyDiv_ap bcast_S_S576 _ _ i ?_ rfl ?_ (by decide) (by decide)
  · show L i + 15#32 = _
    apply BitVec.eq_of_toNat_eq
    have := hL i
    simp only [BitVec.toNat_add, BitVec.toNat_ofNat]
  · have := hL i; omega

/-- The groups of all users. -/
def total : Nat := ((List.range 576).map fun i => if h : i < 576 then ((L (ValueIdx.ix1 ⟨i, h⟩)).toNat + 15) / 16 else 0).sum

theorem total_le (hL : Fit L) : total L ≤ 4608 := by
  have := List.sum_le_card_nsmul ((List.range 576).map fun i => if h : i < 576 then ((L (ValueIdx.ix1 ⟨i, h⟩)).toNat + 15) / 16 else 0) 8
    (fun x hx => by
      obtain ⟨i, _, rfl⟩ := List.mem_map.1 hx
      split
      · have := hL (ValueIdx.ix1 ⟨i, by assumption⟩); omega
      · omega)
  simpa [total] using this

theorem total_at (hL : Fit L) : totalV L ValueIdx.ix0 = BitVec.ofNat 32 (total L) :=
  reduce_sum (groupsV L) (fun i => if h : i < 576 then ((L (ValueIdx.ix1 ⟨i, h⟩)).toNat + 15) / 16 else 0)
    (fun i => by rw [groups_at L hL, dif_pos i.isLt]) _ _

theorem steps_at (hL : Fit L) : stepsV L ValueIdx.ix0 = BitVec.ofNat 32 ((16 * total L + 2047) / 2048) := by
  refine pyDiv0_ap _ _ ?_ rfl ?_ (by decide) (by decide)
  · show totalV L ValueIdx.ix0 * 16#32 + 2048#32 - 1#32 = _
    rw [total_at L hL]
    have := total_le L hL
    apply BitVec.eq_of_toNat_eq
    simp only [BitVec.toNat_add, BitVec.toNat_sub, BitVec.toNat_mul, BitVec.toNat_ofNat]
    omega
  · have := total_le L hL; omega

theorem steps_le (hL : Fit L) : (stepsV L ValueIdx.ix0).toNat ≤ 36 := by
  rw [steps_at L hL, BitVec.toNat_ofNat]
  have := total_le L hL
  omega

theorem user_le (g : S4608.Idx) : (userV L g).toNat ≤ 576 := by
  unfold userV
  rw [StableHlo.Predicate.toNat_reduce_count_cols (by decide) (endedV L) natLt_1_32 reducesTo_S4608x576_S4608_d1 h_S_ g]
  exact (Finset.card_le_univ _).trans (by simp)

theorem info_low (g : S4608.Idx) : ((infoV L g) &&& 65535#32).toNat = (userV L g).toNat := by
  have hu := user_le L g
  have e : infoV L g = userV L g ||| (startV L g <<< (16 : Nat)) ||| (validV L g <<< (24 : Nat)) := by rfl
  rw [e]
  have h : (userV L g ||| (startV L g <<< (16 : Nat)) ||| (validV L g <<< (24 : Nat))) &&& 65535#32 = userV L g := by
    generalize userV L g = u at hu
    generalize startV L g = s
    generalize validV L g = v
    have hu' : u &&& 65535#32 = u := by
      apply BitVec.eq_of_toNat_eq
      rw [BitVec.toNat_and, show (65535#32 : BitVec 32).toNat = 2 ^ 16 - 1 from rfl, Nat.and_two_pow_sub_one_eq_mod]
      omega
    have hs : ∀ (x : BitVec 32) (k : Nat), 16 ≤ k → (x <<< k) &&& 65535#32 = 0#32 := by
      intro x k hk
      apply BitVec.eq_of_toNat_eq
      rw [BitVec.toNat_and, show (65535#32 : BitVec 32).toNat = 2 ^ 16 - 1 from rfl, Nat.and_two_pow_sub_one_eq_mod, BitVec.toNat_shiftLeft,
        Nat.shiftLeft_eq]
      obtain ⟨j, rfl⟩ := Nat.exists_eq_add_of_le hk
      have : x.toNat * 2 ^ (16 + j) = 2 ^ 16 * (x.toNat * 2 ^ j) := by rw [pow_add]; ring
      rw [this]
      simp only [BitVec.toNat_ofNat]
      omega
    rw [BitVec.and_or_distrib_right, BitVec.and_or_distrib_right, hs s 16 (le_refl _), hs v 24 (by decide), hu']
    simp
  rw [h]

/-- A word whose low sixteen bits are a user or the spare row passes the kernel's checks. -/
theorem chk2_of (w : BitVec 32) (h : (w &&& 65535#32).toNat ≤ 576) : k0_chk2 w := by
  have h8 : ((w &&& 65535#32) * 8#32).toNat = (w &&& 65535#32).toNat * 8 := by
    rw [BitVec.toNat_mul]; simp only [BitVec.toNat_ofNat]; omega
  have h16 : ((w &&& 65535#32) * 16#32).toNat = (w &&& 65535#32).toNat * 16 := by
    rw [BitVec.toNat_mul]; simp only [BitVec.toNat_ofNat]; omega
  refine ⟨?_, ?_, ?_, ?_, ?_, ?_⟩
  · show 8 ∣ ((w &&& 65535#32) * 8#32).toNat; rw [h8]; exact ⟨_, Nat.mul_comm _ _⟩
  · show 16 ∣ ((w &&& 65535#32) * 16#32).toNat; rw [h16]; exact ⟨_, Nat.mul_comm _ _⟩
  · intro a; fin_cases a
    · show ((w &&& 65535#32) * 16#32).toNat + 16 ≤ 9232; omega
    · show 0 + 512 ≤ 512; omega
  · intro a; fin_cases a
    · show ((w &&& 65535#32) * 8#32).toNat + 8 ≤ 4616; omega
    · show 0 + 256 ≤ 256; omega
  · intro a; fin_cases a
    · show ((w &&& 65535#32) * 8#32).toNat + 8 ≤ 4616; omega
    · show 0 + 512 ≤ 512; omega
  · intro a; fin_cases a
    · show ((w &&& 65535#32) * 8#32).toNat + 8 ≤ 4616; omega
    · show 0 + 128 ≤ 128; omega

theorem iv4 (t : Fin k0_t3_loop.trips) : Scf.iv 0#32 1#32 t = BitVec.ofNat 32 t.val := by
  simp [Scf.iv]

theorem trips3 : k0_t3_loop.trips = 4 := by sl_kernel_rfl

/-- Where the kernel reads the word of group `r` of trip `t` of step `n`. -/
theorem off6_eq (n : Nat) (hn : n < 36) (t : Fin k0_t3_loop.trips) (r : Nat) (hr : r < 32) :
    k0_off6 (BitVec.ofNat 32 n) t (BitVec.ofNat 32 r) 0 = 128 * n + 32 * t.val + r := by
  show (((BitVec.ofNat 32 n * 4#32 + (0#32 + Scf.iv 0#32 1#32 t * 1#32)) * 32#32) + BitVec.ofNat 32 r).toNat = _
  rw [iv4]
  have ht : t.val < 4 := trips3 ▸ t.isLt
  simp only [BitVec.toNat_add, BitVec.toNat_mul, BitVec.toNat_ofNat]
  omega

theorem chk1_of (n : Nat) (hn : n < 36) : k0_chk1 (BitVec.ofNat 32 n) := by
  intro t r a
  have ht : t.val < 4 := trips3 ▸ t.isLt
  have := r.isLt
  fin_cases a
  show k0_off6 (BitVec.ofNat 32 n) t (BitVec.ofNat 32 r.val) 0 + 1 ≤ 4608
  rw [off6_eq n hn t r.val r.isLt]
  omega

set_option maxHeartbeats 2000000 in
theorem ok_of (hL : Fit (lens m)) : Ok m := by
  have hb : dynb0 (tbl m) 0 ≤ 36 := by
    show (tbl m 0 fun a => a.elim0).toNat ≤ 36
    rw [tbl_steps]
    exact steps_le _ hL
  have hi : ∀ i : (grid0.at (dynb0 (tbl m))).Coords, (i 0).val < 36 := fun i => lt_of_lt_of_le (i 0).isLt hb
  have h1 : ∀ i : (grid0.at (dynb0 (tbl m))).Coords, (1#32 + BitVec.ofNat 32 (i 0).val).toNat = 1 + (i 0).val := fun i => by
    have := hi i
    rw [BitVec.toNat_add]; simp only [BitVec.toNat_ofNat]; omega
  refine ⟨?_, fun i => ⟨?_, .inl rfl, .inl rfl⟩, fun i => ⟨?_, .inl rfl⟩, fun i => ⟨?_, .inl rfl⟩, fun i => ⟨?_, .inl rfl⟩, fun i => ⟨?_, .inr ?_⟩,
    fun i => ⟨?_, .inl rfl⟩, fun i => ⟨?_, .inl rfl⟩, fun i => ⟨?_, .inr ?_⟩, fun i => ⟨?_, .inl rfl⟩, fun i => ⟨?_, .inl rfl⟩, fun i => ⟨?_, .inl rfl⟩,
    fun i => ⟨?_, .inl rfl⟩, fun i => ⟨?_, .inr ?_⟩, fun i => ⟨?_, .inl rfl⟩⟩
  · show (grid0.at (dynb0 (tbl m))).N + 2 < 2 ^ 31
    have : (grid0.at (dynb0 (tbl m))).N = dynb0 (tbl m) 0 := by
      simp [Pipeline.Grid.N]
      rfl
    omega
  · intro a; fin_cases a <;> (show 0 * _ < _) <;> decide
  · intro a; fin_cases a <;> (show (0 + 1) * _ ≤ _) <;> decide
  · intro a; fin_cases a
    · show ((1#32 + BitVec.ofNat 32 (i 0).val).toNat + 1) * 512 ≤ 18944
      rw [h1]; have := hi i; omega
    · show (0 + 1) * 512 ≤ 512; decide
  · intro a; fin_cases a
    · show ((1#32 + BitVec.ofNat 32 (i 0).val).toNat + 1) * 8 ≤ 296
      rw [h1]; have := hi i; omega
    · show (0 + 1) * 128 ≤ 128; decide
  · intro a; fin_cases a <;> (show (0 + 1) * _ ≤ _) <;> decide
  · have e : cc0_transform_4 (dynb0 (tbl m)) i = fun _ => 0 := by funext a; fin_cases a <;> rfl
    simp only [e]
    exact Rect.wholeWords_block_self _ _ _
  · intro a; fin_cases a <;> (show (0 + 1) * _ ≤ _) <;> decide
  · intro a; fin_cases a <;> (show (0 + 1) * _ ≤ _) <;> decide
  · intro a; fin_cases a <;> (show (0 + 1) * _ ≤ _) <;> decide
  · have e : cc0_transform_7 (dynb0 (tbl m)) i = fun _ => 0 := by funext a; fin_cases a <;> rfl
    simp only [e]
    exact Rect.wholeWords_block_self _ _ _
  · intro a; fin_cases a <;> (show (0 + 1) * _ ≤ _) <;> decide
  · intro a; fin_cases a <;> (show (0 + 1) * _ ≤ _) <;> decide
  · intro a; fin_cases a <;> (show (0 + 1) * _ ≤ _) <;> decide
  · intro a; fin_cases a <;> (show (0 + 1) * _ ≤ _) <;> decide
  · intro a; fin_cases a <;> (show (0 + 1) * _ ≤ _) <;> decide
  · have e : cc0_transform_12 (dynb0 (tbl m)) i = fun _ => 0 := by funext a; fin_cases a <;> rfl
    simp only [e]
    exact Rect.wholeWords_block_self _ _ _
  · intro a; fin_cases a <;> (show (0 + 1) * _ ≤ _) <;> decide

end Cert.KernelIdeal.Run
-- ==== Proof.Frame.lean ====
/-
The frame: from lengths between 0 and 128 the program runs, keeps its arguments and leaves every semaphore at zero.
-/
module

public import proofs.«01_k».proof.Proof.Launch
public import proofs.«01_k».proof.Proof.Plan

@[expose] public section

set_option maxRecDepth 16384

noncomputable section

namespace Cert.KernelIdeal.Run

open Idealize.ShloMosaic Idealize.ShloMosaic.TcCoe Idealize.ShloMosaic.Tactic Idealize.SL.Sem
open Cert.KernelIdeal Cert.KernelIdeal.Facts Cert.KernelIdeal.Rolled Cert.KernelIdeal.Gen Cert.Mini

variable {F : FTy → Type} [FloatOps F]
variable (m : (ℓ : Loc nD τ sig) → Buf (Elt F) ℓ) (ρ : Dev nD → PrngReg)

theorem coords_lt (b : grid0.Bounds) (hb : b 0 ≤ 36) (i : (grid0.at b).Coords) : (i 0).val < 36 :=
  lt_of_lt_of_le (i 0).isLt (le_of_eq_of_le rfl hb)

theorem dyn_le (hL : Fit (lens m)) : dynb0 (tbl m) 0 ≤ 36 := by
  have h := steps_le _ hL
  rw [← tbl_steps m] at h
  exact h

/-- Every word of the table passes the kernel's checks. -/
theorem chk2_word (n : BitVec 32) (h : k0_chk1 n) (t : Fin k0_t3_loop.trips) (k : Fin 32) : k0_chk2 (word (tbl m 1) n h t k) := by
  refine chk2_of _ ?_
  unfold word
  rw [tbl_info]
  exact le_of_eq_of_le (info_low _ _) (user_le _ _)

theorem step_free (hL : Fit (lens m)) (hO : Ok m) (c : Dev nD) :
    Step m hO (fun _ _ => True) (fun _ _ => True) (fun _ _ => True) c := by
  intro t Y _ σ _
  refine body_wp _ _ _ _ (chk1_of _ (coords_lt _ (dyn_le m hL) _)) (fun t k => chk2_word m _ _ t k) (fun _ _ => True) (fun _ => trivial) (fun _ => trivial)
    (fun _ _ _ _ _ _ => trivial) (fun σ' _ h _ => ⟨h.trans (last_same σ'), trivial, trivial, trivial⟩) (fun σ' _ h _ => ⟨h, trivial, trivial, trivial⟩)

theorem frame (hL : Fit (lens m)) :
    θ_run (defs (F := F)) (onTc (τ := τ) (main (F := F))) ⟨m, fun _ => 0, ρ⟩ (fun r => (∀ c : Dev nD,
       r.2.mem ((c.tc : Thread nD τ).loc main_arg0) = m ((c.tc : Thread nD τ).loc main_arg0)
     ∧ r.2.mem ((c.tc : Thread nD τ).loc main_arg1) = m ((c.tc : Thread nD τ).loc main_arg1)
     ∧ r.2.mem ((c.tc : Thread nD τ).loc main_arg2) = m ((c.tc : Thread nD τ).loc main_arg2)
     ∧ r.2.mem ((c.tc : Thread nD τ).loc main_arg3) = m ((c.tc : Thread nD τ).loc main_arg3)
     ∧ r.2.mem ((c.tc : Thread nD τ).loc main_arg4) = m ((c.tc : Thread nD τ).loc main_arg4)
     ∧ r.2.mem ((c.tc : Thread nD τ).loc main_arg5) = m ((c.tc : Thread nD τ).loc main_arg5)
     ∧ r.2.mem ((c.tc : Thread nD τ).loc main_arg6) = m ((c.tc : Thread nD τ).loc main_arg6)
     ∧ r.2.mem ((c.tc : Thread nD τ).loc main_arg7) = m ((c.tc : Thread nD τ).loc main_arg7)
     ∧ r.2.mem ((c.tc : Thread nD τ).loc main_arg8) = m ((c.tc : Thread nD τ).loc main_arg8)
     ∧ r.2.mem ((c.tc : Thread nD τ).loc main_arg9) = m ((c.tc : Thread nD τ).loc main_arg9)
     ∧ r.2.mem ((c.tc : Thread nD τ).loc main_arg10) = m ((c.tc : Thread nD τ).loc main_arg10)) ∧ r.2.sem = fun _ => 0) :=
  θ_run_mono (run_main m ρ (ok_of m hL) (fun _ _ => True) (fun _ _ => True) (fun _ _ => True) (fun _ => trivial) fun c => step_free m hL (ok_of m hL) c)
    fun r h => ⟨fun c => args_kept m (ok_of m hL) _ _ _ r h.1 c, h.2⟩

end Cert.KernelIdeal.Run
-- ==== Proof.Group.lean ====
/-
What a group of sixteen rows computes, read at one row and one column over the extended reals.
-/
module

public import proofs.«01_k».proof.Proof.Rolled
public import proofs.«01_k».proof.Proof.Score
public import Idealize.ShloMosaic.Lib.BitcastPair

@[expose] public section

set_option maxRecDepth 16384

noncomputable section

namespace Cert.KernelIdeal.Rolled

open Idealize.ShloMosaic Idealize.ShloMosaic.TcCoe Idealize.ShloMosaic.Tactic
open Cert.KernelIdeal Cert.KernelIdeal.Facts₀ Cert.KernelIdeal.Facts Cert.Score

theorem z1_at (x0 x1 x2 : Vec Ideal S512x512 .bf16) (u0 u1 u2 : Vec Ideal S512x256 .bf16) (r : Fin 512) (c : Fin 256) :
    z1Of x0 u0 x1 u1 x2 u2 (ix2 r c) = (∑ k, x0 (ix2 r k) * u0 (ix2 k c) + ∑ k, x1 (ix2 r k) * u1 (ix2 k c) + ∑ k, x2 (ix2 r k) * u2 (ix2 k c) : EReal) := by
  pointwise [z1Of]

theorem d1_at (z1 : FVec Ideal S512x256 .f32) (k : Fin 32) (t8 : Vec Ideal S8x256 .f32) (a : Vec Ideal S1x256 .f32) (i : Fin 16) (c : Fin 256) :
    d1Of z1 k t8 a (ix2 i c)
      = prelu (a (ix2 0 c)) (z1 (ix2 ⟨16 * k.val + i.val, by omega⟩ c) + t8 (ix2 ⟨i.val % 8, by omega⟩ c)) := by
  have e : ∀ h : i.val < 8, (⟨i.val, h⟩ : Fin 8) = ⟨i.val % 8, by omega⟩ := fun h => Fin.ext (by simp; omega)
  have e' : ∀ h : ¬ i.val < 8, (⟨i.val - 8, by omega⟩ : Fin 8) = ⟨i.val % 8, by omega⟩ := fun h => Fin.ext (by simp; omega)
  pointwise [d1Of]
  by_cases h : i.val < 8
  · simp only [dif_pos h, e h]; rfl
  · simp only [dif_neg h, e' h]; rfl

theorem sc_at (d1 : Vec Ideal S512x256 .bf16) (u : Vec Ideal S256x128 .bf16) (b2 a2 w3 : Vec Ideal S1x128 .f32) (b3 : Elt Ideal .f32) (r : Fin 512) :
    scOf d1 u b2 a2 w3 b3 (ix2 r 0)
      = (∑ k : Fin 128, prelu (a2 (ix2 0 k)) (∑ c, d1 (ix2 r c) * u (ix2 c k) + b2 (ix2 0 k)) * w3 (ix2 0 k) + b3 : EReal) := by
  pointwise [scOf]
  rfl

theorem eq_sub (l : Fin 128) (u : Fin 8) (s : Nat) (hs : s < 1000) :
    IntOp.cmpi .eq (IntOp.subi (BitVec.ofNat 32 l.val) (BitVec.ofNat 32 u.val)) (BitVec.ofNat 32 s) = 1#1 ↔ l.val = u.val + s := by
  have e : IntOp.cmpi .eq (IntOp.subi (BitVec.ofNat 32 l.val) (BitVec.ofNat 32 u.val)) (BitVec.ofNat 32 s) = 1#1
      ↔ BitVec.ofNat 32 l.val - BitVec.ofNat 32 u.val = BitVec.ofNat 32 s := by
    unfold IntOp.cmpi IntOp.subi
    show BitVec.ofBool (BitVec.ofNat 32 l.val - BitVec.ofNat 32 u.val == BitVec.ofNat 32 s) = 1#1 ↔ _
    by_cases h : BitVec.ofNat 32 l.val - BitVec.ofNat 32 u.val = BitVec.ofNat 32 s
    · simp [h]
    · rw [beq_eq_false_iff_ne.2 h]; exact ⟨fun e => absurd e (by decide), fun e => absurd e h⟩
  rw [e, ← BitVec.toNat_inj]
  simp only [BitVec.toNat_sub, BitVec.toNat_ofNat]
  omega

theorem lt_lo : ∀ (u : Fin 8) (n : Fin 17), IntOp.cmpi .slt (BitVec.ofNat 32 u.val) (BitVec.ofNat 32 n.val) = 1#1 ↔ u.val < n.val := by decide
theorem lt_hi : ∀ (u : Fin 8) (n : Fin 17), IntOp.cmpi .slt (BitVec.ofNat 32 u.val) (Scalar.subi (BitVec.ofNat 32 n.val) 8#32) = 1#1 ↔ u.val + 8 < n.val := by decide

theorem select_iff {α : Type} (c : BitVec 1) (p : Prop) [Decidable p] (h : c = 1#1 ↔ p) (x y : α) : Scalar.select c x y = if p then x else y := by
  unfold Scalar.select
  by_cases hp : p
  · rw [if_pos hp]; exact if_pos (h.2 hp)
  · rw [if_neg hp]; exact if_neg fun e => hp (h.1 e)

/-- A group's scores, each added at the place of its row: position `s + i` on row `i % 8`, for the `n` rows that count. -/
theorem pos_at (sc : FVec Ideal S512x1 .f32) (k : Fin 32) (v : BitVec 32) (acc : Vec Ideal S8x128 .f32) (u : Fin 8) (l : Fin 128)
    (n : Fin 17) (s : Nat) (hs : s < 900) (hn : nValid v = BitVec.ofNat 32 n.val) (hv : sFirst v = BitVec.ofNat 32 s) :
    posOf sc k v acc (ix2 u l) = (acc (ix2 u l) + if h : s ≤ l.val ∧ l.val < s + n.val ∧ (l.val - s) % 8 = u.val then
      sc (ix2 ⟨16 * k.val + (l.val - s), by omega⟩ 0) else 0 : EReal) := by
  have h8 : Scalar.addi (BitVec.ofNat 32 s) 8#32 = BitVec.ofNat 32 (s + 8) := by
    show BitVec.ofNat 32 s + BitVec.ofNat 32 8 = _
    rw [← BitVec.ofNat_add]
  have i1 : ¬ (l.val = u.val + s ∧ l.val = u.val + (s + 8)) := by omega
  pointwise [posOf, loOf, hiOf, maskedOf, diag]
  rw [hn, hv, h8, select_iff _ _ (eq_sub l u s (by omega)), select_iff _ _ (eq_sub l u (s + 8) (by omega)),
    select_iff _ _ (lt_lo u n), select_iff _ _ (lt_hi u n)]
  congr 1
  by_cases h1 : l.val = u.val + s
  · rw [if_pos h1, if_neg (show ¬ l.val = u.val + (s + 8) by omega), add_zero]
    by_cases h2 : u.val < n.val
    · rw [if_pos h2, dif_pos (by omega)]
      congr 3; omega
    · rw [if_neg h2, dif_neg (by omega)]
  · rw [if_neg h1, zero_add]
    by_cases h3 : l.val = u.val + (s + 8)
    · rw [if_pos h3]
      by_cases h2 : u.val + 8 < n.val
      · rw [if_pos h2, dif_pos (by omega)]
        congr 3; omega
      · rw [if_neg h2, dif_neg (by omega)]
    · rw [if_neg h3, dif_neg (by omega)]

/-! ## Dequantised rows -/

theorem bytes_at (w : IVec S8x512 32) (p : Fin 32) (d : Fin 512) :
    bitcast S32x512 8 w bitcasts_S8x512_w32_S32x512_w8 (ix2 p d) = (w (ix2 ⟨p.val / 4, by omega⟩ d)).extractLsb' (8 * (p.val % 4)) 8 := by
  apply BitVec.eq_of_getLsbD_eq
  intro q hq
  rw [bitcast_getLsbD _ _ _ q hq (by decide), BitVec.getLsbD_extractLsb']
  have r0 : S32x512.row (ix2 p d) = p.val := by rfl
  have e1 : (S32x512.row (ix2 p d) * 8 + q) / 32 = p.val / 4 := by rw [r0]; omega
  have e2 : (S32x512.row (ix2 p d) * 8 + q) % 32 = 8 * (p.val % 4) + q := by rw [r0]; omega
  have e3 : ∀ hp, (bitcasts_S8x512_w32_S32x512_w8).srcIdx (ix2 p d) ((S32x512.row (ix2 p d) * 8 + q) / 32) hp = ix2 ⟨p.val / 4, by omega⟩ d := by
    intro hp
    funext a
    match a with
    | ⟨0, _⟩ => exact Fin.ext (((bitcasts_S8x512_w32_S32x512_w8).srcIdx_row _ _ _ ⟨0, Nat.zero_lt_two⟩ rfl).trans e1)
    | ⟨1, _⟩ => exact Fin.ext ((bitcasts_S8x512_w32_S32x512_w8).srcIdx_other _ _ _ ⟨1, Nat.one_lt_two⟩ (by show ¬ 1 + 2 = 2; omega))
  rw [e2, e3]
  simp [hq]

theorem halves_at (w : IVec S8x128 32) (p : Fin 16) (l : Fin 128) :
    bitcast S16x128 16 w bitcasts_S8x128_w32_S16x128_w16 (ix2 p l) = (w (ix2 ⟨p.val / 2, by omega⟩ l)).extractLsb' (16 * (p.val % 2)) 16 := by
  have r0 : S16x128.row (ix2 p l) = p.val := by rfl
  rw [bitcast_32_16]
  have e3 : ∀ hp, (bitcasts_S8x128_w32_S16x128_w16).srcIdx (ix2 p l) (S16x128.row (ix2 p l) / 2) hp = ix2 ⟨p.val / 2, by omega⟩ l := by
    intro hp
    funext a
    match a with
    | ⟨0, _⟩ => exact Fin.ext (((bitcasts_S8x128_w32_S16x128_w16).srcIdx_row _ _ _ ⟨0, Nat.zero_lt_two⟩ rfl).trans (by rw [r0]; rfl))
    | ⟨1, _⟩ => exact Fin.ext ((bitcasts_S8x128_w32_S16x128_w16).srcIdx_other _ _ _ ⟨1, Nat.one_lt_two⟩ (by show ¬ 1 + 2 = 2; omega))
  rw [e3, r0]

theorem lane_at : ∀ (j : Fin 16) (i : Fin 8),
    (Scalar.select (IntOp.cmpi .slt (IntOp.addi (BitVec.ofNat 32 i.val) (BitVec.ofNat 32 (8 * j.val))) 0#32)
      (IntOp.addi (IntOp.addi (BitVec.ofNat 32 i.val) (BitVec.ofNat 32 (8 * j.val))) 128#32)
      (IntOp.addi (BitVec.ofNat 32 i.val) (BitVec.ofNat 32 (8 * j.val)))).toNat % 128 = 8 * j.val + i.val := by decide

theorem scaleRows_at (row : Vec Ideal S1x128 .i32) (j : Fin 16) (i : Fin 16) (l : Fin 128) :
    scaleRows (F := Ideal) row (BitVec.ofNat 32 (8 * j.val)) (ix2 i l)
      = Ideal.ofBits .bf16 ((row (ix2 0 ⟨8 * j.val + i.val / 2, by omega⟩) : BitVec 32).extractLsb' (16 * (i.val % 2)) 16) := by
  unfold scaleRows
  show Ideal.ofBits .bf16 (bitcast S16x128 16 _ _ (ix2 i l)) = _
  rw [halves_at]
  congr 2
  pointwise [gatherAt]
  congr 2
  exact Fin.ext (lane_at j ⟨i.val / 2, by omega⟩)

/-- A dequantised row: row `16 g + i` of the bytes, times its scale. -/
theorem rows_at (w : Vec Ideal S8x512 .i32) (g : Fin 2) (row : Vec Ideal S1x128 .i32) (j : Fin 16) (i : Fin 16) (d : Fin 512) :
    rows (codeRows w) g row (BitVec.ofNat 32 (8 * j.val)) (ix2 i d)
      = (FloatOps.sitofp (F := Ideal) .bf16 ((w (ix2 ⟨(16 * g.val + i.val) / 4, by omega⟩ d) : BitVec 32).extractLsb' (8 * ((16 * g.val + i.val) % 4)) 8)
        * Ideal.ofBits .bf16 ((row (ix2 0 ⟨8 * j.val + i.val / 2, by omega⟩) : BitVec 32).extractLsb' (16 * (i.val % 2)) 16) : EReal) := by
  have e : ∀ p : Fin 32, codeRows (F := Ideal) w (ix2 p d)
      = FloatOps.sitofp (F := Ideal) .bf16 ((w (ix2 ⟨p.val / 4, by omega⟩ d) : BitVec 32).extractLsb' (8 * (p.val % 4)) 8) := fun p =>
    congrArg (FloatOps.sitofp (F := Ideal) .bf16) (bytes_at w p d)
  pointwise [rows]
  rw [e]
  congr 1
  split_ifs <;> exact scaleRows_at row j i _

end Cert.KernelIdeal.Rolled

end
-- ==== Proof.Rects.lean ====
/-
Reading the buffers through rectangles, the rectangles' offsets, and the staged inputs, over the extended reals.
-/
module

public import proofs.«01_k».proof.Proof.Sem
public import proofs.«01_k».proof.Proof.Group

@[expose] public section

set_option maxRecDepth 16384

noncomputable section

namespace Cert.KernelIdeal.Rolled

open Idealize.ShloMosaic Idealize.ShloMosaic.TcCoe Idealize.ShloMosaic.Tactic
open Cert.KernelIdeal Cert.KernelIdeal.Facts₀ Cert.KernelIdeal.Facts Cert.Mini Cert.Score

/-! ## Reading through rectangles -/

section
variable {e : EltTy} {n k a b : Nat}

theorem rect_idx (off : Fin 2 → Nat) (inb : ∀ x, off x + (![a, b] : Fin 2 → Nat) x ≤ (⟨2, ![n, k]⟩ : Shape).size x)
    (r : Fin n) (c : Fin k) (i : Fin a) (j : Fin b) (hr : r.val = off 0 + i.val) (hc : c.val = off 1 + j.val) :
    (Rect.unit (s := ⟨2, ![n, k]⟩) off ![a, b] inb).idx (ix2 i j) = ix2 r c := by
  funext x
  match x with
  | ⟨0, _⟩ => exact Fin.ext (by show off 0 + 1 * i.val = r.val; omega)
  | ⟨1, _⟩ => exact Fin.ext (by show off 1 + 1 * j.val = c.val; omega)

theorem ow_in (off : Fin 2 → Nat) (inb : ∀ x, off x + (![a, b] : Fin 2 → Nat) x ≤ (⟨2, ![n, k]⟩ : Shape).size x)
    (X : (⟨2, ![n, k]⟩ : Shape).Idx → Elt Ideal e) (Y : (⟨2, ![a, b]⟩ : Shape).Idx → Elt Ideal e)
    (r : Fin n) (c : Fin k) (i : Fin a) (j : Fin b) (hr : r.val = off 0 + i.val) (hc : c.val = off 1 + j.val) :
    overwrite (Rect.unit (s := ⟨2, ![n, k]⟩) off ![a, b] inb) X Y (ix2 r c) = Y (ix2 i j) := by
  rw [← rect_idx off inb r c i j hr hc]
  exact overwrite_idx (Rect.unit (s := ⟨2, ![n, k]⟩) off ![a, b] inb) X Y (ix2 i j)

theorem ow_out (off : Fin 2 → Nat) (inb : ∀ x, off x + (![a, b] : Fin 2 → Nat) x ≤ (⟨2, ![n, k]⟩ : Shape).size x)
    (X : (⟨2, ![n, k]⟩ : Shape).Idx → Elt Ideal e) (Y : (⟨2, ![a, b]⟩ : Shape).Idx → Elt Ideal e) (r : Fin n) (c : Fin k)
    (h : r.val < off 0 ∨ off 0 + a ≤ r.val ∨ c.val < off 1 ∨ off 1 + b ≤ c.val) :
    overwrite (Rect.unit (s := ⟨2, ![n, k]⟩) off ![a, b] inb) X Y (ix2 r c) = X (ix2 r c) := by
  refine overwrite_of_not (Rect.unit (s := ⟨2, ![n, k]⟩) off ![a, b] inb) X Y _ fun j hj => ?_
  have h0 : off 0 + 1 * (j 0).val = r.val := congrArg (fun i : (⟨2, ![n, k]⟩ : Shape).Idx => (i 0).val) hj
  have h1 : off 1 + 1 * (j 1).val = c.val := congrArg (fun i : (⟨2, ![n, k]⟩ : Shape).Idx => (i 1).val) hj
  have b0 : (j 0).val < a := (j 0).isLt
  have b1 : (j 1).val < b := (j 1).isLt
  omega
end

theorem iv_eq {n : Nat} (t : Fin n) : Scf.iv 0#32 1#32 t = BitVec.ofNat 32 t.val := by simp [Scf.iv]

theorem trips1 : k0_t1_loop.trips = 577 := by sl_kernel_rfl
theorem trips2 : k0_t2_loop.trips = 36 := by sl_kernel_rfl
theorem trips3' : k0_t3_loop.trips = 4 := by sl_kernel_rfl
theorem trips4 : k0_t4_loop.trips = 36 := by sl_kernel_rfl

theorem off2_at (t : Fin k0_t1_loop.trips) : k0_off2 t 0 = 8 * t.val := by
  show (0#32 + Scf.iv 0#32 1#32 t * 8#32).toNat = _
  have ht : t.val < 577 := trips1 ▸ t.isLt
  rw [iv_eq]
  simp only [BitVec.toNat_add, BitVec.toNat_mul, BitVec.toNat_ofNat]
  omega

theorem off3_at (t : Fin k0_t2_loop.trips) : k0_off3 t 0 = 16 * t.val := by
  show ((0#32 + Scf.iv 0#32 1#32 t * 1#32) * 16#32).toNat = _
  have ht : t.val < 36 := trips2 ▸ t.isLt
  rw [iv_eq]
  simp only [BitVec.toNat_add, BitVec.toNat_mul, BitVec.toNat_ofNat]
  omega

theorem off4_at (t : Fin k0_t2_loop.trips) (k : Fin 16) : k0_off4 t (BitVec.ofNat 32 (8 * k.val)) 0 = 8 * (16 * t.val + k.val) := by
  show ((0#32 + Scf.iv 0#32 1#32 t * 1#32) * 128#32 + BitVec.ofNat 32 (8 * k.val)).toNat = _
  have ht : t.val < 36 := trips2 ▸ t.isLt
  rw [iv_eq]
  simp only [BitVec.toNat_add, BitVec.toNat_mul, BitVec.toNat_ofNat]
  omega

theorem off5_at (t : Fin k0_t2_loop.trips) (k : Fin 16) : k0_off5 t (BitVec.ofNat 32 (16 * k.val)) 0 = 16 * (16 * t.val + k.val) := by
  show ((0#32 + Scf.iv 0#32 1#32 t * 1#32) * 256#32 + BitVec.ofNat 32 (16 * k.val)).toNat = _
  have ht : t.val < 36 := trips2 ▸ t.isLt
  rw [iv_eq]
  simp only [BitVec.toNat_add, BitVec.toNat_mul, BitVec.toNat_ofNat]
  omega

theorem off139_at (t : Fin k0_t4_loop.trips) : k0_off139 t 0 = 128 * t.val := by
  show ((0#32 + Scf.iv 0#32 1#32 t * 1#32) * 128#32).toNat = _
  have ht : t.val < 36 := trips4 ▸ t.isLt
  rw [iv_eq]
  simp only [BitVec.toNat_add, BitVec.toNat_mul, BitVec.toNat_ofNat]
  omega

theorem off140_at (t : Fin k0_t4_loop.trips) : k0_off140 t 0 = 16 * t.val := by
  show ((0#32 + Scf.iv 0#32 1#32 t * 1#32) * 16#32).toNat = _
  have ht : t.val < 36 := trips4 ▸ t.isLt
  rw [iv_eq]
  simp only [BitVec.toNat_add, BitVec.toNat_mul, BitVec.toNat_ofNat]
  omega

theorem off2_1 (t : Fin k0_t1_loop.trips) : k0_off2 t 1 = 0 := rfl
theorem off3_1 (t : Fin k0_t2_loop.trips) : k0_off3 t 1 = 0 := rfl
theorem off4_1 (t : Fin k0_t2_loop.trips) (v : BitVec 32) : k0_off4 t v 1 = 0 := rfl
theorem off5_1 (t : Fin k0_t2_loop.trips) (v : BitVec 32) : k0_off5 t v 1 = 0 := rfl
theorem off139_1 (t : Fin k0_t4_loop.trips) : k0_off139 t 1 = 0 := rfl
theorem off140_1 (t : Fin k0_t4_loop.trips) : k0_off140 t 1 = 0 := rfl

/-! ## The inputs -/

variable (N : Net) (codes : Nat → Fin 512 → BitVec 32) (words : Nat → BitVec 32)

/-- The staged inputs of step `n`. -/
structure Inp (n : Nat) (σ : St Ideal) : Prop where
  i2 : ∀ (q : Fin 144) d, σ.x2 (ix2 q d) = codes q.val d
  i3 : ∀ (q : Fin 8) (l : Fin 128), σ.x3 (ix2 q l) = words (128 * q.val + l.val)
  i4 : ∀ (q : Fin 512) d, σ.x4 (ix2 q d) = codes (512 * (1 + n) + q.val) d
  i5 : ∀ (q : Fin 8) (l : Fin 128), σ.x5 (ix2 q l) = words (1024 * (1 + n) + 128 * q.val + l.val)
  i6 : ∀ k c, σ.x6 (ix2 k c) = N.w1 k c
  i7 : ∀ c, σ.x7 (ix2 0 c) = N.b1 c
  i8 : ∀ c, σ.x8 (ix2 0 c) = N.a1 c
  i9 : ∀ c (k : Fin 96), σ.x9 (ix2 c ⟨k.val, by omega⟩) = N.w2 c k
  i10 : ∀ k : Fin 96, σ.x10 (ix2 0 ⟨k.val, by omega⟩) = N.b2 k
  i11 : ∀ k : Fin 96, σ.x11 (ix2 0 ⟨k.val, by omega⟩) = N.a2 k
  i12 : ∀ k : Fin 96, σ.x12 (ix2 0 ⟨k.val, by omega⟩) = N.w3 k
  i12' : ∀ k : Fin 32, σ.x12 (ix2 0 ⟨96 + k.val, by omega⟩) = (0 : EReal)
  i13 : σ.x13 (ix1 0) = N.b3

theorem Inp.same {n : Nat} {σ σ' : St Ideal} (h : Inp N codes words n σ) (e : SameIn σ σ') : Inp N codes words n σ' := by
  constructor
  · rw [e.e2]; exact h.i2
  · rw [e.e3]; exact h.i3
  · rw [e.e4]; exact h.i4
  · rw [e.e5]; exact h.i5
  · rw [e.e6]; exact h.i6
  · rw [e.e7]; exact h.i7
  · rw [e.e8]; exact h.i8
  · rw [e.e9]; exact h.i9
  · rw [e.e10]; exact h.i10
  · rw [e.e11]; exact h.i11
  · rw [e.e12]; exact h.i12
  · rw [e.e12]; exact h.i12'
  · rw [e.e13]; exact h.i13

/-! ## The first step's preparation -/

/-- The score buffer's first `n` rows are zero. -/
def Zero (n : Nat) (σ : St Ideal) : Prop := ∀ (r : Fin 4616) (l : Fin 128), r.val < n → σ.x22 (ix2 r l) = (0 : EReal)

/-- The first `n` target rows. -/
def Tgt (n : Nat) (σ : St Ideal) : Prop := ∀ (r : Fin 576) (d : Fin 512), r.val < n → σ.x16 (ix2 r d) = row codes words r.val d

/-- The copies of the first `n` users' target rows. -/
def Dup (n : Nat) (σ : St Ideal) : Prop := ∀ (r : Fin 9232) (d : Fin 512) (u i : Nat), r.val = 16 * u + i → i < 16 → u < n →
  σ.x17 (ix2 r d) = row codes words u d

/-- The copies of the targets' parts of the first layer, of the first `n` users. -/
def Bias (n : Nat) (σ : St Ideal) : Prop := ∀ (r : Fin 4616) (c : Fin 256) (u i : Nat), r.val = 8 * u + i → i < 8 → u < n →
  σ.x18 (ix2 r c) = tz N (row codes words u) c

end Cert.KernelIdeal.Rolled

end
-- ==== Proof.HostAt.lean ====
/-
The arrays that the host hands the launch, element by element.
-/
module

public import proofs.«01_k».proof.Proof.Plan
public import proofs.«01_k».proof.Proof.Score
public import Idealize.ShloMosaic.Lib.Pointwise

@[expose] public section

set_option maxRecDepth 16384

noncomputable section

namespace Cert.KernelIdeal.Run

open Idealize.ShloMosaic Idealize.ShloMosaic.TcCoe Idealize.ShloMosaic.Tactic
open Cert.KernelIdeal Cert.KernelIdeal.Facts Cert.KernelIdeal.Gen Cert.Mini

variable (m : (ℓ : Loc nD τ sig) → Buf (Elt Ideal) ℓ)

/-- An array that the launch is given, by its reference. -/
abbrev arg (b : Ref sig .tc) : Buf (Elt Ideal) (((0 : Dev nD) : Thread nD τ).loc b) := m (((0 : Dev nD) : Thread nD τ).loc b)

theorem host_v0 : (V m (0 : Dev nD) main_v0 : S1x256.Idx → EReal) = shapeCast S1x256 (arg m main_arg4 : S256.Idx → EReal) shapeCasts_S256_S1x256 := by
  unfold V
  simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_reads_simp
  rfl

theorem host_v1 : (V m (0 : Dev nD) main_v1 : S1x256.Idx → EReal) = shapeCast S1x256 (arg m main_arg5 : S256.Idx → EReal) shapeCasts_S256_S1x256 := by
  unfold V
  simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_reads_simp
  rfl

theorem host_v2 : (V m (0 : Dev nD) main_v2 : S256x128.Idx → EReal) = pad S256x128 ![0, 0] ![0, 32] ![0, 0] (arg m main_arg6 : S256x96.Idx → EReal) (sitofp (F := Ideal) .bf16 (constantI S_ 32 0#32)) pads_S256x96_S256x128_000_0320 h_S_ := by
  unfold V
  simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_reads_simp
  simp -implicitDefEqProofs only [StableHlo.TRef.toBuf, StableHlo.TRef.ofBuf, cast_cast, cast_eq]

theorem host_v4 : (V m (0 : Dev nD) main_v4 : S1x128.Idx → EReal) = shapeCast S1x128 (pad S128 ![0] ![32] ![0] (arg m main_arg7 : S96.Idx → EReal) (sitofp (F := Ideal) .f32 (constantI S_ 32 0#32)) pads_S96_S128_0320 h_S_) shapeCasts_S128_S1x128 := by
  unfold V
  simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_reads_simp
  simp -implicitDefEqProofs only [StableHlo.TRef.toBuf, StableHlo.TRef.ofBuf, cast_cast, cast_eq]
  rfl

theorem host_v6 : (V m (0 : Dev nD) main_v6 : S1x128.Idx → EReal) = shapeCast S1x128 (pad S128 ![0] ![32] ![0] (arg m main_arg8 : S96.Idx → EReal) (sitofp (F := Ideal) .f32 (constantI S_ 32 0#32)) pads_S96_S128_0320 h_S_) shapeCasts_S128_S1x128 := by
  unfold V
  simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_reads_simp
  simp -implicitDefEqProofs only [StableHlo.TRef.toBuf, StableHlo.TRef.ofBuf, cast_cast, cast_eq]
  rfl

theorem host_v9 : (V m (0 : Dev nD) main_v9 : S1x128.Idx → EReal) = shapeCast S1x128 (pad S128 ![0] ![32] ![0] (extf (F := Ideal) .f32 (arg m main_arg9 : FVec Ideal S96 .bf16) bitsLt_bf16_f32) (sitofp (F := Ideal) .f32 (constantI S_ 32 0#32)) pads_S96_S128_0320 h_S_) shapeCasts_S128_S1x128 := by
  unfold V
  simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_reads_simp
  simp -implicitDefEqProofs only [StableHlo.TRef.toBuf, StableHlo.TRef.ofBuf, cast_cast, cast_eq]
  rfl

theorem host_v63 : (V m (0 : Dev nD) main_v63 : S296x128.Idx → BitVec 32) = shapeCast S296x128 (arg m main_arg2 : S37888.Idx → BitVec 32) shapeCasts_S37888_S296x128 := by
  unfold V
  simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_reads_simp
  rfl

theorem sitofp_zero : FloatOps.sitofp (F := Ideal) FTy.f32 (0#32) = (0 : EReal) := by
  show (((0#32 : BitVec 32).toInt : ℝ) : EReal) = 0
  simp

theorem v0_at (c : Fin 256) : V m (0 : Dev nD) main_v0 (ix2 0 c) = (arg m main_arg4 : S256.Idx → EReal) (ix1 c) := by
  rw [host_v0]; pointwise []

theorem v1_at (c : Fin 256) : V m (0 : Dev nD) main_v1 (ix2 0 c) = (arg m main_arg5 : S256.Idx → EReal) (ix1 c) := by
  rw [host_v1]; pointwise []

theorem v2_at (c : Fin 256) (k : Fin 96) : V m (0 : Dev nD) main_v2 (ix2 c ⟨k.val, by omega⟩) = (arg m main_arg6 : S256x96.Idx → EReal) (ix2 c k) := by
  rw [host_v2]; pointwise []
  refine dif_pos fun a => ?_
  match a with
  | ⟨0, _⟩ => exact ⟨Nat.zero_le _, Nat.mod_one _, by show (c.val - 0) / 1 < 256; omega⟩
  | ⟨1, _⟩ => exact ⟨Nat.zero_le _, Nat.mod_one _, by show (k.val - 0) / 1 < 96; omega⟩

theorem v4_at (k : Fin 96) : V m (0 : Dev nD) main_v4 (ix2 0 ⟨k.val, by omega⟩) = (arg m main_arg7 : S96.Idx → EReal) (ix1 k) := by
  rw [host_v4]; pointwise []
  refine dif_pos fun a => ?_
  match a with
  | ⟨0, _⟩ => exact k.isLt

theorem v6_at (k : Fin 96) : V m (0 : Dev nD) main_v6 (ix2 0 ⟨k.val, by omega⟩) = (arg m main_arg8 : S96.Idx → EReal) (ix1 k) := by
  rw [host_v6]; pointwise []
  refine dif_pos fun a => ?_
  match a with
  | ⟨0, _⟩ => exact k.isLt

theorem v9_at (k : Fin 96) : V m (0 : Dev nD) main_v9 (ix2 0 ⟨k.val, by omega⟩) = (arg m main_arg9 : S96.Idx → EReal) (ix1 k) := by
  rw [host_v9]; pointwise []
  refine dif_pos fun a => ?_
  match a with
  | ⟨0, _⟩ => exact k.isLt

theorem v9_zero (k : Fin 32) : V m (0 : Dev nD) main_v9 (ix2 0 ⟨96 + k.val, by omega⟩) = (0 : EReal) := by
  rw [host_v9]; pointwise []
  refine (dif_neg fun h => ?_).trans sitofp_zero
  have h' := h ⟨0, by decide⟩
  change 96 + k.val < 96 at h'
  omega

theorem v63_at (q : Fin 296) (l : Fin 128) : V m (0 : Dev nD) main_v63 (ix2 q l) = (arg m main_arg2 : S37888.Idx → BitVec 32) (ix1 ⟨128 * q.val + l.val, by omega⟩) := by
  rw [host_v63]; pointwise []
  exact congrArg (arg m main_arg2 : S37888.Idx → BitVec 32) (congrArg ix1 (Fin.ext (by show q.val * 128 + l.val = 128 * q.val + l.val; omega)))

end Cert.KernelIdeal.Run

end
-- ==== Proof.Win.lean ====
/-
What the body finds in its staged inputs, over the extended reals: the blocks of the tables and of the weights.
-/
module

public import proofs.«01_k».proof.Proof.Frame
public import proofs.«01_k».proof.Proof.Rects
public import proofs.«01_k».proof.Proof.HostAt
public import Idealize.ShloMosaic.Lib.Pipeline.ArrRel

@[expose] public section

set_option maxRecDepth 16384

noncomputable section

namespace Cert.KernelIdeal.Run

open Idealize.ShloMosaic Idealize.ShloMosaic.TcCoe Idealize.ShloMosaic.Tactic
open Idealize.SL Idealize.SL.RA
open Cert.KernelIdeal Cert.KernelIdeal.Facts Cert.KernelIdeal.Rolled Cert.KernelIdeal.Gen Cert.Mini
open Idealize.ShloMosaic.Pipeline (RDat)

/-- What a staged input holds: where the transfer fills the buffer, the array's element at the block's place. -/
theorem finds_val {nD : Nat} {τ : Topo} {sig : RefSig} {Val : EltTy → Type} {Λ₀ : Idealize.SL.Sem.Labels} {Ix : Type} [DecidableEq Ix] {Name : Type}
    [DecidableEq Name] {U : Type} [URA U] {Lvl : Type} [∀ e, Nonempty (Val e)] {cfg : Pipeline.Cfg sig Λ₀} {c : Dev nD} (rd : RDat τ Val Ix Name U Lvl cfg c)
    (w : Fin cfg.W) (hw : (cfg.win w).isOut = false)
    (hclip : ∀ t t' : Fin cfg.N, (cfg.win w).index t = (cfg.win w).index t' → (cfg.win w).clip (cfg.grid.coords t) = (cfg.win w).clip (cfg.grid.coords t'))
    (hkeep : ∀ t Y X, rd.after w t Y X → X = Y) (t : Fin cfg.N) (Y : (cfg.win w).block.Idx → Val (cfg.win w).elt) (hY : rd.Finds w t Y)
    (j : (cfg.win w).block.Idx) (hm : ∀ a, (j a).val < (cfg.win w).xsize (cfg.grid.coords t) a) (i : (cfg.win w).shape.Idx)
    (hi : ∀ a, (i a).val = (cfg.win w).kind.off ((cfg.win w).index t a) ((cfg.win w).size a) + (j a).val) :
    Y j = _root_.cast (congrArg Val (cfg.win w).arr.view.elt_eq) (rd.A w ((cfg.win w).arr.view.emb i)) := by
  obtain ⟨d, rfl⟩ := rd.finds_in_eq_fetched w hw hclip hkeep t Y hY
  have hm' : (cfg.win w).moved (cfg.grid.coords t) j = true := ((cfg.win w).moved_iff _ j).mpr hm
  unfold RDat.fetched Pipeline.Window.fill
  rw [dif_pos hm']
  unfold RDat.blockOf
  rw [View.read_apply]
  show _root_.cast _ (rd.A w ((cfg.win w).arr.view.emb (((cfg.win w).rect t).emb _))) = _
  congr 3
  funext a; apply Fin.ext
  rw [Rect.emb_apply]
  show (cfg.win w).kind.off ((cfg.win w).index t a) ((cfg.win w).size a) + 1 * (j a).val = _
  rw [hi a]
  omega

variable (m : (ℓ : Loc nD τ sig) → Buf (Elt Ideal) ℓ) (hO : Ok m) (Inv : Nat → St Ideal → Prop)
  (R12 : Nat → (S576x512.Idx → Elt Ideal .bf16) → Prop) (R13 : Nat → (S576x128.Idx → Elt Ideal .f32) → Prop) (c : Dev nD)

theorem points (b : grid0.Bounds) : (grid0.at b).N = b 0 := by
  show (List.ofFn (grid0.boundAt b)).prod = b 0
  rw [List.ofFn_succ, List.ofFn_zero, List.prod_cons, List.prod_nil, Nat.mul_one]
  rfl

theorem coord0 (b : grid0.Bounds) (t : Fin (grid0.at b).N) : ((grid0.at b).coords t 0).val = t.val := by
  have h := t.isLt
  have hN := points b
  have hs : (grid0.at b).stride 0 = 1 := rfl
  show t.val / (grid0.at b).stride 0 % b 0 = t.val
  rw [hs, Nat.div_one]
  exact Nat.mod_eq_of_lt (by omega)

theorem find0 (t : Fin (cfgM m hO).N) (Y : S144x512.Idx → BitVec 32) (hY : (rdat m hO Inv R12 R13 c).Finds 0 t Y) (q : Fin 144) (d : Fin 512) (r : Fin 18944) (hr : r.val = q.val) :
    Y (ix2 q d) = V m c main_arg1 (ix2 r d) := by
  refine finds_val (rdat m hO Inv R12 R13 c) 0 rfl ?_ (fun _ _ _ h => h) t Y hY (ix2 q d) ?_ (ix2 r d) ?_
  · intro _ _ _; rfl
  · intro a
    match a with
    | ⟨0, _⟩ => exact q.isLt
    | ⟨1, _⟩ => exact d.isLt
  · intro a
    match a with
    | ⟨0, _⟩ =>
      show r.val = 0 * 144 + q.val
      omega
    | ⟨1, _⟩ =>
      show d.val = 0 * 512 + d.val
      omega

theorem find1 (t : Fin (cfgM m hO).N) (Y : S8x128.Idx → BitVec 32) (hY : (rdat m hO Inv R12 R13 c).Finds 1 t Y) (q : Fin 8) (d : Fin 128) (r : Fin 296) (hr : r.val = q.val) :
    Y (ix2 q d) = V m c main_v63 (ix2 r d) := by
  refine finds_val (rdat m hO Inv R12 R13 c) 1 rfl ?_ (fun _ _ _ h => h) t Y hY (ix2 q d) ?_ (ix2 r d) ?_
  · intro _ _ _; rfl
  · intro a
    match a with
    | ⟨0, _⟩ => exact q.isLt
    | ⟨1, _⟩ => exact d.isLt
  · intro a
    match a with
    | ⟨0, _⟩ =>
      show r.val = 0 * 8 + q.val
      omega
    | ⟨1, _⟩ =>
      show d.val = 0 * 128 + d.val
      omega

theorem find2 (hN : (cfgM m hO).N ≤ 36) (t : Fin (cfgM m hO).N) (Y : S512x512.Idx → BitVec 32) (hY : (rdat m hO Inv R12 R13 c).Finds 2 t Y) (q : Fin 512) (d : Fin 512) (r : Fin 18944) (hr : r.val = 512 * (1 + t.val) + q.val) :
    Y (ix2 q d) = V m c main_arg1 (ix2 r d) := by
  refine finds_val (rdat m hO Inv R12 R13 c) 2 rfl ?_ (fun _ _ _ h => h) t Y hY (ix2 q d) ?_ (ix2 r d) ?_
  · intro _ _ _; rfl
  · intro a
    match a with
    | ⟨0, _⟩ => exact q.isLt
    | ⟨1, _⟩ => exact d.isLt
  · intro a
    match a with
    | ⟨0, _⟩ =>
      show r.val = (1#32 + BitVec.ofNat 32 ((grid0.at (dynb0 (tbl m))).coords t 0).val).toNat * 512 + q.val
      rw [coord0]
      have ht := t.isLt
      simp only [BitVec.toNat_add, BitVec.toNat_ofNat]
      omega
    | ⟨1, _⟩ =>
      show d.val = 0 * 512 + d.val
      omega

theorem find3 (hN : (cfgM m hO).N ≤ 36) (t : Fin (cfgM m hO).N) (Y : S8x128.Idx → BitVec 32) (hY : (rdat m hO Inv R12 R13 c).Finds 3 t Y) (q : Fin 8) (d : Fin 128) (r : Fin 296) (hr : r.val = 8 * (1 + t.val) + q.val) :
    Y (ix2 q d) = V m c main_v63 (ix2 r d) := by
  refine finds_val (rdat m hO Inv R12 R13 c) 3 rfl ?_ (fun _ _ _ h => h) t Y hY (ix2 q d) ?_ (ix2 r d) ?_
  · intro _ _ _; rfl
  · intro a
    match a with
    | ⟨0, _⟩ => exact q.isLt
    | ⟨1, _⟩ => exact d.isLt
  · intro a
    match a with
    | ⟨0, _⟩ =>
      show r.val = (1#32 + BitVec.ofNat 32 ((grid0.at (dynb0 (tbl m))).coords t 0).val).toNat * 8 + q.val
      rw [coord0]
      have ht := t.isLt
      simp only [BitVec.toNat_add, BitVec.toNat_ofNat]
      omega
    | ⟨1, _⟩ =>
      show d.val = 0 * 128 + d.val
      omega

theorem find4 (t : Fin (cfgM m hO).N) (Y : S2048x256.Idx → EReal) (hY : (rdat m hO Inv R12 R13 c).Finds 4 t Y) (q : Fin 2048) (d : Fin 256) :
    Y (ix2 q d) = V m c main_arg3 (ix2 q d) := by
  refine finds_val (rdat m hO Inv R12 R13 c) 4 rfl ?_ (fun _ _ _ h => h) t Y hY (ix2 q d) ?_ (ix2 q d) ?_
  · intro _ _ _; rfl
  · intro a
    match a with
    | ⟨0, _⟩ => exact q.isLt
    | ⟨1, _⟩ => exact d.isLt
  · intro a
    match a with
    | ⟨0, _⟩ => show q.val = 0 * 2048 + q.val; omega
    | ⟨1, _⟩ => show d.val = 0 * 256 + d.val; omega

theorem find5 (t : Fin (cfgM m hO).N) (Y : S1x256.Idx → EReal) (hY : (rdat m hO Inv R12 R13 c).Finds 5 t Y) (q : Fin 1) (d : Fin 256) :
    Y (ix2 q d) = V m c main_v0 (ix2 q d) := by
  refine finds_val (rdat m hO Inv R12 R13 c) 5 rfl ?_ (fun _ _ _ h => h) t Y hY (ix2 q d) ?_ (ix2 q d) ?_
  · intro _ _ _; rfl
  · intro a
    match a with
    | ⟨0, _⟩ => exact q.isLt
    | ⟨1, _⟩ => exact d.isLt
  · intro a
    match a with
    | ⟨0, _⟩ => show q.val = 0 * 1 + q.val; omega
    | ⟨1, _⟩ => show d.val = 0 * 256 + d.val; omega

theorem find6 (t : Fin (cfgM m hO).N) (Y : S1x256.Idx → EReal) (hY : (rdat m hO Inv R12 R13 c).Finds 6 t Y) (q : Fin 1) (d : Fin 256) :
    Y (ix2 q d) = V m c main_v1 (ix2 q d) := by
  refine finds_val (rdat m hO Inv R12 R13 c) 6 rfl ?_ (fun _ _ _ h => h) t Y hY (ix2 q d) ?_ (ix2 q d) ?_
  · intro _ _ _; rfl
  · intro a
    match a with
    | ⟨0, _⟩ => exact q.isLt
    | ⟨1, _⟩ => exact d.isLt
  · intro a
    match a with
    | ⟨0, _⟩ => show q.val = 0 * 1 + q.val; omega
    | ⟨1, _⟩ => show d.val = 0 * 256 + d.val; omega

theorem find7 (t : Fin (cfgM m hO).N) (Y : S256x128.Idx → EReal) (hY : (rdat m hO Inv R12 R13 c).Finds 7 t Y) (q : Fin 256) (d : Fin 128) :
    Y (ix2 q d) = V m c main_v2 (ix2 q d) := by
  refine finds_val (rdat m hO Inv R12 R13 c) 7 rfl ?_ (fun _ _ _ h => h) t Y hY (ix2 q d) ?_ (ix2 q d) ?_
  · intro _ _ _; rfl
  · intro a
    match a with
    | ⟨0, _⟩ => exact q.isLt
    | ⟨1, _⟩ => exact d.isLt
  · intro a
    match a with
    | ⟨0, _⟩ => show q.val = 0 * 256 + q.val; omega
    | ⟨1, _⟩ => show d.val = 0 * 128 + d.val; omega

theorem find8 (t : Fin (cfgM m hO).N) (Y : S1x128.Idx → EReal) (hY : (rdat m hO Inv R12 R13 c).Finds 8 t Y) (q : Fin 1) (d : Fin 128) :
    Y (ix2 q d) = V m c main_v4 (ix2 q d) := by
  refine finds_val (rdat m hO Inv R12 R13 c) 8 rfl ?_ (fun _ _ _ h => h) t Y hY (ix2 q d) ?_ (ix2 q d) ?_
  · intro _ _ _; rfl
  · intro a
    match a with
    | ⟨0, _⟩ => exact q.isLt
    | ⟨1, _⟩ => exact d.isLt
  · intro a
    match a with
    | ⟨0, _⟩ => show q.val = 0 * 1 + q.val; omega
    | ⟨1, _⟩ => show d.val = 0 * 128 + d.val; omega

theorem find9 (t : Fin (cfgM m hO).N) (Y : S1x128.Idx → EReal) (hY : (rdat m hO Inv R12 R13 c).Finds 9 t Y) (q : Fin 1) (d : Fin 128) :
    Y (ix2 q d) = V m c main_v6 (ix2 q d) := by
  refine finds_val (rdat m hO Inv R12 R13 c) 9 rfl ?_ (fun _ _ _ h => h) t Y hY (ix2 q d) ?_ (ix2 q d) ?_
  · intro _ _ _; rfl
  · intro a
    match a with
    | ⟨0, _⟩ => exact q.isLt
    | ⟨1, _⟩ => exact d.isLt
  · intro a
    match a with
    | ⟨0, _⟩ => show q.val = 0 * 1 + q.val; omega
    | ⟨1, _⟩ => show d.val = 0 * 128 + d.val; omega

theorem find10 (t : Fin (cfgM m hO).N) (Y : S1x128.Idx → EReal) (hY : (rdat m hO Inv R12 R13 c).Finds 10 t Y) (q : Fin 1) (d : Fin 128) :
    Y (ix2 q d) = V m c main_v9 (ix2 q d) := by
  refine finds_val (rdat m hO Inv R12 R13 c) 10 rfl ?_ (fun _ _ _ h => h) t Y hY (ix2 q d) ?_ (ix2 q d) ?_
  · intro _ _ _; rfl
  · intro a
    match a with
    | ⟨0, _⟩ => exact q.isLt
    | ⟨1, _⟩ => exact d.isLt
  · intro a
    match a with
    | ⟨0, _⟩ => show q.val = 0 * 1 + q.val; omega
    | ⟨1, _⟩ => show d.val = 0 * 128 + d.val; omega

theorem find11 (t : Fin (cfgM m hO).N) (Y : S1.Idx → EReal) (hY : (rdat m hO Inv R12 R13 c).Finds 11 t Y) (q : Fin 1) :
    Y (ix1 q) = V m c main_arg10 (ix1 q) := by
  refine finds_val (rdat m hO Inv R12 R13 c) 11 rfl ?_ (fun _ _ _ h => h) t Y hY (ix1 q) ?_ (ix1 q) ?_
  · intro _ _ _; rfl
  · intro a
    match a with
    | ⟨0, _⟩ => exact q.isLt
  · intro a
    match a with
    | ⟨0, _⟩ => show q.val = 0 * 1 + q.val; omega

/-- The network whose weights the launch is given. -/
def netM : Score.Net := Score.net (arg m main_arg3) (arg m main_arg4) (arg m main_arg5) (arg m main_arg6) (arg m main_arg7) (arg m main_arg8) (arg m main_arg9) (arg m main_arg10)

/-- The codes of the launch's table, by row. -/
def codesM : Nat → Fin 512 → BitVec 32 := Score.codesOf (arg m main_arg1)

/-- The words of scales of the launch's table. -/
def wordsM : Nat → BitVec 32 := Score.wordsOf (arg m main_arg2)

theorem codes_at (r : Fin 18944) (d : Fin 512) : V m (0 : Dev nD) main_arg1 (ix2 r d) = codesM m r.val d := by
  rw [V_main_arg1]
  unfold codesM Score.codesOf
  rw [dif_pos r.isLt]

theorem words_at (q : Fin 296) (l : Fin 128) : V m (0 : Dev nD) main_v63 (ix2 q l) = wordsM m (128 * q.val + l.val) := by
  rw [v63_at]
  unfold wordsM Score.wordsOf
  rw [dif_pos (by omega)]

/-- The staged inputs of a step are the launch's blocks. -/
theorem inp (hN : (cfgM m hO).N ≤ 36) (t : Fin (cfgM m hO).N) (Y : (w : Fin 14) → ((cfgM m hO).win w).block.Idx → Elt Ideal ((cfgM m hO).win w).elt)
    (hY : ∀ w, (rdat m hO Inv R12 R13 0).Finds w t (Y w)) (σ : St Ideal) : Inp (netM m) (codesM m) (wordsM m) t.val (mk m hO Y σ) where
  i2 q d := (find0 m hO Inv R12 R13 0 t (Y 0) (hY 0) q d ⟨q.val, by omega⟩ rfl).trans (codes_at m _ d)
  i3 q l := (find1 m hO Inv R12 R13 0 t (Y 1) (hY 1) q l ⟨q.val, by omega⟩ rfl).trans (words_at m _ l)
  i4 q d := (find2 m hO Inv R12 R13 0 hN t (Y 2) (hY 2) q d ⟨512 * (1 + t.val) + q.val, by have := t.isLt; omega⟩ rfl).trans (codes_at m _ d)
  i5 q l := ((find3 m hO Inv R12 R13 0 hN t (Y 3) (hY 3) q l ⟨8 * (1 + t.val) + q.val, by have := t.isLt; omega⟩ rfl).trans (words_at m _ l)).trans
    (congrArg (wordsM m) (by show 128 * (8 * (1 + t.val) + q.val) + l.val = _; omega))
  i6 k d := (find4 m hO Inv R12 R13 0 t (Y 4) (hY 4) k d).trans (congrFun (V_main_arg3 m 0) _)
  i7 d := (find5 m hO Inv R12 R13 0 t (Y 5) (hY 5) 0 d).trans (v0_at m d)
  i8 d := (find6 m hO Inv R12 R13 0 t (Y 6) (hY 6) 0 d).trans (v1_at m d)
  i9 d k := (find7 m hO Inv R12 R13 0 t (Y 7) (hY 7) d ⟨k.val, by omega⟩).trans (v2_at m d k)
  i10 k := (find8 m hO Inv R12 R13 0 t (Y 8) (hY 8) 0 ⟨k.val, by omega⟩).trans (v4_at m k)
  i11 k := (find9 m hO Inv R12 R13 0 t (Y 9) (hY 9) 0 ⟨k.val, by omega⟩).trans (v6_at m k)
  i12 k := (find10 m hO Inv R12 R13 0 t (Y 10) (hY 10) 0 ⟨k.val, by omega⟩).trans (v9_at m k)
  i12' k := (find10 m hO Inv R12 R13 0 t (Y 10) (hY 10) 0 ⟨96 + k.val, by omega⟩).trans (v9_zero m k)
  i13 := (find11 m hO Inv R12 R13 0 t (Y 11) (hY 11) 0).trans (congrFun (V_main_arg10 m 0) _)

end Cert.KernelIdeal.Run

end
-- ==== Proof.PlanAt.lean ====
/-
The step plan's values: the user, the first position and the number of rows of every group of sixteen rows.
-/
module

public import proofs.«01_k».proof.Proof.Plan
public import proofs.«01_k».proof.Proof.Score
public import proofs.«01_k».proof.Proof.Rolled
public import Idealize.ShloMosaic.Lib.Pointwise

@[expose] public section

set_option maxRecDepth 16384

noncomputable section

namespace Cert.KernelIdeal.Run

open Idealize.ShloMosaic
open Cert.KernelIdeal Cert.KernelIdeal.Facts Cert.Score

/-- A sum over the columns of a table of words that does not wrap. -/
theorem sum_cols {n k : Nat} (x : IVec ⟨2, ![n, k]⟩ 32) (h : (⟨2, ![n, k]⟩ : Shape).ReducesTo [1] ⟨1, ![n]⟩) {u : Shape} (hu : 0 < u.numel)
    (p : Fin n) (f : Fin k → Nat) (hf : ∀ q, (x (ix2 p q)).toNat = f q) (hb : ∑ q, f q < 2 ^ 32) :
    (Host.reduce IntOp.addi x (constantI u 32 0#32) h hu (ix1 p)).toNat = ∑ q, f q := by
  classical
  rw [Host.reduce_eq_fold]
  have hdrop : ∀ i : (⟨2, ![n, k]⟩ : Shape).Idx, h.drop i = ix1 p ↔ i 0 = p := by
    intro i
    have hv : (h.drop i 0 : Nat) = i 0 := Shape.ReducesTo.drop_apply_val h i 0
    constructor
    · intro e; rw [e] at hv; exact Fin.ext hv.symm
    · intro e; funext b; have hb : b = 0 := Subsingleton.elim _ _; subst hb; exact Fin.ext (by rw [hv, e]; rfl)
  have hback : ∀ i : (⟨2, ![n, k]⟩ : Shape).Idx, i 0 = p → ix2 p (i 1) = i := fun i h0 => by
    funext b; match b with
    | ⟨0, _⟩ => exact h0.symm
    | ⟨1, _⟩ => rfl
  have hsum : ∑ i ∈ Finset.univ.filter (fun i : (⟨2, ![n, k]⟩ : Shape).Idx => h.drop i = ix1 p), (x i).toNat = ∑ q, f q := by
    refine Finset.sum_bij' (fun i _ => i 1) (fun q _ => ix2 p q) (fun _ _ => Finset.mem_univ _)
      (fun q _ => Finset.mem_filter.2 ⟨Finset.mem_univ _, (hdrop _).2 rfl⟩)
      (fun i hi => hback i ((hdrop i).1 (Finset.mem_filter.1 hi).2)) (fun _ _ => rfl) ?_
    intro i hi
    exact (congrArg (fun i => (x i).toNat) (hback i ((hdrop i).1 (Finset.mem_filter.1 hi).2))).symm.trans (hf (i 1))
  show (Finset.fold IntOp.addi 0#32 x (Finset.univ.filter fun i : (⟨2, ![n, k]⟩ : Shape).Idx => h.drop i = ix1 p)).toNat = _
  rw [StableHlo.Predicate.toNat_fold_addi _ _ (by rw [hsum]; exact hb), hsum]

theorem sum_below (N n : Nat) (hn : n ≤ N) (f : Nat → Nat) : ∑ q : Fin N, (if q.val < n then f q.val else 0) = ∑ j ∈ Finset.range n, f j := by
  rw [Fin.sum_univ_eq_sum_range (fun q => if q < n then f q else 0) N, ← Finset.sum_filter]
  congr 1
  ext a
  simp only [Finset.mem_filter, Finset.mem_range]
  omega

theorem start_sum (L : S576.Idx → BitVec 32) (n : Nat) : start L n = ∑ j ∈ Finset.range n, groups L j := by
  induction n with
  | zero => simp [start]
  | succ n ih => rw [start_succ, Finset.sum_range_succ, ih]

theorem sel_toNat (c : BitVec 1) (p : Prop) [Decidable p] (h : c = 1#1 ↔ p) (x y : BitVec 32) :
    (Scalar.select c x y).toNat = if p then x.toNat else y.toNat := by
  unfold Scalar.select
  by_cases hp : p
  · rw [if_pos hp]; exact congrArg BitVec.toNat (if_pos (h.2 hp))
  · rw [if_neg hp]; exact congrArg BitVec.toNat (if_neg fun e => hp (h.1 e))

variable (L : IVec S576 32) (hL : Fit L)
include hL

theorem groups_toNat (q : Fin 576) : (groupsV L (ix1 q)).toNat = groups L q.val := by
  have h := groups_at L hL (ix1 q)
  have := hL (ix1 q)
  rw [h, BitVec.toNat_ofNat]
  unfold groups
  rw [dif_pos q.isLt]
  show _ = ((L (ix1 q)).toNat + 15) / 16
  omega

theorem start_le' (n : Nat) (hn : n ≤ 576) : start L n ≤ 4608 := (start_mono L hn).trans (start_le L hL 576)

theorem gend_at (b : Fin 576) : (gendV L (ix1 b)).toNat = start L (b.val + 1) := by
  have hs := start_le' L hL (b.val + 1) (by omega)
  have e : ∑ q : Fin 576, (if q.val < b.val + 1 then groups L q.val else 0) = start L (b.val + 1) := by
    rw [sum_below 576 (b.val + 1) (by omega) (groups L), start_sum]
  rw [← e] at hs
  rw [← e]
  refine sum_cols _ _ _ b _ (fun q => ?_) (by omega)
  pointwise
  rw [sel_toNat _ (q.val < b.val + 1) (by
      rw [StableHlo.Predicate.sge_iff_toNat (by simp only [BitVec.toNat_ofNat]; omega) (by simp only [BitVec.toNat_ofNat]; omega)]
      simp only [BitVec.toNat_ofNat]; omega), groups_toNat L hL]
  rfl

/-- The user of a group, `576` for a spare one. -/
theorem user_at (g : Fin 4608) (b : Nat) (hb : b ≤ 576) (h : ∀ q < 576, start L (q + 1) ≤ g.val ↔ q < b) : (userV L (ix1 g)).toNat = b := by
  have e : ∑ q : Fin 576, (if q.val < b then 1 else 0) = b := by
    rw [sum_below 576 b hb (fun _ => 1)]; simp
  conv_rhs => rw [← e]
  refine sum_cols _ _ _ g _ (fun q => ?_) (by rw [e]; omega)
  have hs := start_le' L hL (q.val + 1) (by omega)
  pointwise [endedV]
  show (BitVec.setWidth 32 _).toNat = _
  have e1 := gend_at L hL q
  rw [StableHlo.Predicate.toNat_setWidth_bit]
  refine if_congr ?_ rfl rfl
  rw [StableHlo.Predicate.sle_iff_toNat (by omega) (by simp only [BitVec.toNat_ofNat]; omega), e1]
  have e2 : (BitVec.ofNat 32 g.val).toNat = g.val := by simp only [BitVec.toNat_ofNat]; omega
  rw [e2]
  exact h q.val q.isLt

theorem pick_at (x : IVec S576 32) (hx : ∀ i, (x i).toNat < 10000) (g : Fin 4608) (b : Nat) (hu : (userV L (ix1 g)).toNat = b) :
    (pickV L x (ix1 g)).toNat = if h : b < 576 then (x (ix1 ⟨b, h⟩)).toNat else 0 := by
  have e : ∑ q : Fin 576, (if b = q.val then (x (ix1 q)).toNat else 0) = if h : b < 576 then (x (ix1 ⟨b, h⟩)).toNat else 0 := by
    by_cases hb : b < 576
    · rw [dif_pos hb, Finset.sum_eq_single (⟨b, hb⟩ : Fin 576) (fun q _ hq => if_neg fun e => hq (Fin.ext e.symm)) (fun h => absurd (Finset.mem_univ _) h),
        if_pos rfl]
    · rw [dif_neg hb]
      exact Finset.sum_eq_zero fun q _ => if_neg (by have := q.isLt; omega)
  rw [← e]
  refine sum_cols _ _ _ g _ (fun q => ?_) (by
    rw [e]; split
    · have := hx (ix1 ⟨b, by assumption⟩); omega
    · omega)
  pointwise
  rw [sel_toNat _ (b = q.val) (by
      rw [StableHlo.Predicate.cmpi_eq_iff, ← BitVec.toNat_inj, hu]
      simp only [BitVec.toNat_ofNat]; omega)]
  rfl

/-- The first position and the rows of a group of a user. -/
theorem place_user (g : Fin 4608) (b : Fin 576) (h0 : start L b.val ≤ g.val) (h1 : g.val < start L (b.val + 1)) :
    (userV L (ix1 g)).toNat = b.val ∧ (startV L (ix1 g)).toNat = 16 * (g.val - start L b.val)
      ∧ (validV L (ix1 g)).toNat = min 16 ((L (ix1 b)).toNat - 16 * (g.val - start L b.val)) := by
  have hu : (userV L (ix1 g)).toNat = b.val := user_at L hL g b.val (by omega) fun q hq => by
    constructor
    · intro h
      by_contra hn
      have := start_mono L (show b.val + 1 ≤ q + 1 by omega)
      omega
    · intro h
      have := start_mono L (show q + 1 ≤ b.val by omega)
      omega
  have hg : groups L b.val = ((L (ix1 b)).toNat + 15) / 16 := by unfold groups; rw [dif_pos b.isLt]
  have hl := hL (ix1 b)
  rw [start_succ, hg] at h1
  have hx : ∀ q : Fin 576, ((subi (gendV L) (groupsV L)) (ix1 q)).toNat = start L q.val := fun q => by
    show (gendV L (ix1 q) - groupsV L (ix1 q)).toNat = _
    have e1 := gend_at L hL q
    have e2 := groups_toNat L hL q
    have := start_le' L hL (q.val + 1) (by omega)
    rw [start_succ] at e1 this
    rw [BitVec.toNat_sub, e1, e2]
    omega
  have hp := pick_at L hL (subi (gendV L) (groupsV L)) (fun i => by
    obtain ⟨q, rfl⟩ : ∃ q : Fin 576, i = ix1 q := ⟨i 0, by funext a; match a with | ⟨0, _⟩ => rfl⟩
    rw [hx]; have := start_le' L hL q.val (by omega); omega) g b.val hu
  rw [dif_pos b.isLt] at hp
  have hp' : (pickV L (subi (gendV L) (groupsV L)) (ix1 g)).toNat = start L b.val := hp.trans (hx b)
  have hq := pick_at L hL L (fun i => by have := hL i; omega) g b.val hu
  rw [dif_pos b.isLt] at hq
  have hq' : (pickV L L (ix1 g)).toNat = (L (ix1 b)).toNat := hq
  have hs : (startV L (ix1 g)).toNat = 16 * (g.val - start L b.val) := by
    pointwise [startV]
    rw [sel_toNat _ True (by
      rw [StableHlo.Predicate.slt_iff_toNat (by omega) (by decide), hu]
      simp only [BitVec.toNat_ofNat, iff_true]; omega), if_pos trivial]
    show (16#32 * (BitVec.ofNat 32 g.val - pickV L (subi (gendV L) (groupsV L)) (ix1 g))).toNat = _
    rw [BitVec.toNat_mul, BitVec.toNat_sub, hp']
    simp only [BitVec.toNat_ofNat]
    omega
  refine ⟨hu, hs, ?_⟩
  have hd : (pickV L L (ix1 g) - startV L (ix1 g)).toNat = (L (ix1 b)).toNat - 16 * (g.val - start L b.val) := by
    rw [BitVec.toNat_sub, hq', hs]; omega
  pointwise [validV]
  show (IntOp.minsi 16#32 (IntOp.maxsi 0#32 (pickV L L (ix1 g) - startV L (ix1 g)))).toNat = _
  generalize pickV L L (ix1 g) - startV L (ix1 g) = d at hd
  have ht : d.toInt = d.toNat := StableHlo.Predicate.toInt_eq_toNat_of_lt (by omega)
  have h0' : (0#32 : BitVec 32).toInt = 0 := by decide
  have h16 : (16#32 : BitVec 32).toInt = 16 := by decide
  rw [← hd]
  have hm : IntOp.maxsi 0#32 d = d := by
    unfold IntOp.maxsi
    split <;> rename_i hc <;> simp only [BitVec.slt, ht, h0', decide_eq_true_eq] at hc
    all_goals first | rfl | (apply BitVec.eq_of_toNat_eq; simp only [BitVec.toNat_ofNat]; omega)
  rw [hm]
  unfold IntOp.minsi
  split <;> rename_i hc <;> simp only [BitVec.slt, ht, h16, decide_eq_true_eq] at hc
  · rw [min_eq_left (by omega)]; rfl
  · rw [min_eq_right (by omega)]

/-- A spare group has no rows. -/
theorem place_spare (g : Fin 4608) (h0 : start L 576 ≤ g.val) :
    (userV L (ix1 g)).toNat = 576 ∧ (startV L (ix1 g)).toNat = 0 ∧ (validV L (ix1 g)).toNat = 0 := by
  have hu : (userV L (ix1 g)).toNat = 576 := user_at L hL g 576 le_rfl fun q hq =>
    ⟨fun _ => hq, fun _ => (start_mono L (show q + 1 ≤ 576 by omega)).trans h0⟩
  have hq := pick_at L hL L (fun i => by have := hL i; omega) g 576 hu
  rw [dif_neg (by omega)] at hq
  have hs : startV L (ix1 g) = 0#32 := by
    apply BitVec.eq_of_toNat_eq
    pointwise [startV]
    rw [sel_toNat _ False (by
      rw [StableHlo.Predicate.slt_iff_toNat (by omega) (by decide), hu]
      simp), if_neg not_false]
    rfl
  have hq' : pickV L L (ix1 g) = 0#32 := BitVec.eq_of_toNat_eq hq
  refine ⟨hu, congrArg BitVec.toNat hs, ?_⟩
  pointwise [validV]
  show (IntOp.minsi 16#32 (IntOp.maxsi 0#32 (pickV L L (ix1 g) - startV L (ix1 g)))).toNat = _
  rw [hq', hs]
  decide

omit hL in
theorem info_toNat (g : S4608.Idx) (u s n : Nat) (hu : (userV L g).toNat = u) (hs : (startV L g).toNat = s) (hn : (validV L g).toNat = n)
    (hu' : u < 65536) (hs' : s < 256) (hn' : n < 256) : (infoV L g).toNat = u + 65536 * s + 16777216 * n := by
  have e : infoV L g = userV L g ||| (startV L g <<< (16 : Nat)) ||| (validV L g <<< (24 : Nat)) := by rfl
  rw [e, BitVec.toNat_or, BitVec.toNat_or, BitVec.toNat_shiftLeft, BitVec.toNat_shiftLeft, hu, hs, hn, Nat.shiftLeft_eq, Nat.shiftLeft_eq,
    Nat.mod_eq_of_lt (by omega), Nat.mod_eq_of_lt (by omega)]
  have a1 : u ||| s * 2 ^ 16 = u + 65536 * s := by
    rw [Nat.or_comm, ← Nat.shiftLeft_eq, ← Nat.shiftLeft_add_eq_or_of_lt (by omega : u < 2 ^ 16), Nat.shiftLeft_eq]; omega
  have a2 : (u + 65536 * s) ||| n * 2 ^ 24 = u + 65536 * s + 16777216 * n := by
    rw [Nat.or_comm, ← Nat.shiftLeft_eq, ← Nat.shiftLeft_add_eq_or_of_lt (by omega : u + 65536 * s < 2 ^ 24), Nat.shiftLeft_eq]; omega
  rw [a1, a2]

omit hL in
/-- The fields of a word. -/
theorem fields (v : BitVec 32) (u s n : Nat) (h : v.toNat = u + 65536 * s + 16777216 * n) (hu' : u < 65536) (hs' : s < 256) (hn' : n < 256) :
    (v &&& 65535#32).toNat = u ∧ Rolled.sFirst v = BitVec.ofNat 32 s ∧ Rolled.nValid v = BitVec.ofNat 32 n := by
  refine ⟨?_, ?_, ?_⟩
  · rw [BitVec.toNat_and, show (65535#32 : BitVec 32).toNat = 2 ^ 16 - 1 from rfl, Nat.and_two_pow_sub_one_eq_mod]; omega
  · apply BitVec.eq_of_toNat_eq
    show ((v >>> (16 : Nat)) &&& 255#32).toNat = _
    rw [BitVec.toNat_and, show (255#32 : BitVec 32).toNat = 2 ^ 8 - 1 from rfl, Nat.and_two_pow_sub_one_eq_mod, BitVec.toNat_ushiftRight,
      Nat.shiftRight_eq_div_pow, BitVec.toNat_ofNat]
    omega
  · apply BitVec.eq_of_toNat_eq
    show (v >>> (24 : Nat)).toNat = _
    rw [BitVec.toNat_ushiftRight, Nat.shiftRight_eq_div_pow, BitVec.toNat_ofNat]
    omega

/-- Every group's word: of a user, with the first position and the number of its rows, or spare. -/
theorem info_at (g : Fin 4608) : ∃ u s n : Nat, ((infoV L (ix1 g)) &&& 65535#32).toNat = u ∧ Rolled.sFirst (infoV L (ix1 g)) = BitVec.ofNat 32 s
    ∧ Rolled.nValid (infoV L (ix1 g)) = BitVec.ofNat 32 n ∧ s < 128 ∧ n < 17
    ∧ ((∃ b : Fin 576, u = b.val ∧ start L b.val ≤ g.val ∧ g.val < start L (b.val + 1) ∧ s = 16 * (g.val - start L b.val)
        ∧ n = min 16 ((L (ix1 b)).toNat - s)) ∨ (u = 576 ∧ start L 576 ≤ g.val ∧ s = 0 ∧ n = 0)) := by
  by_cases h : start L 576 ≤ g.val
  · obtain ⟨hu, hs, hn⟩ := place_spare L hL g h
    obtain ⟨f1, f2, f3⟩ := fields _ 576 0 0 (info_toNat L (ix1 g) 576 0 0 hu hs hn (by omega) (by omega) (by omega)) (by omega) (by omega) (by omega)
    exact ⟨576, 0, 0, f1, f2, f3, by omega, by omega, .inr ⟨rfl, h, rfl, rfl⟩⟩
  · have hex : ∃ n, g.val < start L n := ⟨576, by omega⟩
    classical
    have hf := Nat.find_spec hex
    have hm : Nat.find hex ≤ 576 := Nat.find_min' hex (by omega)
    have hp : Nat.find hex ≠ 0 := fun e => by rw [e] at hf; simp [start] at hf
    have hl : ¬ g.val < start L (Nat.find hex - 1) := Nat.find_min hex (by omega)
    obtain ⟨b, hb⟩ : ∃ b, Nat.find hex = b + 1 := ⟨Nat.find hex - 1, by omega⟩
    rw [hb] at hf hm hl
    have hl' : start L b ≤ g.val := by simpa using hl
    obtain ⟨hu, hs, hn⟩ := place_user L hL g ⟨b, by omega⟩ hl' hf
    have hg : groups L b = ((L (ix1 ⟨b, by omega⟩)).toNat + 15) / 16 := by unfold groups; rw [dif_pos (by omega)]
    have hlen := hL (ix1 ⟨b, by omega⟩)
    have hf' := hf
    rw [start_succ, hg] at hf'
    obtain ⟨f1, f2, f3⟩ := fields _ _ _ _ (info_toNat L (ix1 g) _ _ _ hu hs hn (by show b < _; omega) (by show 16 * (g.val - start L b) < _; omega) (by omega))
      (by show b < _; omega) (by show 16 * (g.val - start L b) < _; omega) (by omega)
    exact ⟨_, _, _, f1, f2, f3, by show 16 * (g.val - start L b) < _; omega, by omega, .inl ⟨⟨b, by omega⟩, rfl, hl', hf, rfl, rfl⟩⟩

end Cert.KernelIdeal.Run

end
-- ==== Proof.Buf.lean ====
/-
What the first step's preparation leaves in the buffers and what the last step's reduction makes of the score buffer,
over the extended reals.
-/
module

public import proofs.«01_k».proof.Proof.Rects

@[expose] public section

set_option maxRecDepth 16384

noncomputable section

namespace Cert.KernelIdeal.Rolled

open Idealize.ShloMosaic Idealize.ShloMosaic.TcCoe Idealize.ShloMosaic.Tactic
open Cert.KernelIdeal Cert.KernelIdeal.Facts₀ Cert.KernelIdeal.Facts Cert.Mini Cert.Score

variable (N : Net) (codes : Nat → Fin 512 → BitVec 32) (words : Nat → BitVec 32)

theorem t1F_x22 (t : Fin k0_t1_loop.trips) (σ : St Ideal) :
    (t1F t σ).x22 = overwrite (Rect.unit (s := S4616x128) (k0_off2 t) S8x128.size (k0_off2_inb t)) σ.x22 (zero128 (F := Ideal)) := by sl_kernel_rfl

theorem t1F_zero (t : Fin k0_t1_loop.trips) (σ : St Ideal) (h : Zero (8 * t.val) σ) : Zero (8 * (t.val + 1)) (t1F t σ) := by
  intro r l hr
  rw [t1F_x22]
  by_cases h' : r.val < 8 * t.val
  · refine (ow_out (e := .f32) (n := 4616) (k := 128) (a := 8) (b := 128) (k0_off2 t) (k0_off2_inb t) σ.x22 (zero128 (F := Ideal)) r l (.inl ?_)).trans (h r l h')
    rw [off2_at]; exact h'
  · refine (ow_in (e := .f32) (n := 4616) (k := 128) (a := 8) (b := 128) (k0_off2 t) (k0_off2_inb t) σ.x22 (zero128 (F := Ideal)) r l ⟨r.val - 8 * t.val, by omega⟩ l ?_ ?_).trans ?_
    · rw [off2_at]; show _ = _ + (_ - _); omega
    · rw [off2_1]; omega
    · pointwise [zero128]

theorem row_eq (d : Fin 512) (w v : BitVec 32) (a b : Nat) (r : Nat) (hw : w = codes (r / 4) d) (hv : v = words (r / 2)) (ha : a = 8 * (r % 4))
    (hb : b = 16 * (r % 2)) : (FloatOps.sitofp (F := Ideal) .bf16 (w.extractLsb' a 8) * Ideal.ofBits .bf16 (v.extractLsb' b 16) : EReal) = row codes words r d := by
  subst hw hv ha hb; rfl

theorem tgtHalf_x16 (code : FVec Ideal S32x512 .bf16) (p : Fin 18) (g : Fin 2) (σ : St Ideal) : (tgtHalfF code p g σ).x16
    = overwrite (Rect.unit (s := S576x512) ![16 * (2 * p.val + g.val), 0] S16x512.size (inb16 ⟨2 * p.val + g.val, by omega⟩)) σ.x16
      (shapeCast S16x512 (rows (F := Ideal) code g (fun j => σ.x3 ((Rect.unit (s := S8x128) ![p.val / 8, 0] S1x128.size (inb3 ⟨p.val / 8, by omega⟩)).idx j))
        (BitVec.ofNat 32 (8 * ((2 * p.val + g.val) % 16)))) shapeCasts_S16x512_S16x512) := by sl_kernel_rfl

theorem tgtHalf_at (n : Nat) (p : Fin 18) (g : Fin 2) (σ : St Ideal) (hI : Inp N codes words n σ) (h : Tgt codes words (16 * (2 * p.val + g.val)) σ) :
    Tgt codes words (16 * (2 * p.val + g.val + 1)) (tgtHalfF (codeRows (F := Ideal) fun j => σ.x2 ((Rect.unit (s := S144x512) ![8 * p.val, 0] S8x512.size (inb2 p)).idx j)) p g σ) := by
  intro r d hr
  have hp := p.isLt
  have hg := g.isLt
  rw [tgtHalf_x16]
  generalize hX : shapeCast S16x512 (rows (F := Ideal) _ g _ _) shapeCasts_S16x512_S16x512 = X
  by_cases h' : r.val < 16 * (2 * p.val + g.val)
  · exact (ow_out (e := .bf16) (n := 576) (k := 512) (a := 16) (b := 512) ![16 * (2 * p.val + g.val), 0] (inb16 ⟨2 * p.val + g.val, by omega⟩) σ.x16 X r d (.inl h')).trans (h r d h')
  · refine (ow_in (e := .bf16) (n := 576) (k := 512) (a := 16) (b := 512) ![16 * (2 * p.val + g.val), 0] (inb16 ⟨2 * p.val + g.val, by omega⟩) σ.x16 X r d ⟨r.val - 16 * (2 * p.val + g.val), by omega⟩ d ?_ ?_).trans ?_
    · show r.val = 16 * (2 * p.val + g.val) + (r.val - 16 * (2 * p.val + g.val)); omega
    · show d.val = 0 + d.val; omega
    subst hX
    rw [shapeCast_self]
    refine (rows_at _ g _ ⟨(2 * p.val + g.val) % 16, by omega⟩ _ d).trans ?_
    refine row_eq codes words d _ _ _ _ r.val ?_ ?_ ?_ ?_
    · refine (congrArg σ.x2 (rect_idx ![8 * p.val, 0] (inb2 p) ⟨r.val / 4, by omega⟩ d _ d ?_ ?_)).trans (hI.i2 _ d)
      · show r.val / 4 = 8 * p.val + (16 * g.val + (r.val - 16 * (2 * p.val + g.val))) / 4
        omega
      · show d.val = 0 + d.val; omega
    · refine (congrArg σ.x3 (rect_idx ![p.val / 8, 0] (inb3 ⟨p.val / 8, by omega⟩) ⟨p.val / 8, by omega⟩
        ⟨8 * ((2 * p.val + g.val) % 16) + (r.val - 16 * (2 * p.val + g.val)) / 2, by omega⟩ 0 _ ?_ ?_)).trans
        ((hI.i3 _ _).trans (congrArg words ?_))
      · show p.val / 8 = p.val / 8 + 0; omega
      · show 8 * ((2 * p.val + g.val) % 16) + (r.val - 16 * (2 * p.val + g.val)) / 2 = 0 + (8 * ((2 * p.val + g.val) % 16) + (r.val - 16 * (2 * p.val + g.val)) / 2); omega
      · show 128 * (p.val / 8) + (8 * ((2 * p.val + g.val) % 16) + (r.val - 16 * (2 * p.val + g.val)) / 2) = r.val / 2
        omega
    · show 8 * ((16 * g.val + (r.val - 16 * (2 * p.val + g.val))) % 4) = _
      omega
    · show 16 * ((r.val - 16 * (2 * p.val + g.val)) % 2) = _
      omega

theorem tgtHalf_same (code : FVec Ideal S32x512 .bf16) (p : Fin 18) (g : Fin 2) (σ : St Ideal) : SameIn σ (tgtHalfF code p g σ) := by
  constructor <;> sl_kernel_rfl

theorem tgtPair_x22 (p : Fin 18) (σ : St Ideal) : (tgtPairF p σ).x22 = σ.x22 := by sl_kernel_rfl

theorem tgtPair_at (n : Nat) (p : Fin 18) (σ : St Ideal) (hI : Inp N codes words n σ) (h : Tgt codes words (32 * p.val) σ) :
    Tgt codes words (32 * (p.val + 1)) (tgtPairF p σ) := by
  have h0 := tgtHalf_at N codes words n p 0 σ hI (fun r d hr => h r d (by have : (0 : Fin 2).val = 0 := rfl; omega))
  have h1 := tgtHalf_at N codes words n p 1 _ (hI.same N codes words (tgtHalf_same _ p 0 σ)) (fun r d hr => h0 r d (by
    have : (0 : Fin 2).val = 0 := rfl
    have : (1 : Fin 2).val = 1 := rfl
    omega))
  intro r d hr
  exact h1 r d (by have : (1 : Fin 2).val = 1 := rfl; omega)

theorem tz8_at (z : FVec Ideal S16x256 .f32) (k : Fin 16) (i : Fin 8) (c : Fin 256) : tz8 z k (ix2 i c) = z (ix2 k c) := by
  pointwise [tz8]

theorem t16_at (z : Vec Ideal S16x512 .bf16) (k : Fin 16) (i : Fin 16) (c : Fin 512) : t16 z k (ix2 i c) = z (ix2 k c) := by
  pointwise [t16]

theorem tzOf_at (t : Vec Ideal S16x512 .bf16) (u : Vec Ideal S512x256 .bf16) (b : Vec Ideal S1x256 .f32) (k : Fin 16) (c : Fin 256) :
    tzOf t u b (ix2 k c) = (∑ d, t (ix2 k d) * u (ix2 d c) + b (ix2 0 c) : EReal) := by
  pointwise [tzOf]

theorem dup_x17 (t : Fin k0_t2_loop.trips) (x : Vec Ideal S16x512 .bf16) (z : FVec Ideal S16x256 .f32) (k : Fin 16) (σ : St Ideal) : (dupF t x z k σ).x17
    = overwrite (Rect.unit (s := S9232x512) (k0_off5 t (BitVec.ofNat 32 (16 * k.val))) S16x512.size (k0_off5_inb t k)) σ.x17 (t16 (F := Ideal) x k) := by sl_kernel_rfl

theorem dup_x18 (t : Fin k0_t2_loop.trips) (x : Vec Ideal S16x512 .bf16) (z : FVec Ideal S16x256 .f32) (k : Fin 16) (σ : St Ideal) : (dupF t x z k σ).x18
    = overwrite (Rect.unit (s := S4616x256) (k0_off4 t (BitVec.ofNat 32 (8 * k.val))) S8x256.size (k0_off4_inb t k)) σ.x18 (tz8 (F := Ideal) z k) := by sl_kernel_rfl

theorem dup_at (t : Fin k0_t2_loop.trips) (x : Vec Ideal S16x512 .bf16) (z : FVec Ideal S16x256 .f32) (k : Fin 16) (σ : St Ideal)
    (hx : ∀ d, x (ix2 k d) = row codes words (16 * t.val + k.val) d) (hz : ∀ c, z (ix2 k c) = tz N (row codes words (16 * t.val + k.val)) c)
    (h : Dup codes words (16 * t.val + k.val) σ ∧ Bias N codes words (16 * t.val + k.val) σ) :
    Dup codes words (16 * t.val + (k.val + 1)) (dupF t x z k σ) ∧ Bias N codes words (16 * t.val + (k.val + 1)) (dupF t x z k σ) := by
  constructor
  · intro r d u i hr hi hu
    rw [dup_x17]
    by_cases h' : u < 16 * t.val + k.val
    · refine (ow_out (e := .bf16) (n := 9232) (k := 512) (a := 16) (b := 512) _ (k0_off5_inb t k) σ.x17 (t16 (F := Ideal) x k) r d (.inl ?_)).trans (h.1 r d u i hr hi h')
      rw [off5_at]; omega
    · have hu' : u = 16 * t.val + k.val := by omega
      subst hu'
      refine (ow_in (e := .bf16) (n := 9232) (k := 512) (a := 16) (b := 512) _ (k0_off5_inb t k) σ.x17 (t16 (F := Ideal) x k) r d ⟨i, hi⟩ d ?_ ?_).trans ((t16_at x k _ d).trans (hx d))
      · rw [off5_at]; exact hr
      · rw [off5_1]; omega
  · intro r d u i hr hi hu
    rw [dup_x18]
    by_cases h' : u < 16 * t.val + k.val
    · refine (ow_out (e := .f32) (n := 4616) (k := 256) (a := 8) (b := 256) _ (k0_off4_inb t k) σ.x18 (tz8 (F := Ideal) z k) r d (.inl ?_)).trans (h.2 r d u i hr hi h')
      rw [off4_at]; omega
    · have hu' : u = 16 * t.val + k.val := by omega
      subst hu'
      refine (ow_in (e := .f32) (n := 4616) (k := 256) (a := 8) (b := 256) _ (k0_off4_inb t k) σ.x18 (tz8 (F := Ideal) z k) r d ⟨i, hi⟩ d ?_ ?_).trans ((tz8_at z k _ d).trans (hz d))
      · rw [off4_at]; exact hr
      · rw [off4_1]; omega

theorem t2F_at (n : Nat) (t : Fin k0_t2_loop.trips) (σ : St Ideal) (hI : Inp N codes words n σ) (hT : Tgt codes words 576 σ)
    (h : Dup codes words (16 * t.val) σ ∧ Bias N codes words (16 * t.val) σ) :
    Dup codes words (16 * (t.val + 1)) (t2F t σ) ∧ Bias N codes words (16 * (t.val + 1)) (t2F t σ) := by
  have ht : t.val < 36 := trips2 ▸ t.isLt
  have hx : ∀ (k : Fin 16) d, t2x t σ (ix2 k d) = row codes words (16 * t.val + k.val) d := fun k d =>
    (congrArg σ.x16 (rect_idx (k0_off3 t) (k0_off3_inb t) ⟨16 * t.val + k.val, by omega⟩ d k d (by rw [off3_at]) (by rw [off3_1]; omega))).trans
      (hT ⟨16 * t.val + k.val, by omega⟩ d (by show 16 * t.val + k.val < _; omega))
  have hz : ∀ (k : Fin 16) c, t2z t σ (ix2 k c) = tz N (row codes words (16 * t.val + k.val)) c := fun k c => by
    unfold t2z
    rw [tzOf_at]
    unfold tz
    congr 1
    · refine Finset.sum_congr rfl fun d _ => ?_
      rw [hx]
      congr 1
      exact (congrArg σ.x6 (rect_idx ![512, 0] inb_S2048x256_S512x256_512_0 ⟨512 + d.val, by omega⟩ c d c rfl (by show c.val = 0 + c.val; omega))).trans (hI.i6 _ _)
    · exact (congrArg σ.x7 (rect_idx ![0, 0] inb_S1x256_S1x256_0_0 0 c 0 c rfl (by show c.val = 0 + c.val; omega))).trans (hI.i7 _)
  exact runFin_inv (dupF t (t2x t σ) (t2z t σ)) (fun k σ' => Dup codes words (16 * t.val + k) σ' ∧ Bias N codes words (16 * t.val + k) σ')
    (fun k σ' h => dup_at N codes words t _ _ k σ' (hx k) (hz k) h) 16 (by omega) σ h

/-- What the preparation leaves. -/
def Ready (σ : St Ideal) : Prop := Dup codes words 576 σ ∧ Bias N codes words 576 σ

theorem dup_x16 (t : Fin k0_t2_loop.trips) (x : Vec Ideal S16x512 .bf16) (z : FVec Ideal S16x256 .f32) (k : Fin 16) (σ : St Ideal) :
    (dupF t x z k σ).x16 = σ.x16 := by sl_kernel_rfl

theorem dup_x22 (t : Fin k0_t2_loop.trips) (x : Vec Ideal S16x512 .bf16) (z : FVec Ideal S16x256 .f32) (k : Fin 16) (σ : St Ideal) :
    (dupF t x z k σ).x22 = σ.x22 := by sl_kernel_rfl

theorem dummy_x22 (σ : St Ideal) : (dummyF σ).x22 = σ.x22 := by sl_kernel_rfl

theorem t2F_x16 (t : Fin k0_t2_loop.trips) (σ : St Ideal) : (t2F t σ).x16 = σ.x16 ∧ (t2F t σ).x22 = σ.x22 := by
  unfold t2F
  exact runFin_inv (dupF t (t2x t σ) (t2z t σ)) (fun _ σ' => σ'.x16 = σ.x16 ∧ σ'.x22 = σ.x22)
    (fun k σ' h => ⟨(dup_x16 t _ _ k σ').trans h.1, (dup_x22 t _ _ k σ').trans h.2⟩) 16 (by omega) σ ⟨rfl, rfl⟩

theorem dummy_x17 (σ : St Ideal) : (dummyF σ).x17
    = overwrite (Rect.unit (s := S9232x512) ![9216, 0] S16x512.size inb_S9232x512_S16x512_9216_0) σ.x17 (zeroRows (F := Ideal)) := by sl_kernel_rfl

theorem dummy_x18 (σ : St Ideal) : (dummyF σ).x18
    = overwrite (Rect.unit (s := S4616x256) ![4608, 0] S8x256.size inb_S4616x256_S8x256_4608_0) σ.x18 (zero256 (F := Ideal)) := by sl_kernel_rfl

theorem dummy_at (σ : St Ideal) (h : Ready N codes words σ) : Ready N codes words (dummyF σ) := by
  constructor
  · intro r d u i hr hi hu
    rw [dummy_x17]
    exact (ow_out (e := .bf16) (n := 9232) (k := 512) (a := 16) (b := 512) ![9216, 0] inb_S9232x512_S16x512_9216_0 σ.x17 (zeroRows (F := Ideal)) r d
      (.inl (by show r.val < 9216; omega))).trans (h.1 r d u i hr hi hu)
  · intro r d u i hr hi hu
    rw [dummy_x18]
    exact (ow_out (e := .f32) (n := 4616) (k := 256) (a := 8) (b := 256) ![4608, 0] inb_S4616x256_S8x256_4608_0 σ.x18 (zero256 (F := Ideal)) r d
      (.inl (by show r.val < 4608; omega))).trans (h.2 r d u i hr hi hu)

theorem init_at (n : Nat) (σ : St Ideal) (hI : Inp N codes words n σ) : Zero 4616 (initF σ) ∧ Ready N codes words (initF σ) := by
  unfold initF
  have z1 : Zero 4616 (iterN t1F k0_t1_loop.trips σ) := by
    have := iterN_inv t1F (fun k σ' => Zero (8 * k) σ') (fun k σ' h => t1F_zero k σ' h) σ (fun r l h => absurd h (by omega)) _ le_rfl
    intro r l hr
    exact this r l (by rw [trips1]; omega)
  have i1 := hI.same N codes words (iterN_same t1F t1F_same _ le_rfl σ)
  generalize iterN t1F k0_t1_loop.trips σ = σ1 at z1 i1
  have z2 : Zero 4616 (runFin tgtPairF 18 (by omega) σ1) := runFin_inv tgtPairF (fun _ σ' => Zero 4616 σ')
    (fun p σ' h r l hr => by rw [tgtPair_x22]; exact h r l hr) 18 (by omega) σ1 z1
  have p2 := runFin_inv tgtPairF (fun p σ' => Inp N codes words n σ' ∧ Tgt codes words (32 * p) σ')
    (fun p σ' h => ⟨h.1.same N codes words (tgtPairF_same p σ'), tgtPair_at N codes words n p σ' h.1 h.2⟩) 18 (by omega) σ1
    ⟨i1, fun r l h => absurd h (by omega)⟩
  generalize runFin tgtPairF 18 (by omega) σ1 = σ2 at z2 p2
  obtain ⟨i2, t2⟩ := p2
  have p3 := iterN_inv t2F (fun t σ' => (σ'.x16 = σ2.x16 ∧ σ'.x22 = σ2.x22) ∧ Inp N codes words n σ' ∧ Dup codes words (16 * t) σ' ∧ Bias N codes words (16 * t) σ')
    (fun t σ' h => ⟨⟨(t2F_x16 t σ').1.trans h.1.1, (t2F_x16 t σ').2.trans h.1.2⟩, h.2.1.same N codes words (t2F_same t σ'),
      t2F_at N codes words n t σ' h.2.1 (fun r d hr => by rw [h.1.1]; exact t2 r d hr) h.2.2⟩) σ2
    ⟨⟨rfl, rfl⟩, i2, fun r d u i hr hi hu => absurd hu (by omega), fun r d u i hr hi hu => absurd hu (by omega)⟩ _ le_rfl
  generalize iterN t2F k0_t2_loop.trips σ2 = σ3 at p3
  rw [trips2] at p3
  refine ⟨fun r l hr => ?_, dummy_at N codes words σ3 p3.2.2⟩
  rw [dummy_x22, p3.1.2]
  exact z2 r l hr

/-! ## The last step's reduction -/

theorem sum128_at (x : Vec Ideal S128x128 .f32) (i : Fin 16) (l : Fin 128) :
    sum128 x (ix2 i l) = (∑ u : Fin 8, x (ix2 ⟨8 * i.val + u.val, by omega⟩ l) : EReal) := by
  pointwise [sum128]
  refine Finset.sum_congr rfl fun u _ => ?_
  congr 3
  omega

theorem t4F_x22 (t : Fin k0_t4_loop.trips) (σ : St Ideal) : (t4F t σ).x22 = σ.x22 := by sl_kernel_rfl

theorem t4F_x15 (t : Fin k0_t4_loop.trips) (σ : St Ideal) : (t4F t σ).x15
    = overwrite (Rect.unit (s := S576x128) (k0_off140 t) S16x128.size (k0_off140_inb t)) σ.x15
      (sum128 (F := Ideal) fun j => σ.x22 ((Rect.unit (s := S4616x128) (k0_off139 t) S128x128.size (k0_off139_inb t)).idx j)) := by sl_kernel_rfl

/-- The last step's reduction sums a user's eight rows. -/
theorem last_at (σ : St Ideal) (val : Nat → Nat → Fin 128 → EReal)
    (hv : ∀ (r : Fin 4616) (l : Fin 128) (b u : Nat), r.val = 8 * b + u → u < 8 → b < 576 → σ.x22 (ix2 r l) = val b u l) (b : Fin 576) (l : Fin 128) :
    (lastF σ).x15 (ix2 b l) = (∑ u : Fin 8, val b.val u.val l : EReal) := by
  have h := iterN_inv t4F (fun t σ' => σ'.x22 = σ.x22 ∧ ∀ (b : Fin 576) (l : Fin 128), b.val < 16 * t → σ'.x15 (ix2 b l) = (∑ u : Fin 8, val b.val u.val l : EReal))
    (fun t σ' h => by
      have ht : t.val < 36 := trips4 ▸ t.isLt
      refine ⟨(t4F_x22 t σ').trans h.1, fun b l hb => ?_⟩
      rw [t4F_x15, h.1]
      generalize hX : sum128 (F := Ideal) _ = X
      by_cases h' : b.val < 16 * t.val
      · refine (ow_out (e := .f32) (n := 576) (k := 128) (a := 16) (b := 128) (k0_off140 t) (k0_off140_inb t) σ'.x15 X b l (.inl ?_)).trans (h.2 b l h')
        rw [off140_at]; exact h'
      · refine (ow_in (e := .f32) (n := 576) (k := 128) (a := 16) (b := 128) (k0_off140 t) (k0_off140_inb t) σ'.x15 X b l ⟨b.val - 16 * t.val, by omega⟩ l ?_ ?_).trans ?_
        · rw [off140_at]; show b.val = 16 * t.val + (b.val - 16 * t.val); omega
        · rw [off140_1]; omega
        subst hX
        rw [sum128_at]
        refine Finset.sum_congr rfl fun u _ => ?_
        refine (congrArg σ.x22 (rect_idx (k0_off139 t) (k0_off139_inb t) ⟨8 * b.val + u.val, by omega⟩ l ⟨8 * (b.val - 16 * t.val) + u.val, by omega⟩ l ?_ ?_)).trans
          (hv _ l b.val u.val rfl u.isLt b.isLt)
        · rw [off139_at]; show 8 * b.val + u.val = 128 * t.val + (8 * (b.val - 16 * t.val) + u.val); omega
        · rw [off139_1]; omega) σ ⟨rfl, fun b l hb => absurd hb (by omega)⟩ _ le_rfl
  exact h.2 b l (by rw [trips4]; omega)

end Cert.KernelIdeal.Rolled

end
-- ==== Proof.Trip.lean ====
/-
What one trip of the loop over a block's quarters does to the buffers, over the extended reals: the features of its
rows, the first hidden layer, the scores, and the score buffer.
-/
module

public import proofs.«01_k».proof.Proof.Buf
public import proofs.«01_k».proof.Proof.PlanAt

@[expose] public section

set_option maxRecDepth 16384

noncomputable section

namespace Cert.KernelIdeal.Rolled

open Idealize.ShloMosaic Idealize.ShloMosaic.TcCoe Idealize.ShloMosaic.Tactic
open Cert.KernelIdeal Cert.KernelIdeal.Facts₀ Cert.KernelIdeal.Facts Cert.Mini Cert.Score

variable (N : Net) (codes : Nat → Fin 512 → BitVec 32) (words : Nat → BitVec 32)

theorem off7_at (t : Fin k0_t3_loop.trips) (p : Fin 16) : k0_off7 t (BitVec.ofNat 32 (8 * p.val)) 0 = 128 * t.val + 8 * p.val := by
  show ((0#32 + Scf.iv 0#32 1#32 t * 1#32) * 128#32 + BitVec.ofNat 32 (8 * p.val)).toNat = _
  have ht : t.val < 4 := trips3' ▸ t.isLt
  rw [iv_eq]
  simp only [BitVec.toNat_add, BitVec.toNat_mul, BitVec.toNat_ofNat]
  omega
theorem off7_1 (t : Fin k0_t3_loop.trips) (v : BitVec 32) : k0_off7 t v 1 = 0 := rfl

theorem off8_at (t : Fin k0_t3_loop.trips) (p : Nat) (hp : p < 2) : k0_off8 t (BitVec.ofNat 32 p) 0 = 2 * t.val + p := by
  show ((0#32 + Scf.iv 0#32 1#32 t * 1#32) * 2#32 + BitVec.ofNat 32 p).toNat = _
  have ht : t.val < 4 := trips3' ▸ t.isLt
  rw [iv_eq]
  simp only [BitVec.toNat_add, BitVec.toNat_mul, BitVec.toNat_ofNat]
  omega
theorem off8_1 (t : Fin k0_t3_loop.trips) (v : BitVec 32) : k0_off8 t v 1 = 0 := rfl

theorem off9_at (v : BitVec 32) (b : Nat) (h : (v &&& 65535#32).toNat = b) (hb : b ≤ 576) : k0_off9 v 0 = 16 * b := by
  show ((v &&& 65535#32) * 16#32).toNat = _
  rw [BitVec.toNat_mul, h]; simp only [BitVec.toNat_ofNat]; omega
theorem off9_1 (v : BitVec 32) : k0_off9 v 1 = 0 := rfl

theorem off41_at (v : BitVec 32) (b : Nat) (h : (v &&& 65535#32).toNat = b) (hb : b ≤ 576) : k0_off41 v 0 = 8 * b := by
  show ((v &&& 65535#32) * 8#32).toNat = _
  rw [BitVec.toNat_mul, h]; simp only [BitVec.toNat_ofNat]; omega
theorem off41_1 (v : BitVec 32) : k0_off41 v 1 = 0 := rfl

theorem off74_at (v : BitVec 32) (b : Nat) (h : (v &&& 65535#32).toNat = b) (hb : b ≤ 576) : k0_off74 v 0 = 8 * b := by
  show ((v &&& 65535#32) * 8#32).toNat = _
  rw [BitVec.toNat_mul, h]; simp only [BitVec.toNat_ofNat]; omega
theorem off74_1 (v : BitVec 32) : k0_off74 v 1 = 0 := rfl

/-! ## The features -/

theorem put_x19 (k : Fin 32) (j : Fin 3) (x : FVec Ideal S16x512 .bf16) (σ : St Ideal) : (put19F k j x σ).x19
    = overwrite (Rect.unit (s := S512x1536) ![16 * k.val, 512 * j.val] S16x512.size (inb19 k j)) σ.x19
      (shapeCast S16x512 x shapeCasts_S16x512_S16x512) := by sl_kernel_rfl

theorem put_in (k : Fin 32) (j : Fin 3) (x : FVec Ideal S16x512 .bf16) (σ : St Ideal) (r : Fin 512) (c : Fin 1536) (i : Fin 16) (d : Fin 512)
    (hr : r.val = 16 * k.val + i.val) (hc : c.val = 512 * j.val + d.val) : (put19F k j x σ).x19 (ix2 r c) = x (ix2 i d) := by
  rw [put_x19, shapeCast_self]
  exact ow_in (e := .bf16) (n := 512) (k := 1536) (a := 16) (b := 512) ![16 * k.val, 512 * j.val] (inb19 k j) σ.x19 x r c i d hr hc

theorem put_out (k : Fin 32) (j : Fin 3) (x : FVec Ideal S16x512 .bf16) (σ : St Ideal) (r : Fin 512) (c : Fin 1536)
    (h : r.val < 16 * k.val ∨ c.val < 512 * j.val ∨ 512 * j.val + 512 ≤ c.val) : (put19F k j x σ).x19 (ix2 r c) = σ.x19 (ix2 r c) := by
  rw [put_x19, shapeCast_self]
  refine ow_out (e := .bf16) (n := 512) (k := 1536) (a := 16) (b := 512) ![16 * k.val, 512 * j.val] (inb19 k j) σ.x19 x r c ?_
  show r.val < 16 * k.val ∨ 16 * k.val + 16 ≤ r.val ∨ c.val < 512 * j.val ∨ 512 * j.val + 512 ≤ c.val
  omega

/-- The features of the first `K` groups, of rows `H` against targets `T`. -/
def Feat (H T : Nat → Nat → Fin 512 → EReal) (K : Nat) (σ : St Ideal) : Prop :=
  ∀ (r : Fin 512) (d : Fin 512) (k i : Nat), r.val = 16 * k + i → i < 16 → k < K →
    σ.x19 (ix2 r ⟨d.val, by omega⟩) = H k i d ∧ σ.x19 (ix2 r ⟨512 + d.val, by omega⟩) = H k i d - T k i d
      ∧ σ.x19 (ix2 r ⟨1024 + d.val, by omega⟩) = H k i d * T k i d

theorem feat_step (H T : Nat → Nat → Fin 512 → EReal) (k : Fin 32) (hh tt : FVec Ideal S16x512 .bf16) (σ : St Ideal) (h : Feat H T k.val σ)
    (eh : ∀ (i : Fin 16) d, hh (ix2 i d) = H k.val i.val d) (et : ∀ (i : Fin 16) d, tt (ix2 i d) = T k.val i.val d) :
    Feat H T (k.val + 1) (put19F k 2 (mulf hh tt) (put19F k 1 (subf hh tt) (put19F k 0 hh σ))) := by
  intro r d k' i hr hi hk
  have j0 : (0 : Fin 3).val = 0 := rfl
  have j1 : (1 : Fin 3).val = 1 := rfl
  have j2 : (2 : Fin 3).val = 2 := rfl
  have hd := d.isLt
  by_cases h' : k' < k.val
  · obtain ⟨h0, h1, h2⟩ := h r d k' i hr hi h'
    refine ⟨?_, ?_, ?_⟩
    · rw [put_out _ _ _ _ _ _ (.inl (by omega)), put_out _ _ _ _ _ _ (.inl (by omega)), put_out _ _ _ _ _ _ (.inl (by omega)), h0]
    · rw [put_out _ _ _ _ _ _ (.inl (by omega)), put_out _ _ _ _ _ _ (.inl (by omega)), put_out _ _ _ _ _ _ (.inl (by omega)), h1]
    · rw [put_out _ _ _ _ _ _ (.inl (by omega)), put_out _ _ _ _ _ _ (.inl (by omega)), put_out _ _ _ _ _ _ (.inl (by omega)), h2]
  · have hk' : k' = k.val := by omega
    subst hk'
    refine ⟨?_, ?_, ?_⟩
    · rw [put_out k 2 _ _ _ _ (.inr (.inl (by show d.val < 512 * 2; omega))), put_out k 1 _ _ _ _ (.inr (.inl (by show d.val < 512 * 1; omega))),
        put_in k 0 _ _ _ _ ⟨i, hi⟩ d hr (by show d.val = 512 * 0 + d.val; omega), eh]
    · rw [put_out k 2 _ _ _ _ (.inr (.inl (by show 512 + d.val < 512 * 2; omega))),
        put_in k 1 _ _ _ _ ⟨i, hi⟩ d hr (by show 512 + d.val = 512 * 1 + d.val; omega)]
      show hh (ix2 ⟨i, hi⟩ d) - tt (ix2 ⟨i, hi⟩ d) = _
      rw [eh, et]
    · rw [put_in k 2 _ _ _ _ ⟨i, hi⟩ d hr (by show 1024 + d.val = 512 * 2 + d.val; omega)]
      show hh (ix2 ⟨i, hi⟩ d) * tt (ix2 ⟨i, hi⟩ d) = _
      rw [eh, et]

theorem pair_x19 (t : Fin k0_t3_loop.trips) (f : Nat → GW) (p : Fin 16) (σ : St Ideal) :
    (pairF t f p σ).x19 = (
      have code := codeRows (F := Ideal) fun j => σ.x4 ((Rect.unit (s := S512x512) (k0_off7 t (BitVec.ofNat 32 (8 * p.val))) S8x512.size (k0_off7_inb t p)).idx j)
      have h0 := hRows t σ.x5 code p 0
      have t0 := tRows σ.x17 (f (2 * p.val + 0))
      have h1 := hRows t σ.x5 code p 1
      have t1 := tRows σ.x17 (f (2 * p.val + 1))
      have σ1 := put19F ⟨2 * p.val + 0, by omega⟩ 2 (mulf h0 t0) (put19F ⟨2 * p.val + 0, by omega⟩ 1 (subf h0 t0) (put19F ⟨2 * p.val + 0, by omega⟩ 0 h0 σ))
      put19F ⟨2 * p.val + 1, by omega⟩ 2 (mulf h1 t1) (put19F ⟨2 * p.val + 1, by omega⟩ 1 (subf h1 t1) (put19F ⟨2 * p.val + 1, by omega⟩ 0 h1 σ1))).x19 := by
  sl_kernel_rfl

/-- A group's dequantised rows are its rows of the table. -/
theorem hRows_at (n : Nat) (t : Fin k0_t3_loop.trips) (p : Fin 16) (g : Fin 2) (σ : St Ideal) (hI : Inp N codes words n σ) (i : Fin 16) (d : Fin 512) :
    hRows t σ.x5 (codeRows (F := Ideal) fun j => σ.x4 ((Rect.unit (s := S512x512) (k0_off7 t (BitVec.ofNat 32 (8 * p.val))) S8x512.size (k0_off7_inb t p)).idx j))
      p g (ix2 i d) = row codes words (2048 * (1 + n) + 512 * t.val + 16 * (2 * p.val + g.val) + i.val) d := by
  have ht : t.val < 4 := trips3' ▸ t.isLt
  have hp := p.isLt
  have hg := g.isLt
  have hi := i.isLt
  unfold hRows
  refine (rows_at _ g _ ⟨(2 * p.val + g.val) % 16, by omega⟩ i d).trans ?_
  refine row_eq codes words d _ _ _ _ _ ?_ ?_ ?_ ?_
  · refine (congrArg σ.x4 (rect_idx (k0_off7 t (BitVec.ofNat 32 (8 * p.val))) (k0_off7_inb t p) ⟨128 * t.val + 8 * p.val + (16 * g.val + i.val) / 4, by omega⟩ d
      ⟨(16 * g.val + i.val) / 4, by omega⟩ d ?_ ?_)).trans ((hI.i4 _ d).trans (congrArg (fun q => codes q d) ?_))
    · rw [off7_at]
    · rw [off7_1]; omega
    · show 512 * (1 + n) + (128 * t.val + 8 * p.val + (16 * g.val + i.val) / 4) = _
      omega
  · refine (congrArg σ.x5 (rect_idx (k0_off8 t (BitVec.ofNat 32 (p.val / 8))) (k0_off8_inb t ⟨p.val / 8, by omega⟩) ⟨2 * t.val + p.val / 8, by omega⟩
      ⟨8 * ((2 * p.val + g.val) % 16) + i.val / 2, by omega⟩ 0 ⟨8 * ((2 * p.val + g.val) % 16) + i.val / 2, by omega⟩ ?_ ?_)).trans
      ((hI.i5 _ _).trans (congrArg words ?_))
    · rw [off8_at t (p.val / 8) (by omega)]; rfl
    · rw [off8_1]; omega
    · show 1024 * (1 + n) + 128 * (2 * t.val + p.val / 8) + (8 * ((2 * p.val + g.val) % 16) + i.val / 2) = _
      omega
  · show 8 * ((16 * g.val + i.val) % 4) = _
    omega
  · show 16 * (i.val % 2) = _
    omega

/-- The rows of a trip, by group and row. -/
def hOf (n t k i : Nat) : Fin 512 → EReal := row codes words (2048 * (1 + n) + 512 * t + 16 * k + i)

/-- The target rows a trip reads, by group and row. -/
def tOf (x17 : S9232x512.Idx → Elt Ideal .bf16) (f : Nat → GW) (k i : Nat) (d : Fin 512) : EReal := tRows (F := Ideal) x17 (f k) (ix2 ⟨i % 16, by omega⟩ d)

theorem put_same (k : Fin 32) (j : Fin 3) (x : FVec Ideal S16x512 .bf16) (σ : St Ideal) : (put19F k j x σ).x17 = σ.x17 := by sl_kernel_rfl

theorem tOf_at (x17 : S9232x512.Idx → Elt Ideal .bf16) (f : Nat → GW) (k : Nat) (i : Fin 16) (d : Fin 512) :
    tRows (F := Ideal) x17 (f k) (ix2 i d) = tOf x17 f k i.val d := by
  unfold tOf
  congr 2
  exact Fin.ext (by show i.val = i.val % 16; omega)

theorem pair_at (n : Nat) (t : Fin k0_t3_loop.trips) (f : Nat → GW) (p : Fin 16) (σ : St Ideal) (hI : Inp N codes words n σ)
    (x17 : S9232x512.Idx → Elt Ideal .bf16) (e17 : σ.x17 = x17) (h : Feat (hOf codes words n t.val) (tOf x17 f) (2 * p.val) σ) :
    Feat (hOf codes words n t.val) (tOf x17 f) (2 * (p.val + 1)) (pairF t f p σ) := by
  subst e17
  have g0 := feat_step _ _ ⟨2 * p.val + 0, by omega⟩ (hRows t σ.x5 _ p 0) (tRows σ.x17 (f (2 * p.val + 0))) σ h
    (fun i d => hRows_at N codes words n t p 0 σ hI i d) (fun i d => tOf_at σ.x17 f (2 * p.val + 0) i d)
  have g1 := feat_step _ _ ⟨2 * p.val + 1, by omega⟩ (hRows t σ.x5 _ p 1) (tRows σ.x17 (f (2 * p.val + 1))) _ g0
    (fun i d => hRows_at N codes words n t p 1 σ hI i d) (fun i d => tOf_at σ.x17 f (2 * p.val + 1) i d)
  intro r d k i hr hi hk
  rw [pair_x19]
  exact g1 r d k i hr hi hk

/-! ## The first hidden layer -/

theorem z1_row (H T : Nat → Nat → Fin 512 → EReal) (n : Nat) (σ : St Ideal) (hI : Inp N codes words n σ) (h : Feat H T 32 σ) (r : Fin 512) (k i : Nat)
    (hr : r.val = 16 * k + i) (hi : i < 16) (c : Fin 256) : z1F σ (ix2 r c)
      = (∑ d : Fin 512, H k i d * N.w1 ⟨d.val, by omega⟩ c + ∑ d : Fin 512, (H k i d - T k i d) * N.w1 ⟨1024 + d.val, by omega⟩ c
        + ∑ d : Fin 512, H k i d * T k i d * N.w1 ⟨1536 + d.val, by omega⟩ c : EReal) := by
  unfold z1F
  rw [z1_at]
  have hz : ∀ d : Fin 512, d.val = 0 + d.val := fun d => by omega
  have hc : c.val = 0 + c.val := by omega
  have hr0 : r.val = 0 + r.val := by omega
  have F := fun d => h r d k i hr hi (by omega)
  have w : ∀ (o : Nat) (inb) (d : Fin 512) (q : Fin 2048) (hq : q.val = o + d.val),
      σ.x6 ((Rect.unit (s := S2048x256) ![o, 0] S512x256.size inb).idx (ix2 d c)) = N.w1 q c := fun o inb d q hq =>
    (congrArg σ.x6 (rect_idx ![o, 0] inb q c d c hq hc)).trans (hI.i6 q c)
  have x : ∀ (o : Nat) (inb) (d : Fin 512) (q : Fin 1536) (hq : q.val = o + d.val),
      σ.x19 ((Rect.unit (s := S512x1536) ![0, o] S512x512.size inb).idx (ix2 r d)) = σ.x19 (ix2 r q) := fun o inb d q hq =>
    congrArg σ.x19 (rect_idx ![0, o] inb r q r d hr0 hq)
  congr 1
  · congr 1
    · refine Finset.sum_congr rfl fun d _ => ?_
      rw [w 0 _ d ⟨d.val, by omega⟩ (hz d), x 0 _ d ⟨d.val, by omega⟩ (hz d), (F d).1]
    · refine Finset.sum_congr rfl fun d _ => ?_
      rw [w 1024 _ d ⟨1024 + d.val, by omega⟩ rfl, x 512 _ d ⟨512 + d.val, by omega⟩ rfl, (F d).2.1]
  · refine Finset.sum_congr rfl fun d _ => ?_
    rw [w 1536 _ d ⟨1536 + d.val, by omega⟩ rfl, x 1024 _ d ⟨1024 + d.val, by omega⟩ rfl, (F d).2.2]

/-- The first hidden layer of the first `K` groups, where the group is a user's. -/
def Hid (H : Nat → Nat → Fin 512 → EReal) (f : Nat → GW) (K : Nat) (σ : St Ideal) : Prop :=
  ∀ (r : Fin 512) (c : Fin 256) (k i b : Nat), r.val = 16 * k + i → i < 16 → k < K → ((f k).1 &&& 65535#32).toNat = b → b < 576 →
    σ.x20 (ix2 r c) = hid N (H k i) (row codes words b) c

theorem d1F_x20 (f : Nat → GW) (z1 : FVec Ideal S512x256 .f32) (k : Fin 32) (σ : St Ideal) : (d1F f z1 k σ).x20
    = overwrite (Rect.unit (s := S512x256) ![16 * k.val, 0] S16x256.size (inb20 k)) σ.x20
      (d1Of (F := Ideal) z1 k (fun j => σ.x18 ((Rect.unit (s := S4616x256) (k0_off41 (f k.val).1) S8x256.size (k0_off41_inb _ (f k.val).2)).idx j))
        (fun j => σ.x8 ((Rect.unit (s := S1x256) ![0, 0] S1x256.size inb_S1x256_S1x256_0_0).idx j))) := by sl_kernel_rfl

theorem d1_step (H : Nat → Nat → Fin 512 → EReal) (f : Nat → GW) (z1 : FVec Ideal S512x256 .f32) (n : Nat) (k : Fin 32) (σ : St Ideal)
    (hI : Inp N codes words n σ) (hB : Bias N codes words 576 σ)
    (hz : ∀ (i : Fin 16) (c : Fin 256) (b : Nat), ((f k.val).1 &&& 65535#32).toNat = b → b < 576 →
      (z1 (ix2 ⟨16 * k.val + i.val, by omega⟩ c) : EReal) = (∑ d : Fin 512, H k.val i.val d * N.w1 ⟨d.val, by omega⟩ c
        + ∑ d : Fin 512, (H k.val i.val d - row codes words b d) * N.w1 ⟨1024 + d.val, by omega⟩ c
        + ∑ d : Fin 512, H k.val i.val d * row codes words b d * N.w1 ⟨1536 + d.val, by omega⟩ c : EReal))
    (h : Hid N codes words H f k.val σ) : Hid N codes words H f (k.val + 1) (d1F f z1 k σ) := by
  intro r c k' i b hr hi hk hu hb
  rw [d1F_x20]
  generalize hX : d1Of (F := Ideal) z1 k _ _ = X
  by_cases h' : k' < k.val
  · refine (ow_out (e := .bf16) (n := 512) (k := 256) (a := 16) (b := 256) ![16 * k.val, 0] (inb20 k) σ.x20 X r c (.inl ?_)).trans (h r c k' i b hr hi h' hu hb)
    show r.val < 16 * k.val
    omega
  · have hk' : k' = k.val := by omega
    subst hk'
    refine (ow_in (e := .bf16) (n := 512) (k := 256) (a := 16) (b := 256) ![16 * k.val, 0] (inb20 k) σ.x20 X r c ⟨i, hi⟩ c hr (by show c.val = 0 + c.val; omega)).trans ?_
    subst hX
    rw [d1_at]
    unfold hid
    congr 1
    · exact (congrArg σ.x8 (rect_idx ![0, 0] inb_S1x256_S1x256_0_0 0 c 0 c rfl (by show c.val = 0 + c.val; omega))).trans (hI.i8 c)
    · rw [hz ⟨i, hi⟩ c b hu hb]
      congr 1
      refine (congrArg σ.x18 (rect_idx (k0_off41 (f k.val).1) (k0_off41_inb _ (f k.val).2) ⟨8 * b + i % 8, by omega⟩ c ⟨i % 8, by omega⟩ c ?_ ?_)).trans
        (hB _ c b (i % 8) rfl (by omega) hb)
      · rw [off41_at _ b hu (by omega)]
      · rw [off41_1]; omega

/-! ## The scores -/

theorem sc_row (H : Nat → Nat → Fin 512 → EReal) (f : Nat → GW) (n : Nat) (σ : St Ideal) (hI : Inp N codes words n σ) (h : Hid N codes words H f 32 σ)
    (r : Fin 512) (k i b : Nat) (hr : r.val = 16 * k + i) (hi : i < 16) (hu : ((f k).1 &&& 65535#32).toNat = b) (hb : b < 576) :
    scF σ (ix2 r 0) = score N (H k i) (row codes words b) := by
  unfold scF
  rw [sc_at]
  unfold score out
  have z0 : ∀ {m : Nat} (l : Fin m), l.val = 0 + l.val := fun l => by omega
  have one : ∀ q : S1.Idx, q = ix1 0 := fun q => by
    obtain ⟨q, rfl⟩ : ∃ q', q = ix1 q' := ⟨q 0, by funext a; match a with | ⟨0, _⟩ => rfl⟩
    have := q.isLt
    exact congrArg ix1 (Fin.ext (by show q.val = 0; change q.val < 1 at this; omega))
  have e20 : ∀ c : Fin 256, σ.x20 ((Rect.unit (s := S512x256) ![0, 0] S512x256.size inb_S512x256_S512x256_0_0).idx (ix2 r c))
      = hid N (H k i) (row codes words b) c := fun c =>
    (congrArg σ.x20 (rect_idx ![0, 0] inb_S512x256_S512x256_0_0 r c r c (z0 r) (z0 c))).trans (h r c k i b hr hi (by omega) hu hb)
  have rd : ∀ (x : S1x128.Idx → Elt Ideal .f32) (q : Fin 128), x ((Rect.unit (s := S1x128) ![0, 0] S1x128.size inb_S1x128_S1x128_0_0).idx (ix2 0 q)) = x (ix2 0 q) :=
    fun x q => congrArg x (rect_idx ![0, 0] inb_S1x128_S1x128_0_0 0 q 0 q rfl (z0 q))
  have r9 : ∀ (c : Fin 256) (q : Fin 128), σ.x9 ((Rect.unit (s := S256x128) ![0, 0] S256x128.size inb_S256x128_S256x128_0_0).idx (ix2 c q)) = σ.x9 (ix2 c q) :=
    fun c q => congrArg σ.x9 (rect_idx ![0, 0] inb_S256x128_S256x128_0_0 c q c q (z0 c) (z0 q))
  rw [one ((Rect.unit (s := S1) _ _ _).idx _), hI.i13, Fin.sum_univ_two_halves 96 32 rfl]
  congr 1
  have s2 : ∀ F : Fin 32 → EReal, (∀ q, F q = 0) → ∑ q, F q = 0 := fun F hF => Finset.sum_eq_zero fun q _ => hF q
  rw [s2 _ (fun q => by rw [rd σ.x12, hI.i12', mul_zero]), add_zero]
  refine Finset.sum_congr rfl fun q _ => ?_
  rw [rd σ.x10, rd σ.x11, rd σ.x12, hI.i10, hI.i11, hI.i12]
  congr 2
  congr 1
  refine Finset.sum_congr rfl fun c _ => ?_
  rw [e20, r9, hI.i9]

end Cert.KernelIdeal.Rolled

end
-- ==== Proof.Acc.lean ====
/-
What one trip does to the score buffer, over the extended reals: after the first `G` groups of sixteen rows the buffer
holds the scores of exactly those groups.
-/
module

public import proofs.«01_k».proof.Proof.Trip

@[expose] public section

set_option maxRecDepth 16384

noncomputable section

namespace Cert.KernelIdeal.Rolled

open Idealize.ShloMosaic Idealize.ShloMosaic.TcCoe Idealize.ShloMosaic.Tactic
open Cert.KernelIdeal Cert.KernelIdeal.Facts₀ Cert.KernelIdeal.Facts Cert.Mini Cert.Score

variable (N : Net) (L : IVec S576 32) (codes : Nat → Fin 512 → BitVec 32) (words : Nat → BitVec 32)

/-- What row `u` of user `b`'s eight holds at lane `l` when the first `G` groups are done. -/
def part (G : Nat) (b : Fin 576) (u : Nat) (l : Fin 128) : EReal :=
  if l.val < (L (ix1 b)).toNat ∧ start L b.val + l.val / 16 < G ∧ l.val % 8 = u then
    score N (row codes words (2048 + 16 * start L b.val + l.val)) (row codes words b.val)
  else 0

/-- The score buffer when the first `G` groups are done. -/
def Acc (G : Nat) (σ : St Ideal) : Prop :=
  ∀ (r : Fin 4616) (l : Fin 128) (b : Fin 576) (u : Nat), r.val = 8 * b.val + u → u < 8 → σ.x22 (ix2 r l) = part N L codes words G b u l

/-- What the table says of group `g`. -/
def Info (g : Nat) (v : BitVec 32) : Prop :=
  ∃ u s n : Nat, (v &&& 65535#32).toNat = u ∧ sFirst v = BitVec.ofNat 32 s ∧ nValid v = BitVec.ofNat 32 n ∧ s < 128 ∧ n < 17 ∧
    ((∃ b : Fin 576, u = b.val ∧ start L b.val ≤ g ∧ g < start L (b.val + 1) ∧ s = 16 * (g - start L b.val) ∧ n = min 16 ((L (ix1 b)).toNat - s))
      ∨ (u = 576 ∧ start L 576 ≤ g ∧ s = 0 ∧ n = 0))

theorem start_next (b : Fin 576) : start L (b.val + 1) = start L b.val + ((L (ix1 b)).toNat + 15) / 16 := by
  rw [start_succ]
  unfold groups
  simp

theorem part_same (G : Nat) (b : Fin 576) (u : Nat) (l : Fin 128) (h : ¬(start L b.val ≤ G ∧ G < start L (b.val + 1))) :
    part N L codes words (G + 1) b u l = part N L codes words G b u l := by
  rw [start_next] at h
  unfold part
  refine if_congr ?_ rfl rfl
  omega

theorem part_zero (b : Fin 576) (u : Nat) (l : Fin 128) : part N L codes words 0 b u l = 0 := if_neg (by omega)

theorem accF_x22 (f : Nat → GW) (sc : FVec Ideal S512x1 .f32) (k : Fin 32) (σ : St Ideal) : (accF f sc k σ).x22
    = overwrite (Rect.unit (s := S4616x128) (k0_off74 (f k.val).1) S8x128.size (k0_off74_inb _ (f k.val).2)) σ.x22
      (posOf (F := Ideal) sc k (f k.val).1
        (fun j => σ.x22 ((Rect.unit (s := S4616x128) (k0_off74 (f k.val).1) S8x128.size (k0_off74_inb _ (f k.val).2)).idx j))) := by sl_kernel_rfl

theorem acc_step (G : Nat) (f : Nat → GW) (sc : FVec Ideal S512x1 .f32) (k : Fin 32) (σ : St Ideal) (hv : Info L G (f k.val).1)
    (hsc : ∀ (b : Fin 576) (i : Fin 16), ((f k.val).1 &&& 65535#32).toNat = b.val →
      sc (ix2 ⟨16 * k.val + i.val, by omega⟩ 0) = score N (row codes words (2048 + 16 * G + i.val)) (row codes words b.val))
    (h : Acc N L codes words G σ) : Acc N L codes words (G + 1) (accF f sc k σ) := by
  intro r l b u hr hu
  obtain ⟨us, s, n, e1, e2, e3, hs, hn, hor⟩ := hv
  have hus : us ≤ 576 := by rcases hor with ⟨b', h1, _⟩ | ⟨h1, _⟩ <;> omega
  rw [accF_x22]
  generalize hX : posOf (F := Ideal) sc k _ _ = X
  by_cases hb : us = b.val
  · refine (ow_in (e := .f32) (n := 4616) (k := 128) (a := 8) (b := 128) (k0_off74 (f k.val).1) (k0_off74_inb _ (f k.val).2) σ.x22 X r l ⟨u, hu⟩ l ?_ ?_).trans ?_
    · rw [off74_at _ us e1 hus]; show r.val = 8 * us + u; omega
    · rw [off74_1]; omega
    subst hX
    rw [pos_at sc k _ _ ⟨u, hu⟩ l ⟨n, hn⟩ s (by omega) e3 e2]
    have e : σ.x22 ((Rect.unit (s := S4616x128) (k0_off74 (f k.val).1) S8x128.size (k0_off74_inb _ (f k.val).2)).idx (ix2 ⟨u, hu⟩ l))
        = part N L codes words G b u l := by
      refine (congrArg σ.x22 (rect_idx (k0_off74 (f k.val).1) (k0_off74_inb _ (f k.val).2) r l ⟨u, hu⟩ l ?_ ?_)).trans (h r l b u hr hu)
      · rw [off74_at _ us e1 hus]; show r.val = 8 * us + u; omega
      · rw [off74_1]; omega
    rw [e]
    rcases hor with ⟨b', h1, h2, h3, h4, h5⟩ | ⟨h1, _⟩
    · obtain rfl : b' = b := Fin.ext (by omega)
      have h5' : n ≤ 16 := by omega
      by_cases hc : s ≤ l.val ∧ l.val < s + n ∧ (l.val - s) % 8 = u
      · rw [dif_pos hc, hsc b' ⟨l.val - s, by omega⟩ (e1.trans h1)]
        unfold part
        rw [if_neg (by omega), if_pos (by omega), zero_add]
        congr 2
        show 2048 + 16 * G + (l.val - s) = _
        omega
      · rw [dif_neg hc, add_zero]
        unfold part
        refine if_congr ?_ rfl rfl
        have hc' : ¬(s ≤ l.val ∧ l.val < s + n ∧ (l.val - s) % 8 = u) := hc
        omega
    · omega
  · refine (ow_out (e := .f32) (n := 4616) (k := 128) (a := 8) (b := 128) (k0_off74 (f k.val).1) (k0_off74_inb _ (f k.val).2) σ.x22 X r l ?_).trans ?_
    · rw [off74_at _ us e1 hus]; omega
    · rw [h r l b u hr hu]
      refine (part_same N L codes words G b u l ?_).symm
      rintro ⟨g1, g2⟩
      rcases hor with ⟨b', h1, h2, h3, h4, h5⟩ | ⟨h1, h2, _⟩
      · rcases Nat.lt_or_ge b.val b'.val with hlt | hge
        · have := start_mono L (show b.val + 1 ≤ b'.val from hlt); omega
        · have := start_mono L (show b'.val + 1 ≤ b.val by omega); omega
      · have := start_mono L (show b.val + 1 ≤ 576 by omega); omega

/-! ## The trip -/

theorem pair_keep (t : Fin k0_t3_loop.trips) (f : Nat → GW) (p : Fin 16) (σ : St Ideal) :
    (pairF t f p σ).x17 = σ.x17 ∧ (pairF t f p σ).x18 = σ.x18 ∧ (pairF t f p σ).x22 = σ.x22 := by
  refine ⟨?_, ?_, ?_⟩ <;> sl_kernel_rfl
theorem d1_keep (f : Nat → GW) (z : FVec Ideal S512x256 .f32) (k : Fin 32) (σ : St Ideal) :
    (d1F f z k σ).x17 = σ.x17 ∧ (d1F f z k σ).x18 = σ.x18 ∧ (d1F f z k σ).x19 = σ.x19 ∧ (d1F f z k σ).x22 = σ.x22 := by
  refine ⟨?_, ?_, ?_, ?_⟩ <;> sl_kernel_rfl
theorem acc_keep (f : Nat → GW) (sc : FVec Ideal S512x1 .f32) (k : Fin 32) (σ : St Ideal) :
    (accF f sc k σ).x17 = σ.x17 ∧ (accF f sc k σ).x18 = σ.x18 := by
  refine ⟨?_, ?_⟩ <;> sl_kernel_rfl

theorem phase_a (n : Nat) (t : Fin k0_t3_loop.trips) (f : Nat → GW) (σ : St Ideal) (hI : Inp N codes words n σ) :
    ((runFin (pairF t f) 16 (by omega) σ).x17 = σ.x17 ∧ (runFin (pairF t f) 16 (by omega) σ).x18 = σ.x18 ∧ (runFin (pairF t f) 16 (by omega) σ).x22 = σ.x22)
      ∧ SameIn σ (runFin (pairF t f) 16 (by omega) σ) ∧ Feat (hOf codes words n t.val) (tOf σ.x17 f) 32 (runFin (pairF t f) 16 (by omega) σ) :=
  runFin_inv (pairF t f)
    (fun p σ' => (σ'.x17 = σ.x17 ∧ σ'.x18 = σ.x18 ∧ σ'.x22 = σ.x22) ∧ SameIn σ σ' ∧ Feat (hOf codes words n t.val) (tOf σ.x17 f) (2 * p) σ')
    (fun p σ' h => by
      have kp := pair_keep t f p σ'
      exact ⟨⟨kp.1.trans h.1.1, kp.2.1.trans h.1.2.1, kp.2.2.trans h.1.2.2⟩, h.2.1.trans (pairF_same t f p σ'),
        pair_at N codes words n t f p σ' (hI.same N codes words h.2.1) σ.x17 h.1.1 h.2.2⟩) 16 (by omega) σ
    ⟨⟨rfl, rfl, rfl⟩, .refl σ, fun r d k i _ _ hk => absurd hk (by omega)⟩

theorem phase_b (n : Nat) (f : Nat → GW) (H T : Nat → Nat → Fin 512 → EReal) (σ : St Ideal) (hI : Inp N codes words n σ) (hB : Bias N codes words 576 σ)
    (hF : Feat H T 32 σ)
    (hT : ∀ (k : Fin 32) (i : Fin 16) (b : Nat), ((f k.val).1 &&& 65535#32).toNat = b → b < 576 → ∀ d, T k.val i.val d = row codes words b d) :
    ((runFin (d1F f (z1F σ)) 32 (by omega) σ).x17 = σ.x17 ∧ (runFin (d1F f (z1F σ)) 32 (by omega) σ).x18 = σ.x18
        ∧ (runFin (d1F f (z1F σ)) 32 (by omega) σ).x22 = σ.x22)
      ∧ SameIn σ (runFin (d1F f (z1F σ)) 32 (by omega) σ) ∧ Hid N codes words H f 32 (runFin (d1F f (z1F σ)) 32 (by omega) σ) :=
  runFin_inv (d1F f (z1F σ))
    (fun k σ' => (σ'.x17 = σ.x17 ∧ σ'.x18 = σ.x18 ∧ σ'.x22 = σ.x22) ∧ SameIn σ σ' ∧ Hid N codes words H f k σ')
    (fun k σ' h => by
      have kp := d1_keep f (z1F σ) k σ'
      refine ⟨⟨kp.1.trans h.1.1, kp.2.1.trans h.1.2.1, kp.2.2.2.trans h.1.2.2⟩, h.2.1.trans (d1F_same f (z1F σ) k σ'), ?_⟩
      refine d1_step N codes words H f (z1F σ) n k σ' (hI.same N codes words h.2.1) ?_ ?_ h.2.2
      · intro r c u i hr hi hu; rw [h.1.2.1]; exact hB r c u i hr hi hu
      · intro i c b hu hb
        rw [z1_row N codes words _ _ n σ hI hF _ k.val i.val rfl i.isLt c]
        simp only [hT k i b hu hb]) 32 (by omega) σ
    ⟨⟨rfl, rfl, rfl⟩, .refl σ, fun r c k i b _ _ hk => absurd hk (by omega)⟩

theorem phase_c (n : Nat) (t : Fin k0_t3_loop.trips) (f : Nat → GW) (σ : St Ideal) (hI : Inp N codes words n σ)
    (hH : Hid N codes words (hOf codes words n t.val) f 32 σ) (hA : Acc N L codes words (128 * n + 32 * t.val) σ)
    (hf : ∀ k : Fin 32, Info L (128 * n + 32 * t.val + k.val) (f k.val).1) :
    ((runFin (accF f (scF σ)) 32 (by omega) σ).x17 = σ.x17 ∧ (runFin (accF f (scF σ)) 32 (by omega) σ).x18 = σ.x18)
      ∧ Acc N L codes words (128 * n + 32 * t.val + 32) (runFin (accF f (scF σ)) 32 (by omega) σ) :=
  runFin_inv (accF f (scF σ))
    (fun k σ' => (σ'.x17 = σ.x17 ∧ σ'.x18 = σ.x18) ∧ Acc N L codes words (128 * n + 32 * t.val + k) σ')
    (fun k σ' h => by
      have kp := acc_keep f (scF σ) k σ'
      refine ⟨⟨kp.1.trans h.1.1, kp.2.trans h.1.2⟩, acc_step N L codes words _ f (scF σ) k σ' (hf k) (fun b i hu => ?_) h.2⟩
      rw [sc_row N codes words _ f n σ hI hH _ k.val i.val b.val rfl i.isLt hu b.isLt]
      unfold hOf
      rw [show 2048 * (1 + n) + 512 * t.val + 16 * k.val + i.val = 2048 + 16 * (128 * n + 32 * t.val + k.val) + i.val by omega]
      rfl) 32 (by omega) σ
    ⟨⟨rfl, rfl⟩, hA⟩

theorem tgt_row (f : Nat → GW) (σ : St Ideal) (hD : Dup codes words 576 σ) (k i b : Nat) (hi : i < 16) (hu : ((f k).1 &&& 65535#32).toNat = b)
    (hb : b < 576) (d : Fin 512) : tOf σ.x17 f k i d = row codes words b d := by
  unfold tOf tRows
  refine (congrArg σ.x17 (rect_idx (k0_off9 (f k).1) (k0_off9_inb _ (f k).2) ⟨16 * b + i, by omega⟩ d ⟨i % 16, by omega⟩ d ?_ ?_)).trans
    (hD _ d b i rfl hi hb)
  · rw [off9_at _ b hu (by omega)]; show 16 * b + i = 16 * b + i % 16; omega
  · rw [off9_1]; omega

theorem t3F_eq (t : Fin k0_t3_loop.trips) (f : Nat → GW) (σ : St Ideal) : ∃ σ₁ σ₂ : St Ideal, σ₁ = runFin (pairF t f) 16 (by omega) σ
    ∧ σ₂ = runFin (d1F f (z1F σ₁)) 32 (by omega) σ₁ ∧ t3F t f σ = runFin (accF f (scF σ₂)) 32 (by omega) σ₂ :=
  ⟨_, _, rfl, rfl, by unfold t3F; rfl⟩

theorem trip_at (n : Nat) (t : Fin k0_t3_loop.trips) (f : Nat → GW) (σ : St Ideal) (hI : Inp N codes words n σ) (hR : Ready N codes words σ)
    (hA : Acc N L codes words (128 * n + 32 * t.val) σ) (hf : ∀ k : Fin 32, Info L (128 * n + 32 * t.val + k.val) (f k.val).1) :
    Ready N codes words (t3F t f σ) ∧ Acc N L codes words (128 * n + 32 * (t.val + 1)) (t3F t f σ) := by
  obtain ⟨σ₁, σ₂, e1, e2, e3⟩ := t3F_eq t f σ
  have a := phase_a N codes words n t f σ hI
  rw [← e1] at a
  obtain ⟨⟨k17, k18, k22⟩, s1, hF⟩ := a
  have b := phase_b N codes words n f _ _ σ₁ (hI.same N codes words s1) (fun r c u i hr hi hu => by rw [k18]; exact hR.2 r c u i hr hi hu) hF
    (fun k i b hu hb d => tgt_row codes words f σ hR.1 k.val i.val b i.isLt hu hb d)
  rw [← e2] at b
  obtain ⟨⟨l17, l18, l22⟩, s2, hH⟩ := b
  have c := phase_c N L codes words n t f σ₂ (hI.same N codes words (s1.trans s2)) hH (fun r l b u hr hu => by rw [l22, k22]; exact hA r l b u hr hu) hf
  rw [← e3] at c
  refine ⟨⟨fun r d u i hr hi hu => ?_, fun r c' u i hr hi hu => ?_⟩, c.2⟩
  · rw [c.1.1, l17, k17]; exact hR.1 r d u i hr hi hu
  · rw [c.1.2, l18, k18]; exact hR.2 r c' u i hr hi hu

/-! ## The result -/

theorem part_sum (G : Nat) (hG : start L 576 ≤ G) (b : Fin 576) (l : Fin 128) :
    (∑ u : Fin 8, part N L codes words G b u.val l : EReal) = (if l.val < (L (ix1 b)).toNat then
      score N (row codes words (2048 + 16 * start L b.val + l.val)) (row codes words b.val) else 0 : EReal) := by
  have h1 := start_next L b
  have h2 := start_mono L (show b.val + 1 ≤ 576 by omega)
  have z : ∀ u : Fin 8, u ∈ Finset.univ → u ≠ ⟨l.val % 8, by omega⟩ → part N L codes words G b u.val l = 0 :=
    fun u _ hu => if_neg fun h => hu (Fin.ext h.2.2.symm)
  refine (Finset.sum_eq_single (⟨l.val % 8, by omega⟩ : Fin 8) z (fun h => absurd (Finset.mem_univ _) h)).trans ?_
  show (if _ then _ else _) = _
  refine if_congr ?_ rfl rfl
  show _ ∧ _ ∧ l.val % 8 = l.val % 8 ↔ _
  omega

end Cert.KernelIdeal.Rolled

end
-- ==== Proof.Value.lean ====
/-
What the kernel leaves in the scores: the score of every user's every position, over the extended reals.
-/
module

public import proofs.«01_k».proof.Proof.Win
public import proofs.«01_k».proof.Proof.PlanAt
public import proofs.«01_k».proof.Proof.Acc
public import Idealize.ShloMosaic.Lib.Pipeline.ValueKit.Geometry

@[expose] public section

set_option maxRecDepth 16384

noncomputable section

namespace Cert.KernelIdeal.Run

open Idealize.ShloMosaic Idealize.ShloMosaic.TcCoe Idealize.ShloMosaic.Tactic Idealize.SL.Sem
open Cert.KernelIdeal Cert.KernelIdeal.Facts Cert.KernelIdeal.Rolled Cert.KernelIdeal.Gen Cert.Mini Cert.Score
open Idealize.ShloMosaic.Pipeline (RDat)

variable (m : (ℓ : Loc nD τ sig) → Buf (Elt Ideal) ℓ) (ρ : Dev nD → PrngReg)

theorem total_start (L : IVec S576 32) : total L = start L 576 := rfl

/-- The steps of the grid cover all groups. -/
theorem steps_val (hL : Fit (lens m)) : dynb0 (tbl m) 0 = (16 * start (lens m) 576 + 2047) / 2048 := by
  have h := congrArg BitVec.toNat (steps_at (lens m) hL)
  have ht := total_le (lens m) hL
  rw [← tbl_steps m, BitVec.toNat_ofNat, total_start] at h
  rw [total_start] at ht
  refine Eq.trans ?_ (h.trans (Nat.mod_eq_of_lt (by omega)))
  rfl

theorem first_zero : ∀ n : Fin 36, isFirst (BitVec.ofNat 32 n.val) → n.val = 0 := by decide

theorem zero_first : isFirst (BitVec.ofNat 32 0) := by decide

theorem last_cond : ∀ n : Fin 36, k0_cond2 (BitVec.ofNat 32 n.val) (BitVec.ofNat 32 (n.val + 1)) = 1#1 := by decide

/-- The last step's reduction keeps the buffers that the steps carry. -/
theorem last_keep (σ : St Ideal) : (lastF σ).x17 = σ.x17 ∧ (lastF σ).x18 = σ.x18 ∧ (lastF σ).x22 = σ.x22 := by
  have a (t : Fin k0_t4_loop.trips) (σ : St Ideal) : (t4F t σ).x17 = σ.x17 := by sl_kernel_rfl
  have b (t : Fin k0_t4_loop.trips) (σ : St Ideal) : (t4F t σ).x18 = σ.x18 := by sl_kernel_rfl
  exact iterN_inv t4F (fun _ σ' => σ'.x17 = σ.x17 ∧ σ'.x18 = σ.x18 ∧ σ'.x22 = σ.x22)
    (fun t σ' h => ⟨(a t σ').trans h.1, (b t σ').trans h.2.1, (t4F_x22 t σ').trans h.2.2⟩) σ ⟨rfl, rfl, rfl⟩ _ le_rfl

theorem word_at (a : BitVec 32) (n : Nat) (ha : a = BitVec.ofNat 32 n) (hn : n < 36) (h : k0_chk1 a) (t : Fin k0_t3_loop.trips) (k : Fin 32)
    (hg : 128 * n + 32 * t.val + k.val < 4608) : word (tbl m 1) a h t k = infoV (lens m) (ix1 ⟨128 * n + 32 * t.val + k.val, hg⟩) := by
  subst ha
  unfold word
  rw [tbl_info]
  refine congrArg (infoV (lens m)) (funext fun a => Fin.ext ?_)
  match a with
  | ⟨0, _⟩ => exact (show _ + 1 * 0 = _ from Nat.add_zero _).trans (off6_eq n hn t k.val k.isLt)

/-- What holds of the scratch buffers when `n` steps are done. -/
def Done (n : Nat) (σ : St Ideal) : Prop :=
  n = 0 ∨ (Ready (netM m) (codesM m) (wordsM m) σ ∧ Acc (netM m) (lens m) (codesM m) (wordsM m) (128 * n) σ)

/-- The scores that the launch must leave. -/
def goal (b : Fin 576) (l : Fin 128) : EReal := value (netM m) (lens m) (arg m main_arg1) (arg m main_arg2) b l

/-- What the last step leaves in the scores' block. -/
def Scores (t : Nat) (X : S576x128.Idx → Elt Ideal .f32) : Prop := t + 1 = dynb0 (tbl m) 0 → ∀ b l, X (ix2 b l) = goal m b l

theorem scores_of (hL : Fit (lens m)) (t : Nat) (σ : St Ideal) (hA : Acc (netM m) (lens m) (codesM m) (wordsM m) (128 * (t + 1)) σ) :
    Scores m t (lastF σ).x15 := by
  intro he b l
  have hs := steps_val m hL
  refine (last_at σ (fun b u l => if h : b < 576 then part (netM m) (lens m) (codesM m) (wordsM m) (128 * (t + 1)) ⟨b, h⟩ u l else 0)
    (fun r l b u hr hu hb => ?_) b l).trans ?_
  · rw [dif_pos hb]; exact hA r l ⟨b, hb⟩ u hr hu
  · simp only [dif_pos b.isLt]
    exact part_sum (netM m) (lens m) (codesM m) (wordsM m) (128 * (t + 1)) (by omega) b l

set_option maxHeartbeats 1000000 in
theorem step_value (hL : Fit (lens m)) (hO : Ok m) (c : Dev nD) : Step m hO (Done m) (fun _ _ => True) (Scores m) c := by
  obtain rfl : c = 0 := Subsingleton.elim _ _
  intro t Y hY σ hI
  have hb := dyn_le m hL
  have hN : (cfgM m hO).N ≤ 36 := le_of_eq_of_le (points (dynb0 (tbl m))) hb
  have ht : t.val < 36 := lt_of_lt_of_le t.isLt hN
  have hin := inp m hO (Done m) (fun _ _ => True) (Scores m) hN t Y hY σ
  have ha : BitVec.ofNat 32 ((grid0.at (dynb0 (tbl m))).coords t 0).val = BitVec.ofNat 32 t.val := congrArg (BitVec.ofNat 32) (coord0 _ t)
  refine body_wp _ _ _ _ (chk1_of _ (coords_lt _ hb _)) (fun t k => chk2_word m _ _ t k)
    (fun i σ' => Ready (netM m) (codesM m) (wordsM m) σ' ∧ Acc (netM m) (lens m) (codesM m) (wordsM m) (128 * t.val + 32 * i) σ')
    (fun hf => ?_) (fun hf => ?_) (fun i σ' f h hS hf => ?_) (fun σ' h hS _ => ?_) (fun σ' h hS hc => ?_)
  · have h0 := first_zero ⟨t.val, ht⟩ ((congrArg isFirst ha).mp hf)
    obtain ⟨hz, hr⟩ := init_at (netM m) (codesM m) (wordsM m) t.val _ hin
    refine ⟨hr, fun r l b u _ _ => (hz r l r.isLt).trans ?_⟩
    rw [show 128 * t.val + 32 * 0 = 0 from by have : t.val = 0 := h0; omega]
    exact (part_zero (netM m) (lens m) (codesM m) (wordsM m) b u l).symm
  · rcases hI with h0 | h
    · exact absurd ((congrArg isFirst (ha.trans (congrArg (BitVec.ofNat 32) h0))).mpr zero_first) hf
    · exact h
  · have hi : i.val < 4 := trips3 ▸ i.isLt
    refine trip_at (netM m) (lens m) (codesM m) (wordsM m) t.val i f σ' (hin.same _ _ _ hS) h.1 h.2 fun k => ?_
    have hg : 128 * t.val + 32 * i.val + k.val < 4608 := by omega
    rw [(hf k).trans (word_at m _ t.val ha ht _ i k hg)]
    exact info_at (lens m) hL ⟨_, hg⟩
  · have hA : Acc (netM m) (lens m) (codesM m) (wordsM m) (128 * (t.val + 1)) σ' := by
      have := h.2
      rw [trips3] at this
      exact this
    obtain ⟨k17, k18, k22⟩ := last_keep σ'
    refine ⟨hS.trans (last_same σ'), .inr ⟨⟨?_, ?_⟩, ?_⟩, trivial, scores_of m hL t.val σ' hA⟩
    · intro r d u i; rw [k17]; exact h.1.1 r d u i
    · intro r d u i; rw [k18]; exact h.1.2 r d u i
    · intro r l b u; rw [k22]; exact hA r l b u
  · refine ⟨hS, .inr ⟨h.1, ?_⟩, trivial, fun he => ?_⟩
    · have := h.2
      rw [trips3] at this
      exact this
    · exact absurd ((congrArg₂ (fun x y => k0_cond2 x (BitVec.ofNat 32 y) = 1#1) ha he.symm).mpr (last_cond ⟨t.val, ht⟩)) hc

/-- The scores are written back once, whole, after the last step. -/
theorem whole_scores (hO : Ok m) (t₀ : Fin (cfgM m hO).N) (h : t₀.val + 1 = (cfgM m hO).N) : ((cfgM m hO).win 13).WholeAt t₀ := by
  refine ⟨?_, fun t ht => ?_, fun a => ?_⟩
  · unfold Pipeline.Window.flush
    rw [decide_eq_true h]
    rfl
  · unfold Pipeline.Window.flush at ht
    rw [Bool.and_eq_true, Bool.or_eq_true, decide_eq_true_eq, decide_eq_true_eq] at ht
    rcases ht.2 with h1 | ⟨_, h1⟩
    · have e : (cfgM m hO).grid.N = (cfgM m hO).N := rfl
      exact Fin.ext (by omega)
    · exact absurd rfl h1
  · match a with
    | ⟨0, _⟩ => exact ⟨rfl, rfl⟩
    | ⟨1, _⟩ => exact ⟨rfl, rfl⟩

theorem scores_left (hL : Fit (lens m)) (hpos : 0 < start (lens m) 576) (hO : Ok m) (c : Dev nD) (G : Buf (Elt Ideal) ((c.tc : Thread nD τ).loc main_v64_1))
    (hG : (rdat m hO (Done m) (fun _ _ => True) (Scores m) c).ArrAt 13 (cfgM m hO).N G) : G = fun i => goal m (i 0) (i 1) := by
  have hN : (cfgM m hO).N = dynb0 (tbl m) 0 := points (dynb0 (tbl m))
  have hs := steps_val m hL
  have h1 : (cfgM m hO).N - 1 < (cfgM m hO).N := by omega
  obtain ⟨X, ⟨Y, _, hA⟩, hX⟩ := hG.emb_eq_of_wholeAt (t₀ := ⟨_, h1⟩) (whole_scores m hO ⟨_, h1⟩ (by show (cfgM m hO).N - 1 + 1 = _; omega))
  have hA' : Scores m ((cfgM m hO).N - 1) X := hA
  funext i
  refine (hX i).trans ?_
  exact (congrArg X (ix2_eta i).symm).trans (hA' (by omega) (i 0) (i 1))

theorem run_value (hL : Fit (lens m)) (hpos : 0 < start (lens m) 576) :
    θ_run (defs (F := Ideal)) (onTc (τ := τ) (main (F := Ideal))) ⟨m, fun _ => 0, ρ⟩ (fun r => ∀ c : Dev nD,
       r.2.mem ((c.tc : Thread nD τ).loc main_v64_1) = (fun i => goal m (i 0) (i 1))
     ∧ r.2.mem ((c.tc : Thread nD τ).loc main_arg0) = m ((c.tc : Thread nD τ).loc main_arg0)
     ∧ r.2.mem ((c.tc : Thread nD τ).loc main_arg1) = m ((c.tc : Thread nD τ).loc main_arg1)
     ∧ r.2.mem ((c.tc : Thread nD τ).loc main_arg2) = m ((c.tc : Thread nD τ).loc main_arg2)
     ∧ r.2.mem ((c.tc : Thread nD τ).loc main_arg3) = m ((c.tc : Thread nD τ).loc main_arg3)
     ∧ r.2.mem ((c.tc : Thread nD τ).loc main_arg4) = m ((c.tc : Thread nD τ).loc main_arg4)
     ∧ r.2.mem ((c.tc : Thread nD τ).loc main_arg5) = m ((c.tc : Thread nD τ).loc main_arg5)
     ∧ r.2.mem ((c.tc : Thread nD τ).loc main_arg6) = m ((c.tc : Thread nD τ).loc main_arg6)
     ∧ r.2.mem ((c.tc : Thread nD τ).loc main_arg7) = m ((c.tc : Thread nD τ).loc main_arg7)
     ∧ r.2.mem ((c.tc : Thread nD τ).loc main_arg8) = m ((c.tc : Thread nD τ).loc main_arg8)
     ∧ r.2.mem ((c.tc : Thread nD τ).loc main_arg9) = m ((c.tc : Thread nD τ).loc main_arg9)
     ∧ r.2.mem ((c.tc : Thread nD τ).loc main_arg10) = m ((c.tc : Thread nD τ).loc main_arg10)) :=
  θ_run_mono (run_main m ρ (ok_of m hL) (Done m) (fun _ _ => True) (Scores m) (fun _ => .inl rfl) fun c => step_value m hL (ok_of m hL) c)
    fun r h c => ⟨scores_left m hL hpos (ok_of m hL) c _ ((h.1 c).1 13), args_kept m (ok_of m hL) _ _ _ r h.1 c⟩

end Cert.KernelIdeal.Run

end
-- ==== Proof.K.State.lean ====
/-
The buffers of the scoring kernel as one record of memrefs and one record of contents, and for each buffer the
cell that lets the small language of `Mini` read it and, for an output or a scratch buffer, write it.
-/
module

public import proofs.«01_k».proof.Proof.Mini
public import proofs.«01_k».proof.Proof.Gen.Kernel

@[expose] public section

noncomputable section

namespace Cert.Kernel.Rolled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Mini

/-- The kernel's buffers, each whole. -/
structure Mems where
  a1 : Memref sig .tc .smem S4608 .i32
  w1 : a1.IsWhole
  a2 : Memref sig .tc .vmem S144x512 .i32
  w2 : a2.IsWhole
  a3 : Memref sig .tc .vmem S8x128 .i32
  w3 : a3.IsWhole
  a4 : Memref sig .tc .vmem S512x512 .i32
  w4 : a4.IsWhole
  a5 : Memref sig .tc .vmem S8x128 .i32
  w5 : a5.IsWhole
  a6 : Memref sig .tc .vmem S2048x256 .bf16
  w6 : a6.IsWhole
  a7 : Memref sig .tc .vmem S1x256 .f32
  w7 : a7.IsWhole
  a8 : Memref sig .tc .vmem S1x256 .f32
  w8 : a8.IsWhole
  a9 : Memref sig .tc .vmem S256x128 .bf16
  w9 : a9.IsWhole
  a10 : Memref sig .tc .vmem S1x128 .f32
  w10 : a10.IsWhole
  a11 : Memref sig .tc .vmem S1x128 .f32
  w11 : a11.IsWhole
  a12 : Memref sig .tc .vmem S1x128 .f32
  w12 : a12.IsWhole
  a13 : Memref sig .tc .smem S1 .f32
  w13 : a13.IsWhole
  a14 : Memref sig .tc .vmem S576x512 .bf16
  w14 : a14.IsWhole
  a15 : Memref sig .tc .vmem S576x128 .f32
  w15 : a15.IsWhole
  a16 : Memref sig .tc .vmem S576x512 .bf16
  w16 : a16.IsWhole
  a17 : Memref sig .tc .vmem S9232x512 .bf16
  w17 : a17.IsWhole
  a18 : Memref sig .tc .vmem S4616x256 .f32
  w18 : a18.IsWhole
  a19 : Memref sig .tc .vmem S512x1536 .bf16
  w19 : a19.IsWhole
  a20 : Memref sig .tc .vmem S512x256 .bf16
  w20 : a20.IsWhole
  a21 : Memref sig .tc .vmem S4616x512 .f32
  w21 : a21.IsWhole
  a22 : Memref sig .tc .vmem S4616x128 .f32
  w22 : a22.IsWhole

variable (F : FTy → Type) [FloatOps F]

/-- What the buffers hold. -/
structure St where
  x1 : S4608.Idx → Elt F .i32
  x2 : S144x512.Idx → Elt F .i32
  x3 : S8x128.Idx → Elt F .i32
  x4 : S512x512.Idx → Elt F .i32
  x5 : S8x128.Idx → Elt F .i32
  x6 : S2048x256.Idx → Elt F .bf16
  x7 : S1x256.Idx → Elt F .f32
  x8 : S1x256.Idx → Elt F .f32
  x9 : S256x128.Idx → Elt F .bf16
  x10 : S1x128.Idx → Elt F .f32
  x11 : S1x128.Idx → Elt F .f32
  x12 : S1x128.Idx → Elt F .f32
  x13 : S1.Idx → Elt F .f32
  x14 : S576x512.Idx → Elt F .bf16
  x15 : S576x128.Idx → Elt F .f32
  x16 : S576x512.Idx → Elt F .bf16
  x17 : S9232x512.Idx → Elt F .bf16
  x18 : S4616x256.Idx → Elt F .f32
  x19 : S512x1536.Idx → Elt F .bf16
  x20 : S512x256.Idx → Elt F .bf16
  x21 : S4616x512.Idx → Elt F .f32
  x22 : S4616x128.Idx → Elt F .f32

variable {F} (c : Dev nD) (M : Mems) (qs : Fin 14 → PosShare TreeShare)

/-- The buffers' ownership: the table and the inputs at a share each, the others in full. -/
def Own (σ : St F) : sProp (MT nD τ sig Unit (Elt F) ℕ (UR sig nD τ) ℕ) :=
  iprop(owns (c : Thread nD τ) M.a1 (qs 1) σ.x1 ∗
    owns (c : Thread nD τ) M.a2 (qs 2) σ.x2 ∗
    owns (c : Thread nD τ) M.a3 (qs 3) σ.x3 ∗
    owns (c : Thread nD τ) M.a4 (qs 4) σ.x4 ∗
    owns (c : Thread nD τ) M.a5 (qs 5) σ.x5 ∗
    owns (c : Thread nD τ) M.a6 (qs 6) σ.x6 ∗
    owns (c : Thread nD τ) M.a7 (qs 7) σ.x7 ∗
    owns (c : Thread nD τ) M.a8 (qs 8) σ.x8 ∗
    owns (c : Thread nD τ) M.a9 (qs 9) σ.x9 ∗
    owns (c : Thread nD τ) M.a10 (qs 10) σ.x10 ∗
    owns (c : Thread nD τ) M.a11 (qs 11) σ.x11 ∗
    owns (c : Thread nD τ) M.a12 (qs 12) σ.x12 ∗
    owns (c : Thread nD τ) M.a13 (qs 13) σ.x13 ∗
    owns (c : Thread nD τ) M.a14 fullShare σ.x14 ∗
    owns (c : Thread nD τ) M.a15 fullShare σ.x15 ∗
    owns (c : Thread nD τ) M.a16 fullShare σ.x16 ∗
    owns (c : Thread nD τ) M.a17 fullShare σ.x17 ∗
    owns (c : Thread nD τ) M.a18 fullShare σ.x18 ∗
    owns (c : Thread nD τ) M.a19 fullShare σ.x19 ∗
    owns (c : Thread nD τ) M.a20 fullShare σ.x20 ∗
    owns (c : Thread nD τ) M.a21 fullShare σ.x21 ∗
    owns (c : Thread nD τ) M.a22 fullShare σ.x22)

def c1 : Cell c (Own (F := F) c M qs) .smem S4608 .i32 where
  m := M.a1
  get := St.x1
  ld := by
    intro σ; unfold Own
    iintro ⟨H1, H2, H3, H4, H5, H6, H7, H8, H9, H10, H11, H12, H13, H14, H15, H16, H17, H18, H19, H20, H21, H22⟩
    iexists qs 1
    isplitl [H1]; · iexact H1
    iintro H; iframe

def c2 : Cell c (Own (F := F) c M qs) .vmem S144x512 .i32 where
  m := M.a2
  get := St.x2
  ld := by
    intro σ; unfold Own
    iintro ⟨H1, H2, H3, H4, H5, H6, H7, H8, H9, H10, H11, H12, H13, H14, H15, H16, H17, H18, H19, H20, H21, H22⟩
    iexists qs 2
    isplitl [H2]; · iexact H2
    iintro H; iframe

def c3 : Cell c (Own (F := F) c M qs) .vmem S8x128 .i32 where
  m := M.a3
  get := St.x3
  ld := by
    intro σ; unfold Own
    iintro ⟨H1, H2, H3, H4, H5, H6, H7, H8, H9, H10, H11, H12, H13, H14, H15, H16, H17, H18, H19, H20, H21, H22⟩
    iexists qs 3
    isplitl [H3]; · iexact H3
    iintro H; iframe

def c4 : Cell c (Own (F := F) c M qs) .vmem S512x512 .i32 where
  m := M.a4
  get := St.x4
  ld := by
    intro σ; unfold Own
    iintro ⟨H1, H2, H3, H4, H5, H6, H7, H8, H9, H10, H11, H12, H13, H14, H15, H16, H17, H18, H19, H20, H21, H22⟩
    iexists qs 4
    isplitl [H4]; · iexact H4
    iintro H; iframe

def c5 : Cell c (Own (F := F) c M qs) .vmem S8x128 .i32 where
  m := M.a5
  get := St.x5
  ld := by
    intro σ; unfold Own
    iintro ⟨H1, H2, H3, H4, H5, H6, H7, H8, H9, H10, H11, H12, H13, H14, H15, H16, H17, H18, H19, H20, H21, H22⟩
    iexists qs 5
    isplitl [H5]; · iexact H5
    iintro H; iframe

def c6 : Cell c (Own (F := F) c M qs) .vmem S2048x256 .bf16 where
  m := M.a6
  get := St.x6
  ld := by
    intro σ; unfold Own
    iintro ⟨H1, H2, H3, H4, H5, H6, H7, H8, H9, H10, H11, H12, H13, H14, H15, H16, H17, H18, H19, H20, H21, H22⟩
    iexists qs 6
    isplitl [H6]; · iexact H6
    iintro H; iframe

def c7 : Cell c (Own (F := F) c M qs) .vmem S1x256 .f32 where
  m := M.a7
  get := St.x7
  ld := by
    intro σ; unfold Own
    iintro ⟨H1, H2, H3, H4, H5, H6, H7, H8, H9, H10, H11, H12, H13, H14, H15, H16, H17, H18, H19, H20, H21, H22⟩
    iexists qs 7
    isplitl [H7]; · iexact H7
    iintro H; iframe

def c8 : Cell c (Own (F := F) c M qs) .vmem S1x256 .f32 where
  m := M.a8
  get := St.x8
  ld := by
    intro σ; unfold Own
    iintro ⟨H1, H2, H3, H4, H5, H6, H7, H8, H9, H10, H11, H12, H13, H14, H15, H16, H17, H18, H19, H20, H21, H22⟩
    iexists qs 8
    isplitl [H8]; · iexact H8
    iintro H; iframe

def c9 : Cell c (Own (F := F) c M qs) .vmem S256x128 .bf16 where
  m := M.a9
  get := St.x9
  ld := by
    intro σ; unfold Own
    iintro ⟨H1, H2, H3, H4, H5, H6, H7, H8, H9, H10, H11, H12, H13, H14, H15, H16, H17, H18, H19, H20, H21, H22⟩
    iexists qs 9
    isplitl [H9]; · iexact H9
    iintro H; iframe

def c10 : Cell c (Own (F := F) c M qs) .vmem S1x128 .f32 where
  m := M.a10
  get := St.x10
  ld := by
    intro σ; unfold Own
    iintro ⟨H1, H2, H3, H4, H5, H6, H7, H8, H9, H10, H11, H12, H13, H14, H15, H16, H17, H18, H19, H20, H21, H22⟩
    iexists qs 10
    isplitl [H10]; · iexact H10
    iintro H; iframe

def c11 : Cell c (Own (F := F) c M qs) .vmem S1x128 .f32 where
  m := M.a11
  get := St.x11
  ld := by
    intro σ; unfold Own
    iintro ⟨H1, H2, H3, H4, H5, H6, H7, H8, H9, H10, H11, H12, H13, H14, H15, H16, H17, H18, H19, H20, H21, H22⟩
    iexists qs 11
    isplitl [H11]; · iexact H11
    iintro H; iframe

def c12 : Cell c (Own (F := F) c M qs) .vmem S1x128 .f32 where
  m := M.a12
  get := St.x12
  ld := by
    intro σ; unfold Own
    iintro ⟨H1, H2, H3, H4, H5, H6, H7, H8, H9, H10, H11, H12, H13, H14, H15, H16, H17, H18, H19, H20, H21, H22⟩
    iexists qs 12
    isplitl [H12]; · iexact H12
    iintro H; iframe

def c13 : Cell c (Own (F := F) c M qs) .smem S1 .f32 where
  m := M.a13
  get := St.x13
  ld := by
    intro σ; unfold Own
    iintro ⟨H1, H2, H3, H4, H5, H6, H7, H8, H9, H10, H11, H12, H13, H14, H15, H16, H17, H18, H19, H20, H21, H22⟩
    iexists qs 13
    isplitl [H13]; · iexact H13
    iintro H; iframe

def c14 : WCell c (Own (F := F) c M qs) .vmem S576x512 .bf16 where
  m := M.a14
  get := St.x14
  set σ X := { σ with x14 := X }
  ld := by
    intro σ; unfold Own
    iintro ⟨H1, H2, H3, H4, H5, H6, H7, H8, H9, H10, H11, H12, H13, H14, H15, H16, H17, H18, H19, H20, H21, H22⟩
    iexists fullShare
    isplitl [H14]; · iexact H14
    iintro H; iframe
  st := by
    intro σ; unfold Own
    iintro ⟨H1, H2, H3, H4, H5, H6, H7, H8, H9, H10, H11, H12, H13, H14, H15, H16, H17, H18, H19, H20, H21, H22⟩
    isplitl [H14]; · iexact H14
    iintro %X H; iframe

def c15 : WCell c (Own (F := F) c M qs) .vmem S576x128 .f32 where
  m := M.a15
  get := St.x15
  set σ X := { σ with x15 := X }
  ld := by
    intro σ; unfold Own
    iintro ⟨H1, H2, H3, H4, H5, H6, H7, H8, H9, H10, H11, H12, H13, H14, H15, H16, H17, H18, H19, H20, H21, H22⟩
    iexists fullShare
    isplitl [H15]; · iexact H15
    iintro H; iframe
  st := by
    intro σ; unfold Own
    iintro ⟨H1, H2, H3, H4, H5, H6, H7, H8, H9, H10, H11, H12, H13, H14, H15, H16, H17, H18, H19, H20, H21, H22⟩
    isplitl [H15]; · iexact H15
    iintro %X H; iframe

def c16 : WCell c (Own (F := F) c M qs) .vmem S576x512 .bf16 where
  m := M.a16
  get := St.x16
  set σ X := { σ with x16 := X }
  ld := by
    intro σ; unfold Own
    iintro ⟨H1, H2, H3, H4, H5, H6, H7, H8, H9, H10, H11, H12, H13, H14, H15, H16, H17, H18, H19, H20, H21, H22⟩
    iexists fullShare
    isplitl [H16]; · iexact H16
    iintro H; iframe
  st := by
    intro σ; unfold Own
    iintro ⟨H1, H2, H3, H4, H5, H6, H7, H8, H9, H10, H11, H12, H13, H14, H15, H16, H17, H18, H19, H20, H21, H22⟩
    isplitl [H16]; · iexact H16
    iintro %X H; iframe

def c17 : WCell c (Own (F := F) c M qs) .vmem S9232x512 .bf16 where
  m := M.a17
  get := St.x17
  set σ X := { σ with x17 := X }
  ld := by
    intro σ; unfold Own
    iintro ⟨H1, H2, H3, H4, H5, H6, H7, H8, H9, H10, H11, H12, H13, H14, H15, H16, H17, H18, H19, H20, H21, H22⟩
    iexists fullShare
    isplitl [H17]; · iexact H17
    iintro H; iframe
  st := by
    intro σ; unfold Own
    iintro ⟨H1, H2, H3, H4, H5, H6, H7, H8, H9, H10, H11, H12, H13, H14, H15, H16, H17, H18, H19, H20, H21, H22⟩
    isplitl [H17]; · iexact H17
    iintro %X H; iframe

def c18 : WCell c (Own (F := F) c M qs) .vmem S4616x256 .f32 where
  m := M.a18
  get := St.x18
  set σ X := { σ with x18 := X }
  ld := by
    intro σ; unfold Own
    iintro ⟨H1, H2, H3, H4, H5, H6, H7, H8, H9, H10, H11, H12, H13, H14, H15, H16, H17, H18, H19, H20, H21, H22⟩
    iexists fullShare
    isplitl [H18]; · iexact H18
    iintro H; iframe
  st := by
    intro σ; unfold Own
    iintro ⟨H1, H2, H3, H4, H5, H6, H7, H8, H9, H10, H11, H12, H13, H14, H15, H16, H17, H18, H19, H20, H21, H22⟩
    isplitl [H18]; · iexact H18
    iintro %X H; iframe

def c19 : WCell c (Own (F := F) c M qs) .vmem S512x1536 .bf16 where
  m := M.a19
  get := St.x19
  set σ X := { σ with x19 := X }
  ld := by
    intro σ; unfold Own
    iintro ⟨H1, H2, H3, H4, H5, H6, H7, H8, H9, H10, H11, H12, H13, H14, H15, H16, H17, H18, H19, H20, H21, H22⟩
    iexists fullShare
    isplitl [H19]; · iexact H19
    iintro H; iframe
  st := by
    intro σ; unfold Own
    iintro ⟨H1, H2, H3, H4, H5, H6, H7, H8, H9, H10, H11, H12, H13, H14, H15, H16, H17, H18, H19, H20, H21, H22⟩
    isplitl [H19]; · iexact H19
    iintro %X H; iframe

def c20 : WCell c (Own (F := F) c M qs) .vmem S512x256 .bf16 where
  m := M.a20
  get := St.x20
  set σ X := { σ with x20 := X }
  ld := by
    intro σ; unfold Own
    iintro ⟨H1, H2, H3, H4, H5, H6, H7, H8, H9, H10, H11, H12, H13, H14, H15, H16, H17, H18, H19, H20, H21, H22⟩
    iexists fullShare
    isplitl [H20]; · iexact H20
    iintro H; iframe
  st := by
    intro σ; unfold Own
    iintro ⟨H1, H2, H3, H4, H5, H6, H7, H8, H9, H10, H11, H12, H13, H14, H15, H16, H17, H18, H19, H20, H21, H22⟩
    isplitl [H20]; · iexact H20
    iintro %X H; iframe

def c21 : WCell c (Own (F := F) c M qs) .vmem S4616x512 .f32 where
  m := M.a21
  get := St.x21
  set σ X := { σ with x21 := X }
  ld := by
    intro σ; unfold Own
    iintro ⟨H1, H2, H3, H4, H5, H6, H7, H8, H9, H10, H11, H12, H13, H14, H15, H16, H17, H18, H19, H20, H21, H22⟩
    iexists fullShare
    isplitl [H21]; · iexact H21
    iintro H; iframe
  st := by
    intro σ; unfold Own
    iintro ⟨H1, H2, H3, H4, H5, H6, H7, H8, H9, H10, H11, H12, H13, H14, H15, H16, H17, H18, H19, H20, H21, H22⟩
    isplitl [H21]; · iexact H21
    iintro %X H; iframe

def c22 : WCell c (Own (F := F) c M qs) .vmem S4616x128 .f32 where
  m := M.a22
  get := St.x22
  set σ X := { σ with x22 := X }
  ld := by
    intro σ; unfold Own
    iintro ⟨H1, H2, H3, H4, H5, H6, H7, H8, H9, H10, H11, H12, H13, H14, H15, H16, H17, H18, H19, H20, H21, H22⟩
    iexists fullShare
    isplitl [H22]; · iexact H22
    iintro H; iframe
  st := by
    intro σ; unfold Own
    iintro ⟨H1, H2, H3, H4, H5, H6, H7, H8, H9, H10, H11, H12, H13, H14, H15, H16, H17, H18, H19, H20, H21, H22⟩
    isplitl [H22]; · iexact H22
    iintro %X H; iframe

end Cert.Kernel.Rolled
-- ==== Proof.K.Rolled.lean ====
/-
The body of the kernel's inner loop, written with the 32 groups of a block as recursions in place of 32 copies.
-/
module

public import proofs.«01_k».proof.Proof.K.State
public import proofs.«01_k».proof.Proof.Gen.Kernel.Skeleton

@[expose] public section

set_option maxRecDepth 16384

noncomputable section

namespace Cert.Kernel.Rolled

open Idealize.ShloMosaic Idealize.ShloMosaic.TcCoe Idealize.ShloMosaic.Tactic
open Idealize.SL Idealize.SL.RA Idealize.SL.BI
open Idealize.SL.Sem
open Cert.Kernel Cert.Kernel.Facts₀ Cert.Kernel.Facts Cert.Mini

variable {F : FTy → Type} [FloatOps F]

/-! ## The rectangles of a group -/

theorem inb19 (k : Fin 32) (j : Fin 3) : ∀ a, (![16 * k.val, 512 * j.val] : Fin 2 → Nat) a + S16x512.size a ≤ S512x1536.size a := by
  revert j k; decide

theorem packed19 (k : Fin 32) (j : Fin 3) :
    (Rect.unit (s := S512x1536) ![16 * k.val, 512 * j.val] S16x512.size (inb19 k j)).PackedRows (EltTy.packing .bf16) := by
  revert j k; decide

theorem inb20 (k : Fin 32) : ∀ a, (![16 * k.val, 0] : Fin 2 → Nat) a + S16x256.size a ≤ S512x256.size a := by
  revert k; decide

theorem packed20 (k : Fin 32) :
    (Rect.unit (s := S512x256) ![16 * k.val, 0] S16x256.size (inb20 k)).PackedRows (EltTy.packing .bf16) := by
  revert k; decide

theorem inb16 (k : Fin 36) : ∀ a, (![16 * k.val, 0] : Fin 2 → Nat) a + S16x512.size a ≤ S576x512.size a := by
  revert k; decide

theorem packed16 (k : Fin 36) :
    (Rect.unit (s := S576x512) ![16 * k.val, 0] S16x512.size (inb16 k)).PackedRows (EltTy.packing .bf16) := by
  revert k; decide

theorem inb2 (p : Fin 18) : ∀ a, (![8 * p.val, 0] : Fin 2 → Nat) a + S8x512.size a ≤ S144x512.size a := by
  revert p; decide

theorem inb3 (k : Fin 3) : ∀ a, (![k.val, 0] : Fin 2 → Nat) a + S1x128.size a ≤ S8x128.size a := by
  revert k; decide

theorem slices32 (g : Fin 2) : S32x512.Slices ![16 * g.val, 0] S16x512 := by revert g; decide
theorem slicesZ (k : Fin 32) : S512x256.Slices ![16 * k.val, 0] S16x256 := by revert k; decide
theorem slicesS (k : Fin 32) (g : Fin 2) : S512x1.Slices ![16 * k.val + 8 * g.val, 0] S8x1 := by revert g k; decide
theorem slicesT (k : Fin 16) : S16x256.Slices ![k.val, 0] S1x256 := by revert k; decide
theorem slicesR (k : Fin 16) : S16x512.Slices ![k.val, 0] S1x512 := by revert k; decide

/-! ## What a group computes -/

/-- The lane an index vector asks for, for the eight pairs of rows from `j` on. -/
def gatherAt (j : BitVec 32) : IVec S8x128 32 :=
  have i : IVec S8x128 32 := addi (iota .tc S8x128 32 [0] iota_S8x128_d0_w32) (broadcast S8x128 j)
  shapeCast S8x128 (shapeCast S8x128x1
    (select (cmpi .slt i (broadcast S8x128 0#32)) (addi i (broadcast S8x128 128#32)) i)
    shapeCasts_S8x128_S8x128x1) shapeCasts_S8x128x1_S8x128

/-- The scales of sixteen rows, each along 128 lanes. -/
def scaleRows (row : Vec F S1x128 .i32) (j : BitVec 32) : FVec F S16x128 .bf16 :=
  bitcastToFloat .bf16 (bitcast S16x128 16 (dynamicGather 1
    (broadcastTo S8x128 (shapeCast S1x128 (shapeCast S1x128 row shapeCasts_S1x128_S1x128 : IVec S1x128 32) shapeCasts_S1x128_S1x128)
      broadcasts_S1x128_S8x128 : IVec S8x128 32) (gatherAt j)) bitcasts_S8x128_w32_S16x128_w16)

/-- The codes of 32 rows as numbers. -/
def codeRows (w : Vec F S8x512 .i32) : FVec F S32x512 .bf16 :=
  sitofp .bf16 (bitcast S32x512 8 (w : IVec S8x512 32) bitcasts_S8x512_w32_S32x512_w8)

/-- Sixteen dequantised rows: half `g` of 32 rows of codes, times their scales. -/
def rows (code : FVec F S32x512 .bf16) (g : Fin 2) (row : Vec F S1x128 .i32) (j : BitVec 32) : FVec F S16x512 .bf16 :=
  have s := scaleRows (F := F) row j
  mulf (extractStridedSlice S16x512 ![16 * g.val, 0] code (slices32 g))
    (concatenate S16x512 1 [⟨S16x128, s⟩, ⟨S16x128, s⟩, ⟨S16x128, s⟩, ⟨S16x128, s⟩]
      concatenates_S16x128_S16x128_S16x128_S16x128_S16x512_d1)

/-- The block's first layer before the target's part. -/
def z1Of (x0 : Vec F S512x512 .bf16) (u0 : Vec F S512x256 .bf16) (x1 : Vec F S512x512 .bf16) (u1 : Vec F S512x256 .bf16)
    (x2 : Vec F S512x512 .bf16) (u2 : Vec F S512x256 .bf16) : FVec F S512x256 .f32 :=
  addf (addf
    (matmul (φ₁ := .bf16) (φ₂ := .bf16) dot_S512x512_S512x256_S512x256_1_0_0_1_n_n none x0 u0 (constant S512x256 .f32 0x00000000#32))
    (matmul (φ₁ := .bf16) (φ₂ := .bf16) dot_S512x512_S512x256_S512x256_1_0_0_1_n_n none x1 u1 (constant S512x256 .f32 0x00000000#32)))
    (matmul (φ₁ := .bf16) (φ₂ := .bf16) dot_S512x512_S512x256_S512x256_1_0_0_1_n_n none x2 u2 (constant S512x256 .f32 0x00000000#32))

/-- The first hidden layer of a group. -/
def d1Of (z1 : FVec F S512x256 .f32) (k : Fin 32) (t8 : Vec F S8x256 .f32) (a : Vec F S1x256 .f32) : FVec F S16x256 .bf16 :=
  have z : FVec F S16x256 .f32 := addf (extractStridedSlice S16x256 ![16 * k.val, 0] z1 (slicesZ k))
    (concatenate S16x256 0 [⟨S8x256, (t8 : FVec F S8x256 .f32)⟩, ⟨S8x256, (t8 : FVec F S8x256 .f32)⟩] concatenates_S8x256_S8x256_S16x256_d0)
  shapeCast S16x256 (truncf .bf16 (select (cmpf .oge z (broadcast S16x256 (Scalar.ofBits .f32 0x00000000#32))) z
    (mulf (broadcastTo S16x256 (shapeCast S1x256 (a : FVec F S1x256 .f32) shapeCasts_S1x256_S1x256) broadcasts_S1x256_S16x256) z)) bitsLt_bf16_f32)
    shapeCasts_S16x256_S16x256

/-- The scores of the block's 512 rows. -/
def scOf (d1 : Vec F S512x256 .bf16) (u : Vec F S256x128 .bf16) (b2 a2 w3 : Vec F S1x128 .f32) (b3 : Elt F .f32) : FVec F S512x1 .f32 :=
  have z : FVec F S512x128 .f32 := addf
    (matmul (φ₁ := .bf16) (φ₂ := .bf16) dot_S512x256_S256x128_S512x128_1_0_0_1_n_n none d1
      (shapeCast S256x128 u shapeCasts_S256x128_S256x128 : FVec F S256x128 .bf16) (constant S512x128 .f32 0x00000000#32))
    (broadcastTo S512x128 (shapeCast S1x128 (b2 : FVec F S1x128 .f32) shapeCasts_S1x128_S1x128) broadcasts_S1x128_S512x128)
  have d : FVec F S512x128 .bf16 := truncf .bf16 (select (cmpf .oge z (broadcast S512x128 (Scalar.ofBits .f32 0x00000000#32))) z
    (mulf (broadcastTo S512x128 (shapeCast S1x128 (a2 : FVec F S1x128 .f32) shapeCasts_S1x128_S1x128) broadcasts_S1x128_S512x128) z)) bitsLt_bf16_f32
  have p : FVec F S512x128 .f32 := mulf (extf .f32 d bitsLt_bf16_f32)
    (broadcastTo S512x128 (shapeCast S1x128 (w3 : FVec F S1x128 .f32) shapeCasts_S1x128_S1x128) broadcasts_S1x128_S512x128)
  addf (shapeCast S512x1 (multiReduction .add [1] S512 p 0x00000000#32 reduces_S512x128_S512 (.inl rfl) rfl) shapeCasts_S512_S512x1)
    (broadcast S512x1 b3)

/-- Half `g` of a group's scores along 128 lanes, zero from row `n` on. -/
def maskedOf (sc : FVec F S512x1 .f32) (k : Fin 32) (g : Fin 2) (n : BitVec 32) : FVec F S8x128 .f32 :=
  select (cmpi .slt (iota .tc S8x128 32 [0] iota_S8x128_d0_w32 : IVec S8x128 32) (broadcast S8x128 n))
    (broadcastTo S8x128 (shapeCast S8x1 (extractStridedSlice S8x1 ![16 * k.val + 8 * g.val, 0] sc (slicesS k g)) shapeCasts_S8x1_S8x1) broadcasts_S8x1_S8x128)
    (broadcast S8x128 (Scalar.ofBits .f32 0x00000000#32))

/-- A group's word split: how many of its rows count, and the position of its first row. -/
def nValid (v : BitVec 32) : BitVec 32 := Scalar.shrui v 24#32
def sFirst (v : BitVec 32) : BitVec 32 := Scalar.andi (Scalar.shrui v 16#32) 255#32

def loOf (sc : FVec F S512x1 .f32) (k : Fin 32) (v : BitVec 32) : FVec F S8x128 .f32 := maskedOf sc k 0 (nValid v)
def hiOf (sc : FVec F S512x1 .f32) (k : Fin 32) (v : BitVec 32) : FVec F S8x128 .f32 := maskedOf sc k 1 (Scalar.subi (nValid v) 8#32)

/-- A group's part of the weighted sum, added to what is there. -/
def accOf (sc : FVec F S512x1 .f32) (k : Fin 32) (v : BitVec 32) (h : Vec F S16x512 .bf16) (acc : Vec F S8x512 .f32) : FVec F S8x512 .f32 :=
  have lo := loOf sc k v
  have hi := hiOf sc k v
  have x : FVec F S16x512 .f32 := extf .f32 (h : FVec F S16x512 .bf16) bitsLt_bf16_f32
  shapeCast S8x512 (addf (acc : FVec F S8x512 .f32)
    (addf (mulf (extractStridedSlice S8x512 ![0, 0] x slices_S16x512_o0_0_S8x512)
        (concatenate S8x512 1 [⟨S8x128, lo⟩, ⟨S8x128, lo⟩, ⟨S8x128, lo⟩, ⟨S8x128, lo⟩] concatenates_S8x128_S8x128_S8x128_S8x128_S8x512_d1))
      (mulf (extractStridedSlice S8x512 ![8, 0] x slices_S16x512_o8_0_S8x512)
        (concatenate S8x512 1 [⟨S8x128, hi⟩, ⟨S8x128, hi⟩, ⟨S8x128, hi⟩, ⟨S8x128, hi⟩] concatenates_S8x128_S8x128_S8x128_S8x128_S8x512_d1))))
    shapeCasts_S8x512_S8x512

/-- Lane minus row. -/
def diag : IVec S8x128 32 :=
  subi (iota .tc S8x128 32 [1] iota_S8x128_d1_w32) (iota .tc S8x128 32 [0] iota_S8x128_d0_w32)

/-- A group's scores, each on its own lane, added to what is there. -/
def posOf (sc : FVec F S512x1 .f32) (k : Fin 32) (v : BitVec 32) (acc : Vec F S8x128 .f32) : FVec F S8x128 .f32 :=
  shapeCast S8x128 (addf (acc : FVec F S8x128 .f32)
    (addf (select (cmpi .eq diag (broadcast S8x128 (sFirst v))) (loOf sc k v) (broadcast S8x128 (Scalar.ofBits .f32 0x00000000#32)))
      (select (cmpi .eq diag (broadcast S8x128 (Scalar.addi (sFirst v) 8#32))) (hiOf sc k v) (broadcast S8x128 (Scalar.ofBits .f32 0x00000000#32)))))
    shapeCasts_S8x128_S8x128

/-! ## The loop body -/

variable (c : Dev nD) (M : Mems) (qs : Fin 14 → PosShare TreeShare)

/-- A table word that passed the kernel's bounds checks. -/
abbrev GW := {v : BitVec 32 // k0_chk2 v}

/-- `f` with the value at `n` replaced. -/
def upd {α : Type} (f : Nat → α) (n : Nat) (v : α) : Nat → α := fun j => bif Nat.beq j n then v else f j

local notation "MM" => Mini c (Own (F := F) c M qs)

/-- Run `step` for each of the last `n` of `N` indices. -/
def foldFin {α : Type} {N : Nat} (step : Fin N → α → α) (cont : α) : (n : Nat) → n ≤ N → α
  | 0, _ => cont
  | n + 1, h => step ⟨N - (n + 1), by omega⟩ (foldFin step cont n (by omega))

variable {c M qs} in
def wordG (arg0 : BitVec 32) (hw1 : k0_chk1 arg0) (t : Fin k0_t3_loop.trips) (k : Fin 32) (cont : GW → MM) : MM :=
  .ld (c1 c M qs) (Rect.unit (s := S4608) (k0_off6 arg0 t (BitVec.ofNat 32 k.val)) S1.size (k0_off6_inb arg0 hw1 t k))
    (View.loadsAt_rect (View.loads_smem_one rfl numel1_S1)) fun f =>
    .asm (k0_chk2 (f (Shape.Idx.first (numel1_S1.symm ▸ Nat.one_pos))))
      (k0_chk2.dec (f (Shape.Idx.first (numel1_S1.symm ▸ Nat.one_pos)))) fun h => cont ⟨_, h⟩

variable {c M qs} in
def wordsG (arg0 : BitVec 32) (hw1 : k0_chk1 arg0) (t : Fin k0_t3_loop.trips) (cont : (Nat → GW) → MM) :
    (n : Nat) → n ≤ 32 → (Nat → GW) → MM
  | 0, _, f => cont f
  | n + 1, h, f => wordG arg0 hw1 t ⟨32 - (n + 1), by omega⟩ fun w =>
      wordsG arg0 hw1 t cont n (by omega) (upd f (32 - (n + 1)) w)

variable {c M qs} in
/-- One store of a group's rows into a third of the block's feature buffer. -/
def put19 (k : Fin 32) (j : Fin 3) (x : FVec F S16x512 .bf16) (cont : MM) : MM :=
  .ld (c19 c M qs).toCell (Rect.unit (s := S512x1536) ![16 * k.val, 512 * j.val] S16x512.size (inb19 k j)) (View.loadsAt_vmem h_S16x512) fun _ =>
  .st (c19 c M qs) (Rect.unit (s := S512x1536) ![16 * k.val, 512 * j.val] S16x512.size (inb19 k j)) (shapeCast S16x512 x shapeCasts_S16x512_S16x512)
    (View.stores_vmem h_S16x512 (M.w19.storeExact_slice rfl _ (packed19 k j)) (fun _ => rfl)) (.inl rfl) cont

variable {c M qs} in
/-- One group's features. -/
def halfG (t : Fin k0_t3_loop.trips) (f : Nat → GW) (code : FVec F S32x512 .bf16) (p : Fin 16) (g : Fin 2) (cont : MM) : MM :=
  .ld (c5 c M qs) (Rect.unit (s := S8x128) (k0_off8 t (BitVec.ofNat 32 (p.val / 8))) S1x128.size (k0_off8_inb t ⟨p.val / 8, by omega⟩))
    (View.loadsAt_vmem h_S1x128) fun row =>
  .ld (c17 c M qs).toCell (Rect.unit (s := S9232x512) (k0_off9 (f (2 * p.val + g.val)).1) S16x512.size (k0_off9_inb _ (f (2 * p.val + g.val)).2))
    (View.loadsAt_vmem h_S16x512) fun tt =>
  put19 ⟨2 * p.val + g.val, by omega⟩ 0 (rows code g row (BitVec.ofNat 32 (8 * ((2 * p.val + g.val) % 16)))) <|
  put19 ⟨2 * p.val + g.val, by omega⟩ 1 (subf (rows code g row (BitVec.ofNat 32 (8 * ((2 * p.val + g.val) % 16)))) tt) <|
  put19 ⟨2 * p.val + g.val, by omega⟩ 2 (mulf (rows code g row (BitVec.ofNat 32 (8 * ((2 * p.val + g.val) % 16)))) tt) cont

variable {c M qs} in
/-- Two groups' features. -/
def pairG (t : Fin k0_t3_loop.trips) (f : Nat → GW) (p : Fin 16) (cont : MM) : MM :=
  .ld (c4 c M qs) (Rect.unit (s := S512x512) (k0_off7 t (BitVec.ofNat 32 (8 * p.val))) S8x512.size (k0_off7_inb t p)) (View.loadsAt_vmem h_S8x512) fun w =>
  halfG t f (codeRows w) p 0 (halfG t f (codeRows w) p 1 cont)

variable {c M qs} in
/-- The first layer's three products. -/
def z1G (cont : FVec F S512x256 .f32 → MM) : MM :=
  .ld (c19 c M qs).toCell (Rect.unit (s := S512x1536) ![0, 0] S512x512.size inb_S512x1536_S512x512_0_0) (View.loadsAt_vmem h_S512x512) fun x0 =>
  .ld (c6 c M qs) (Rect.unit (s := S2048x256) ![0, 0] S512x256.size inb_S2048x256_S512x256_0_0) (View.loadsAt_vmem h_S512x256) fun u0 =>
  .ld (c19 c M qs).toCell (Rect.unit (s := S512x1536) ![0, 512] S512x512.size inb_S512x1536_S512x512_0_512) (View.loadsAt_vmem h_S512x512) fun x1 =>
  .ld (c6 c M qs) (Rect.unit (s := S2048x256) ![1024, 0] S512x256.size inb_S2048x256_S512x256_1024_0) (View.loadsAt_vmem h_S512x256) fun u1 =>
  .ld (c19 c M qs).toCell (Rect.unit (s := S512x1536) ![0, 1024] S512x512.size inb_S512x1536_S512x512_0_1024) (View.loadsAt_vmem h_S512x512) fun x2 =>
  .ld (c6 c M qs) (Rect.unit (s := S2048x256) ![1536, 0] S512x256.size inb_S2048x256_S512x256_1536_0) (View.loadsAt_vmem h_S512x256) fun u2 =>
  cont (z1Of x0 u0 x1 u1 x2 u2)

variable {c M qs} in
/-- A group's first hidden layer. -/
def d1G (f : Nat → GW) (z1 : FVec F S512x256 .f32) (k : Fin 32) (cont : MM) : MM :=
  .ld (c18 c M qs).toCell (Rect.unit (s := S4616x256) (k0_off41 (f k.val).1) S8x256.size (k0_off41_inb _ (f k.val).2)) (View.loadsAt_vmem h_S8x256) fun t8 =>
  .ld (c8 c M qs) (Rect.unit (s := S1x256) ![0, 0] S1x256.size inb_S1x256_S1x256_0_0) (View.loadsAt_vmem h_S1x256) fun a =>
  .ld (c20 c M qs).toCell (Rect.unit (s := S512x256) ![16 * k.val, 0] S16x256.size (inb20 k)) (View.loadsAt_vmem h_S16x256) fun _ =>
  .st (c20 c M qs) (Rect.unit (s := S512x256) ![16 * k.val, 0] S16x256.size (inb20 k)) (d1Of z1 k t8 a)
    (View.stores_vmem h_S16x256 (M.w20.storeExact_slice rfl _ (packed20 k)) (fun _ => rfl)) (.inl rfl) cont

variable {c M qs} in
/-- The block's scores. -/
def scG (cont : FVec F S512x1 .f32 → MM) : MM :=
  .ld (c20 c M qs).toCell (Rect.unit (s := S512x256) ![0, 0] S512x256.size inb_S512x256_S512x256_0_0) (View.loadsAt_vmem h_S512x256) fun d1 =>
  .ld (c9 c M qs) (Rect.unit (s := S256x128) ![0, 0] S256x128.size inb_S256x128_S256x128_0_0) (View.loadsAt_vmem h_S256x128) fun u =>
  .ld (c10 c M qs) (Rect.unit (s := S1x128) ![0, 0] S1x128.size inb_S1x128_S1x128_0_0) (View.loadsAt_vmem h_S1x128) fun b2 =>
  .ld (c11 c M qs) (Rect.unit (s := S1x128) ![0, 0] S1x128.size inb_S1x128_S1x128_0_0) (View.loadsAt_vmem h_S1x128) fun a2 =>
  .ld (c12 c M qs) (Rect.unit (s := S1x128) ![0, 0] S1x128.size inb_S1x128_S1x128_0_0) (View.loadsAt_vmem h_S1x128) fun w3 =>
  .ld (c13 c M qs) (Rect.unit (s := S1) ![0] S1.size inb_S1_S1_0) (View.loadsAt_rect (View.loads_smem_one rfl numel1_S1)) fun b3 =>
  cont (scOf d1 u b2 a2 w3 (b3 (Shape.Idx.first (numel1_S1.symm ▸ Nat.one_pos))))

variable {c M qs} in
/-- A group's two accumulations. -/
def accG (f : Nat → GW) (sc : FVec F S512x1 .f32) (k : Fin 32) (cont : MM) : MM :=
  .ld (c19 c M qs).toCell (Rect.unit (s := S512x1536) ![16 * k.val, 0] S16x512.size (inb19 k 0)) (View.loadsAt_vmem h_S16x512) fun h =>
  .ld (c21 c M qs).toCell (Rect.unit (s := S4616x512) (k0_off73 (f k.val).1) S8x512.size (k0_off73_inb _ (f k.val).2)) (View.loadsAt_vmem h_S8x512) fun acc =>
  .ld (c21 c M qs).toCell (Rect.unit (s := S4616x512) (k0_off73 (f k.val).1) S8x512.size (k0_off73_inb _ (f k.val).2)) (View.loadsAt_vmem h_S8x512) fun _ =>
  .st (c21 c M qs) (Rect.unit (s := S4616x512) (k0_off73 (f k.val).1) S8x512.size (k0_off73_inb _ (f k.val).2)) (accOf sc k (f k.val).1 h acc)
    (View.stores_vmem_bits_univ h_S8x512 rfl) (.inl rfl) <|
  .ld (c22 c M qs).toCell (Rect.unit (s := S4616x128) (k0_off74 (f k.val).1) S8x128.size (k0_off74_inb _ (f k.val).2)) (View.loadsAt_vmem h_S8x128) fun pos =>
  .ld (c22 c M qs).toCell (Rect.unit (s := S4616x128) (k0_off74 (f k.val).1) S8x128.size (k0_off74_inb _ (f k.val).2)) (View.loadsAt_vmem h_S8x128) fun _ =>
  .st (c22 c M qs) (Rect.unit (s := S4616x128) (k0_off74 (f k.val).1) S8x128.size (k0_off74_inb _ (f k.val).2)) (posOf sc k (f k.val).1 pos)
    (View.stores_vmem_bits_univ h_S8x128 rfl) (.inl rfl) cont

/-- A word that passes the checks. -/
def gw0 : GW := ⟨0#32, by decide⟩

/-- The loop body. -/
def t3 (arg0 : BitVec 32) (hw1 : k0_chk1 arg0) (t : Fin k0_t3_loop.trips) : MM :=
  wordsG arg0 hw1 t (fun f =>
    foldFin (pairG t f) (z1G fun z1 => foldFin (d1G f z1) (scG fun sc => foldFin (accG f sc) .ret 32 (by omega)) 32 (by omega)) 16 (by omega))
    32 (by omega) (fun _ => gw0)

theorem t3_eq (b : grid0.Bounds) (i : grid0.Static) (arg0 : BitVec 32) (hw1 : k0_chk1 arg0) (t : Fin k0_t3_loop.trips) :
    Gen.k0_t3_body (F := F) b i arg0 M.a1 M.w1 M.a2 M.w2 M.a3 M.w3 M.a4 M.w4 M.a5 M.w5 M.a6 M.w6 M.a7 M.w7 M.a8 M.w8 M.a9 M.w9 M.a10 M.w10
      M.a11 M.w11 M.a12 M.w12 M.a13 M.w13 M.a14 M.w14 M.a15 M.w15 M.a16 M.w16 M.a17 M.w17 M.a18 M.w18 M.a19 M.w19 M.a20 M.w20
      M.a21 M.w21 M.a22 M.w22 hw1 (iota .tc S8x128 32 [0] iota_S8x128_d0_w32) t ()
      = (t3 c M qs arg0 hw1 t).prog := by
  sl_kernel_rfl

end Cert.Kernel.Rolled
-- ==== Proof.K.Body.lean ====
/-
The kernel's whole body over the record of buffers: the first step's preparation, the loop over a block's
quarters, and the last step's reduction.
-/
module

public import proofs.«01_k».proof.Proof.K.Rolled

@[expose] public section

set_option maxRecDepth 16384

noncomputable section

namespace Cert.Kernel.Rolled

open Idealize.ShloMosaic Idealize.ShloMosaic.TcCoe Idealize.ShloMosaic.Tactic
open Idealize.SL Idealize.SL.RA Idealize.SL.BI
open Idealize.SL.Sem
open Cert.Kernel Cert.Kernel.Facts₀ Cert.Kernel.Facts Cert.Mini

variable {F : FTy → Type} [FloatOps F] {c : Dev nD} {M : Mems} {qs : Fin 14 → PosShare TreeShare}

local notation "MM" => Mini c (Own (F := F) c M qs)

def zero512 : FVec F S8x512 .f32 := shapeCast S8x512 (broadcast S8x512 (Scalar.ofBits .f32 0x00000000#32 : F .f32)) shapeCasts_S8x512_S8x512
def zero128 : FVec F S8x128 .f32 := shapeCast S8x128 (broadcast S8x128 (Scalar.ofBits .f32 0x00000000#32 : F .f32)) shapeCasts_S8x128_S8x128
def zero256 : FVec F S8x256 .f32 := shapeCast S8x256 (broadcast S8x256 (Scalar.ofBits .f32 0x00000000#32 : F .f32)) shapeCasts_S8x256_S8x256
def zeroRows : FVec F S16x512 .bf16 := shapeCast S16x512 (broadcast S16x512 (Scalar.ofBits .bf16 0x0000#16 : F .bf16)) shapeCasts_S16x512_S16x512

/-- Clear one user's accumulators. -/
def t1 (t : Fin k0_t1_loop.trips) : MM :=
  .ld (c21 c M qs).toCell (Rect.unit (s := S4616x512) (k0_off1 t) S8x512.size (k0_off1_inb t)) (View.loadsAt_vmem h_S8x512) fun _ =>
  .st (c21 c M qs) (Rect.unit (s := S4616x512) (k0_off1 t) S8x512.size (k0_off1_inb t)) zero512 (View.stores_vmem_bits_univ h_S8x512 rfl) (.inl rfl) <|
  .ld (c22 c M qs).toCell (Rect.unit (s := S4616x128) (k0_off2 t) S8x128.size (k0_off2_inb t)) (View.loadsAt_vmem h_S8x128) fun _ =>
  .st (c22 c M qs) (Rect.unit (s := S4616x128) (k0_off2 t) S8x128.size (k0_off2_inb t)) zero128 (View.stores_vmem_bits_univ h_S8x128 rfl) (.inl rfl) .ret

/-- Sixteen target rows. -/
def tgtHalf (code : FVec F S32x512 .bf16) (p : Fin 18) (g : Fin 2) (cont : MM) : MM :=
  .ld (c3 c M qs) (Rect.unit (s := S8x128) ![p.val / 8, 0] S1x128.size (inb3 ⟨p.val / 8, by omega⟩)) (View.loadsAt_vmem h_S1x128) fun row =>
  .ld (c16 c M qs).toCell (Rect.unit (s := S576x512) ![16 * (2 * p.val + g.val), 0] S16x512.size (inb16 ⟨2 * p.val + g.val, by omega⟩)) (View.loadsAt_vmem h_S16x512) fun _ =>
  .st (c16 c M qs) (Rect.unit (s := S576x512) ![16 * (2 * p.val + g.val), 0] S16x512.size (inb16 ⟨2 * p.val + g.val, by omega⟩))
    (shapeCast S16x512 (rows code g row (BitVec.ofNat 32 (8 * ((2 * p.val + g.val) % 16)))) shapeCasts_S16x512_S16x512)
    (View.stores_vmem h_S16x512 (M.w16.storeExact_slice rfl _ (packed16 ⟨2 * p.val + g.val, by omega⟩)) (fun _ => rfl)) (.inl rfl) cont

/-- Thirty-two target rows. -/
def tgtPair (p : Fin 18) (cont : MM) : MM :=
  .ld (c2 c M qs) (Rect.unit (s := S144x512) ![8 * p.val, 0] S8x512.size (inb2 p)) (View.loadsAt_vmem h_S8x512) fun w =>
  tgtHalf (codeRows w) p 0 (tgtHalf (codeRows w) p 1 cont)

/-- The target's part of the first layer for sixteen users. -/
def tzOf (t : Vec F S16x512 .bf16) (u : Vec F S512x256 .bf16) (b : Vec F S1x256 .f32) : FVec F S16x256 .f32 :=
  addf (matmul (φ₁ := .bf16) (φ₂ := .bf16) dot_S16x512_S512x256_S16x256_1_0_0_1_n_n none t u (constant S16x256 .f32 0x00000000#32))
    (broadcastTo S16x256 (shapeCast S1x256 (b : FVec F S1x256 .f32) shapeCasts_S1x256_S1x256) broadcasts_S1x256_S16x256)

/-- One user's row of it, eight times. -/
def tz8 (tz : FVec F S16x256 .f32) (k : Fin 16) : FVec F S8x256 .f32 :=
  shapeCast S8x256 (broadcastTo S8x256 (shapeCast S1x256 (extractStridedSlice S1x256 ![k.val, 0] tz (slicesT k)) shapeCasts_S1x256_S1x256) broadcasts_S1x256_S8x256) shapeCasts_S8x256_S8x256

/-- One user's target row, sixteen times. -/
def t16 (t : Vec F S16x512 .bf16) (k : Fin 16) : FVec F S16x512 .bf16 :=
  shapeCast S16x512 (broadcastTo S16x512 (shapeCast S1x512 (extractStridedSlice S1x512 ![k.val, 0] (t : FVec F S16x512 .bf16) (slicesR k)) shapeCasts_S1x512_S1x512) broadcasts_S1x512_S16x512) shapeCasts_S16x512_S16x512

/-- One user's copies of its target row and of the target's part of the first layer. -/
def dupG (t : Fin k0_t2_loop.trips) (x : Vec F S16x512 .bf16) (tz : FVec F S16x256 .f32) (k : Fin 16) (cont : MM) : MM :=
  .ld (c18 c M qs).toCell (Rect.unit (s := S4616x256) (k0_off4 t (BitVec.ofNat 32 (8 * k.val))) S8x256.size (k0_off4_inb t k)) (View.loadsAt_vmem h_S8x256) fun _ =>
  .st (c18 c M qs) (Rect.unit (s := S4616x256) (k0_off4 t (BitVec.ofNat 32 (8 * k.val))) S8x256.size (k0_off4_inb t k)) (tz8 tz k)
    (View.stores_vmem_bits_univ h_S8x256 rfl) (.inl rfl) <|
  .ld (c17 c M qs).toCell (Rect.unit (s := S9232x512) (k0_off5 t (BitVec.ofNat 32 (16 * k.val))) S16x512.size (k0_off5_inb t k)) (View.loadsAt_vmem h_S16x512) fun _ =>
  .st (c17 c M qs) (Rect.unit (s := S9232x512) (k0_off5 t (BitVec.ofNat 32 (16 * k.val))) S16x512.size (k0_off5_inb t k)) (t16 x k)
    (View.stores_vmem h_S16x512 (M.w17.storeExact_slice rfl _ (k0_off5_packedbf16 t k)) (fun _ => rfl)) (.inl rfl) cont

def t2 (t : Fin k0_t2_loop.trips) : MM :=
  .ld (c16 c M qs).toCell (Rect.unit (s := S576x512) (k0_off3 t) S16x512.size (k0_off3_inb t)) (View.loadsAt_vmem h_S16x512) fun x =>
  .ld (c6 c M qs) (Rect.unit (s := S2048x256) ![512, 0] S512x256.size inb_S2048x256_S512x256_512_0) (View.loadsAt_vmem h_S512x256) fun u =>
  .ld (c7 c M qs) (Rect.unit (s := S1x256) ![0, 0] S1x256.size inb_S1x256_S1x256_0_0) (View.loadsAt_vmem h_S1x256) fun b =>
  foldFin (dupG t x (tzOf x u b)) .ret 16 (by omega)

/-- The first step's preparation. -/
def initM (cont : MM) : MM :=
  .loop false k0_t1_loop k0_t1_ok t1 <|
  foldFin tgtPair (.loop true k0_t2_loop k0_t2_ok t2 cont) 18 (by omega)

/-- The dummy user's rows are zero. -/
def dummyM (cont : MM) : MM :=
  .ld (c18 c M qs).toCell (Rect.unit (s := S4616x256) ![4608, 0] S8x256.size inb_S4616x256_S8x256_4608_0) (View.loadsAt_vmem h_S8x256) fun _ =>
  .st (c18 c M qs) (Rect.unit (s := S4616x256) ![4608, 0] S8x256.size inb_S4616x256_S8x256_4608_0) zero256 (View.stores_vmem_bits_univ h_S8x256 rfl) (.inl rfl) <|
  .ld (c17 c M qs).toCell (Rect.unit (s := S9232x512) ![9216, 0] S16x512.size inb_S9232x512_S16x512_9216_0) (View.loadsAt_vmem h_S16x512) fun _ =>
  .st (c17 c M qs) (Rect.unit (s := S9232x512) ![9216, 0] S16x512.size inb_S9232x512_S16x512_9216_0) zeroRows
    (View.stores_vmem h_S16x512 (M.w17.storeExact_slice rfl _ packedbf16_S9232x512_S16x512_9216_0) (fun _ => rfl)) (.inl rfl) cont

def sum512 (x : Vec F S128x512 .f32) : FVec F S16x512 .bf16 :=
  truncf .bf16 (multiReduction .add [1] S16x512 (shapeCast S16x8x512 (x : FVec F S128x512 .f32) shapeCasts_S128x512_S16x8x512) 0x00000000#32 reduces_S16x8x512_S16x512 (.inl rfl) rfl) bitsLt_bf16_f32

def sum128 (x : Vec F S128x128 .f32) : FVec F S16x128 .f32 :=
  multiReduction .add [1] S16x128 (shapeCast S16x8x128 (x : FVec F S128x128 .f32) shapeCasts_S128x128_S16x8x128) 0x00000000#32 reduces_S16x8x128_S16x128 (.inl rfl) rfl

/-- The last step's reduction for sixteen users. -/
def t4 (t : Fin k0_t4_loop.trips) : MM :=
  .ld (c21 c M qs).toCell (Rect.unit (s := S4616x512) (k0_off137 t) S128x512.size (k0_off137_inb t)) (View.loadsAt_vmem h_S128x512) fun x =>
  .ld (c14 c M qs).toCell (Rect.unit (s := S576x512) (k0_off138 t) S16x512.size (k0_off138_inb t)) (View.loadsAt_vmem h_S16x512) fun _ =>
  .st (c14 c M qs) (Rect.unit (s := S576x512) (k0_off138 t) S16x512.size (k0_off138_inb t)) (sum512 x)
    (View.stores_vmem h_S16x512 (M.w14.storeExact_slice rfl _ (k0_off138_packedbf16 t)) (fun _ => rfl)) (.inl rfl) <|
  .ld (c22 c M qs).toCell (Rect.unit (s := S4616x128) (k0_off139 t) S128x128.size (k0_off139_inb t)) (View.loadsAt_vmem h_S128x128) fun y =>
  .ld (c15 c M qs).toCell (Rect.unit (s := S576x128) (k0_off140 t) S16x128.size (k0_off140_inb t)) (View.loadsAt_vmem h_S16x128) fun _ =>
  .st (c15 c M qs) (Rect.unit (s := S576x128) (k0_off140 t) S16x128.size (k0_off140_inb t)) (sum128 y)
    (View.stores_vmem_bits_univ h_S16x128 rfl) (.inl rfl) .ret

/-- What every step runs. -/
def restM (n arg0 : BitVec 32) (hw1 : k0_chk1 arg0) : MM :=
  .loop false k0_t3_loop k0_t3_ok (t3 c M qs arg0 hw1) <|
  .ite (k0_cond2 arg0 n = 1#1) inferInstance (fun _ => .loop false k0_t4_loop k0_t4_ok t4 .ret) .ret

def isFirst (arg0 : BitVec 32) : Prop := Scalar.cmpi .ne (Scalar.extui (Scalar.cmpi .eq arg0 0#32) : BitVec 32) 0#32 = 1#1

/-- The body. -/
def bodyM (n arg0 : BitVec 32) : MM :=
  .asm (k0_chk1 arg0) (k0_chk1.dec arg0) fun hw1 =>
  .ite (isFirst arg0) (inferInstanceAs (Decidable (Scalar.cmpi .ne (Scalar.extui (Scalar.cmpi .eq arg0 0#32) : BitVec 32) 0#32 = 1#1)))
    (fun _ => initM (dummyM (restM n arg0 hw1))) (restM n arg0 hw1)

theorem init_eq (b : grid0.Bounds) (i : grid0.Static) (arg0 : BitVec 32) (cont : MM) :
    (k0_part27 (F := F) b i arg0 M.a1 M.w1 M.a2 M.w2 M.a3 M.w3 M.a4 M.w4 M.a5 M.w5 M.a6 M.w6 M.a7 M.w7 M.a8 M.w8 M.a9 M.w9 M.a10 M.w10
      M.a11 M.w11 M.a12 M.w12 M.a13 M.w13 M.a14 M.w14 M.a15 M.w15 M.a16 M.w16 M.a17 M.w17 M.a18 M.w18 M.a19 M.w19 M.a20 M.w20
      M.a21 M.w21 M.a22 M.w22 >>= fun _ => cont.prog) = (initM cont).prog := by
  rw [Gen.k0_part27_eq_skeleton]
  unfold Gen.k0_part27_skel
  rw [Gen.k0_part8_eq_skeleton]
  unfold Gen.k0_part8_skel
  rw [bind_assoc, bind_assoc]
  sl_kernel_rfl

theorem body_eq (b : grid0.Bounds) (i : grid0.Static) (arg0 : BitVec 32) :
    cc0_score_rows_0 (F := F) b i arg0 M.a1 M.w1 M.a2 M.w2 M.a3 M.w3 M.a4 M.w4 M.a5 M.w5 M.a6 M.w6 M.a7 M.w7 M.a8 M.w8 M.a9 M.w9 M.a10 M.w10
      M.a11 M.w11 M.a12 M.w12 M.a13 M.w13 M.a14 M.w14 M.a15 M.w15 M.a16 M.w16 M.a17 M.w17 M.a18 M.w18 M.a19 M.w19 M.a20 M.w20
      M.a21 M.w21 M.a22 M.w22 = (bodyM (c := c) (M := M) (qs := qs) (BitVec.ofNat 32 (b 0)) arg0).prog := by
  rw [Gen.cc0_score_rows_0_eq_skeleton]
  have h : Gen.cc0_score_rows_0_skel (F := F) b i arg0 M.a1 M.w1 M.a2 M.w2 M.a3 M.w3 M.a4 M.w4 M.a5 M.w5 M.a6 M.w6 M.a7 M.w7 M.a8 M.w8 M.a9 M.w9 M.a10 M.w10
      M.a11 M.w11 M.a12 M.w12 M.a13 M.w13 M.a14 M.w14 M.a15 M.w15 M.a16 M.w16 M.a17 M.w17 M.a18 M.w18 M.a19 M.w19 M.a20 M.w20
      M.a21 M.w21 M.a22 M.w22
      = .op (.assume (k0_chk1 arg0) (k0_chk1.dec arg0)) (fun hw =>
          if Scalar.cmpi .ne (Scalar.extui (Scalar.cmpi .eq arg0 0#32) : BitVec 32) 0#32 = 1#1 then
            k0_part27 (F := F) b i arg0 M.a1 M.w1 M.a2 M.w2 M.a3 M.w3 M.a4 M.w4 M.a5 M.w5 M.a6 M.w6 M.a7 M.w7 M.a8 M.w8 M.a9 M.w9 M.a10 M.w10
              M.a11 M.w11 M.a12 M.w12 M.a13 M.w13 M.a14 M.w14 M.a15 M.w15 M.a16 M.w16 M.a17 M.w17 M.a18 M.w18 M.a19 M.w19 M.a20 M.w20
              M.a21 M.w21 M.a22 M.w22 >>= fun _ => (dummyM (c := c) (M := M) (qs := qs) (restM (BitVec.ofNat 32 (b 0)) arg0 hw.down)).prog
          else (restM (c := c) (M := M) (qs := qs) (BitVec.ofNat 32 (b 0)) arg0 hw.down).prog) := by
    sl_kernel_rfl
  rw [h]
  simp only [init_eq]
  rfl

end Cert.Kernel.Rolled
-- ==== Proof.K.Sem.lean ====
/-
What the kernel's body does to the contents of its buffers, as functions on the record of contents, and the rule
that runs the body on them: the first step's preparation and the last step's reduction as functions, the loop over
a block's quarters by an invariant.
-/
module

public import proofs.«01_k».proof.Proof.K.Body

@[expose] public section

set_option maxRecDepth 16384

noncomputable section

namespace Cert.Kernel.Rolled

open Idealize.ShloMosaic Idealize.ShloMosaic.TcCoe Idealize.ShloMosaic.Tactic
open Idealize.SL Idealize.SL.RA Idealize.SL.BI
open Idealize.SL.Sem
open Cert.Kernel Cert.Kernel.Facts₀ Cert.Kernel.Facts Cert.Mini

variable {F : FTy → Type} [FloatOps F] {c : Dev nD} {M : Mems} {qs : Fin 14 → PosShare TreeShare}

local notation "MM" => Mini c (Own (F := F) c M qs)

/-- Two contents with the same inputs. -/
structure SameIn (σ σ' : St F) : Prop where
  e1 : σ'.x1 = σ.x1
  e2 : σ'.x2 = σ.x2
  e3 : σ'.x3 = σ.x3
  e4 : σ'.x4 = σ.x4
  e5 : σ'.x5 = σ.x5
  e6 : σ'.x6 = σ.x6
  e7 : σ'.x7 = σ.x7
  e8 : σ'.x8 = σ.x8
  e9 : σ'.x9 = σ.x9
  e10 : σ'.x10 = σ.x10
  e11 : σ'.x11 = σ.x11
  e12 : σ'.x12 = σ.x12
  e13 : σ'.x13 = σ.x13

theorem SameIn.refl (σ : St F) : SameIn σ σ := ⟨rfl, rfl, rfl, rfl, rfl, rfl, rfl, rfl, rfl, rfl, rfl, rfl, rfl⟩

theorem SameIn.trans {σ σ' σ'' : St F} (h : SameIn σ σ') (h' : SameIn σ' σ'') : SameIn σ σ'' :=
  ⟨h'.e1.trans h.e1, h'.e2.trans h.e2, h'.e3.trans h.e3, h'.e4.trans h.e4, h'.e5.trans h.e5, h'.e6.trans h.e6, h'.e7.trans h.e7,
    h'.e8.trans h.e8, h'.e9.trans h.e9, h'.e10.trans h.e10, h'.e11.trans h.e11, h'.e12.trans h.e12, h'.e13.trans h.e13⟩

/-! ## Folds and loops of functions -/

/-- Apply `f` for the last `n` of `N` indices, the smallest first. -/
def runFin {α : Type} {N : Nat} (f : Fin N → α → α) : (n : Nat) → n ≤ N → α → α
  | 0, _, x => x
  | n + 1, h, x => runFin f n (by omega) (f ⟨N - (n + 1), by omega⟩ x)

/-- Apply `f` for the indices below `n`. -/
def iterN {α : Type} {N : Nat} (f : Fin N → α → α) : Nat → α → α
  | 0, x => x
  | n + 1, x => if h : n < N then f ⟨n, h⟩ (iterN f n x) else iterN f n x

theorem runFin_inv {α : Type} {N : Nat} (f : Fin N → α → α) (J : Nat → α → Prop)
    (hf : ∀ k x, J k.val x → J (k.val + 1) (f k x)) :
    ∀ (n : Nat) (h : n ≤ N) (x : α), J (N - n) x → J N (runFin f n h x)
  | 0, _, x, hx => by simpa [runFin] using hx
  | n + 1, h, x, hx => by
    unfold runFin
    refine runFin_inv f J hf n (by omega) _ ?_
    have := hf ⟨N - (n + 1), by omega⟩ x hx
    have e : N - (n + 1) + 1 = N - n := by omega
    simpa [e] using this

theorem iterN_inv {α : Type} {N : Nat} (f : Fin N → α → α) (J : Nat → α → Prop)
    (hf : ∀ k x, J k.val x → J (k.val + 1) (f k x)) (x : α) (hx : J 0 x) : ∀ n, n ≤ N → J n (iterN f n x)
  | 0, _ => hx
  | n + 1, h => by
    unfold iterN
    rw [dif_pos (by omega : n < N)]
    exact hf ⟨n, by omega⟩ _ (iterN_inv f J hf x hx n (by omega))

theorem wp_foldFin {N : Nat} (step : Fin N → MM → MM) (f : Fin N → St F → St F) (Q : St F → Prop)
    (hs : ∀ k cont σ, cont.wpP (f k σ) Q → (step k cont).wpP σ Q) (cont : MM) :
    ∀ (n : Nat) (h : n ≤ N) (σ : St F), cont.wpP (runFin f n h σ) Q → (foldFin step cont n h).wpP σ Q
  | 0, _, _, h => h
  | n + 1, _, _, h => hs _ _ _ (wp_foldFin step f Q hs cont n _ _ h)

theorem wp_iter (w : Bool) (l : Scf.Loop 32) (ok : l.OK) (body : Fin l.trips → MM) (f : Fin l.trips → St F → St F) (k : MM)
    (hb : ∀ t σ (Q : St F → Prop), Q (f t σ) → (body t).wpP σ Q) (σ : St F) (Q : St F → Prop)
    (h : k.wpP (iterN f l.trips σ) Q) : (Mini.loop w l ok body k).wpP σ Q :=
  ⟨fun i σ' => σ' = iterN f i σ, rfl, fun t σ' e => hb _ _ _ (by
    subst e; show _ = iterN f (t.val + 1) σ
    rw [iterN, dif_pos t.isLt]), fun σ' e => by subst e; exact h⟩

/-! ## The first step's preparation -/

def t1F (t : Fin k0_t1_loop.trips) (σ : St F) : St F :=
  { σ with
    x21 := overwrite (Rect.unit (s := S4616x512) (k0_off1 t) S8x512.size (k0_off1_inb t)) σ.x21 zero512
    x22 := overwrite (Rect.unit (s := S4616x128) (k0_off2 t) S8x128.size (k0_off2_inb t)) σ.x22 zero128 }

theorem t1_wp (t : Fin k0_t1_loop.trips) (σ : St F) (Q : St F → Prop)
    (h : Q (t1F t σ)) : (t1 t : MM).wpP σ Q := by
  have e : (t1 t : MM).wpP σ Q = Q (t1F t σ) := by sl_kernel_rfl
  exact Eq.mpr e h

def tgtHalfF (code : FVec F S32x512 .bf16) (p : Fin 18) (g : Fin 2) (σ : St F) : St F :=
  { σ with
    x16 := overwrite (Rect.unit (s := S576x512) ![16 * (2 * p.val + g.val), 0] S16x512.size (inb16 ⟨2 * p.val + g.val, by omega⟩)) σ.x16
      (shapeCast S16x512 (rows code g (fun j => σ.x3 ((Rect.unit (s := S8x128) ![p.val / 8, 0] S1x128.size (inb3 ⟨p.val / 8, by omega⟩)).idx j))
        (BitVec.ofNat 32 (8 * ((2 * p.val + g.val) % 16)))) shapeCasts_S16x512_S16x512) }

def tgtPairF (p : Fin 18) (σ : St F) : St F :=
  have code := codeRows (F := F) fun j => σ.x2 ((Rect.unit (s := S144x512) ![8 * p.val, 0] S8x512.size (inb2 p)).idx j)
  tgtHalfF code p 1 (tgtHalfF code p 0 σ)

theorem tgtPair_wp (p : Fin 18) (cont : MM) (σ : St F) (Q : St F → Prop)
    (h : cont.wpP (tgtPairF p σ) Q) : (tgtPair p cont).wpP σ Q := by
  have e : (tgtPair p cont).wpP σ Q = cont.wpP (tgtPairF p σ) Q := by sl_kernel_rfl
  exact Eq.mpr e h

def dupF (t : Fin k0_t2_loop.trips) (x : Vec F S16x512 .bf16) (tz : FVec F S16x256 .f32) (k : Fin 16) (σ : St F) : St F :=
  { σ with
    x18 := overwrite (Rect.unit (s := S4616x256) (k0_off4 t (BitVec.ofNat 32 (8 * k.val))) S8x256.size (k0_off4_inb t k)) σ.x18 (tz8 tz k)
    x17 := overwrite (Rect.unit (s := S9232x512) (k0_off5 t (BitVec.ofNat 32 (16 * k.val))) S16x512.size (k0_off5_inb t k)) σ.x17 (t16 x k) }

theorem dup_wp (t : Fin k0_t2_loop.trips) (x : Vec F S16x512 .bf16) (tz : FVec F S16x256 .f32) (k : Fin 16) (cont : MM) (σ : St F)
    (Q : St F → Prop)
    (h : cont.wpP (dupF t x tz k σ) Q) : (dupG t x tz k cont).wpP σ Q := by
  have e : (dupG t x tz k cont).wpP σ Q = cont.wpP (dupF t x tz k σ) Q := by sl_kernel_rfl
  exact Eq.mpr e h

def t2x (t : Fin k0_t2_loop.trips) (σ : St F) : Vec F S16x512 .bf16 :=
  fun j => σ.x16 ((Rect.unit (s := S576x512) (k0_off3 t) S16x512.size (k0_off3_inb t)).idx j)

def t2z (t : Fin k0_t2_loop.trips) (σ : St F) : FVec F S16x256 .f32 :=
  tzOf (t2x t σ) (fun j => σ.x6 ((Rect.unit (s := S2048x256) ![512, 0] S512x256.size inb_S2048x256_S512x256_512_0).idx j))
    (fun j => σ.x7 ((Rect.unit (s := S1x256) ![0, 0] S1x256.size inb_S1x256_S1x256_0_0).idx j))

def t2F (t : Fin k0_t2_loop.trips) (σ : St F) : St F := runFin (dupF t (t2x t σ) (t2z t σ)) 16 (by omega) σ

theorem t2_wp (t : Fin k0_t2_loop.trips) (σ : St F) (Q : St F → Prop) (h : Q (t2F t σ)) : (t2 t : MM).wpP σ Q := by
  have e : (t2 t : MM).wpP σ Q = (foldFin (dupG t (t2x t σ) (t2z t σ)) .ret 16 (by omega) : MM).wpP σ Q := by sl_kernel_rfl
  exact Eq.mpr e (wp_foldFin _ (dupF t (t2x t σ) (t2z t σ)) Q (fun k cont σ h => dup_wp t _ _ k cont σ Q h) _ _ _ _ h)

def dummyF (σ : St F) : St F :=
  { σ with
    x18 := overwrite (Rect.unit (s := S4616x256) ![4608, 0] S8x256.size inb_S4616x256_S8x256_4608_0) σ.x18 zero256
    x17 := overwrite (Rect.unit (s := S9232x512) ![9216, 0] S16x512.size inb_S9232x512_S16x512_9216_0) σ.x17 zeroRows }

/-- The first step's preparation. -/
def initF (σ : St F) : St F :=
  dummyF (iterN t2F k0_t2_loop.trips (runFin tgtPairF 18 (by omega) (iterN t1F k0_t1_loop.trips σ)))

theorem dummy_wp (cont : MM) (σ : St F) (Q : St F → Prop) (h : cont.wpP (dummyF σ) Q) : (dummyM cont).wpP σ Q := by
  have e : (dummyM cont).wpP σ Q = cont.wpP (dummyF σ) Q := by sl_kernel_rfl
  exact Eq.mpr e h

theorem init_wp (cont : MM) (σ : St F) (Q : St F → Prop) (h : cont.wpP (initF σ) Q) : (initM (dummyM cont)).wpP σ Q := by
  unfold initM
  refine wp_iter _ _ _ _ t1F _ (fun t σ Q h => t1_wp t σ Q h) _ _ ?_
  refine wp_foldFin _ tgtPairF Q (fun k cont σ h => tgtPair_wp k cont σ Q h) _ _ _ _ ?_
  refine wp_iter _ _ _ _ t2F _ (fun t σ Q h => t2_wp t σ Q h) _ _ ?_
  exact dummy_wp cont _ Q h

/-! ## The last step's reduction -/

def t4F (t : Fin k0_t4_loop.trips) (σ : St F) : St F :=
  { σ with
    x14 := overwrite (Rect.unit (s := S576x512) (k0_off138 t) S16x512.size (k0_off138_inb t)) σ.x14
      (sum512 fun j => σ.x21 ((Rect.unit (s := S4616x512) (k0_off137 t) S128x512.size (k0_off137_inb t)).idx j))
    x15 := overwrite (Rect.unit (s := S576x128) (k0_off140 t) S16x128.size (k0_off140_inb t)) σ.x15
      (sum128 fun j => σ.x22 ((Rect.unit (s := S4616x128) (k0_off139 t) S128x128.size (k0_off139_inb t)).idx j)) }

theorem t4_wp (t : Fin k0_t4_loop.trips) (σ : St F) (Q : St F → Prop)
    (h : Q (t4F t σ)) : (t4 t : MM).wpP σ Q := by
  have e : (t4 t : MM).wpP σ Q = Q (t4F t σ) := by sl_kernel_rfl
  exact Eq.mpr e h

def lastF (σ : St F) : St F := iterN t4F k0_t4_loop.trips σ

/-! ## A quarter of a block -/

/-- Group `k`'s word in the table. -/
def word (x : Vec F S4608 .i32) (arg0 : BitVec 32) (hw1 : k0_chk1 arg0) (t : Fin k0_t3_loop.trips) (k : Fin 32) : BitVec 32 :=
  x ((Rect.unit (s := S4608) (k0_off6 arg0 t (BitVec.ofNat 32 k.val)) S1.size (k0_off6_inb arg0 hw1 t k)).idx
    (Shape.Idx.first (numel1_S1.symm ▸ Nat.one_pos)))

theorem words_wp (arg0 : BitVec 32) (hw1 : k0_chk1 arg0) (t : Fin k0_t3_loop.trips) (cont : (Nat → GW) → MM) (σ : St F) (Q : St F → Prop)
    (hc : ∀ k, k0_chk2 (word σ.x1 arg0 hw1 t k))
    (h : ∀ f : Nat → GW, (∀ k : Fin 32, (f k.val).1 = word σ.x1 arg0 hw1 t k) → (cont f).wpP σ Q) :
    ∀ (n : Nat) (hn : n ≤ 32) (f : Nat → GW), (∀ k : Fin 32, k.val < 32 - n → (f k.val).1 = word σ.x1 arg0 hw1 t k) →
      (wordsG arg0 hw1 t cont n hn f).wpP σ Q
  | 0, _, f, hf => h f fun k => hf k k.isLt
  | n + 1, hn, f, hf => ⟨hc ⟨32 - (n + 1), by omega⟩, words_wp arg0 hw1 t cont σ Q hc h n (by omega) _ fun k hk => by
      unfold upd
      by_cases e : k.val = 32 - (n + 1)
      · rw [e, Nat.beq_refl]
        have : k = ⟨32 - (n + 1), by omega⟩ := Fin.ext e
        rw [this]; rfl
      · have : Nat.beq k.val (32 - (n + 1)) = false := by
          rw [← Bool.not_eq_true]; exact fun h => e (Nat.eq_of_beq_eq_true h)
        rw [this]; exact hf k (by omega)⟩

def put19F (k : Fin 32) (j : Fin 3) (x : FVec F S16x512 .bf16) (σ : St F) : St F :=
  { σ with
    x19 := overwrite (Rect.unit (s := S512x1536) ![16 * k.val, 512 * j.val] S16x512.size (inb19 k j)) σ.x19
      (shapeCast S16x512 x shapeCasts_S16x512_S16x512) }

/-- A group's sixteen dequantised rows. -/
def hRows (t : Fin k0_t3_loop.trips) (x5 : Vec F S8x128 .i32) (code : FVec F S32x512 .bf16) (p : Fin 16) (g : Fin 2) : FVec F S16x512 .bf16 :=
  rows code g (fun j => x5 ((Rect.unit (s := S8x128) (k0_off8 t (BitVec.ofNat 32 (p.val / 8))) S1x128.size (k0_off8_inb t ⟨p.val / 8, by omega⟩)).idx j))
    (BitVec.ofNat 32 (8 * ((2 * p.val + g.val) % 16)))

/-- A group's sixteen target rows. -/
def tRows (x17 : Vec F S9232x512 .bf16) (w : GW) : FVec F S16x512 .bf16 :=
  fun j => x17 ((Rect.unit (s := S9232x512) (k0_off9 w.1) S16x512.size (k0_off9_inb _ w.2)).idx j)

def halfF (t : Fin k0_t3_loop.trips) (f : Nat → GW) (code : FVec F S32x512 .bf16) (p : Fin 16) (g : Fin 2) (σ : St F) : St F :=
  have h := hRows t σ.x5 code p g
  have tt := tRows σ.x17 (f (2 * p.val + g.val))
  put19F ⟨2 * p.val + g.val, by omega⟩ 2 (mulf h tt)
    (put19F ⟨2 * p.val + g.val, by omega⟩ 1 (subf h tt) (put19F ⟨2 * p.val + g.val, by omega⟩ 0 h σ))

def pairF (t : Fin k0_t3_loop.trips) (f : Nat → GW) (p : Fin 16) (σ : St F) : St F :=
  have code := codeRows (F := F) fun j => σ.x4 ((Rect.unit (s := S512x512) (k0_off7 t (BitVec.ofNat 32 (8 * p.val))) S8x512.size (k0_off7_inb t p)).idx j)
  halfF t f code p 1 (halfF t f code p 0 σ)

theorem pair_wp (t : Fin k0_t3_loop.trips) (f : Nat → GW) (p : Fin 16) (cont : MM) (σ : St F) (Q : St F → Prop)

    (h : cont.wpP (pairF t f p σ) Q) : (pairG t f p cont).wpP σ Q := by
  have e : (pairG t f p cont).wpP σ Q = cont.wpP (pairF t f p σ) Q := by sl_kernel_rfl
  exact Eq.mpr e h

def z1F (σ : St F) : FVec F S512x256 .f32 :=
  z1Of (fun j => σ.x19 ((Rect.unit (s := S512x1536) ![0, 0] S512x512.size inb_S512x1536_S512x512_0_0).idx j))
    (fun j => σ.x6 ((Rect.unit (s := S2048x256) ![0, 0] S512x256.size inb_S2048x256_S512x256_0_0).idx j))
    (fun j => σ.x19 ((Rect.unit (s := S512x1536) ![0, 512] S512x512.size inb_S512x1536_S512x512_0_512).idx j))
    (fun j => σ.x6 ((Rect.unit (s := S2048x256) ![1024, 0] S512x256.size inb_S2048x256_S512x256_1024_0).idx j))
    (fun j => σ.x19 ((Rect.unit (s := S512x1536) ![0, 1024] S512x512.size inb_S512x1536_S512x512_0_1024).idx j))
    (fun j => σ.x6 ((Rect.unit (s := S2048x256) ![1536, 0] S512x256.size inb_S2048x256_S512x256_1536_0).idx j))

def d1F (f : Nat → GW) (z1 : FVec F S512x256 .f32) (k : Fin 32) (σ : St F) : St F :=
  { σ with
    x20 := overwrite (Rect.unit (s := S512x256) ![16 * k.val, 0] S16x256.size (inb20 k)) σ.x20
      (d1Of z1 k (fun j => σ.x18 ((Rect.unit (s := S4616x256) (k0_off41 (f k.val).1) S8x256.size (k0_off41_inb _ (f k.val).2)).idx j))
        (fun j => σ.x8 ((Rect.unit (s := S1x256) ![0, 0] S1x256.size inb_S1x256_S1x256_0_0).idx j))) }

theorem d1_wp (f : Nat → GW) (z1 : FVec F S512x256 .f32) (k : Fin 32) (cont : MM) (σ : St F) (Q : St F → Prop)

    (h : cont.wpP (d1F f z1 k σ) Q) : (d1G f z1 k cont).wpP σ Q := by
  have e : (d1G f z1 k cont).wpP σ Q = cont.wpP (d1F f z1 k σ) Q := by sl_kernel_rfl
  exact Eq.mpr e h

def scF (σ : St F) : FVec F S512x1 .f32 :=
  scOf (fun j => σ.x20 ((Rect.unit (s := S512x256) ![0, 0] S512x256.size inb_S512x256_S512x256_0_0).idx j))
    (fun j => σ.x9 ((Rect.unit (s := S256x128) ![0, 0] S256x128.size inb_S256x128_S256x128_0_0).idx j))
    (fun j => σ.x10 ((Rect.unit (s := S1x128) ![0, 0] S1x128.size inb_S1x128_S1x128_0_0).idx j))
    (fun j => σ.x11 ((Rect.unit (s := S1x128) ![0, 0] S1x128.size inb_S1x128_S1x128_0_0).idx j))
    (fun j => σ.x12 ((Rect.unit (s := S1x128) ![0, 0] S1x128.size inb_S1x128_S1x128_0_0).idx j))
    (σ.x13 ((Rect.unit (s := S1) ![0] S1.size inb_S1_S1_0).idx (Shape.Idx.first (numel1_S1.symm ▸ Nat.one_pos))))

def accF (f : Nat → GW) (sc : FVec F S512x1 .f32) (k : Fin 32) (σ : St F) : St F :=
  { σ with
    x21 := overwrite (Rect.unit (s := S4616x512) (k0_off73 (f k.val).1) S8x512.size (k0_off73_inb _ (f k.val).2)) σ.x21
      (accOf sc k (f k.val).1 (fun j => σ.x19 ((Rect.unit (s := S512x1536) ![16 * k.val, 0] S16x512.size (inb19 k 0)).idx j))
        (fun j => σ.x21 ((Rect.unit (s := S4616x512) (k0_off73 (f k.val).1) S8x512.size (k0_off73_inb _ (f k.val).2)).idx j)))
    x22 := overwrite (Rect.unit (s := S4616x128) (k0_off74 (f k.val).1) S8x128.size (k0_off74_inb _ (f k.val).2)) σ.x22
      (posOf sc k (f k.val).1
        (fun j => σ.x22 ((Rect.unit (s := S4616x128) (k0_off74 (f k.val).1) S8x128.size (k0_off74_inb _ (f k.val).2)).idx j))) }

theorem acc_wp (f : Nat → GW) (sc : FVec F S512x1 .f32) (k : Fin 32) (cont : MM) (σ : St F) (Q : St F → Prop)

    (h : cont.wpP (accF f sc k σ) Q) : (accG f sc k cont).wpP σ Q := by
  have e : (accG f sc k cont).wpP σ Q = cont.wpP (accF f sc k σ) Q := by sl_kernel_rfl
  exact Eq.mpr e h

/-- A quarter of a block, its words given. -/
def t3F (t : Fin k0_t3_loop.trips) (f : Nat → GW) (σ : St F) : St F :=
  have σ₁ := runFin (pairF t f) 16 (by omega) σ
  have σ₂ := runFin (d1F f (z1F σ₁)) 32 (by omega) σ₁
  runFin (accF f (scF σ₂)) 32 (by omega) σ₂

theorem z1_wp (cont : FVec F S512x256 .f32 → MM) (σ : St F) (Q : St F → Prop) (h : (cont (z1F σ)).wpP σ Q) : (z1G cont).wpP σ Q := by
  have e : (z1G cont).wpP σ Q = (cont (z1F σ)).wpP σ Q := by sl_kernel_rfl
  exact Eq.mpr e h

theorem sc_wp (cont : FVec F S512x1 .f32 → MM) (σ : St F) (Q : St F → Prop) (h : (cont (scF σ)).wpP σ Q) : (scG cont).wpP σ Q := by
  have e : (scG cont).wpP σ Q = (cont (scF σ)).wpP σ Q := by sl_kernel_rfl
  exact Eq.mpr e h

theorem t3_wp (arg0 : BitVec 32) (hw1 : k0_chk1 arg0) (t : Fin k0_t3_loop.trips) (σ : St F) (Q : St F → Prop)
    (hc : ∀ k, k0_chk2 (word σ.x1 arg0 hw1 t k))
    (h : ∀ f : Nat → GW, (∀ k : Fin 32, (f k.val).1 = word σ.x1 arg0 hw1 t k) → Q (t3F t f σ)) :
    (t3 c M qs arg0 hw1 t : MM).wpP σ Q := by
  unfold t3
  refine words_wp arg0 hw1 t _ σ Q hc (fun f hf => ?_) _ _ _ (fun k hk => by omega)
  refine wp_foldFin _ (pairF t f) Q (fun k cont σ h => pair_wp t f k cont σ Q h) _ _ _ _ ?_
  refine z1_wp _ _ Q ?_
  refine wp_foldFin _ (d1F f _) Q (fun k cont σ h => d1_wp f _ k cont σ Q h) _ _ _ _ ?_
  refine sc_wp _ _ Q ?_
  exact wp_foldFin _ (accF f _) Q (fun k cont σ h => acc_wp f _ k cont σ Q h) _ _ _ _ (h f hf)

/-! ## The inputs stay -/

theorem runFin_same {N : Nat} (f : Fin N → St F → St F) (hf : ∀ k σ, SameIn σ (f k σ)) (n : Nat) (h : n ≤ N) (σ : St F) :
    SameIn σ (runFin f n h σ) :=
  runFin_inv f (fun _ σ' => SameIn σ σ') (fun k x hx => hx.trans (hf k x)) n h σ (.refl σ)

theorem iterN_same {N : Nat} (f : Fin N → St F → St F) (hf : ∀ k σ, SameIn σ (f k σ)) (n : Nat) (h : n ≤ N) (σ : St F) :
    SameIn σ (iterN f n σ) :=
  iterN_inv f (fun _ σ' => SameIn σ σ') (fun k x hx => hx.trans (hf k x)) σ (.refl σ) n h

theorem t1F_same (t : Fin k0_t1_loop.trips) (σ : St F) : SameIn σ (t1F t σ) := by
  constructor <;> sl_kernel_rfl

theorem tgtPairF_same (p : Fin 18) (σ : St F) : SameIn σ (tgtPairF p σ) := by
  constructor <;> sl_kernel_rfl

theorem dupF_same (t : Fin k0_t2_loop.trips) (x : Vec F S16x512 .bf16) (tz : FVec F S16x256 .f32) (k : Fin 16) (σ : St F) : SameIn σ (dupF t x tz k σ) := by
  constructor <;> sl_kernel_rfl

theorem dummyF_same (σ : St F) : SameIn σ (dummyF σ) := by
  constructor <;> sl_kernel_rfl

theorem t4F_same (t : Fin k0_t4_loop.trips) (σ : St F) : SameIn σ (t4F t σ) := by
  constructor <;> sl_kernel_rfl

theorem pairF_same (t : Fin k0_t3_loop.trips) (f : Nat → GW) (p : Fin 16) (σ : St F) : SameIn σ (pairF t f p σ) := by
  constructor <;> sl_kernel_rfl

theorem d1F_same (f : Nat → GW) (z1 : FVec F S512x256 .f32) (k : Fin 32) (σ : St F) : SameIn σ (d1F f z1 k σ) := by
  constructor <;> sl_kernel_rfl

theorem accF_same (f : Nat → GW) (sc : FVec F S512x1 .f32) (k : Fin 32) (σ : St F) : SameIn σ (accF f sc k σ) := by
  constructor <;> sl_kernel_rfl

theorem t2F_same (t : Fin k0_t2_loop.trips) (σ : St F) : SameIn σ (t2F t σ) := by
  unfold t2F
  exact runFin_same _ (fun k σ => dupF_same t _ _ k σ) _ _ _

theorem init_same (σ : St F) : SameIn σ (initF σ) := by
  unfold initF
  exact (iterN_same t1F t1F_same _ le_rfl σ).trans ((runFin_same tgtPairF tgtPairF_same _ _ _).trans
    ((iterN_same t2F t2F_same _ le_rfl _).trans (dummyF_same _)))

theorem last_same (σ : St F) : SameIn σ (lastF σ) := by
  unfold lastF
  exact iterN_same t4F t4F_same _ le_rfl σ

theorem t3_same (t : Fin k0_t3_loop.trips) (f : Nat → GW) (σ : St F) : SameIn σ (t3F t f σ) := by
  unfold t3F
  exact (runFin_same (pairF t f) (pairF_same t f) _ _ _).trans ((runFin_same (d1F f _) (d1F_same f _) _ _ _).trans
    (runFin_same (accF f _) (accF_same f _) _ _ _))

/-! ## The whole body -/

instance (arg0 : BitVec 32) : Decidable (isFirst arg0) :=
  inferInstanceAs (Decidable (Scalar.cmpi .ne (Scalar.extui (Scalar.cmpi .eq arg0 0#32) : BitVec 32) 0#32 = 1#1))

/-- The body run on contents `σ`: `J` is the invariant of the loop over the block's quarters. -/
theorem body_wp (n arg0 : BitVec 32) (σ : St F) (Q : St F → Prop) (hw1 : k0_chk1 arg0)
    (hc : ∀ t k, k0_chk2 (word σ.x1 arg0 hw1 t k)) (J : Nat → St F → Prop)
    (hfirst : isFirst arg0 → J 0 (initF σ)) (hnext : ¬isFirst arg0 → J 0 σ)
    (hstep : ∀ (t : Fin k0_t3_loop.trips) σ' f, J t.val σ' → SameIn σ σ' → (∀ k : Fin 32, (f k.val).1 = word σ.x1 arg0 hw1 t k) →
      J (t.val + 1) (t3F t f σ'))
    (hlast : ∀ σ', J k0_t3_loop.trips σ' → SameIn σ σ' → k0_cond2 arg0 n = 1#1 → Q (lastF σ'))
    (hmid : ∀ σ', J k0_t3_loop.trips σ' → SameIn σ σ' → ¬k0_cond2 arg0 n = 1#1 → Q σ') :
    (bodyM n arg0 : MM).wpP σ Q := by
  have rest : ∀ σ₁, J 0 σ₁ → SameIn σ σ₁ → (restM n arg0 hw1 : MM).wpP σ₁ Q := fun σ₁ hJ hS =>
    ⟨fun i σ' => J i σ' ∧ SameIn σ σ', ⟨hJ, hS⟩, fun t σ' h =>
      t3_wp arg0 hw1 t σ' _ (fun k => by rw [h.2.e1]; exact hc t k) fun f hf =>
        ⟨hstep t σ' f h.1 h.2 (fun k => by rw [hf k, h.2.e1]), h.2.trans (t3_same t f σ')⟩,
      fun σ' h => ⟨fun hl => wp_iter _ _ _ _ t4F _ (fun t σ Q h => t4_wp t σ Q h) _ _ (hlast σ' h.1 h.2 hl), fun hl => hmid σ' h.1 h.2 hl⟩⟩
  exact ⟨hw1, fun hf => init_wp _ σ Q (rest _ (hfirst hf) (init_same σ)), fun hf => rest σ (hnext hf) (.refl σ)⟩

end Cert.Kernel.Rolled
-- ==== Proof.K.Host.lean ====
/-
The launch: the buffers' contents when the pipeline is entered, the pipeline's proof data with an invariant of the
scratch buffers, the body's obligation from the rule of `Sem`, and the run.
-/
module

public import proofs.«01_k».proof.Proof.K.Sem
public import proofs.«01_k».proof.Proof.Gen.Kernel.Launch
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Facts₀ Cert.Kernel.Facts Cert.Kernel.Rolled Cert.Kernel.Gen Cert.Mini

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations -/

/-- The host operations before the pipeline, call by call. -/
abbrev hosts : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22]

/-- The buffers when the pipeline is entered. -/
abbrev V (c : Dev nD) (b : Ref sig .tc) : Buf (Elt F) ((c : Thread nD τ).loc b) := StableHlo.after (hosts (F := F)).flatten (fun b => m (c, b)) b

theorem hosts_sub : (hosts (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub⟩

theorem hostOps0_fresh : (hostOps0 : List (HloOp τ sig (Elt F))).Forall fun op => op.fresh = ∅ := by
  simp only [List.Forall]; repeat' constructor

theorem hostOps0_1_fresh : (hostOps0_1 : List (HloOp τ sig (Elt F))).Forall fun op => op.fresh = ∅ := by
  simp only [List.Forall]; repeat' constructor

theorem hostOps0_2_fresh : (hostOps0_2 : List (HloOp τ sig (Elt F))).Forall fun op => op.fresh = ∅ := by
  simp only [List.Forall]; repeat' constructor

theorem hostOps0_3_fresh : (hostOps0_3 : List (HloOp τ sig (Elt F))).Forall fun op => op.fresh = ∅ := by
  simp only [List.Forall]; repeat' constructor

theorem hostOps0_4_fresh : (hostOps0_4 : List (HloOp τ sig (Elt F))).Forall fun op => op.fresh = ∅ := by
  simp only [List.Forall]; repeat' constructor

theorem hostOps0_5_fresh : (hostOps0_5 : List (HloOp τ sig (Elt F))).Forall fun op => op.fresh = ∅ := by
  simp only [List.Forall]; repeat' constructor

theorem hostOps0_6_fresh : (hostOps0_6 : List (HloOp τ sig (Elt F))).Forall fun op => op.fresh = ∅ := by
  simp only [List.Forall]; repeat' constructor

theorem hostOps0_7_fresh : (hostOps0_7 : List (HloOp τ sig (Elt F))).Forall fun op => op.fresh = ∅ := by
  simp only [List.Forall]; repeat' constructor

theorem hostOps0_8_fresh : (hostOps0_8 : List (HloOp τ sig (Elt F))).Forall fun op => op.fresh = ∅ := by
  simp only [List.Forall]; repeat' constructor

theorem hostOps0_9_fresh : (hostOps0_9 : List (HloOp τ sig (Elt F))).Forall fun op => op.fresh = ∅ := by
  simp only [List.Forall]; repeat' constructor

theorem hostOps0_10_fresh : (hostOps0_10 : List (HloOp τ sig (Elt F))).Forall fun op => op.fresh = ∅ := by
  simp only [List.Forall]; repeat' constructor

theorem hostOps0_11_fresh : (hostOps0_11 : List (HloOp τ sig (Elt F))).Forall fun op => op.fresh = ∅ := by
  simp only [List.Forall]; repeat' constructor

theorem hostOps0_12_fresh : (hostOps0_12 : List (HloOp τ sig (Elt F))).Forall fun op => op.fresh = ∅ := by
  simp only [List.Forall]; repeat' constructor

theorem hostOps0_13_fresh : (hostOps0_13 : List (HloOp τ sig (Elt F))).Forall fun op => op.fresh = ∅ := by
  simp only [List.Forall]; repeat' constructor

theorem hostOps0_14_fresh : (hostOps0_14 : List (HloOp τ sig (Elt F))).Forall fun op => op.fresh = ∅ := by
  simp only [List.Forall]; repeat' constructor

theorem hostOps0_15_fresh : (hostOps0_15 : List (HloOp τ sig (Elt F))).Forall fun op => op.fresh = ∅ := by
  simp only [List.Forall]; repeat' constructor

theorem hostOps0_16_fresh : (hostOps0_16 : List (HloOp τ sig (Elt F))).Forall fun op => op.fresh = ∅ := by
  simp only [List.Forall]; repeat' constructor

theorem hostOps0_17_fresh : (hostOps0_17 : List (HloOp τ sig (Elt F))).Forall fun op => op.fresh = ∅ := by
  simp only [List.Forall]; repeat' constructor

theorem hostOps0_18_fresh : (hostOps0_18 : List (HloOp τ sig (Elt F))).Forall fun op => op.fresh = ∅ := by
  simp only [List.Forall]; repeat' constructor

theorem hostOps0_19_fresh : (hostOps0_19 : List (HloOp τ sig (Elt F))).Forall fun op => op.fresh = ∅ := by
  simp only [List.Forall]; repeat' constructor

theorem hostOps0_20_fresh : (hostOps0_20 : List (HloOp τ sig (Elt F))).Forall fun op => op.fresh = ∅ := by
  simp only [List.Forall]; repeat' constructor

theorem hostOps0_21_fresh : (hostOps0_21 : List (HloOp τ sig (Elt F))).Forall fun op => op.fresh = ∅ := by
  simp only [List.Forall]; repeat' constructor

theorem hostOps0_22_fresh : (hostOps0_22 : List (HloOp τ sig (Elt F))).Forall fun op => op.fresh = ∅ := by
  simp only [List.Forall]; repeat' constructor

theorem hosts_fresh : (hosts (F := F)).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh⟩

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hosts hosts_sub hosts_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables -/

/-- The tables' contents when the pipeline is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

end Cert.Kernel.Run
-- ==== Proof.K.Launch.lean ====
/-
The launch: the pipeline's proof data with an invariant of the scratch buffers and a relation for what each output
holds, the body's obligation from the rule of the body's meaning, and the run.
-/
module

public import proofs.«01_k».proof.Proof.K.Host
public import Idealize.ShloMosaic.Lib.Pipeline.FrameBody
public import Idealize.ShloMosaic.Lib.Pipeline.Frame

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Facts Cert.Kernel.Rolled Cert.Kernel.Gen Cert.Mini
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers of two states hold the same. -/
structure SameScr (σ σ' : St F) : Prop where
  e16 : σ'.x16 = σ.x16
  e17 : σ'.x17 = σ.x17
  e18 : σ'.x18 = σ.x18
  e19 : σ'.x19 = σ.x19
  e20 : σ'.x20 = σ.x20
  e21 : σ'.x21 = σ.x21
  e22 : σ'.x22 = σ.x22

/-- The contents the body finds: the table, the staged blocks, and the scratch buffers of a state. -/
def mk (hO : Ok m) (Y : (w : Fin 14) → ((cfgM m hO).win w).block.Idx → Elt F ((cfgM m hO).win w).elt) (σ : St F) : St F where
  x1 := tbl m 1
  x2 := Y 0
  x3 := Y 1
  x4 := Y 2
  x5 := Y 3
  x6 := Y 4
  x7 := Y 5
  x8 := Y 6
  x9 := Y 7
  x10 := Y 8
  x11 := Y 9
  x12 := Y 10
  x13 := Y 11
  x14 := Y 12
  x15 := Y 13
  x16 := σ.x16
  x17 := σ.x17
  x18 := σ.x18
  x19 := σ.x19
  x20 := σ.x20
  x21 := σ.x21
  x22 := σ.x22

/-- The body's buffers at a point. -/
def mems (hO : Ok m) (t : Fin (cfgM m hO).N) : Mems where
  a1 := Memref.whole main_v62
  w1 := Memref.isWhole_whole _
  a2 := spec0_0.stage ((cfgM m hO).slots t 0)
  w2 := Facts₀.hstage0_0 (((cfgM m hO).slots t 0).cast Facts₀.nbuf0_0)
  a3 := spec0_1.stage ((cfgM m hO).slots t 1)
  w3 := Facts₀.hstage0_1 (((cfgM m hO).slots t 1).cast Facts₀.nbuf0_1)
  a4 := spec0_2.stage ((cfgM m hO).slots t 2)
  w4 := Facts₀.hstage0_2 (((cfgM m hO).slots t 2).cast Facts₀.nbuf0_2)
  a5 := spec0_3.stage ((cfgM m hO).slots t 3)
  w5 := Facts₀.hstage0_3 (((cfgM m hO).slots t 3).cast Facts₀.nbuf0_3)
  a6 := spec0_4.stage ((cfgM m hO).slots t 4)
  w6 := Facts₀.hstage0_4 (((cfgM m hO).slots t 4).cast Facts₀.nbuf0_4)
  a7 := spec0_5.stage ((cfgM m hO).slots t 5)
  w7 := Facts₀.hstage0_5 (((cfgM m hO).slots t 5).cast Facts₀.nbuf0_5)
  a8 := spec0_6.stage ((cfgM m hO).slots t 6)
  w8 := Facts₀.hstage0_6 (((cfgM m hO).slots t 6).cast Facts₀.nbuf0_6)
  a9 := spec0_7.stage ((cfgM m hO).slots t 7)
  w9 := Facts₀.hstage0_7 (((cfgM m hO).slots t 7).cast Facts₀.nbuf0_7)
  a10 := spec0_8.stage ((cfgM m hO).slots t 8)
  w10 := Facts₀.hstage0_8 (((cfgM m hO).slots t 8).cast Facts₀.nbuf0_8)
  a11 := spec0_9.stage ((cfgM m hO).slots t 9)
  w11 := Facts₀.hstage0_9 (((cfgM m hO).slots t 9).cast Facts₀.nbuf0_9)
  a12 := spec0_10.stage ((cfgM m hO).slots t 10)
  w12 := Facts₀.hstage0_10 (((cfgM m hO).slots t 10).cast Facts₀.nbuf0_10)
  a13 := spec0_11.stage ((cfgM m hO).slots t 11)
  w13 := Facts₀.hstage0_11 (((cfgM m hO).slots t 11).cast Facts₀.nbuf0_11)
  a14 := spec0_12.stage ((cfgM m hO).slots t 12)
  w14 := Facts₀.hstage0_12 (((cfgM m hO).slots t 12).cast Facts₀.nbuf0_12)
  a15 := spec0_13.stage ((cfgM m hO).slots t 13)
  w15 := Facts₀.hstage0_13 (((cfgM m hO).slots t 13).cast Facts₀.nbuf0_13)
  a16 := Memref.whole cc0_scratch0
  w16 := Memref.isWhole_whole _
  a17 := Memref.whole cc0_scratch1
  w17 := Memref.isWhole_whole _
  a18 := Memref.whole cc0_scratch2
  w18 := Memref.isWhole_whole _
  a19 := Memref.whole cc0_scratch3
  w19 := Memref.isWhole_whole _
  a20 := Memref.whole cc0_scratch4
  w20 := Memref.isWhole_whole _
  a21 := Memref.whole cc0_scratch5
  w21 := Memref.isWhole_whole _
  a22 := Memref.whole cc0_scratch6
  w22 := Memref.isWhole_whole _

/-- The scratch buffers at a state's contents. -/
def scr (c : Dev nD) (σ : St F) : sProp 𝕄 :=
  iprop(owns (c : Thread nD τ) (Memref.whole cc0_scratch0) fullShare σ.x16 ∗ owns (c : Thread nD τ) (Memref.whole cc0_scratch1) fullShare σ.x17 ∗ owns (c : Thread nD τ) (Memref.whole cc0_scratch2) fullShare σ.x18 ∗ owns (c : Thread nD τ) (Memref.whole cc0_scratch3) fullShare σ.x19 ∗ owns (c : Thread nD τ) (Memref.whole cc0_scratch4) fullShare σ.x20 ∗ owns (c : Thread nD τ) (Memref.whole cc0_scratch5) fullShare σ.x21 ∗ owns (c : Thread nD τ) (Memref.whole cc0_scratch6) fullShare σ.x22)

/-- The invariant between points: the scratch buffers at contents satisfying `Inv`, the generator register, and the
    tables' halves. -/
def Phi (Inv : Nat → St F → Prop) (c : Dev nD) (n : Nat) : sProp 𝕄 :=
  iprop(∃ σ : St F, ⌜Inv n σ⌝ ∗ scr c σ ∗ (∃ r, prngReg c r) ∗ Pipeline.ΦT pre0 (tbl m) c)

/-- What the body leaves in a staging buffer: an input as found, an output as the relations say. -/
def aft (hO : Ok m) (R12 : Nat → (S576x512.Idx → Elt F .bf16) → Prop) (R13 : Nat → (S576x128.Idx → Elt F .f32) → Prop) :
    (w : Fin 14) → Fin (cfgM m hO).N → (Y X : ((cfgM m hO).win w).block.Idx → Elt F ((cfgM m hO).win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun _ Y X => X = Y
  | 8 => fun _ Y X => X = Y
  | 9 => fun _ Y X => X = Y
  | 10 => fun _ Y X => X = Y
  | 11 => fun _ Y X => X = Y
  | 12 => fun t _ X => R12 t.val X
  | 13 => fun t _ X => R13 t.val X
  | ⟨_ + 14, h⟩ => absurd h (Nat.not_lt.2 (Nat.le_add_left _ _))

/-- The pipeline's proof data. -/
def rdat (hO : Ok m) (Inv : Nat → St F → Prop) (R12 : Nat → (S576x512.Idx → Elt F .bf16) → Prop)
    (R13 : Nat → (S576x128.Idx → Elt F .f32) → Prop) (c : Dev nD) :
    RDat τ (Elt F) Unit ℕ (UR sig nD τ) ℕ (cfgM m hO) c where
  A w := V m c (Pipeline.arrRef spec0 w)
  after := aft m hO R12 R13
  Φ t := Phi m Inv c t.val
  q w := Pipeline.shareOf spec0 w
  owed _ := 0

theorem PhiT0_eq (c : Dev nD) : (Pipeline.ΦT pre0 (tbl m) c : sProp 𝕄) =
    iprop((((c : Thread nD τ).loc main_v28) ↦{fullShare.right} (tbl m 0)) ∗ owns (c : Thread nD τ) (Memref.whole main_v62) fullShare.right (tbl m 1)) := by
  unfold Pipeline.ΦT Pipeline.prefHeld
  rw [bigSep_univ_eq_bigSepL [(0 : Fin 2), (1 : Fin 2)] (by decide) (by decide)]
  exact congrArg (fun X : sProp 𝕄 => iprop((((c : Thread nD τ).loc main_v28) ↦{fullShare.right} (tbl m 0)) ∗ X)) (owns_whole (c : Thread nD τ) main_v62 fullShare.right (tbl m 1)).symm

theorem PhiA0_eq (c : Dev nD) : (Pipeline.ΦA spec0 c : sProp 𝕄) =
    iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- The shares the body's buffers are held at: half of the table, the staged blocks whole. -/
def qs : Fin 14 → PosShare TreeShare := fun n => if n = 1 then fullShare.right else fullShare

theorem defs₀_row (hO : Ok m) (t : Fin (cfgM m hO).N) :
    defs₀ (F := F) .tc (cfgM m hO).body ((cfgM m hO).bodyArgs t ((cfgM m hO).slots t))
      = cc0_score_rows_0 (dynb0 (tbl m)) (Pipeline.Grid.Coords.static grid0 ((grid0.at (dynb0 (tbl m))).coords t)) (BitVec.ofNat 32 ((grid0.at (dynb0 (tbl m))).coords t 0).val)
          (mems m hO t).a1 (mems m hO t).w1 (mems m hO t).a2 (mems m hO t).w2 (mems m hO t).a3 (mems m hO t).w3 (mems m hO t).a4 (mems m hO t).w4 (mems m hO t).a5 (mems m hO t).w5 (mems m hO t).a6 (mems m hO t).w6 (mems m hO t).a7 (mems m hO t).w7 (mems m hO t).a8 (mems m hO t).w8 (mems m hO t).a9 (mems m hO t).w9 (mems m hO t).a10 (mems m hO t).w10 (mems m hO t).a11 (mems m hO t).w11 (mems m hO t).a12 (mems m hO t).w12 (mems m hO t).a13 (mems m hO t).w13 (mems m hO t).a14 (mems m hO t).w14 (mems m hO t).a15 (mems m hO t).w15 (mems m hO t).a16 (mems m hO t).w16 (mems m hO t).a17 (mems m hO t).w17 (mems m hO t).a18 (mems m hO t).w18 (mems m hO t).a19 (mems m hO t).w19 (mems m hO t).a20 (mems m hO t).w20 (mems m hO t).a21 (mems m hO t).w21 (mems m hO t).a22 (mems m hO t).w22 := by
  unfold defs₀; rw [Defs.onTc_tc]; rfl

/-- What the body must do at every point, on the contents it finds. -/
def Step (hO : Ok m) (Inv : Nat → St F → Prop) (R12 : Nat → (S576x512.Idx → Elt F .bf16) → Prop)
    (R13 : Nat → (S576x128.Idx → Elt F .f32) → Prop) (c : Dev nD) : Prop :=
  ∀ (t : Fin (cfgM m hO).N) (Y : (w : Fin 14) → ((cfgM m hO).win w).block.Idx → Elt F ((cfgM m hO).win w).elt),
    (∀ w, (rdat m hO Inv R12 R13 c).Finds w t (Y w)) → ∀ σ : St F, Inv t.val σ →
    (bodyM (c := c) (M := mems m hO t) (qs := qs) (BitVec.ofNat 32 (dynb0 (tbl m) 0)) (BitVec.ofNat 32 ((grid0.at (dynb0 (tbl m))).coords t 0).val)).wpP
      (mk m hO Y σ) (fun σ' => SameIn (mk m hO Y σ) σ' ∧ Inv (t.val + 1) σ' ∧ R12 t.val σ'.x14 ∧ R13 t.val σ'.x15)

set_option maxHeartbeats 2000000 in
theorem body_obligation (hO : Ok m) (Inv : Nat → St F → Prop) (R12 : Nat → (S576x512.Idx → Elt F .bf16) → Prop)
    (R13 : Nat → (S576x128.Idx → Elt F .f32) → Prop) (c : Dev nD) (hs : Step m hO Inv R12 R13 c) :
    (rdat m hO Inv R12 R13 c).BodyObligation (defs₀ (F := F)) Variants.none () Set.univ := by
  intro t Y hY
  rw [bigSep_W0, bigSep_W0, defs₀_row m hO]
  rw [show (rdat m hO Inv R12 R13 c).Φ t.castSucc = Phi m Inv c t.val from rfl,
    show (rdat m hO Inv R12 R13 c).Φ t.succ = Phi m Inv c (t.val + 1) from rfl]
  unfold Phi; rw [PhiT0_eq]
  have hb := body_eq (F := F) (c := c) (M := mems m hO t) (qs := qs) (dynb0 (tbl m))
    (Pipeline.Grid.Coords.static grid0 ((grid0.at (dynb0 (tbl m))).coords t)) (BitVec.ofNat 32 ((grid0.at (dynb0 (tbl m))).coords t 0).val)
  iintro ⟨⟨%σ, %hI, Hscr, Hg, HT0, HT1⟩, Ho, H0, H1, H2, H3, H4, H5, H6, H7, H8, H9, H10, H11, H12, H13⟩
  have hw := Mini.sound (defs := defs₀ (F := F)) Variants.none none Set.univ _ _ _ (hs t Y hY σ hI)
  rw [← hb] at hw
  unfold scr
  icases Hscr with ⟨S0, S1, S2, S3, S4, S5, S6⟩
  iapply (wp_wand_r _ _ _)
  isplitl [HT1 H0 H1 H2 H3 H4 H5 H6 H7 H8 H9 H10 H11 H12 H13 S0 S1 S2 S3 S4 S5 S6]
  · iapply hw
    unfold Own
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    isplitl [S3]; · iexact S3
    isplitl [S4]; · iexact S4
    isplitl [S5]; · iexact S5
    iexact S6
  iintro %u ⟨%σ', %hQ, HO⟩
  obtain ⟨hS, hI', h12, h13⟩ := hQ
  unfold Own
  icases HO with ⟨HT1, H0, H1, H2, H3, H4, H5, H6, H7, H8, H9, H10, H11, H12, H13, S0, S1, S2, S3, S4, S5, S6⟩
  isplitl [HT0 HT1 Hg S0 S1 S2 S3 S4 S5 S6]
  · iexists σ'
    isplitr; · ipureintro; exact hI'
    isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    isplitl [Hg]; · iexact Hg
    isplitl [HT0]; · iexact HT0
    rw [hS.e1]; iexact HT1
  isplitl [Ho]; · iexact Ho
  isplitl [H0]
  · iexists σ'.x2; isplitr; swap; · iexact H0
    ipureintro; exact hS.e2
  isplitl [H1]
  · iexists σ'.x3; isplitr; swap; · iexact H1
    ipureintro; exact hS.e3
  isplitl [H2]
  · iexists σ'.x4; isplitr; swap; · iexact H2
    ipureintro; exact hS.e4
  isplitl [H3]
  · iexists σ'.x5; isplitr; swap; · iexact H3
    ipureintro; exact hS.e5
  isplitl [H4]
  · iexists σ'.x6; isplitr; swap; · iexact H4
    ipureintro; exact hS.e6
  isplitl [H5]
  · iexists σ'.x7; isplitr; swap; · iexact H5
    ipureintro; exact hS.e7
  isplitl [H6]
  · iexists σ'.x8; isplitr; swap; · iexact H6
    ipureintro; exact hS.e8
  isplitl [H7]
  · iexists σ'.x9; isplitr; swap; · iexact H7
    ipureintro; exact hS.e9
  isplitl [H8]
  · iexists σ'.x10; isplitr; swap; · iexact H8
    ipureintro; exact hS.e10
  isplitl [H9]
  · iexists σ'.x11; isplitr; swap; · iexact H9
    ipureintro; exact hS.e11
  isplitl [H10]
  · iexists σ'.x12; isplitr; swap; · iexact H10
    ipureintro; exact hS.e12
  isplitl [H11]
  · iexists σ'.x13; isplitr; swap; · iexact H11
    ipureintro; exact hS.e13
  isplitl [H12]
  · iexists σ'.x14; isplitr; swap; · iexact H12
    ipureintro; exact h12
  iexists σ'.x15; isplitr; swap; · iexact H13
  ipureintro; exact h13

section
variable (hO : Ok m) (Inv : Nat → St F → Prop) (R12 : Nat → (S576x512.Idx → Elt F .bf16) → Prop)
  (R13 : Nat → (S576x128.Idx → Elt F .f32) → Prop)

theorem hin (h0 : ∀ σ, Inv 0 σ) (c : Dev nD) : iprop(Pipeline.ΦA spec0 c ∗ Pipeline.ΦT pre0 (tbl m) c) ⊢ (rdat m hO Inv R12 R13 c).Φ 0 := by
  rw [show (rdat m hO Inv R12 R13 c).Φ 0 = Phi m Inv c 0 from rfl, PhiA0_eq]
  unfold Phi scr
  iintro ⟨⟨⟨⟨%d0, S0⟩, ⟨%d1, S1⟩, ⟨%d2, S2⟩, ⟨%d3, S3⟩, ⟨%d4, S4⟩, ⟨%d5, S5⟩, ⟨%d6, S6⟩⟩, Hg⟩, HT⟩
  iexists (⟨tbl m 1, fun _ => Classical.choice (Elt.nonempty F .i32), fun _ => Classical.choice (Elt.nonempty F .i32), fun _ => Classical.choice (Elt.nonempty F .i32), fun _ => Classical.choice (Elt.nonempty F .i32), fun _ => Classical.choice (Elt.nonempty F .bf16), fun _ => Classical.choice (Elt.nonempty F .f32), fun _ => Classical.choice (Elt.nonempty F .f32), fun _ => Classical.choice (Elt.nonempty F .bf16), fun _ => Classical.choice (Elt.nonempty F .f32), fun _ => Classical.choice (Elt.nonempty F .f32), fun _ => Classical.choice (Elt.nonempty F .f32), fun _ => Classical.choice (Elt.nonempty F .f32), fun _ => Classical.choice (Elt.nonempty F .bf16), fun _ => Classical.choice (Elt.nonempty F .f32), d0, d1, d2, d3, d4, d5, d6⟩ : St F)
  isplitr; · ipureintro; exact h0 _
  isplitl [S0 S1 S2 S3 S4 S5 S6]
  ·
    isplitl [S0]; · iexact S0
    isplitl [S1]; · iexact S1
    isplitl [S2]; · iexact S2
    isplitl [S3]; · iexact S3
    isplitl [S4]; · iexact S4
    isplitl [S5]; · iexact S5
    iexact S6
  isplitl [Hg]; · iexact Hg
  iexact HT

theorem hout (c : Dev nD) : (rdat m hO Inv R12 R13 c).Φ (Fin.last (cfgM m hO).N) ⊢ Pipeline.ΦA spec0 c := by
  rw [show (rdat m hO Inv R12 R13 c).Φ (Fin.last (cfgM m hO).N) = Phi m Inv c (cfgM m hO).N from rfl, PhiA0_eq]
  unfold Phi scr
  iintro ⟨%σ, -, ⟨S0, S1, S2, S3, S4, S5, S6⟩, Hg, -⟩
  isplitl [S0 S1 S2 S3 S4 S5 S6]
  ·
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  iexact Hg

set_option backward.isDefEq.respectTransparency.types false in
/-- The run: every windowed array ends at contents the proof data allow, every other buffer at its contents when the
    pipeline was entered, and every semaphore counter at zero. -/
theorem run_main (h0 : ∀ σ, Inv 0 σ) (hs : ∀ c, Step m hO Inv R12 R13 c) :
    θ_run defs (onTc (τ := τ) (main (F := F))) (s₀ m ρ) (fun r =>
      (RDat.FramePost ((Pipeline.pin pcfgs fun _ => adm m hO) 0) (rdat m hO Inv R12 R13) (V m)) r ∧ r.2.sem = fun _ => 0) :=
  RDat.θ_run_frameP_track_shared (Q' := _) pcfgs (fun _ => adm m hO) (0 : Fin 1) launch₀0 defs₀ Variants.none (rdat m hO Inv R12 R13) m ρ main
    (hbody := fun c => body_obligation m hO Inv R12 R13 c (hs c)) (hq := fun _ _ _ => rfl)
    (howed := fun _ _ => rfl) (V := V m) (hmain := hmain m Variants.none) (hA := fun _ _ => rfl) (hpf := V_pre m)
    (hin := hin m hO Inv R12 R13 h0) (hout := hout m hO Inv R12 R13)

/-- The arguments end unchanged. -/
theorem args_kept (r : PUnit × MemSt nD τ sig (Elt F))
    (h : RDat.FramePost ((Pipeline.pin pcfgs fun _ => adm m hO) 0) (rdat m hO Inv R12 R13) (V m) r) (c : Dev nD) :
     r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  ⟨((h c).2 main_arg0 (by decide : main_arg0 ∈ Pipeline.restRefs sig spec0)).trans (V_main_arg0 m c),
   (RDat.FramePost.arr_in h c 0 rfl).trans (V_main_arg1 m c),
   ((h c).2 main_arg2 (by decide : main_arg2 ∈ Pipeline.restRefs sig spec0)).trans (V_main_arg2 m c),
   (RDat.FramePost.arr_in h c 4 rfl).trans (V_main_arg3 m c),
   ((h c).2 main_arg4 (by decide : main_arg4 ∈ Pipeline.restRefs sig spec0)).trans (V_main_arg4 m c),
   ((h c).2 main_arg5 (by decide : main_arg5 ∈ Pipeline.restRefs sig spec0)).trans (V_main_arg5 m c),
   ((h c).2 main_arg6 (by decide : main_arg6 ∈ Pipeline.restRefs sig spec0)).trans (V_main_arg6 m c),
   ((h c).2 main_arg7 (by decide : main_arg7 ∈ Pipeline.restRefs sig spec0)).trans (V_main_arg7 m c),
   ((h c).2 main_arg8 (by decide : main_arg8 ∈ Pipeline.restRefs sig spec0)).trans (V_main_arg8 m c),
   ((h c).2 main_arg9 (by decide : main_arg9 ∈ Pipeline.restRefs sig spec0)).trans (V_main_arg9 m c),
   (RDat.FramePost.arr_in h c 11 rfl).trans (V_main_arg10 m c)⟩
end

end Cert.Kernel.Run
-- ==== Proof.K.Plan.lean ====
/-
The step plan the host code computes from the lengths: the number of steps and the word of each group of sixteen
rows, and the bounds that the precondition gives them.
-/
module

public import proofs.«01_k».proof.Proof.K.Host
public import Idealize.ShloMosaic.Lib.Routing.OpsSearch
public import Idealize.ShloMosaic.Lib.StableHlo.Predicate
public import Idealize.ShloMosaic.Lib.StableHlo.ReadAt

@[expose] public section

set_option maxRecDepth 16384

noncomputable section

namespace Cert.Kernel.Run

open Idealize.ShloMosaic Idealize.ShloMosaic.TcCoe Idealize.ShloMosaic.Tactic Idealize.ShloMosaic.Routing
open Cert.Kernel Cert.Kernel.Facts Cert.Kernel.Rolled Cert.Kernel.Gen Cert.Mini

variable {F : FTy → Type} [FloatOps F]
variable (m : (ℓ : Loc nD τ sig) → Buf (Elt F) ℓ)

/-! ## The plan as functions of the lengths -/

/-- The number of groups of sixteen rows of each user. -/
def groupsV (L : IVec S576 32) : IVec S576 32 :=
  pyDiv bcast_S_S576 (addi L (broadcastInDim S576 ![] bcast_S_S576 (constantI S_ 32 15#32))) (constantI S_ 32 16#32)

/-- The groups of the users up to and with each one. -/
def gendV (L : IVec S576 32) : IVec S576 32 :=
  Host.reduce IntOp.addi
    (select (cmpi .sge (broadcastInDim S576x576 ![0, 1] bcast_S576x1_S576x576_0_1 (broadcastInDim S576x1 ![0] bcast_S576_S576x1_0 (iotaInDim S576 32 0)))
        (broadcastInDim S576x576 ![0, 1] bcast_S1x576_S576x576_0_1 (broadcastInDim S1x576 ![1] bcast_S576_S1x576_1 (iotaInDim S576 32 0))))
      (broadcastInDim S576x576 ![0, 1] bcast_S1x576_S576x576_0_1 (broadcastInDim S1x576 ![1] bcast_S576_S1x576_1 (groupsV L)))
      (broadcastInDim S576x576 ![] bcast_S_S576x576 (constantI S_ 32 0#32)))
    (constantI S_ 32 0#32) reducesTo_S576x576_S576_d1 h_S_

/-- All groups. -/
def totalV (L : IVec S576 32) : IVec S_ 32 := Host.reduce IntOp.addi (groupsV L) (constantI S_ 32 0#32) reducesTo_S576_S_d0 h_S_

/-- The steps of the grid. -/
def stepsV (L : IVec S576 32) : IVec S_ 32 :=
  pyDiv0 (subi (addi (muli (totalV L) (constantI S_ 32 16#32)) (constantI S_ 32 2048#32)) (constantI S_ 32 1#32)) (constantI S_ 32 2048#32)

/-- Where a group's user has ended already. -/
def endedV (L : IVec S576 32) : IVec S4608x576 1 :=
  cmpi .sle (broadcastInDim S4608x576 ![0, 1] bcast_S1x576_S4608x576_0_1 (broadcastInDim S1x576 ![1] bcast_S576_S1x576_1 (gendV L)))
    (broadcastInDim S4608x576 ![0, 1] bcast_S4608x1_S4608x576_0_1 (broadcastInDim S4608x1 ![0] bcast_S4608_S4608x1_0 (iotaInDim S4608 32 0)))

/-- The user of each group. -/
def userV (L : IVec S576 32) : IVec S4608 32 :=
  Host.reduce IntOp.addi (extui 32 (endedV L) natLt_1_32) (constantI S_ 32 0#32) reducesTo_S4608x576_S4608_d1 h_S_

/-- A table's entry of each group's user, by a masked sum. -/
def pickV (L : IVec S576 32) (x : IVec S576 32) : IVec S4608 32 :=
  Host.reduce IntOp.addi
    (select (cmpi .eq (broadcastInDim S4608x576 ![0, 1] bcast_S4608x1_S4608x576_0_1 (broadcastInDim S4608x1 ![0] bcast_S4608_S4608x1_0 (userV L)))
        (broadcastInDim S4608x576 ![0, 1] bcast_S1x576_S4608x576_0_1 (broadcastInDim S1x576 ![1] bcast_S576_S1x576_1 (iotaInDim S576 32 0))))
      (broadcastInDim S4608x576 ![0, 1] bcast_S1x576_S4608x576_0_1 (broadcastInDim S1x576 ![1] bcast_S576_S1x576_1 x))
      (broadcastInDim S4608x576 ![] bcast_S_S4608x576 (constantI S_ 32 0#32)))
    (constantI S_ 32 0#32) reducesTo_S4608x576_S4608_d1 h_S_

/-- The position of each group's first row within its user. -/
def startV (L : IVec S576 32) : IVec S4608 32 :=
  select (cmpi .slt (userV L) (broadcastInDim S4608 ![] bcast_S_S4608 (constantI S_ 32 576#32)))
    (muli (broadcastInDim S4608 ![] bcast_S_S4608 (constantI S_ 32 16#32)) (subi (iotaInDim S4608 32 0) (pickV L (subi (gendV L) (groupsV L)))))
    (broadcastInDim S4608 ![] bcast_S_S4608 (constantI S_ 32 0#32))

/-- How many of each group's rows count. -/
def validV (L : IVec S576 32) : IVec S4608 32 :=
  minsi (broadcastInDim S4608 ![] bcast_S_S4608 (constantI S_ 32 16#32))
    (maxsi (broadcastInDim S4608 ![] bcast_S_S4608 (constantI S_ 32 0#32)) (subi (pickV L L) (startV L)))

/-- The word of each group. -/
def infoV (L : IVec S576 32) : IVec S4608 32 :=
  ori (ori (userV L) (Host.shli (startV L) (broadcastInDim S4608 ![] bcast_S_S4608 (constantI S_ 32 16#32))))
    (Host.shli (validV L) (broadcastInDim S4608 ![] bcast_S_S4608 (constantI S_ 32 24#32)))

/-- The lengths. -/
abbrev lens : IVec S576 32 := m ((0 : Dev nD), main_arg0)

theorem tbl_steps : tbl m 0 = stepsV (lens m) := by
  show V m (0 : Dev nD) main_v28 = _
  unfold V
  simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_reads_simp
  simp -implicitDefEqProofs only [StableHlo.TRef.toBuf, StableHlo.TRef.ofBuf, cast_cast, cast_eq]
  unfold stepsV totalV groupsV pyDiv pyDiv0
  rfl

theorem tbl_info : tbl m 1 = infoV (lens m) := by
  show V m (0 : Dev nD) main_v62 = _
  unfold V
  simp only [hosts, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22,
    List.flatten_cons, List.flatten_nil, List.append_nil, List.cons_append, List.nil_append]
  after_reads_simp
  simp -implicitDefEqProofs only [StableHlo.TRef.toBuf, StableHlo.TRef.ofBuf, cast_cast, cast_eq]
  unfold infoV validV startV pickV userV endedV gendV groupsV pyDiv
  rfl

/-! ## Bounds -/

/-- The lengths are between 0 and 128. -/
def Fit (L : IVec S576 32) : Prop := ∀ i, (L i).toNat ≤ 128

variable (L : IVec S576 32)

theorem groups_at (hL : Fit L) (i : S576.Idx) : groupsV L i = BitVec.ofNat 32 (((L i).toNat + 15) / 16) := by
  refine pyDiv_ap bcast_S_S576 _ _ i ?_ rfl ?_ (by decide) (by decide)
  · show L i + 15#32 = _
    apply BitVec.eq_of_toNat_eq
    have := hL i
    simp only [BitVec.toNat_add, BitVec.toNat_ofNat]
  · have := hL i; omega

/-- The groups of all users. -/
def total : Nat := ((List.range 576).map fun i => if h : i < 576 then ((L (ValueIdx.ix1 ⟨i, h⟩)).toNat + 15) / 16 else 0).sum

theorem total_le (hL : Fit L) : total L ≤ 4608 := by
  have := List.sum_le_card_nsmul ((List.range 576).map fun i => if h : i < 576 then ((L (ValueIdx.ix1 ⟨i, h⟩)).toNat + 15) / 16 else 0) 8
    (fun x hx => by
      obtain ⟨i, _, rfl⟩ := List.mem_map.1 hx
      split
      · have := hL (ValueIdx.ix1 ⟨i, by assumption⟩); omega
      · omega)
  simpa [total] using this

theorem total_at (hL : Fit L) : totalV L ValueIdx.ix0 = BitVec.ofNat 32 (total L) :=
  reduce_sum (groupsV L) (fun i => if h : i < 576 then ((L (ValueIdx.ix1 ⟨i, h⟩)).toNat + 15) / 16 else 0)
    (fun i => by rw [groups_at L hL, dif_pos i.isLt]) _ _

theorem steps_at (hL : Fit L) : stepsV L ValueIdx.ix0 = BitVec.ofNat 32 ((16 * total L + 2047) / 2048) := by
  refine pyDiv0_ap _ _ ?_ rfl ?_ (by decide) (by decide)
  · show totalV L ValueIdx.ix0 * 16#32 + 2048#32 - 1#32 = _
    rw [total_at L hL]
    have := total_le L hL
    apply BitVec.eq_of_toNat_eq
    simp only [BitVec.toNat_add, BitVec.toNat_sub, BitVec.toNat_mul, BitVec.toNat_ofNat]
    omega
  · have := total_le L hL; omega

theorem steps_le (hL : Fit L) : (stepsV L ValueIdx.ix0).toNat ≤ 36 := by
  rw [steps_at L hL, BitVec.toNat_ofNat]
  have := total_le L hL
  omega

theorem user_le (g : S4608.Idx) : (userV L g).toNat ≤ 576 := by
  unfold userV
  rw [StableHlo.Predicate.toNat_reduce_count_cols (by decide) (endedV L) natLt_1_32 reducesTo_S4608x576_S4608_d1 h_S_ g]
  exact (Finset.card_le_univ _).trans (by simp)

theorem info_low (g : S4608.Idx) : ((infoV L g) &&& 65535#32).toNat = (userV L g).toNat := by
  have hu := user_le L g
  have e : infoV L g = userV L g ||| (startV L g <<< (16 : Nat)) ||| (validV L g <<< (24 : Nat)) := by rfl
  rw [e]
  have h : (userV L g ||| (startV L g <<< (16 : Nat)) ||| (validV L g <<< (24 : Nat))) &&& 65535#32 = userV L g := by
    generalize userV L g = u at hu
    generalize startV L g = s
    generalize validV L g = v
    have hu' : u &&& 65535#32 = u := by
      apply BitVec.eq_of_toNat_eq
      rw [BitVec.toNat_and, show (65535#32 : BitVec 32).toNat = 2 ^ 16 - 1 from rfl, Nat.and_two_pow_sub_one_eq_mod]
      omega
    have hs : ∀ (x : BitVec 32) (k : Nat), 16 ≤ k → (x <<< k) &&& 65535#32 = 0#32 := by
      intro x k hk
      apply BitVec.eq_of_toNat_eq
      rw [BitVec.toNat_and, show (65535#32 : BitVec 32).toNat = 2 ^ 16 - 1 from rfl, Nat.and_two_pow_sub_one_eq_mod, BitVec.toNat_shiftLeft,
        Nat.shiftLeft_eq]
      obtain ⟨j, rfl⟩ := Nat.exists_eq_add_of_le hk
      have : x.toNat * 2 ^ (16 + j) = 2 ^ 16 * (x.toNat * 2 ^ j) := by rw [pow_add]; ring
      rw [this]
      simp only [BitVec.toNat_ofNat]
      omega
    rw [BitVec.and_or_distrib_right, BitVec.and_or_distrib_right, hs s 16 (le_refl _), hs v 24 (by decide), hu']
    simp
  rw [h]

/-- A word whose low sixteen bits are a user or the spare row passes the kernel's checks. -/
theorem chk2_of (w : BitVec 32) (h : (w &&& 65535#32).toNat ≤ 576) : k0_chk2 w := by
  have h8 : ((w &&& 65535#32) * 8#32).toNat = (w &&& 65535#32).toNat * 8 := by
    rw [BitVec.toNat_mul]; simp only [BitVec.toNat_ofNat]; omega
  have h16 : ((w &&& 65535#32) * 16#32).toNat = (w &&& 65535#32).toNat * 16 := by
    rw [BitVec.toNat_mul]; simp only [BitVec.toNat_ofNat]; omega
  refine ⟨?_, ?_, ?_, ?_, ?_, ?_⟩
  · show 8 ∣ ((w &&& 65535#32) * 8#32).toNat; rw [h8]; exact ⟨_, Nat.mul_comm _ _⟩
  · show 16 ∣ ((w &&& 65535#32) * 16#32).toNat; rw [h16]; exact ⟨_, Nat.mul_comm _ _⟩
  · intro a; fin_cases a
    · show ((w &&& 65535#32) * 16#32).toNat + 16 ≤ 9232; omega
    · show 0 + 512 ≤ 512; omega
  · intro a; fin_cases a
    · show ((w &&& 65535#32) * 8#32).toNat + 8 ≤ 4616; omega
    · show 0 + 256 ≤ 256; omega
  · intro a; fin_cases a
    · show ((w &&& 65535#32) * 8#32).toNat + 8 ≤ 4616; omega
    · show 0 + 512 ≤ 512; omega
  · intro a; fin_cases a
    · show ((w &&& 65535#32) * 8#32).toNat + 8 ≤ 4616; omega
    · show 0 + 128 ≤ 128; omega

theorem iv4 (t : Fin k0_t3_loop.trips) : Scf.iv 0#32 1#32 t = BitVec.ofNat 32 t.val := by
  simp [Scf.iv]

theorem trips3 : k0_t3_loop.trips = 4 := by sl_kernel_rfl

/-- Where the kernel reads the word of group `r` of trip `t` of step `n`. -/
theorem off6_eq (n : Nat) (hn : n < 36) (t : Fin k0_t3_loop.trips) (r : Nat) (hr : r < 32) :
    k0_off6 (BitVec.ofNat 32 n) t (BitVec.ofNat 32 r) 0 = 128 * n + 32 * t.val + r := by
  show (((BitVec.ofNat 32 n * 4#32 + (0#32 + Scf.iv 0#32 1#32 t * 1#32)) * 32#32) + BitVec.ofNat 32 r).toNat = _
  rw [iv4]
  have ht : t.val < 4 := trips3 ▸ t.isLt
  simp only [BitVec.toNat_add, BitVec.toNat_mul, BitVec.toNat_ofNat]
  omega

theorem chk1_of (n : Nat) (hn : n < 36) : k0_chk1 (BitVec.ofNat 32 n) := by
  intro t r a
  have ht : t.val < 4 := trips3 ▸ t.isLt
  have := r.isLt
  fin_cases a
  show k0_off6 (BitVec.ofNat 32 n) t (BitVec.ofNat 32 r.val) 0 + 1 ≤ 4608
  rw [off6_eq n hn t r.val r.isLt]
  omega

set_option maxHeartbeats 2000000 in
theorem ok_of (hL : Fit (lens m)) : Ok m := by
  have hb : dynb0 (tbl m) 0 ≤ 36 := by
    show (tbl m 0 fun a => a.elim0).toNat ≤ 36
    rw [tbl_steps]
    exact steps_le _ hL
  have hi : ∀ i : (grid0.at (dynb0 (tbl m))).Coords, (i 0).val < 36 := fun i => lt_of_lt_of_le (i 0).isLt hb
  have h1 : ∀ i : (grid0.at (dynb0 (tbl m))).Coords, (1#32 + BitVec.ofNat 32 (i 0).val).toNat = 1 + (i 0).val := fun i => by
    have := hi i
    rw [BitVec.toNat_add]; simp only [BitVec.toNat_ofNat]; omega
  refine ⟨?_, fun i => ⟨?_, .inl rfl, .inl rfl⟩, fun i => ⟨?_, .inl rfl⟩, fun i => ⟨?_, .inl rfl⟩, fun i => ⟨?_, .inl rfl⟩, fun i => ⟨?_, .inr ?_⟩,
    fun i => ⟨?_, .inl rfl⟩, fun i => ⟨?_, .inl rfl⟩, fun i => ⟨?_, .inr ?_⟩, fun i => ⟨?_, .inl rfl⟩, fun i => ⟨?_, .inl rfl⟩, fun i => ⟨?_, .inl rfl⟩,
    fun i => ⟨?_, .inl rfl⟩, fun i => ⟨?_, .inr ?_⟩, fun i => ⟨?_, .inl rfl⟩⟩
  · show (grid0.at (dynb0 (tbl m))).N + 2 < 2 ^ 31
    have : (grid0.at (dynb0 (tbl m))).N = dynb0 (tbl m) 0 := by
      simp [Pipeline.Grid.N]
      rfl
    omega
  · intro a; fin_cases a <;> (show 0 * _ < _) <;> decide
  · intro a; fin_cases a <;> (show (0 + 1) * _ ≤ _) <;> decide
  · intro a; fin_cases a
    · show ((1#32 + BitVec.ofNat 32 (i 0).val).toNat + 1) * 512 ≤ 18944
      rw [h1]; have := hi i; omega
    · show (0 + 1) * 512 ≤ 512; decide
  · intro a; fin_cases a
    · show ((1#32 + BitVec.ofNat 32 (i 0).val).toNat + 1) * 8 ≤ 296
      rw [h1]; have := hi i; omega
    · show (0 + 1) * 128 ≤ 128; decide
  · intro a; fin_cases a <;> (show (0 + 1) * _ ≤ _) <;> decide
  · have e : cc0_transform_4 (dynb0 (tbl m)) i = fun _ => 0 := by funext a; fin_cases a <;> rfl
    simp only [e]
    exact Rect.wholeWords_block_self _ _ _
  · intro a; fin_cases a <;> (show (0 + 1) * _ ≤ _) <;> decide
  · intro a; fin_cases a <;> (show (0 + 1) * _ ≤ _) <;> decide
  · intro a; fin_cases a <;> (show (0 + 1) * _ ≤ _) <;> decide
  · have e : cc0_transform_7 (dynb0 (tbl m)) i = fun _ => 0 := by funext a; fin_cases a <;> rfl
    simp only [e]
    exact Rect.wholeWords_block_self _ _ _
  · intro a; fin_cases a <;> (show (0 + 1) * _ ≤ _) <;> decide
  · intro a; fin_cases a <;> (show (0 + 1) * _ ≤ _) <;> decide
  · intro a; fin_cases a <;> (show (0 + 1) * _ ≤ _) <;> decide
  · intro a; fin_cases a <;> (show (0 + 1) * _ ≤ _) <;> decide
  · intro a; fin_cases a <;> (show (0 + 1) * _ ≤ _) <;> decide
  · have e : cc0_transform_12 (dynb0 (tbl m)) i = fun _ => 0 := by funext a; fin_cases a <;> rfl
    simp only [e]
    exact Rect.wholeWords_block_self _ _ _
  · intro a; fin_cases a <;> (show (0 + 1) * _ ≤ _) <;> decide

end Cert.Kernel.Run
-- ==== Proof.K.Frame.lean ====
/-
The frame: from lengths between 0 and 128 the program runs, keeps its arguments and leaves every semaphore at zero.
-/
module

public import proofs.«01_k».proof.Proof.K.Launch
public import proofs.«01_k».proof.Proof.K.Plan

@[expose] public section

set_option maxRecDepth 16384

noncomputable section

namespace Cert.Kernel.Run

open Idealize.ShloMosaic Idealize.ShloMosaic.TcCoe Idealize.ShloMosaic.Tactic Idealize.SL.Sem
open Cert.Kernel Cert.Kernel.Facts Cert.Kernel.Rolled Cert.Kernel.Gen Cert.Mini

variable {F : FTy → Type} [FloatOps F]
variable (m : (ℓ : Loc nD τ sig) → Buf (Elt F) ℓ) (ρ : Dev nD → PrngReg)

theorem coords_lt (b : grid0.Bounds) (hb : b 0 ≤ 36) (i : (grid0.at b).Coords) : (i 0).val < 36 :=
  lt_of_lt_of_le (i 0).isLt (le_of_eq_of_le rfl hb)

theorem dyn_le (hL : Fit (lens m)) : dynb0 (tbl m) 0 ≤ 36 := by
  have h := steps_le _ hL
  rw [← tbl_steps m] at h
  exact h

/-- Every word of the table passes the kernel's checks. -/
theorem chk2_word (n : BitVec 32) (h : k0_chk1 n) (t : Fin k0_t3_loop.trips) (k : Fin 32) : k0_chk2 (word (tbl m 1) n h t k) := by
  refine chk2_of _ ?_
  unfold word
  rw [tbl_info]
  exact le_of_eq_of_le (info_low _ _) (user_le _ _)

theorem step_free (hL : Fit (lens m)) (hO : Ok m) (c : Dev nD) :
    Step m hO (fun _ _ => True) (fun _ _ => True) (fun _ _ => True) c := by
  intro t Y _ σ _
  refine body_wp _ _ _ _ (chk1_of _ (coords_lt _ (dyn_le m hL) _)) (fun t k => chk2_word m _ _ t k) (fun _ _ => True) (fun _ => trivial) (fun _ => trivial)
    (fun _ _ _ _ _ _ => trivial) (fun σ' _ h _ => ⟨h.trans (last_same σ'), trivial, trivial, trivial⟩) (fun σ' _ h _ => ⟨h, trivial, trivial, trivial⟩)

theorem frame (hL : Fit (lens m)) :
    θ_run (defs (F := F)) (onTc (τ := τ) (main (F := F))) ⟨m, fun _ => 0, ρ⟩ (fun r => (∀ c : Dev nD,
       r.2.mem ((c.tc : Thread nD τ).loc main_arg0) = m ((c.tc : Thread nD τ).loc main_arg0)
     ∧ r.2.mem ((c.tc : Thread nD τ).loc main_arg1) = m ((c.tc : Thread nD τ).loc main_arg1)
     ∧ r.2.mem ((c.tc : Thread nD τ).loc main_arg2) = m ((c.tc : Thread nD τ).loc main_arg2)
     ∧ r.2.mem ((c.tc : Thread nD τ).loc main_arg3) = m ((c.tc : Thread nD τ).loc main_arg3)
     ∧ r.2.mem ((c.tc : Thread nD τ).loc main_arg4) = m ((c.tc : Thread nD τ).loc main_arg4)
     ∧ r.2.mem ((c.tc : Thread nD τ).loc main_arg5) = m ((c.tc : Thread nD τ).loc main_arg5)
     ∧ r.2.mem ((c.tc : Thread nD τ).loc main_arg6) = m ((c.tc : Thread nD τ).loc main_arg6)
     ∧ r.2.mem ((c.tc : Thread nD τ).loc main_arg7) = m ((c.tc : Thread nD τ).loc main_arg7)
     ∧ r.2.mem ((c.tc : Thread nD τ).loc main_arg8) = m ((c.tc : Thread nD τ).loc main_arg8)
     ∧ r.2.mem ((c.tc : Thread nD τ).loc main_arg9) = m ((c.tc : Thread nD τ).loc main_arg9)
     ∧ r.2.mem ((c.tc : Thread nD τ).loc main_arg10) = m ((c.tc : Thread nD τ).loc main_arg10)) ∧ r.2.sem = fun _ => 0) :=
  θ_run_mono (run_main m ρ (ok_of m hL) (fun _ _ => True) (fun _ _ => True) (fun _ _ => True) (fun _ => trivial) fun c => step_free m hL (ok_of m hL) c)
    fun r h => ⟨fun c => args_kept m (ok_of m hL) _ _ _ r h.1 c, h.2⟩

end Cert.Kernel.Run
-- ==== Proof.lean ====
/-
The kernel and its exact reading run from any lengths between 0 and 128, keep their arguments and leave every semaphore
at zero; the exact reading is the kernel's own program read over the reals; and, when some user has a history, it leaves
the scores that the reference computes.
-/
module

public import proofs.«01_k».proof.Defs
public import proofs.«01_k».proof.Proof.Fit
public import proofs.«01_k».proof.Proof.Ref
public import proofs.«01_k».proof.Proof.Value
public import proofs.«01_k».proof.Proof.Frame
public import proofs.«01_k».proof.Proof.K.Frame

@[expose] public section

noncomputable section

namespace Cert.Proof

open Idealize.ShloMosaic Idealize.ShloMosaic.StableHlo Idealize.SL.Sem

theorem fit_Kernel (m : (ℓ : Loc Cert.Kernel.nD Cert.Kernel.τ Cert.Kernel.sig) → Buf (Elt Bits) ℓ) (h : Cert.Pre_Kernel m) :
    Cert.Kernel.Run.Fit (Cert.Kernel.Run.lens m) := fun i => Cert.Fit.lengths_fit _ _ _ _ _ _ _ _ _ _ _ (h 0) i

theorem fit_KernelIdeal (m : (ℓ : Loc Cert.KernelIdeal.nD Cert.KernelIdeal.τ Cert.KernelIdeal.sig) → Buf (Elt Ideal) ℓ) (h : Cert.Pre_KernelIdeal m) :
    Cert.KernelIdeal.Run.Fit (Cert.KernelIdeal.Run.lens m) := fun i => Cert.Fit.lengths_fit _ _ _ _ _ _ _ _ _ _ _ (h 0) i

theorem start_pos (L : Cert.Pre_lengths_fit.S576.Idx → BitVec 32) (i : Cert.Pre_lengths_fit.S576.Idx) (h : 0 < (L i).toNat) : 0 < Score.start L 576 := by
  have h1 := Score.start_succ L (i 0).val
  have h2 := Score.start_mono L (show (i 0).val + 1 ≤ 576 from (i 0).isLt)
  have h3 : Score.groups L (i 0).val = ((L i).toNat + 15) / 16 := by
    unfold Score.groups
    rw [dif_pos (show (i 0).val < 576 from (i 0).isLt)]
    exact congrArg (fun j => ((L j).toNat + 15) / 16) (funext fun a => match a with | ⟨0, _⟩ => rfl)
  omega

theorem history (m : (ℓ : Loc Cert.KernelIdeal.nD Cert.KernelIdeal.τ Cert.KernelIdeal.sig) → Buf (Elt Ideal) ℓ) (h : Cert.Pre_KernelIdeal_some_history m) :
    Cert.KernelIdeal.Run.Fit (Cert.KernelIdeal.Run.lens m) ∧ 0 < Score.start (Cert.KernelIdeal.Run.lens m) 576 := by
  obtain ⟨h1, i, h2⟩ := Cert.Fit.some_history _ _ _ _ _ _ _ _ _ _ _ (h 0)
  exact ⟨h1, start_pos _ i h2⟩

theorem quiet_ReferenceIdeal : Cert.quiescent_ReferenceIdeal (hReferenceIdeal := Cert.ReferenceIdeal.Gen.facts) :=
  fun m g _ => θ_run_mono (Cert.ReferenceIdeal.Value.run (F := Ideal) m g) fun r h => ⟨fun c => (h c).2, sem_eq_zero_of_no_sems (by decide) r.2⟩

theorem quiet_history : Cert.quiescent_ReferenceIdeal_pre_some_history (hReferenceIdeal := Cert.ReferenceIdeal.Gen.facts)
    (hPre_some_history := Cert.Fit.history_facts) :=
  fun m g _ => θ_run_mono (Cert.ReferenceIdeal.Value.run (F := Ideal) m g) fun r h => ⟨fun c => (h c).2, sem_eq_zero_of_no_sems (by decide) r.2⟩

/-- The exact reading of the kernel leaves the reference's scores. -/
theorem algebraic : Cert.algebraic_KernelIdeal_ReferenceIdeal_pre_some_history (hKernelIdeal := Cert.KernelIdeal.Gen.facts)
    (hReferenceIdeal := Cert.ReferenceIdeal.Gen.facts) (hPre_some_history := Cert.Fit.history_facts) := by
  intro m g m' g' hp ha
  obtain ⟨hL, hpos⟩ := history m hp
  refine ⟨fun _ i => Cert.KernelIdeal.Run.goal m (i 0) (i 1), Cert.KernelIdeal.Run.run_value m g hL hpos, ?_⟩
  refine θ_run_mono (Cert.ReferenceIdeal.Value.run (F := Ideal) m' g') fun r h c => ⟨(h c).1.trans ?_, (h c).2⟩
  obtain rfl : c = 0 := Subsingleton.elim _ _
  obtain ⟨a0, a1, a2, a3, a4, a5, a6, a7, a8, a9, a10⟩ := ha 0
  have e0 : Cert.ReferenceIdeal.Value.L0 (launchContents m' 0) = Cert.KernelIdeal.Run.lens m := a0
  have hL' : ∀ i, (Cert.ReferenceIdeal.Value.L0 (launchContents m' 0) i).toNat ≤ 128 := by
    intro i
    rw [e0]
    exact hL i
  funext i
  refine (congrArg _ (ix2_eta i).symm).trans ((Cert.ReferenceIdeal.Value.scores_at (launchContents m' 0) hL' (i 0) (i 1)).trans ?_)
  have e1 : Cert.ReferenceIdeal.Value.codes0 (launchContents m' 0) = Cert.KernelIdeal.Run.arg m Cert.KernelIdeal.main_arg1 := a1
  have e2 : Cert.ReferenceIdeal.Value.words0 (launchContents m' 0) = Cert.KernelIdeal.Run.arg m Cert.KernelIdeal.main_arg2 := a2
  have e3 : Cert.ReferenceIdeal.Value.w10 (launchContents m' 0) = Cert.KernelIdeal.Run.arg m Cert.KernelIdeal.main_arg3 := a3
  have e4 : Cert.ReferenceIdeal.Value.b10 (launchContents m' 0) = Cert.KernelIdeal.Run.arg m Cert.KernelIdeal.main_arg4 := a4
  have e5 : Cert.ReferenceIdeal.Value.a10 (launchContents m' 0) = Cert.KernelIdeal.Run.arg m Cert.KernelIdeal.main_arg5 := a5
  have e6 : Cert.ReferenceIdeal.Value.w20 (launchContents m' 0) = Cert.KernelIdeal.Run.arg m Cert.KernelIdeal.main_arg6 := a6
  have e7 : Cert.ReferenceIdeal.Value.b20 (launchContents m' 0) = Cert.KernelIdeal.Run.arg m Cert.KernelIdeal.main_arg7 := a7
  have e8 : Cert.ReferenceIdeal.Value.a20 (launchContents m' 0) = Cert.KernelIdeal.Run.arg m Cert.KernelIdeal.main_arg8 := a8
  have e9 : Cert.ReferenceIdeal.Value.w30 (launchContents m' 0) = Cert.KernelIdeal.Run.arg m Cert.KernelIdeal.main_arg9 := a9
  have e10 : Cert.ReferenceIdeal.Value.b30 (launchContents m' 0) = Cert.KernelIdeal.Run.arg m Cert.KernelIdeal.main_arg10 := a10
  have en : Cert.ReferenceIdeal.Value.net0 (launchContents m' 0) = Cert.KernelIdeal.Run.netM m := by
    unfold Cert.ReferenceIdeal.Value.net0 Cert.KernelIdeal.Run.netM
    rw [e3, e4, e5, e6, e7, e8, e9, e10]
  unfold Cert.KernelIdeal.Run.goal
  rw [en, e0, e1, e2]

theorem claim : Cert.Claim :=
  ⟨Cert.Kernel.Gen.facts, Cert.KernelIdeal.Gen.facts, Cert.ReferenceIdeal.Gen.facts, Cert.Fit.facts, Cert.Fit.history_facts,
   fun m g h => Cert.Kernel.Run.frame m g (fit_Kernel m h),
   fun m g h => Cert.KernelIdeal.Run.frame m g (fit_KernelIdeal m h),
   fun m g h => Cert.KernelIdeal.Run.frame m g (history m h).1,
   quiet_ReferenceIdeal, quiet_history, trivial, algebraic⟩

end Cert.Proof

end
